-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v109_0)) (v1 : (c : Dev Cert.Kernel2Ideal.nD) → Buf (Elt Ideal) ((c.tc : Thread Cert.Kernel2Ideal.nD Cert.Kernel2Ideal.τ).loc Cert.Kernel2Ideal.main_v109_1)) (v2 : (c : Dev Cert.Kernel2Ideal.nD) → Buf (Elt Ideal) ((c.tc : Thread Cert.Kernel2Ideal.nD Cert.Kernel2Ideal.τ).loc Cert.Kernel2Ideal.main_v109_2)) (v3 : (c : Dev Cert.Kernel2Ideal.nD) → Buf (Elt Ideal) ((c.tc : Thread Cert.Kernel2Ideal.nD Cert.Kernel2Ideal.τ).loc Cert.Kernel2Ideal.main_v109_3)) (v4 : (c : Dev Cert.Kernel2Ideal.nD) → Buf (Elt Ideal) ((c.tc : Thread Cert.Kernel2Ideal.nD Cert.Kernel2Ideal.τ).loc Cert.Kernel2Ideal.main_v109_4)) (v5 : (c : Dev Cert.Kernel2Ideal.nD) → Buf (Elt Ideal) ((c.tc : Thread Cert.Kernel2Ideal.nD Cert.Kernel2Ideal.τ).loc Cert.Kernel2Ideal.main_v109_5)) (v6 : (c : Dev Cert.Kernel2Ideal.nD) → Buf (Elt Ideal) ((c.tc : Thread Cert.Kernel2Ideal.nD Cert.Kernel2Ideal.τ).loc Cert.Kernel2Ideal.main_v109_6)) (v7 : (c : Dev Cert.Kernel2Ideal.nD) → Buf (Elt Ideal) ((c.tc : Thread Cert.Kernel2Ideal.nD Cert.Kernel2Ideal.τ).loc Cert.Kernel2Ideal.main_v109_7)) (v8 : (c : Dev Cert.Kernel2Ideal.nD) → Buf (Elt Ideal) ((c.tc : Thread Cert.Kernel2Ideal.nD Cert.Kernel2Ideal.τ).loc Cert.Kernel2Ideal.main_v109_8)) (v9 : (c : Dev Cert.Kernel2Ideal.nD) → Buf (Elt Ideal) ((c.tc : Thread Cert.Kernel2Ideal.nD Cert.Kernel2Ideal.τ).loc Cert.Kernel2Ideal.main_v109_9)) (v10 : (c : Dev Cert.Kernel2Ideal.nD) → Buf (Elt Ideal) ((c.tc : Thread Cert.Kernel2Ideal.nD Cert.Kernel2Ideal.τ).loc Cert.Kernel2Ideal.main_v109_10)) (v11 : (c : Dev Cert.Kernel2Ideal.nD) → Buf (Elt Ideal) ((c.tc : Thread Cert.Kernel2Ideal.nD Cert.Kernel2Ideal.τ).loc Cert.Kernel2Ideal.main_v109_11)) (v12 : (c : Dev Cert.Kernel2Ideal.nD) → Buf (Elt Ideal) ((c.tc : Thread Cert.Kernel2Ideal.nD Cert.Kernel2Ideal.τ).loc Cert.Kernel2Ideal.main_v109_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v109_0) = v0 c
          ∧ r.2.mem ((c.tc : Thread Cert.Kernel2Ideal.nD Cert.Kernel2Ideal.τ).loc Cert.Kernel2Ideal.main_v109_1) = v1 c
          ∧ r.2.mem ((c.tc : Thread Cert.Kernel2Ideal.nD Cert.Kernel2Ideal.τ).loc Cert.Kernel2Ideal.main_v109_2) = v2 c
          ∧ r.2.mem ((c.tc : Thread Cert.Kernel2Ideal.nD Cert.Kernel2Ideal.τ).loc Cert.Kernel2Ideal.main_v109_3) = v3 c
          ∧ r.2.mem ((c.tc : Thread Cert.Kernel2Ideal.nD Cert.Kernel2Ideal.τ).loc Cert.Kernel2Ideal.main_v109_4) = v4 c
          ∧ r.2.mem ((c.tc : Thread Cert.Kernel2Ideal.nD Cert.Kernel2Ideal.τ).loc Cert.Kernel2Ideal.main_v109_5) = v5 c
          ∧ r.2.mem ((c.tc : Thread Cert.Kernel2Ideal.nD Cert.Kernel2Ideal.τ).loc Cert.Kernel2Ideal.main_v109_6) = v6 c
          ∧ r.2.mem ((c.tc : Thread Cert.Kernel2Ideal.nD Cert.Kernel2Ideal.τ).loc Cert.Kernel2Ideal.main_v109_7) = v7 c
          ∧ r.2.mem ((c.tc : Thread Cert.Kernel2Ideal.nD Cert.Kernel2Ideal.τ).loc Cert.Kernel2Ideal.main_v109_8) = v8 c
          ∧ r.2.mem ((c.tc : Thread Cert.Kernel2Ideal.nD Cert.Kernel2Ideal.τ).loc Cert.Kernel2Ideal.main_v109_9) = v9 c
          ∧ r.2.mem ((c.tc : Thread Cert.Kernel2Ideal.nD Cert.Kernel2Ideal.τ).loc Cert.Kernel2Ideal.main_v109_10) = v10 c
          ∧ r.2.mem ((c.tc : Thread Cert.Kernel2Ideal.nD Cert.Kernel2Ideal.τ).loc Cert.Kernel2Ideal.main_v109_11) = v11 c
          ∧ r.2.mem ((c.tc : Thread Cert.Kernel2Ideal.nD Cert.Kernel2Ideal.τ).loc Cert.Kernel2Ideal.main_v109_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v198) = v0 c
          ∧ r.2.mem ((c.tc : Thread Cert.Reference2Ideal.nD Cert.Reference2Ideal.τ).loc Cert.Reference2Ideal.main_v199) = v1 c
          ∧ r.2.mem ((c.tc : Thread Cert.Reference2Ideal.nD Cert.Reference2Ideal.τ).loc Cert.Reference2Ideal.main_v200) = v2 c
          ∧ r.2.mem ((c.tc : Thread Cert.Reference2Ideal.nD Cert.Reference2Ideal.τ).loc Cert.Reference2Ideal.main_v201) = v3 c
          ∧ r.2.mem ((c.tc : Thread Cert.Reference2Ideal.nD Cert.Reference2Ideal.τ).loc Cert.Reference2Ideal.main_v202) = v4 c
          ∧ r.2.mem ((c.tc : Thread Cert.Reference2Ideal.nD Cert.Reference2Ideal.τ).loc Cert.Reference2Ideal.main_v204) = v5 c
          ∧ r.2.mem ((c.tc : Thread Cert.Reference2Ideal.nD Cert.Reference2Ideal.τ).loc Cert.Reference2Ideal.main_v206) = v6 c
          ∧ r.2.mem ((c.tc : Thread Cert.Reference2Ideal.nD Cert.Reference2Ideal.τ).loc Cert.Reference2Ideal.main_v208) = v7 c
          ∧ r.2.mem ((c.tc : Thread Cert.Reference2Ideal.nD Cert.Reference2Ideal.τ).loc Cert.Reference2Ideal.main_v210) = v8 c
          ∧ r.2.mem ((c.tc : Thread Cert.Reference2Ideal.nD Cert.Reference2Ideal.τ).loc Cert.Reference2Ideal.main_v213) = v9 c
          ∧ r.2.mem ((c.tc : Thread Cert.Reference2Ideal.nD Cert.Reference2Ideal.τ).loc Cert.Reference2Ideal.main_v216) = v10 c
          ∧ r.2.mem ((c.tc : Thread Cert.Reference2Ideal.nD Cert.Reference2Ideal.τ).loc Cert.Reference2Ideal.main_v219) = v11 c
          ∧ r.2.mem ((c.tc : Thread Cert.Reference2Ideal.nD Cert.Reference2Ideal.τ).loc Cert.Reference2Ideal.main_v220) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v114_0)) (v1 : (c : Dev Cert.Kernel3Ideal.nD) → Buf (Elt Ideal) ((c.tc : Thread Cert.Kernel3Ideal.nD Cert.Kernel3Ideal.τ).loc Cert.Kernel3Ideal.main_v114_1)) (v2 : (c : Dev Cert.Kernel3Ideal.nD) → Buf (Elt Ideal) ((c.tc : Thread Cert.Kernel3Ideal.nD Cert.Kernel3Ideal.τ).loc Cert.Kernel3Ideal.main_v114_2)) (v3 : (c : Dev Cert.Kernel3Ideal.nD) → Buf (Elt Ideal) ((c.tc : Thread Cert.Kernel3Ideal.nD Cert.Kernel3Ideal.τ).loc Cert.Kernel3Ideal.main_v114_3)) (v4 : (c : Dev Cert.Kernel3Ideal.nD) → Buf (Elt Ideal) ((c.tc : Thread Cert.Kernel3Ideal.nD Cert.Kernel3Ideal.τ).loc Cert.Kernel3Ideal.main_v114_4)) (v5 : (c : Dev Cert.Kernel3Ideal.nD) → Buf (Elt Ideal) ((c.tc : Thread Cert.Kernel3Ideal.nD Cert.Kernel3Ideal.τ).loc Cert.Kernel3Ideal.main_v114_5)) (v6 : (c : Dev Cert.Kernel3Ideal.nD) → Buf (Elt Ideal) ((c.tc : Thread Cert.Kernel3Ideal.nD Cert.Kernel3Ideal.τ).loc Cert.Kernel3Ideal.main_v114_6)) (v7 : (c : Dev Cert.Kernel3Ideal.nD) → Buf (Elt Ideal) ((c.tc : Thread Cert.Kernel3Ideal.nD Cert.Kernel3Ideal.τ).loc Cert.Kernel3Ideal.main_v114_7)) (v8 : (c : Dev Cert.Kernel3Ideal.nD) → Buf (Elt Ideal) ((c.tc : Thread Cert.Kernel3Ideal.nD Cert.Kernel3Ideal.τ).loc Cert.Kernel3Ideal.main_v114_8)) (v9 : (c : Dev Cert.Kernel3Ideal.nD) → Buf (Elt Ideal) ((c.tc : Thread Cert.Kernel3Ideal.nD Cert.Kernel3Ideal.τ).loc Cert.Kernel3Ideal.main_v114_9)) (v10 : (c : Dev Cert.Kernel3Ideal.nD) → Buf (Elt Ideal) ((c.tc : Thread Cert.Kernel3Ideal.nD Cert.Kernel3Ideal.τ).loc Cert.Kernel3Ideal.main_v114_10)) (v11 : (c : Dev Cert.Kernel3Ideal.nD) → Buf (Elt Ideal) ((c.tc : Thread Cert.Kernel3Ideal.nD Cert.Kernel3Ideal.τ).loc Cert.Kernel3Ideal.main_v114_11)) (v12 : (c : Dev Cert.Kernel3Ideal.nD) → Buf (Elt Ideal) ((c.tc : Thread Cert.Kernel3Ideal.nD Cert.Kernel3Ideal.τ).loc Cert.Kernel3Ideal.main_v114_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v114_0) = v0 c
          ∧ r.2.mem ((c.tc : Thread Cert.Kernel3Ideal.nD Cert.Kernel3Ideal.τ).loc Cert.Kernel3Ideal.main_v114_1) = v1 c
          ∧ r.2.mem ((c.tc : Thread Cert.Kernel3Ideal.nD Cert.Kernel3Ideal.τ).loc Cert.Kernel3Ideal.main_v114_2) = v2 c
          ∧ r.2.mem ((c.tc : Thread Cert.Kernel3Ideal.nD Cert.Kernel3Ideal.τ).loc Cert.Kernel3Ideal.main_v114_3) = v3 c
          ∧ r.2.mem ((c.tc : Thread Cert.Kernel3Ideal.nD Cert.Kernel3Ideal.τ).loc Cert.Kernel3Ideal.main_v114_4) = v4 c
          ∧ r.2.mem ((c.tc : Thread Cert.Kernel3Ideal.nD Cert.Kernel3Ideal.τ).loc Cert.Kernel3Ideal.main_v114_5) = v5 c
          ∧ r.2.mem ((c.tc : Thread Cert.Kernel3Ideal.nD Cert.Kernel3Ideal.τ).loc Cert.Kernel3Ideal.main_v114_6) = v6 c
          ∧ r.2.mem ((c.tc : Thread Cert.Kernel3Ideal.nD Cert.Kernel3Ideal.τ).loc Cert.Kernel3Ideal.main_v114_7) = v7 c
          ∧ r.2.mem ((c.tc : Thread Cert.Kernel3Ideal.nD Cert.Kernel3Ideal.τ).loc Cert.Kernel3Ideal.main_v114_8) = v8 c
          ∧ r.2.mem ((c.tc : Thread Cert.Kernel3Ideal.nD Cert.Kernel3Ideal.τ).loc Cert.Kernel3Ideal.main_v114_9) = v9 c
          ∧ r.2.mem ((c.tc : Thread Cert.Kernel3Ideal.nD Cert.Kernel3Ideal.τ).loc Cert.Kernel3Ideal.main_v114_10) = v10 c
          ∧ r.2.mem ((c.tc : Thread Cert.Kernel3Ideal.nD Cert.Kernel3Ideal.τ).loc Cert.Kernel3Ideal.main_v114_11) = v11 c
          ∧ r.2.mem ((c.tc : Thread Cert.Kernel3Ideal.nD Cert.Kernel3Ideal.τ).loc Cert.Kernel3Ideal.main_v114_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v200) = v0 c
          ∧ r.2.mem ((c.tc : Thread Cert.Reference3Ideal.nD Cert.Reference3Ideal.τ).loc Cert.Reference3Ideal.main_v202) = v1 c
          ∧ r.2.mem ((c.tc : Thread Cert.Reference3Ideal.nD Cert.Reference3Ideal.τ).loc Cert.Reference3Ideal.main_v204) = v2 c
          ∧ r.2.mem ((c.tc : Thread Cert.Reference3Ideal.nD Cert.Reference3Ideal.τ).loc Cert.Reference3Ideal.main_v206) = v3 c
          ∧ r.2.mem ((c.tc : Thread Cert.Reference3Ideal.nD Cert.Reference3Ideal.τ).loc Cert.Reference3Ideal.main_v208) = v4 c
          ∧ r.2.mem ((c.tc : Thread Cert.Reference3Ideal.nD Cert.Reference3Ideal.τ).loc Cert.Reference3Ideal.main_v210) = v5 c
          ∧ r.2.mem ((c.tc : Thread Cert.Reference3Ideal.nD Cert.Reference3Ideal.τ).loc Cert.Reference3Ideal.main_v212) = v6 c
          ∧ r.2.mem ((c.tc : Thread Cert.Reference3Ideal.nD Cert.Reference3Ideal.τ).loc Cert.Reference3Ideal.main_v214) = v7 c
          ∧ r.2.mem ((c.tc : Thread Cert.Reference3Ideal.nD Cert.Reference3Ideal.τ).loc Cert.Reference3Ideal.main_v216) = v8 c
          ∧ r.2.mem ((c.tc : Thread Cert.Reference3Ideal.nD Cert.Reference3Ideal.τ).loc Cert.Reference3Ideal.main_v219) = v9 c
          ∧ r.2.mem ((c.tc : Thread Cert.Reference3Ideal.nD Cert.Reference3Ideal.τ).loc Cert.Reference3Ideal.main_v222) = v10 c
          ∧ r.2.mem ((c.tc : Thread Cert.Reference3Ideal.nD Cert.Reference3Ideal.τ).loc Cert.Reference3Ideal.main_v225) = v11 c
          ∧ r.2.mem ((c.tc : Thread Cert.Reference3Ideal.nD Cert.Reference3Ideal.τ).loc Cert.Reference3Ideal.main_v226) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x8x256 : Shape := ⟨4, ![16, 2048, 8, 256]⟩
abbrev S16x2048x8x32 : Shape := ⟨4, ![16, 2048, 8, 32]⟩
abbrev S16x2048x256 : Shape := ⟨3, ![16, 2048, 256]⟩
abbrev S16x2048x32 : Shape := ⟨3, ![16, 2048, 32]⟩
abbrev S256x8x64 : Shape := ⟨3, ![256, 8, 64]⟩
abbrev S_ : Shape := ⟨0, ![]⟩

class Facts : Prop where
  bcast_S_S16x2048x8x256 : S_.BroadcastsInDim S16x2048x8x256 (![] : Fin 0 → Fin S16x2048x8x256.rank)
  bcast_S_S16x2048x8x32 : S_.BroadcastsInDim S16x2048x8x32 (![] : Fin 0 → Fin S16x2048x8x32.rank)
  bcast_S_S16x2048x256 : S_.BroadcastsInDim S16x2048x256 (![] : Fin 0 → Fin S16x2048x256.rank)
  bcast_S_S16x2048x32 : S_.BroadcastsInDim S16x2048x32 (![] : Fin 0 → Fin S16x2048x32.rank)

variable [Facts]

def fn {F : FTy → Type} [FloatOps F] (main_arg0 : FVec F S16x2048x8x256 .f32) (main_arg1 : FVec F S16x2048x8x32 .f32) (main_arg2 : FVec F S16x2048x256 .f32) (main_arg3 : FVec F S16x2048x32 .f32) (main_arg4 : FVec F S256x8x64 .f32) : IVec S16x2048x8x256 1 × IVec S16x2048x8x32 1 × IVec S16x2048x256 1 × IVec S16x2048x32 1 :=
  let main_v0 : FVec F S16x2048x8x256 .f32 := Host.absf main_arg0
  let main_cst : FVec F S_ .f32 := constant S_ .f32 0x7F800000#32
  let main_v1 : FVec F S16x2048x8x256 .f32 := broadcastInDim S16x2048x8x256 ![] bcast_S_S16x2048x8x256 main_cst
  let main_v2 : IVec S16x2048x8x256 1 := cmpf .olt main_v0 main_v1
  let main_v3 : FVec F S16x2048x8x32 .f32 := Host.absf main_arg1
  let main_cst_0 : FVec F S_ .f32 := constant S_ .f32 0x7F800000#32
  let main_v4 : FVec F S16x2048x8x32 .f32 := broadcastInDim S16x2048x8x32 ![] bcast_S_S16x2048x8x32 main_cst_0
  let main_v5 : IVec S16x2048x8x32 1 := cmpf .olt main_v3 main_v4
  let main_v6 : FVec F S16x2048x256 .f32 := Host.absf main_arg2
  let main_cst_1 : FVec F S_ .f32 := constant S_ .f32 0x7F800000#32
  let main_v7 : FVec F S16x2048x256 .f32 := broadcastInDim S16x2048x256 ![] bcast_S_S16x2048x256 main_cst_1
  let main_v8 : IVec S16x2048x256 1 := cmpf .olt main_v6 main_v7
  let main_v9 : FVec F S16x2048x32 .f32 := Host.absf main_arg3
  let main_cst_2 : FVec F S_ .f32 := constant S_ .f32 0x7F800000#32
  let main_v10 : FVec F S16x2048x32 .f32 := broadcastInDim S16x2048x32 ![] bcast_S_S16x2048x32 main_cst_2
  let main_v11 : IVec S16x2048x32 1 := cmpf .olt main_v9 main_v10
  (main_v2, main_v5, main_v8, main_v11)
-- ==== Kernel.lean ====
abbrev S16x2048x8x256 : Shape := ⟨4, ![16, 2048, 8, 256]⟩
abbrev S16x2048x8x32 : Shape := ⟨4, ![16, 2048, 8, 32]⟩
abbrev S16x2048x256 : Shape := ⟨3, ![16, 2048, 256]⟩
abbrev S16x2048x32 : Shape := ⟨3, ![16, 2048, 32]⟩
abbrev S256x8x64 : Shape := ⟨3, ![256, 8, 64]⟩
abbrev S_ : Shape := ⟨0, ![]⟩
abbrev S16x2048x8x96 : Shape := ⟨4, ![16, 2048, 8, 96]⟩
abbrev S16x2048x8x384 : Shape := ⟨4, ![16, 2048, 8, 384]⟩
abbrev S32768x8x384 : Shape := ⟨3, ![32768, 8, 384]⟩
abbrev S8x32768x384 : Shape := ⟨3, ![8, 32768, 384]⟩
abbrev S16x2048x96 : Shape := ⟨3, ![16, 2048, 96]⟩
abbrev S16x2048x384 : Shape := ⟨3, ![16, 2048, 384]⟩
abbrev S32768x384 : Shape := ⟨2, ![32768, 384]⟩
abbrev S8x256x64 : Shape := ⟨3, ![8, 256, 64]⟩
abbrev S32768x512 : Shape := ⟨2, ![32768, 512]⟩
abbrev S8x128x384 : Shape := ⟨3, ![8, 128, 384]⟩
abbrev S1x2048x384 : Shape := ⟨3, ![1, 2048, 384]⟩
abbrev S128x512 : Shape := ⟨2, ![128, 512]⟩
abbrev S1024x128 : Shape := ⟨2, ![1024, 128]⟩
abbrev S1024x256 : Shape := ⟨2, ![1024, 256]⟩
abbrev S1024x384 : Shape := ⟨2, ![1024, 384]⟩
abbrev S1x512x384 : Shape := ⟨3, ![1, 512, 384]⟩
abbrev S512x384 : Shape := ⟨2, ![512, 384]⟩
abbrev S1024x512 : Shape := ⟨2, ![1024, 512]⟩
abbrev S1024 : Shape := ⟨1, ![1024]⟩
abbrev S1024x1 : Shape := ⟨2, ![1024, 1]⟩
abbrev S512x256 : Shape := ⟨2, ![512, 256]⟩
abbrev S128x256 : Shape := ⟨2, ![128, 256]⟩
abbrev S1x256x64 : Shape := ⟨3, ![1, 256, 64]⟩
abbrev S256x64 : Shape := ⟨2, ![256, 64]⟩
abbrev S128x64 : Shape := ⟨2, ![128, 64]⟩

abbrev nBuf : Space → Nat
  | .hbm => 20
  | .vmem => 10
  | .smem => 0
  | _ => 0

abbrev bufTy : (tb : Table) → Fin (tcTables nBuf tb) → BufTy
  | .hbm, ⟨0, _⟩ => ⟨S16x2048x8x256, .f32⟩
  | .hbm, ⟨1, _⟩ => ⟨S16x2048x8x32, .f32⟩
  | .hbm, ⟨2, _⟩ => ⟨S16x2048x256, .f32⟩
  | .hbm, ⟨3, _⟩ => ⟨S16x2048x32, .f32⟩
  | .hbm, ⟨4, _⟩ => ⟨S256x8x64, .f32⟩
  | .hbm, ⟨5, _⟩ => ⟨S_, .f32⟩
  | .hbm, ⟨6, _⟩ => ⟨S16x2048x8x96, .f32⟩
  | .hbm, ⟨7, _⟩ => ⟨S16x2048x8x384, .f32⟩
  | .hbm, ⟨8, _⟩ => ⟨S32768x8x384, .f32⟩
  | .hbm, ⟨9, _⟩ => ⟨S8x32768x384, .f32⟩
  | .hbm, ⟨10, _⟩ => ⟨S8x32768x384, .bf16⟩
  | .hbm, ⟨11, _⟩ => ⟨S_, .f32⟩
  | .hbm, ⟨12, _⟩ => ⟨S16x2048x96, .f32⟩
  | .hbm, ⟨13, _⟩ => ⟨S16x2048x384, .f32⟩
  | .hbm, ⟨14, _⟩ => ⟨S32768x384, .f32⟩
  | .hbm, ⟨15, _⟩ => ⟨S32768x384, .bf16⟩
  | .hbm, ⟨16, _⟩ => ⟨S8x256x64, .f32⟩
  | .hbm, ⟨17, _⟩ => ⟨S8x256x64, .bf16⟩
  | .hbm, ⟨18, _⟩ => ⟨S16x2048x384, .bf16⟩
  | .hbm, ⟨19, _⟩ => ⟨S32768x512, .bf16⟩
  | .local _ .vmem, ⟨0, _⟩ => ⟨S8x128x384, .bf16⟩
  | .local _ .vmem, ⟨1, _⟩ => ⟨S8x128x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S8x256x64, .bf16⟩
  | .local _ .vmem, ⟨5, _⟩ => ⟨S128x512, .bf16⟩
  | .local _ .vmem, ⟨6, _⟩ => ⟨S128x512, .bf16⟩
  | .local _ .vmem, ⟨7, _⟩ => ⟨S1024x128, .f32⟩
  | .local _ .vmem, ⟨8, _⟩ => ⟨S1024x128, .f32⟩
  | .local _ .vmem, ⟨9, _⟩ => ⟨S1024x256, .f32⟩
  | _, _ => ⟨S16x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_15 : BitVec 32 := 0#32
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_17 : BitVec 32 := 1#32
  ⟨c0_i32_15, v37, c1_i32_17⟩
def k0_mult1 (i : grid0.Coords) (k0_t1 : Fin (k0_t1_loop i).trips) : BitVec 32 :=
  let c0_i32_15 : BitVec 32 := 0#32
  let c1_i32_17 : BitVec 32 := 1#32
  let arg9 : BitVec 32 := Scf.iv c0_i32_15 c1_i32_17 k0_t1
  let c512_i32_86 : BitVec 32 := 512#32
  let v158 : BitVec 32 := Scalar.muli arg9 c512_i32_86
  v158
def k0_off1 (i : grid0.Coords) (k0_t1 : Fin (k0_t1_loop i).trips) : Fin 3 → Nat :=
  let c0_87 : Index := 0#32
  let c0_i32_15 : BitVec 32 := 0#32
  let c1_i32_17 : BitVec 32 := 1#32
  let arg9 : BitVec 32 := Scf.iv c0_i32_15 c1_i32_17 k0_t1
  let c512_i32_86 : BitVec 32 := 512#32
  let v158 : BitVec 32 := Scalar.muli arg9 c512_i32_86
  let v159 : BitVec 32 := v158
  let v160 : Index := Scalar.indexCast v159
  let c0_88 : Index := 0#32
  ![0, v160.toNat, 0]
@[reducible] def k0_t2_loop (i : grid0.Coords) : Scf.Loop 32 :=
  let c0_i32_15 : BitVec 32 := 0#32
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let v34 : BitVec 32 := Scalar.addi c0_i32_15 v33
  let c1_i32_18 : BitVec 32 := 1#32
  ⟨v37, v34, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg9 : BitVec 32 := Scf.iv v37 c1_i32_18 k0_t2
  let c512_i32_86 : BitVec 32 := 512#32
  let v158 : BitVec 32 := Scalar.muli arg9 c512_i32_86
  v158
def k0_off2 (i : grid0.Coords) (k0_t2 : Fin (k0_t2_loop i).trips) : Fin 3 → Nat :=
  let c0_87 : Index := 0#32
  let c0_i32_15 : BitVec 32 := 0#32
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg9 : BitVec 32 := Scf.iv v37 c1_i32_18 k0_t2
  let c512_i32_86 : BitVec 32 := 512#32
  let v158 : BitVec 32 := Scalar.muli arg9 c512_i32_86
  let v159 : BitVec 32 := v158
  let v160 : Index := Scalar.indexCast v159
  let c0_88 : Index := 0#32
  ![0, v160.toNat, 0]
def k0_mult3 (i : grid0.Coords) : BitVec 32 :=
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let c512_i32_19 : BitVec 32 := 512#32
  let v38 : BitVec 32 := Scalar.muli v32 c512_i32_19
  v38
def k0_off3 (i : grid0.Coords) : Fin 3 → Nat :=
  let c0_20 : Index := 0#32
  let arg1 : BitVec 32 := BitVec.ofNat 32 (i 1).val
  let c128_i32 : BitVec 32 := 128#32
  let v15 : BitVec 32 := Scalar.muli arg1 c128_i32
  let c0_i32 : BitVec 32 := 0#32
  let v17 : BitVec 1 := Scalar.cmpi .sgt v15 c0_i32
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c512_i32 : BitVec 32 := 512#32
  let c0_i32_11 : BitVec 32 := 0#32
  let v22 : BitVec 1 := Scalar.cmpi .sgt c512_i32 c0_i32_11
  let v23 : BitVec 32 := Scalar.extui v22
  let c0_i32_12 : BitVec 32 := 0#32
  let v24 : BitVec 1 := Scalar.cmpi .slt c512_i32 c0_i32_12
  let v25 : BitVec 32 := Scalar.extui v24
  let v26 : BitVec 32 := Scalar.subi v23 v25
  let v27 : BitVec 1 := Scalar.cmpi .ne v21 v26
  let v28 : BitVec 32 := Scalar.remsi v15 c512_i32
  let c0_i32_13 : BitVec 32 := 0#32
  let v29 : BitVec 1 := Scalar.cmpi .ne v28 c0_i32_13
  let v30 : BitVec 1 := Scalar.andi v27 v29
  let v16 : BitVec 32 := Scalar.divsi v15 c512_i32
  let c1_i32 : BitVec 32 := 1#32
  let v31 : BitVec 32 := Scalar.subi v16 c1_i32
  let v32 : BitVec 32 := Scalar.select v30 v31 v16
  let c512_i32_19 : BitVec 32 := 512#32
  let v38 : BitVec 32 := Scalar.muli v32 c512_i32_19
  let v39 : BitVec 32 := v38
  let v40 : Index := Scalar.indexCast v39
  let c0_21 : Index := 0#32
  ![0, v40.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x8x256 : Shape := ⟨4, ![16, 2048, 8, 256]⟩
abbrev S16x2048x8x32 : Shape := ⟨4, ![16, 2048, 8, 32]⟩
abbrev S16x2048x256 : Shape := ⟨3, ![16, 2048, 256]⟩
abbrev S16x2048x32 : Shape := ⟨3, ![16, 2048, 32]⟩
abbrev S256x8x64 : Shape := ⟨3, ![256, 8, 64]⟩
abbrev S2048 : Shape := ⟨1, ![2048]⟩
abbrev S16x2048x2048x8 : Shape := ⟨4, ![16, 2048, 2048, 8]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x256x8x2048 : Shape := ⟨4, ![16, 256, 8, 2048]⟩
abbrev S8x64x16x2048 : Shape := ⟨4, ![8, 64, 16, 2048]⟩
abbrev S16x2048x8x64 : Shape := ⟨4, ![16, 2048, 8, 64]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x8x256, .f32⟩
  | .hbm, ⟨1, _⟩ => ⟨S16x2048x8x32, .f32⟩
  | .hbm, ⟨2, _⟩ => ⟨S16x2048x256, .f32⟩
  | .hbm, ⟨3, _⟩ => ⟨S16x2048x32, .f32⟩
  | .hbm, ⟨4, _⟩ => ⟨S256x8x64, .f32⟩
  | .hbm, ⟨5, _⟩ => ⟨S2048, .i32⟩
  | .hbm, ⟨6, _⟩ => ⟨S16x2048x2048x8, .f32⟩
  | .hbm, ⟨7, _⟩ => ⟨S16x8x2048x2048, .f32⟩
  | .hbm, ⟨8, _⟩ => ⟨S16x2048x2048x8, .f32⟩
  | .hbm, ⟨9, _⟩ => ⟨S16x8x2048x2048, .f32⟩
  | .hbm, ⟨10, _⟩ => ⟨S16x8x2048x2048, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S16x8x2048x2048, .i1⟩
  | .hbm, ⟨23, _⟩ => ⟨S16x8x2048x2048, .f32⟩
  | .hbm, ⟨24, _⟩ => ⟨S16x8x2048x2048, .f32⟩
  | .hbm, ⟨25, _⟩ => ⟨S_, .f32⟩
  | .hbm, ⟨26, _⟩ => ⟨S16x8x2048, .f32⟩
  | .hbm, ⟨27, _⟩ => ⟨S_, .f32⟩
  | .hbm, ⟨28, _⟩ => ⟨S16x8x2048, .f32⟩
  | .hbm, ⟨29, _⟩ => ⟨S16x8x2048, .f32⟩
  | .hbm, ⟨30, _⟩ => ⟨S16x8x2048x1, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S_, .f32⟩
  | .hbm, ⟨35, _⟩ => ⟨S16x8x2048, .f32⟩
  | .hbm, ⟨36, _⟩ => ⟨S16x8x2048x1, .f32⟩
  | .hbm, ⟨37, _⟩ => ⟨S16x8x2048x2048, .f32⟩
  | .hbm, ⟨38, _⟩ => ⟨S16x8x2048x2048, .f32⟩
  | .hbm, ⟨39, _⟩ => ⟨S16x256x8x2048, .f32⟩
  | .hbm, ⟨40, _⟩ => ⟨S16x2048x8x256, .f32⟩
  | .hbm, ⟨41, _⟩ => ⟨S8x64x16x2048, .f32⟩
  | .hbm, ⟨42, _⟩ => ⟨S16x2048x8x64, .f32⟩
  | .hbm, ⟨43, _⟩ => ⟨S32768x512, .f32⟩
  | .hbm, ⟨44, _⟩ => ⟨S32768x512, .bf16⟩
  | _, _ => ⟨S16x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S32768x1024 : Shape := ⟨2, ![32768, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x128 : Shape := ⟨2, ![2048, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x8x64 : Shape := ⟨3, ![1024, 8, 64]⟩
abbrev S1024x8x32 : Shape := ⟨3, ![1024, 8, 32]⟩
abbrev S1024x8x16 : Shape := ⟨3, ![1024, 8, 16]⟩
abbrev S1024x16 : Shape := ⟨2, ![1024, 16]⟩
abbrev S1024x3072 : Shape := ⟨2, ![1024, 3072]⟩
abbrev S384x8x96 : Shape := ⟨3, ![384, 8, 96]⟩
abbrev S384x8x32 : Shape := ⟨3, ![384, 8, 32]⟩
abbrev S384x8x64 : Shape := ⟨3, ![384, 8, 64]⟩
abbrev S384x512 : Shape := ⟨2, ![384, 512]⟩
abbrev S384x8x128 : Shape := ⟨3, ![384, 8, 128]⟩
abbrev S384x1024 : Shape := ⟨2, ![384, 1024]⟩
abbrev S384x8x16 : Shape := ⟨3, ![384, 8, 16]⟩
abbrev S384x2560 : Shape := ⟨2, ![384, 2560]⟩
abbrev S8x64x256 : Shape := ⟨3, ![8, 64, 256]⟩
abbrev S64x256 : Shape := ⟨2, ![64, 256]⟩
abbrev S1x64x256 : Shape := ⟨3, ![1, 64, 256]⟩
abbrev S64x512 : Shape := ⟨2, ![64, 512]⟩
abbrev S128x512 : Shape := ⟨2, ![128, 512]⟩
abbrev S1x128x512 : Shape := ⟨3, ![1, 128, 512]⟩
abbrev S4x128x512 : Shape := ⟨3, ![4, 128, 512]⟩
abbrev S1x1024 : Shape := ⟨2, ![1, 1024]⟩
abbrev S1x384 : Shape := ⟨2, ![1, 384]⟩
abbrev S1x256 : Shape := ⟨2, ![1, 256]⟩
abbrev S32768x256 : Shape := ⟨2, ![32768, 256]⟩
abbrev S16x32x2048 : Shape := ⟨3, ![16, 32, 2048]⟩
abbrev S16x128x2048 : Shape := ⟨3, ![16, 128, 2048]⟩
abbrev S16x64x2048 : Shape := ⟨3, ![16, 64, 2048]⟩
abbrev S32768x384 : Shape := ⟨2, ![32768, 384]⟩
abbrev S32768x128 : Shape := ⟨2, ![32768, 128]⟩
abbrev S32768x64 : Shape := ⟨2, ![32768, 64]⟩
abbrev S8x32768x384 : Shape := ⟨3, ![8, 32768, 384]⟩
abbrev S8x32768x64 : Shape := ⟨3, ![8, 32768, 64]⟩
abbrev S32768x8 : Shape := ⟨2, ![32768, 8]⟩
abbrev S512x1024 : Shape := ⟨2, ![512, 1024]⟩
abbrev S512x128 : Shape := ⟨2, ![512, 128]⟩
abbrev S512x256 : Shape := ⟨2, ![512, 256]⟩
abbrev S1x32x512 : Shape := ⟨3, ![1, 32, 512]⟩
abbrev S1x64x512 : Shape := ⟨3, ![1, 64, 512]⟩
abbrev S512x384 : Shape := ⟨2, ![512, 384]⟩
abbrev S512x64 : Shape := ⟨2, ![512, 64]⟩
abbrev S8x512x384 : Shape := ⟨3, ![8, 512, 384]⟩
abbrev S8x512x64 : Shape := ⟨3, ![8, 512, 64]⟩
abbrev S512x8 : Shape := ⟨2, ![512, 8]⟩
abbrev S512 : Shape := ⟨1, ![512]⟩
abbrev S512x1 : Shape := ⟨2, ![512, 1]⟩
abbrev S32x512 : Shape := ⟨2, ![32, 512]⟩
abbrev S512x512 : Shape := ⟨2, ![512, 512]⟩
abbrev S1x512x64 : Shape := ⟨3, ![1, 512, 64]⟩
abbrev S1x512x256 : Shape := ⟨3, ![1, 512, 256]⟩
abbrev S384x128 : Shape := ⟨2, ![384, 128]⟩
abbrev S1x512x128 : Shape := ⟨3, ![1, 512, 128]⟩

abbrev nBuf : Space → Nat
  | .hbm => 149
  | .vmem => 42
  | .smem => 0
  | _ => 0

abbrev hbmTy0_0 (i : Nat) : BufTy := match i % 128 with
  | 0 => ⟨S16x2048x1024, .f32⟩
  | 1 => ⟨S1024, .f32⟩
  | 2 => ⟨S1024x2024, .f32⟩
  | 3 => ⟨S384, .f32⟩
  | 4 => ⟨S384x768, .f32⟩
  | 5 => ⟨S256, .f32⟩
  | 6 => ⟨S256x8x64, .f32⟩
  | 7 => ⟨S32768x1024, .f32⟩
  | 8 => ⟨S2048, .i32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S2048, .f32⟩
  | 18 => ⟨S2048x1, .f32⟩
  | 19 => ⟨S1x16, .f32⟩
  | 20 => ⟨S2048x16, .f32⟩
  | 21 => ⟨S2048x16, .f32⟩
  | 22 => ⟨S2048x16, .f32⟩
  | 23 => ⟨S2048x16, .f32⟩
  | 24 => ⟨S2048x16, .f32⟩
  | 25 => ⟨S2048x32, .f32⟩
  | 26 => ⟨S2048x16, .f32⟩
  | 27 => ⟨S2048x32, .f32⟩
  | 28 => ⟨S_, .f32⟩
  | 29 => ⟨S2048x32, .f32⟩
  | 30 => ⟨S_, .f32⟩
  | 31 => ⟨S2048x32, .f32⟩
  | 32 => ⟨S2048x128, .f32⟩
  | 33 => ⟨S2048x128, .f32⟩
  | 34 => ⟨S2048x128, .f32⟩
  | 35 => ⟨S2048x128, .f32⟩
  | 36 => ⟨S1024x384, .f32⟩
  | 37 => ⟨S1024x256, .f32⟩
  | 38 => ⟨S1024x32, .f32⟩
  | 39 => ⟨S1024x512, .f32⟩
  | 40 => ⟨S1024x128, .f32⟩
  | 41 => ⟨S1024x128, .f32⟩
  | 42 => ⟨S1024x512, .f32⟩
  | 43 => ⟨S1024x64, .f32⟩
  | 44 => ⟨S1024x8, .f32⟩
  | 45 => ⟨S1024x8x64, .f32⟩
  | 46 => ⟨S1024x8x32, .f32⟩
  | 47 => ⟨S1024x8x16, .f32⟩
  | 48 => ⟨S1024x8x16, .f32⟩
  | 49 => ⟨S1024x8x32, .f32⟩
  | 50 => ⟨S1024x8x32, .f32⟩
  | 51 => ⟨S_, .f32⟩
  | 52 => ⟨S1024x8x32, .f32⟩
  | 53 => ⟨S1024x8x64, .f32⟩
  | 54 => ⟨S1024x512, .f32⟩
  | 55 => ⟨S_, .i32⟩
  | 56 => ⟨S_, .f32⟩
  | 57 => ⟨S1024x128, .f32⟩
  | 58 => ⟨S1024x16, .f32⟩
  | 59 => ⟨S1024x16, .f32⟩
  | 60 => ⟨S1024x32, .f32⟩
  | 61 => ⟨S_, .i32⟩
  | 62 => ⟨S_, .f32⟩
  | 63 => ⟨S1024x128, .f32⟩
  | 64 => ⟨S_, .i32⟩
  | 65 => ⟨S_, .f32⟩
  | 66 => ⟨S1024x128, .f32⟩
  | 67 => ⟨S1024x32, .f32⟩
  | 68 => ⟨S1024x16, .f32⟩
  | 69 => ⟨S1024x16, .f32⟩
  | 70 => ⟨S1024x32, .f32⟩
  | 71 => ⟨S_, .i32⟩
  | 72 => ⟨S_, .f32⟩
  | 73 => ⟨S1024x128, .f32⟩
  | 74 => ⟨S_, .i32⟩
  | 75 => ⟨S_, .f32⟩
  | 76 => ⟨S1024x128, .f32⟩
  | 77 => ⟨S1024x3072, .f32⟩
  | 78 => ⟨S1024x3072, .bf16⟩
  | 79 => ⟨S384x8x96, .f32⟩
  | 80 => ⟨S384x8x32, .f32⟩
  | 81 => ⟨S384x8x64, .f32⟩
  | 82 => ⟨S384x512, .f32⟩
  | 83 => ⟨S_, .i32⟩
  | 84 => ⟨S_, .f32⟩
  | 85 => ⟨S384x8x128, .f32⟩
  | 86 => ⟨S384x1024, .f32⟩
  | 87 => ⟨S384x8x16, .f32⟩
  | 88 => ⟨S384x8x16, .f32⟩
  | 89 => ⟨S384x8x32, .f32⟩
  | 90 => ⟨S_, .i32⟩
  | 91 => ⟨S_, .f32⟩
  | 92 => ⟨S384x8x128, .f32⟩
  | 93 => ⟨S384x1024, .f32⟩
  | 94 => ⟨S384x2560, .f32⟩
  | 95 => ⟨S384x2560, .bf16⟩
  | 96 => ⟨S8x64x256, .f32⟩
  | 97 => ⟨S_, .f32⟩
  | 98 => ⟨S64x256, .f32⟩
  | 99 => ⟨S1x64x256, .f32⟩
  | 100 => ⟨S64x256, .f32⟩
  | 101 => ⟨S64x512, .f32⟩
  | 102 => ⟨S1x64x256, .f32⟩
  | 103 => ⟨S64x256, .f32⟩
  | 104 => ⟨S64x512, .f32⟩
  | 105 => ⟨S128x512, .f32⟩
  | 106 => ⟨S1x64x256, .f32⟩
  | 107 => ⟨S64x256, .f32⟩
  | 108 => ⟨S64x512, .f32⟩
  | 109 => ⟨S1x64x256, .f32⟩
  | 110 => ⟨S64x256, .f32⟩
  | 111 => ⟨S64x512, .f32⟩
  | 112 => ⟨S128x512, .f32⟩
  | 113 => ⟨S1x64x256, .f32⟩
  | 114 => ⟨S64x256, .f32⟩
  | 115 => ⟨S64x512, .f32⟩
  | 116 => ⟨S1x64x256, .f32⟩
  | 117 => ⟨S64x256, .f32⟩
  | 118 => ⟨S64x512, .f32⟩
  | 119 => ⟨S128x512, .f32⟩
  | 120 => ⟨S1x64x256, .f32⟩
  | 121 => ⟨S64x256, .f32⟩
  | 122 => ⟨S64x512, .f32⟩
  | 123 => ⟨S1x64x256, .f32⟩
  | 124 => ⟨S64x256, .f32⟩
  | 125 => ⟨S64x512, .f32⟩
  | 126 => ⟨S128x512, .f32⟩
  | 127 => ⟨S1x128x512, .f32⟩
  | _ => ⟨S16x2048x1024, .f32⟩

abbrev hbmTy0_1 (i : Nat) : BufTy := match i % 128 with
  | 0 => ⟨S1x128x512, .f32⟩
  | 1 => ⟨S1x128x512, .f32⟩
  | 2 => ⟨S1x128x512, .f32⟩
  | 3 => ⟨S4x128x512, .f32⟩
  | 4 => ⟨S4x128x512, .bf16⟩
  | 5 => ⟨S1x1024, .f32⟩
  | 6 => ⟨S1x384, .f32⟩
  | 7 => ⟨S1x256, .f32⟩
  | 8 => ⟨S32768x256, .f32⟩
  | 9 => ⟨S16x32x2048, .f32⟩
  | 10 => ⟨S16x128x2048, .f32⟩
  | 11 => ⟨S16x128x2048, .f32⟩
  | 12 => ⟨S16x64x2048, .f32⟩
  | 13 => ⟨S32768x384, .bf16⟩
  | 14 => ⟨S32768x128, .bf16⟩
  | 15 => ⟨S32768x128, .bf16⟩
  | 16 => ⟨S32768x64, .bf16⟩
  | 17 => ⟨S8x32768x384, .bf16⟩
  | 18 => ⟨S8x32768x64, .bf16⟩
  | 19 => ⟨S8x32768x64, .bf16⟩
  | 20 => ⟨S32768x8, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x384, .f32⟩
  | .local _ .vmem, ⟨5, _⟩ => ⟨S384x2560, .bf16⟩
  | .local _ .vmem, ⟨6, _⟩ => ⟨S1x256, .f32⟩
  | .local _ .vmem, ⟨7, _⟩ => ⟨S4x128x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .f32⟩
  | .local _ .vmem, ⟨17, _⟩ => ⟨S512x256, .f32⟩
  | .local _ .vmem, ⟨18, _⟩ => ⟨S1x32x512, .f32⟩
  | .local _ .vmem, ⟨19, _⟩ => ⟨S1x32x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x64x512, .f32⟩
  | .local _ .vmem, ⟨25, _⟩ => ⟨S1x64x512, .f32⟩
  | .local _ .vmem, ⟨26, _⟩ => ⟨S512x384, .bf16⟩
  | .local _ .vmem, ⟨27, _⟩ => ⟨S512x384, .bf16⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x64, .bf16⟩
  | .local _ .vmem, ⟨33, _⟩ => ⟨S512x64, .bf16⟩
  | .local _ .vmem, ⟨34, _⟩ => ⟨S8x512x384, .bf16⟩
  | .local _ .vmem, ⟨35, _⟩ => ⟨S8x512x384, .bf16⟩
  | .local _ .vmem, ⟨36, _⟩ => ⟨S8x512x64, .bf16⟩
  | .local _ .vmem, ⟨37, _⟩ => ⟨S8x512x64, .bf16⟩
  | .local _ .vmem, ⟨38, _⟩ => ⟨S8x512x64, .bf16⟩
  | .local _ .vmem, ⟨39, _⟩ => ⟨S8x512x64, .bf16⟩
  | .local _ .vmem, ⟨40, _⟩ => ⟨S512x8, .f32⟩
  | .local _ .vmem, ⟨41, _⟩ => ⟨S512x8, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_call0_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_4 : Ref sig .tc := ⟨.hbm, 61, rfl⟩
abbrev main_call1_v0 : Ref sig .tc := ⟨.hbm, 62, rfl⟩
abbrev main_v47 : Ref sig .tc := ⟨.hbm, 63, rfl⟩
abbrev main_c_5 : Ref sig .tc := ⟨.hbm, 64, rfl⟩
abbrev main_call2_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_6 : Ref sig .tc := ⟨.hbm, 71, rfl⟩
abbrev main_call3_v0 : Ref sig .tc := ⟨.hbm, 72, rfl⟩
abbrev main_v53 : Ref sig .tc := ⟨.hbm, 73, rfl⟩
abbrev main_c_7 : Ref sig .tc := ⟨.hbm, 74, rfl⟩
abbrev main_call4_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_8 : Ref sig .tc := ⟨.hbm, 83, rfl⟩
abbrev main_call5_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_9 : Ref sig .tc := ⟨.hbm, 90, rfl⟩
abbrev main_call6_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109_0 : Ref sig .tc := ⟨.hbm, 136, rfl⟩
abbrev main_v109_1 : Ref sig .tc := ⟨.hbm, 137, rfl⟩
abbrev main_v109_2 : Ref sig .tc := ⟨.hbm, 138, rfl⟩
abbrev main_v109_3 : Ref sig .tc := ⟨.hbm, 139, rfl⟩
abbrev main_v109_4 : Ref sig .tc := ⟨.hbm, 140, rfl⟩
abbrev main_v109_5 : Ref sig .tc := ⟨.hbm, 141, rfl⟩
abbrev main_v109_6 : Ref sig .tc := ⟨.hbm, 142, rfl⟩
abbrev main_v109_7 : Ref sig .tc := ⟨.hbm, 143, rfl⟩
abbrev main_v109_8 : Ref sig .tc := ⟨.hbm, 144, rfl⟩
abbrev main_v109_9 : Ref sig .tc := ⟨.hbm, 145, rfl⟩
abbrev main_v109_10 : Ref sig .tc := ⟨.hbm, 146, rfl⟩
abbrev main_v109_11 : Ref sig .tc := ⟨.hbm, 147, rfl⟩
abbrev main_v109_12 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512x384 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512x64 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x8 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference2Ideal.lean ====
abbrev S16x2048x1024 : Shape := ⟨3, ![16, 2048, 1024]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2024 : Shape := ⟨3, ![16, 2048, 2024]⟩
abbrev S16x2048x384 : Shape := ⟨3, ![16, 2048, 384]⟩
abbrev S16x2048x256 : Shape := ⟨3, ![16, 2048, 256]⟩
abbrev S16x2048x32 : Shape := ⟨3, ![16, 2048, 32]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x8 : Shape := ⟨3, ![16, 2048, 8]⟩
abbrev S1x1x384 : Shape := ⟨3, ![1, 1, 384]⟩
abbrev S16x2048x768 : Shape := ⟨3, ![16, 2048, 768]⟩
abbrev S16x2048x8x96 : Shape := ⟨4, ![16, 2048, 8, 96]⟩
abbrev S16x2048x8x64 : Shape := ⟨4, ![16, 2048, 8, 64]⟩
abbrev S8x256x16x2048 : Shape := ⟨4, ![8, 256, 16, 2048]⟩
abbrev S16x2048x8x256 : Shape := ⟨4, ![16, 2048, 8, 256]⟩
abbrev S16x2048x8x32 : Shape := ⟨4, ![16, 2048, 8, 32]⟩
abbrev S16 : Shape := ⟨1, ![16]⟩
abbrev S2048x1x1 : Shape := ⟨3, ![2048, 1, 1]⟩
abbrev S1x1x16 : Shape := ⟨3, ![1, 1, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S1x1x256 : Shape := ⟨3, ![1, 1, 256]⟩
abbrev S16x2048x1x32 : Shape := ⟨4, ![16, 2048, 1, 32]⟩
abbrev S16x2048x1x16 : Shape := ⟨4, ![16, 2048, 1, 16]⟩
abbrev S16x2048x96 : Shape := ⟨3, ![16, 2048, 96]⟩
abbrev S16x2048x8x384 : Shape := ⟨4, ![16, 2048, 8, 384]⟩
abbrev S32768x256 : Shape := ⟨2, ![32768, 256]⟩
abbrev S16x32x2048 : Shape := ⟨3, ![16, 32, 2048]⟩
abbrev S16x128x2048 : Shape := ⟨3, ![16, 128, 2048]⟩
abbrev S16x64x2048 : Shape := ⟨3, ![16, 64, 2048]⟩
abbrev S32768x384 : Shape := ⟨2, ![32768, 384]⟩
abbrev S32768x128 : Shape := ⟨2, ![32768, 128]⟩
abbrev S32768x64 : Shape := ⟨2, ![32768, 64]⟩
abbrev S32768x8x384 : Shape := ⟨3, ![32768, 8, 384]⟩
abbrev S8x32768x384 : Shape := ⟨3, ![8, 32768, 384]⟩
abbrev S32768x8x64 : Shape := ⟨3, ![32768, 8, 64]⟩
abbrev S8x32768x64 : Shape := ⟨3, ![8, 32768, 64]⟩
abbrev S32768x8 : Shape := ⟨2, ![32768, 8]⟩

abbrev nBuf : Space → Nat
  | .hbm => 248
  | .vmem => 0
  | .smem => 0
  | _ => 0

abbrev hbmTy0_0 (i : Nat) : BufTy := match i % 128 with
  | 0 => ⟨S16x2048x1024, .f32⟩
  | 1 => ⟨S1024, .f32⟩
  | 2 => ⟨S1024x2024, .f32⟩
  | 3 => ⟨S384, .f32⟩
  | 4 => ⟨S384x768, .f32⟩
  | 5 => ⟨S256, .f32⟩
  | 6 => ⟨S256x8x64, .f32⟩
  | 7 => ⟨S2048, .i32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x2024, .f32⟩
  | 25 => ⟨S16x2048x384, .f32⟩
  | 26 => ⟨S16x2048x256, .f32⟩
  | 27 => ⟨S16x2048x32, .f32⟩
  | 28 => ⟨S16x2048x512, .f32⟩
  | 29 => ⟨S16x2048x128, .f32⟩
  | 30 => ⟨S16x2048x128, .f32⟩
  | 31 => ⟨S16x2048x512, .f32⟩
  | 32 => ⟨S16x2048x64, .f32⟩
  | 33 => ⟨S16x2048x8, .f32⟩
  | 34 => ⟨S16x2048x384, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S_, .f32⟩
  | 42 => ⟨S16x2048x1, .f32⟩
  | 43 => ⟨S16x2048x1, .f32⟩
  | 44 => ⟨S16x2048x1, .f32⟩
  | 45 => ⟨S16x2048x384, .f32⟩
  | 46 => ⟨S16x2048x384, .f32⟩
  | 47 => ⟨S1x1x384, .f32⟩
  | 48 => ⟨S16x2048x384, .f32⟩
  | 49 => ⟨S16x2048x384, .f32⟩
  | 50 => ⟨S16x2048x768, .f32⟩
  | 51 => ⟨S16x2048x8x96, .f32⟩
  | 52 => ⟨S16x2048x8x64, .f32⟩
  | 53 => ⟨S8x256x16x2048, .f32⟩
  | 54 => ⟨S16x2048x8x256, .f32⟩
  | 55 => ⟨S16x2048x8x32, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2048, .f32⟩
  | 65 => ⟨S2048x1x1, .f32⟩
  | 66 => ⟨S1x1x16, .f32⟩
  | 67 => ⟨S2048x1x16, .f32⟩
  | 68 => ⟨S2048x1x16, .f32⟩
  | 69 => ⟨S2048x1x16, .f32⟩
  | 70 => ⟨S2048x1x16, .f32⟩
  | 71 => ⟨S2048x1x16, .f32⟩
  | 72 => ⟨S16x2048x8x16, .f32⟩
  | 73 => ⟨S16x2048x8x16, .f32⟩
  | 74 => ⟨S1x2048x1x16, .f32⟩
  | 75 => ⟨S16x2048x8x16, .f32⟩
  | 76 => ⟨S16x2048x8x16, .f32⟩
  | 77 => ⟨S1x2048x1x16, .f32⟩
  | 78 => ⟨S16x2048x8x16, .f32⟩
  | 79 => ⟨S16x2048x8x16, .f32⟩
  | 80 => ⟨S16x2048x8x16, .f32⟩
  | 81 => ⟨S1x2048x1x16, .f32⟩
  | 82 => ⟨S16x2048x8x16, .f32⟩
  | 83 => ⟨S16x2048x8x16, .f32⟩
  | 84 => ⟨S1x2048x1x16, .f32⟩
  | 85 => ⟨S16x2048x8x16, .f32⟩
  | 86 => ⟨S16x2048x8x16, .f32⟩
  | 87 => ⟨S16x2048x8x16, .f32⟩
  | 88 => ⟨S16x2048x8x32, .f32⟩
  | 89 => ⟨S16x2048x256, .f32⟩
  | 90 => ⟨S_, .f32⟩
  | 91 => ⟨S16x2048, .f32⟩
  | 92 => ⟨S16x2048x1, .f32⟩
  | 93 => ⟨S_, .f32⟩
  | 94 => ⟨S16x2048x1, .f32⟩
  | 95 => ⟨S16x2048x1, .f32⟩
  | 96 => ⟨S_, .f32⟩
  | 97 => ⟨S16x2048x1, .f32⟩
  | 98 => ⟨S16x2048x1, .f32⟩
  | 99 => ⟨S16x2048x1, .f32⟩
  | 100 => ⟨S16x2048x256, .f32⟩
  | 101 => ⟨S16x2048x256, .f32⟩
  | 102 => ⟨S1x1x256, .f32⟩
  | 103 => ⟨S16x2048x256, .f32⟩
  | 104 => ⟨S16x2048x256, .f32⟩
  | 105 => ⟨S16x2048x1x32, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S2048, .f32⟩
  | 115 => ⟨S2048x1x1, .f32⟩
  | 116 => ⟨S1x1x16, .f32⟩
  | 117 => ⟨S2048x1x16, .f32⟩
  | 118 => ⟨S2048x1x16, .f32⟩
  | 119 => ⟨S2048x1x16, .f32⟩
  | 120 => ⟨S2048x1x16, .f32⟩
  | 121 => ⟨S2048x1x16, .f32⟩
  | 122 => ⟨S16x2048x1x16, .f32⟩
  | 123 => ⟨S16x2048x1x16, .f32⟩
  | 124 => ⟨S1x2048x1x16, .f32⟩
  | 125 => ⟨S16x2048x1x16, .f32⟩
  | 126 => ⟨S16x2048x1x16, .f32⟩
  | 127 => ⟨S1x2048x1x16, .f32⟩
  | _ => ⟨S16x2048x1024, .f32⟩

abbrev hbmTy0_1 (i : Nat) : BufTy := match i % 128 with
  | 0 => ⟨S16x2048x1x16, .f32⟩
  | 1 => ⟨S16x2048x1x16, .f32⟩
  | 2 => ⟨S16x2048x1x16, .f32⟩
  | 3 => ⟨S1x2048x1x16, .f32⟩
  | 4 => ⟨S16x2048x1x16, .f32⟩
  | 5 => ⟨S16x2048x1x16, .f32⟩
  | 6 => ⟨S1x2048x1x16, .f32⟩
  | 7 => ⟨S16x2048x1x16, .f32⟩
  | 8 => ⟨S16x2048x1x16, .f32⟩
  | 9 => ⟨S16x2048x1x16, .f32⟩
  | 10 => ⟨S16x2048x1x32, .f32⟩
  | 11 => ⟨S16x2048x32, .f32⟩
  | 12 => ⟨S16x2048x8x64, .f32⟩
  | 13 => ⟨S16x2048x8x64, .f32⟩
  | 14 => ⟨S16x2048x8x32, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S2048, .f32⟩
  | 24 => ⟨S2048x1x1, .f32⟩
  | 25 => ⟨S1x1x16, .f32⟩
  | 26 => ⟨S2048x1x16, .f32⟩
  | 27 => ⟨S2048x1x16, .f32⟩
  | 28 => ⟨S2048x1x16, .f32⟩
  | 29 => ⟨S2048x1x16, .f32⟩
  | 30 => ⟨S2048x1x16, .f32⟩
  | 31 => ⟨S16x2048x8x16, .f32⟩
  | 32 => ⟨S16x2048x8x16, .f32⟩
  | 33 => ⟨S1x2048x1x16, .f32⟩
  | 34 => ⟨S16x2048x8x16, .f32⟩
  | 35 => ⟨S16x2048x8x16, .f32⟩
  | 36 => ⟨S1x2048x1x16, .f32⟩
  | 37 => ⟨S16x2048x8x16, .f32⟩
  | 38 => ⟨S16x2048x8x16, .f32⟩
  | 39 => ⟨S16x2048x8x16, .f32⟩
  | 40 => ⟨S1x2048x1x16, .f32⟩
  | 41 => ⟨S16x2048x8x16, .f32⟩
  | 42 => ⟨S16x2048x8x16, .f32⟩
  | 43 => ⟨S1x2048x1x16, .f32⟩
  | 44 => ⟨S16x2048x8x16, .f32⟩
  | 45 => ⟨S16x2048x8x16, .f32⟩
  | 46 => ⟨S16x2048x8x16, .f32⟩
  | 47 => ⟨S16x2048x8x32, .f32⟩
  | 48 => ⟨S16x2048x8x32, .f32⟩
  | 49 => ⟨S16x2048x8x64, .f32⟩
  | 50 => ⟨S16x2048x32, .f32⟩
  | 51 => ⟨S16x2048x1x32, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1x1, .f32⟩
  | 62 => ⟨S1x1x16, .f32⟩
  | 63 => ⟨S2048x1x16, .f32⟩
  | 64 => ⟨S2048x1x16, .f32⟩
  | 65 => ⟨S2048x1x16, .f32⟩
  | 66 => ⟨S2048x1x16, .f32⟩
  | 67 => ⟨S2048x1x16, .f32⟩
  | 68 => ⟨S16x2048x1x16, .f32⟩
  | 69 => ⟨S16x2048x1x16, .f32⟩
  | 70 => ⟨S1x2048x1x16, .f32⟩
  | 71 => ⟨S16x2048x1x16, .f32⟩
  | 72 => ⟨S16x2048x1x16, .f32⟩
  | 73 => ⟨S1x2048x1x16, .f32⟩
  | 74 => ⟨S16x2048x1x16, .f32⟩
  | 75 => ⟨S16x2048x1x16, .f32⟩
  | 76 => ⟨S16x2048x1x16, .f32⟩
  | 77 => ⟨S1x2048x1x16, .f32⟩
  | 78 => ⟨S16x2048x1x16, .f32⟩
  | 79 => ⟨S16x2048x1x16, .f32⟩
  | 80 => ⟨S1x2048x1x16, .f32⟩
  | 81 => ⟨S16x2048x1x16, .f32⟩
  | 82 => ⟨S16x2048x1x16, .f32⟩
  | 83 => ⟨S16x2048x1x16, .f32⟩
  | 84 => ⟨S16x2048x1x32, .f32⟩
  | 85 => ⟨S16x2048x32, .f32⟩
  | 86 => ⟨S16x2048x32, .f32⟩
  | 87 => ⟨S16x2048x64, .f32⟩
  | 88 => ⟨S_, .f32⟩
  | 89 => ⟨S16x2048x8, .f32⟩
  | 90 => ⟨S16x2048x8, .f32⟩
  | 91 => ⟨S_, .f32⟩
  | 92 => ⟨S16x2048x96, .f32⟩
  | 93 => ⟨S16x2048x384, .f32⟩
  | 94 => ⟨S_, .f32⟩
  | 95 => ⟨S16x2048x8x96, .f32⟩
  | 96 => ⟨S16x2048x8x384, .f32⟩
  | 97 => ⟨S32768x256, .f32⟩
  | 98 => ⟨S16x32x2048, .f32⟩
  | 99 => ⟨S16x128x2048, .f32⟩
  | 100 => ⟨S16x128x2048, .f32⟩
  | 101 => ⟨S16x64x2048, .f32⟩
  | 102 => ⟨S32768x384, .f32⟩
  | 103 => ⟨S32768x384, .bf16⟩
  | 104 => ⟨S32768x128, .f32⟩
  | 105 => ⟨S32768x128, .bf16⟩
  | 106 => ⟨S32768x128, .f32⟩
  | 107 => ⟨S32768x128, .bf16⟩
  | 108 => ⟨S32768x64, .f32⟩
  | 109 => ⟨S32768x64, .bf16⟩
  | 110 => ⟨S32768x8x384, .f32⟩
  | 111 => ⟨S8x32768x384, .f32⟩
  | 112 => ⟨S8x32768x384, .bf16⟩
  | 113 => ⟨S32768x8x64, .f32⟩
  | 114 => ⟨S8x32768x64, .f32⟩
  | 115 => ⟨S8x32768x64, .bf16⟩
  | 116 => ⟨S32768x8x64, .f32⟩
  | 117 => ⟨S8x32768x64, .f32⟩
  | 118 => ⟨S8x32768x64, .bf16⟩
  | 119 => ⟨S32768x8, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_12 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_cst_14 : Ref sig .tc := ⟨.hbm, 182, rfl⟩
abbrev main_v160 : Ref sig .tc := ⟨.hbm, 183, rfl⟩
abbrev main_v161 : Ref sig .tc := ⟨.hbm, 184, rfl⟩
abbrev main_cst_15 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_cst_16 : Ref sig .tc := ⟨.hbm, 216, rfl⟩
abbrev main_v192 : Ref sig .tc := ⟨.hbm, 217, rfl⟩
abbrev main_v193 : Ref sig .tc := ⟨.hbm, 218, rfl⟩
abbrev main_cst_17 : Ref sig .tc := ⟨.hbm, 219, rfl⟩
abbrev main_v194 : Ref sig .tc := ⟨.hbm, 220, rfl⟩
abbrev main_v195 : Ref sig .tc := ⟨.hbm, 221, rfl⟩
abbrev main_cst_18 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩

abbrev nD : Nat := 1
abbrev τ : Topo := Topo.v7x

variable {F : FTy → Type} [FloatOps F]
-- ==== Kernel3.lean ====
abbrev S128x4x1024 : Shape := ⟨3, ![128, 4, 1024]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S4 : Shape := ⟨1, ![4]⟩
abbrev S1x4 : Shape := ⟨2, ![1, 4]⟩
abbrev S128x4 : Shape := ⟨2, ![128, 4]⟩
abbrev S512 : Shape := ⟨1, ![512]⟩
abbrev S_ : Shape := ⟨0, ![]⟩
abbrev S512x1024 : Shape := ⟨2, ![512, 1024]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S512x32 : Shape := ⟨2, ![512, 32]⟩
abbrev S512x128 : Shape := ⟨2, ![512, 128]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x8x64 : Shape := ⟨3, ![1024, 8, 64]⟩
abbrev S1024x8x32 : Shape := ⟨3, ![1024, 8, 32]⟩
abbrev S1024x8x16 : Shape := ⟨3, ![1024, 8, 16]⟩
abbrev S1024x16 : Shape := ⟨2, ![1024, 16]⟩
abbrev S1024x3072 : Shape := ⟨2, ![1024, 3072]⟩
abbrev S384x8x96 : Shape := ⟨3, ![384, 8, 96]⟩
abbrev S384x8x32 : Shape := ⟨3, ![384, 8, 32]⟩
abbrev S384x8x64 : Shape := ⟨3, ![384, 8, 64]⟩
abbrev S384x512 : Shape := ⟨2, ![384, 512]⟩
abbrev S384x8x128 : Shape := ⟨3, ![384, 8, 128]⟩
abbrev S384x1024 : Shape := ⟨2, ![384, 1024]⟩
abbrev S384x8x16 : Shape := ⟨3, ![384, 8, 16]⟩
abbrev S384x2560 : Shape := ⟨2, ![384, 2560]⟩
abbrev S8x64x256 : Shape := ⟨3, ![8, 64, 256]⟩
abbrev S64x256 : Shape := ⟨2, ![64, 256]⟩
abbrev S1x64x256 : Shape := ⟨3, ![1, 64, 256]⟩
abbrev S64x512 : Shape := ⟨2, ![64, 512]⟩
abbrev S128x512 : Shape := ⟨2, ![128, 512]⟩
abbrev S1x128x512 : Shape := ⟨3, ![1, 128, 512]⟩
abbrev S4x128x512 : Shape := ⟨3, ![4, 128, 512]⟩
abbrev S1x1024 : Shape := ⟨2, ![1, 1024]⟩
abbrev S1x384 : Shape := ⟨2, ![1, 384]⟩
abbrev S1x256 : Shape := ⟨2, ![1, 256]⟩
abbrev S512x256 : Shape := ⟨2, ![512, 256]⟩
abbrev S1x32x512 : Shape := ⟨3, ![1, 32, 512]⟩
abbrev S1x64x512 : Shape := ⟨3, ![1, 64, 512]⟩
abbrev S512x384 : Shape := ⟨2, ![512, 384]⟩
abbrev S512x64 : Shape := ⟨2, ![512, 64]⟩
abbrev S8x512x384 : Shape := ⟨3, ![8, 512, 384]⟩
abbrev S8x512x64 : Shape := ⟨3, ![8, 512, 64]⟩
abbrev S512x8 : Shape := ⟨2, ![512, 8]⟩
abbrev S32x512 : Shape := ⟨2, ![32, 512]⟩
abbrev S512x512 : Shape := ⟨2, ![512, 512]⟩
abbrev S1x512x64 : Shape := ⟨3, ![1, 512, 64]⟩
abbrev S1x512x256 : Shape := ⟨3, ![1, 512, 256]⟩
abbrev S384x128 : Shape := ⟨2, ![384, 128]⟩
abbrev S1x512x128 : Shape := ⟨3, ![1, 512, 128]⟩

abbrev nBuf : Space → Nat
  | .hbm => 155
  | .vmem => 24
  | .smem => 0
  | _ => 0

abbrev hbmTy0_0 (i : Nat) : BufTy := match i % 128 with
  | 0 => ⟨S128x4x1024, .f32⟩
  | 1 => ⟨S1024, .f32⟩
  | 2 => ⟨S1024x2024, .f32⟩
  | 3 => ⟨S384, .f32⟩
  | 4 => ⟨S384x768, .f32⟩
  | 5 => ⟨S256, .f32⟩
  | 6 => ⟨S256x8x64, .f32⟩
  | 7 => ⟨S4, .i32⟩
  | 8 => ⟨S1x4, .i32⟩
  | 9 => ⟨S128x4, .i32⟩
  | 10 => ⟨S512, .i32⟩
  | 11 => ⟨S_, .i32⟩
  | 12 => ⟨S512, .i32⟩
  | 13 => ⟨S512, .i32⟩
  | 14 => ⟨S512x1024, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S512, .f32⟩
  | 24 => ⟨S512x1, .f32⟩
  | 25 => ⟨S1x16, .f32⟩
  | 26 => ⟨S512x16, .f32⟩
  | 27 => ⟨S512x16, .f32⟩
  | 28 => ⟨S512x16, .f32⟩
  | 29 => ⟨S512x16, .f32⟩
  | 30 => ⟨S512x16, .f32⟩
  | 31 => ⟨S512x32, .f32⟩
  | 32 => ⟨S512x16, .f32⟩
  | 33 => ⟨S512x32, .f32⟩
  | 34 => ⟨S_, .f32⟩
  | 35 => ⟨S512x32, .f32⟩
  | 36 => ⟨S_, .f32⟩
  | 37 => ⟨S512x32, .f32⟩
  | 38 => ⟨S512x128, .f32⟩
  | 39 => ⟨S512x128, .f32⟩
  | 40 => ⟨S512x128, .f32⟩
  | 41 => ⟨S512x128, .f32⟩
  | 42 => ⟨S1024x384, .f32⟩
  | 43 => ⟨S1024x256, .f32⟩
  | 44 => ⟨S1024x32, .f32⟩
  | 45 => ⟨S1024x512, .f32⟩
  | 46 => ⟨S1024x128, .f32⟩
  | 47 => ⟨S1024x128, .f32⟩
  | 48 => ⟨S1024x512, .f32⟩
  | 49 => ⟨S1024x64, .f32⟩
  | 50 => ⟨S1024x8, .f32⟩
  | 51 => ⟨S1024x8x64, .f32⟩
  | 52 => ⟨S1024x8x32, .f32⟩
  | 53 => ⟨S1024x8x16, .f32⟩
  | 54 => ⟨S1024x8x16, .f32⟩
  | 55 => ⟨S1024x8x32, .f32⟩
  | 56 => ⟨S1024x8x32, .f32⟩
  | 57 => ⟨S_, .f32⟩
  | 58 => ⟨S1024x8x32, .f32⟩
  | 59 => ⟨S1024x8x64, .f32⟩
  | 60 => ⟨S1024x512, .f32⟩
  | 61 => ⟨S_, .i32⟩
  | 62 => ⟨S_, .f32⟩
  | 63 => ⟨S1024x128, .f32⟩
  | 64 => ⟨S1024x16, .f32⟩
  | 65 => ⟨S1024x16, .f32⟩
  | 66 => ⟨S1024x32, .f32⟩
  | 67 => ⟨S_, .i32⟩
  | 68 => ⟨S_, .f32⟩
  | 69 => ⟨S1024x128, .f32⟩
  | 70 => ⟨S_, .i32⟩
  | 71 => ⟨S_, .f32⟩
  | 72 => ⟨S1024x128, .f32⟩
  | 73 => ⟨S1024x32, .f32⟩
  | 74 => ⟨S1024x16, .f32⟩
  | 75 => ⟨S1024x16, .f32⟩
  | 76 => ⟨S1024x32, .f32⟩
  | 77 => ⟨S_, .i32⟩
  | 78 => ⟨S_, .f32⟩
  | 79 => ⟨S1024x128, .f32⟩
  | 80 => ⟨S_, .i32⟩
  | 81 => ⟨S_, .f32⟩
  | 82 => ⟨S1024x128, .f32⟩
  | 83 => ⟨S1024x3072, .f32⟩
  | 84 => ⟨S1024x3072, .bf16⟩
  | 85 => ⟨S384x8x96, .f32⟩
  | 86 => ⟨S384x8x32, .f32⟩
  | 87 => ⟨S384x8x64, .f32⟩
  | 88 => ⟨S384x512, .f32⟩
  | 89 => ⟨S_, .i32⟩
  | 90 => ⟨S_, .f32⟩
  | 91 => ⟨S384x8x128, .f32⟩
  | 92 => ⟨S384x1024, .f32⟩
  | 93 => ⟨S384x8x16, .f32⟩
  | 94 => ⟨S384x8x16, .f32⟩
  | 95 => ⟨S384x8x32, .f32⟩
  | 96 => ⟨S_, .i32⟩
  | 97 => ⟨S_, .f32⟩
  | 98 => ⟨S384x8x128, .f32⟩
  | 99 => ⟨S384x1024, .f32⟩
  | 100 => ⟨S384x2560, .f32⟩
  | 101 => ⟨S384x2560, .bf16⟩
  | 102 => ⟨S8x64x256, .f32⟩
  | 103 => ⟨S_, .f32⟩
  | 104 => ⟨S64x256, .f32⟩
  | 105 => ⟨S1x64x256, .f32⟩
  | 106 => ⟨S64x256, .f32⟩
  | 107 => ⟨S64x512, .f32⟩
  | 108 => ⟨S1x64x256, .f32⟩
  | 109 => ⟨S64x256, .f32⟩
  | 110 => ⟨S64x512, .f32⟩
  | 111 => ⟨S128x512, .f32⟩
  | 112 => ⟨S1x64x256, .f32⟩
  | 113 => ⟨S64x256, .f32⟩
  | 114 => ⟨S64x512, .f32⟩
  | 115 => ⟨S1x64x256, .f32⟩
  | 116 => ⟨S64x256, .f32⟩
  | 117 => ⟨S64x512, .f32⟩
  | 118 => ⟨S128x512, .f32⟩
  | 119 => ⟨S1x64x256, .f32⟩
  | 120 => ⟨S64x256, .f32⟩
  | 121 => ⟨S64x512, .f32⟩
  | 122 => ⟨S1x64x256, .f32⟩
  | 123 => ⟨S64x256, .f32⟩
  | 124 => ⟨S64x512, .f32⟩
  | 125 => ⟨S128x512, .f32⟩
  | 126 => ⟨S1x64x256, .f32⟩
  | 127 => ⟨S64x256, .f32⟩
  | _ => ⟨S128x4x1024, .f32⟩

abbrev hbmTy0_1 (i : Nat) : BufTy := match i % 128 with
  | 0 => ⟨S64x512, .f32⟩
  | 1 => ⟨S1x64x256, .f32⟩
  | 2 => ⟨S64x256, .f32⟩
  | 3 => ⟨S64x512, .f32⟩
  | 4 => ⟨S128x512, .f32⟩
  | 5 => ⟨S1x128x512, .f32⟩
  | 6 => ⟨S1x128x512, .f32⟩
  | 7 => ⟨S1x128x512, .f32⟩
  | 8 => ⟨S1x128x512, .f32⟩
  | 9 => ⟨S4x128x512, .f32⟩
  | 10 => ⟨S4x128x512, .bf16⟩
  | 11 => ⟨S1x1024, .f32⟩
  | 12 => ⟨S1x384, .f32⟩
  | 13 => ⟨S1x256, .f32⟩
  | 14 => ⟨S512x256, .f32⟩
  | 15 => ⟨S1x32x512, .f32⟩
  | 16 => ⟨S1x128x512, .f32⟩
  | 17 => ⟨S1x128x512, .f32⟩
  | 18 => ⟨S1x64x512, .f32⟩
  | 19 => ⟨S512x384, .bf16⟩
  | 20 => ⟨S512x128, .bf16⟩
  | 21 => ⟨S512x128, .bf16⟩
  | 22 => ⟨S512x64, .bf16⟩
  | 23 => ⟨S8x512x384, .bf16⟩
  | 24 => ⟨S8x512x64, .bf16⟩
  | 25 => ⟨S8x512x64, .bf16⟩
  | 26 => ⟨S512x8, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S1x384, .f32⟩
  | .local _ .vmem, ⟨4, _⟩ => ⟨S384x2560, .bf16⟩
  | .local _ .vmem, ⟨5, _⟩ => ⟨S1x256, .f32⟩
  | .local _ .vmem, ⟨6, _⟩ => ⟨S4x128x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | .local _ .vmem, ⟨12, _⟩ => ⟨S1x32x512, .f32⟩
  | .local _ .vmem, ⟨13, _⟩ => ⟨S1x128x512, .f32⟩
  | .local _ .vmem, ⟨14, _⟩ => ⟨S1x128x512, .f32⟩
  | .local _ .vmem, ⟨15, _⟩ => ⟨S1x64x512, .f32⟩
  | .local _ .vmem, ⟨16, _⟩ => ⟨S512x384, .bf16⟩
  | .local _ .vmem, ⟨17, _⟩ => ⟨S512x128, .bf16⟩
  | .local _ .vmem, ⟨18, _⟩ => ⟨S512x128, .bf16⟩
  | .local _ .vmem, ⟨19, _⟩ => ⟨S512x64, .bf16⟩
  | .local _ .vmem, ⟨20, _⟩ => ⟨S8x512x384, .bf16⟩
  | .local _ .vmem, ⟨21, _⟩ => ⟨S8x512x64, .bf16⟩
  | .local _ .vmem, ⟨22, _⟩ => ⟨S8x512x64, .bf16⟩
  | .local _ .vmem, ⟨23, _⟩ => ⟨S512x8, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_5 : Ref sig .tc := ⟨.hbm, 67, rfl⟩
abbrev main_call1_v0 : Ref sig .tc := ⟨.hbm, 68, rfl⟩
abbrev main_v52 : Ref sig .tc := ⟨.hbm, 69, rfl⟩
abbrev main_c_6 : Ref sig .tc := ⟨.hbm, 70, rfl⟩
abbrev main_call2_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_7 : Ref sig .tc := ⟨.hbm, 77, rfl⟩
abbrev main_call3_v0 : Ref sig .tc := ⟨.hbm, 78, rfl⟩
abbrev main_v58 : Ref sig .tc := ⟨.hbm, 79, rfl⟩
abbrev main_c_8 : Ref sig .tc := ⟨.hbm, 80, rfl⟩
abbrev main_call4_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_call5_v0 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_10 : Ref sig .tc := ⟨.hbm, 96, rfl⟩
abbrev main_call6_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114_0 : Ref sig .tc := ⟨.hbm, 142, rfl⟩
abbrev main_v114_1 : Ref sig .tc := ⟨.hbm, 143, rfl⟩
abbrev main_v114_2 : Ref sig .tc := ⟨.hbm, 144, rfl⟩
abbrev main_v114_3 : Ref sig .tc := ⟨.hbm, 145, rfl⟩
abbrev main_v114_4 : Ref sig .tc := ⟨.hbm, 146, rfl⟩
abbrev main_v114_5 : Ref sig .tc := ⟨.hbm, 147, rfl⟩
abbrev main_v114_6 : Ref sig .tc := ⟨.hbm, 148, rfl⟩
abbrev main_v114_7 : Ref sig .tc := ⟨.hbm, 149, rfl⟩
abbrev main_v114_8 : Ref sig .tc := ⟨.hbm, 150, rfl⟩
abbrev main_v114_9 : Ref sig .tc := ⟨.hbm, 151, rfl⟩
abbrev main_v114_10 : Ref sig .tc := ⟨.hbm, 152, rfl⟩
abbrev main_v114_11 : Ref sig .tc := ⟨.hbm, 153, rfl⟩
abbrev main_v114_12 : Ref sig .tc := ⟨.hbm, 154, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x64x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S8x512x384 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S8x512x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S8x512x64 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== Reference3Ideal.lean ====
abbrev S128x4x1024 : Shape := ⟨3, ![128, 4, 1024]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2024 : Shape := ⟨3, ![128, 4, 2024]⟩
abbrev S128x4x384 : Shape := ⟨3, ![128, 4, 384]⟩
abbrev S128x4x256 : Shape := ⟨3, ![128, 4, 256]⟩
abbrev S128x4x32 : Shape := ⟨3, ![128, 4, 32]⟩
abbrev S128x4x512 : Shape := ⟨3, ![128, 4, 512]⟩
abbrev S128x4x128 : Shape := ⟨3, ![128, 4, 128]⟩
abbrev S128x4x64 : Shape := ⟨3, ![128, 4, 64]⟩
abbrev S128x4x8 : Shape := ⟨3, ![128, 4, 8]⟩
abbrev S1x1x384 : Shape := ⟨3, ![1, 1, 384]⟩
abbrev S128x4x768 : Shape := ⟨3, ![128, 4, 768]⟩
abbrev S128x4x8x96 : Shape := ⟨4, ![128, 4, 8, 96]⟩
abbrev S128x4x8x64 : Shape := ⟨4, ![128, 4, 8, 64]⟩
abbrev S8x256x128x4 : Shape := ⟨4, ![8, 256, 128, 4]⟩
abbrev S128x4x8x256 : Shape := ⟨4, ![128, 4, 8, 256]⟩
abbrev S128x4x8x32 : Shape := ⟨4, ![128, 4, 8, 32]⟩
abbrev S16 : Shape := ⟨1, ![16]⟩
abbrev S4x1x1 : Shape := ⟨3, ![4, 1, 1]⟩
abbrev S1x1x16 : Shape := ⟨3, ![1, 1, 16]⟩
abbrev S4x1x16 : Shape := ⟨3, ![4, 1, 16]⟩
abbrev S128x4x8x16 : Shape := ⟨4, ![128, 4, 8, 16]⟩
abbrev S1x4x1x16 : Shape := ⟨4, ![1, 4, 1, 16]⟩
abbrev S1x1x256 : Shape := ⟨3, ![1, 1, 256]⟩
abbrev S128x4x1x32 : Shape := ⟨4, ![128, 4, 1, 32]⟩
abbrev S128x4x1x16 : Shape := ⟨4, ![128, 4, 1, 16]⟩
abbrev S128x4x96 : Shape := ⟨3, ![128, 4, 96]⟩
abbrev S128x4x8x384 : Shape := ⟨4, ![128, 4, 8, 384]⟩
abbrev S512x256 : Shape := ⟨2, ![512, 256]⟩
abbrev S1x512x32 : Shape := ⟨3, ![1, 512, 32]⟩
abbrev S1x32x512 : Shape := ⟨3, ![1, 32, 512]⟩
abbrev S1x512x128 : Shape := ⟨3, ![1, 512, 128]⟩
abbrev S1x128x512 : Shape := ⟨3, ![1, 128, 512]⟩
abbrev S1x512x64 : Shape := ⟨3, ![1, 512, 64]⟩
abbrev S1x64x512 : Shape := ⟨3, ![1, 64, 512]⟩
abbrev S512x384 : Shape := ⟨2, ![512, 384]⟩
abbrev S512x128 : Shape := ⟨2, ![512, 128]⟩
abbrev S512x64 : Shape := ⟨2, ![512, 64]⟩
abbrev S512x8x384 : Shape := ⟨3, ![512, 8, 384]⟩
abbrev S8x512x384 : Shape := ⟨3, ![8, 512, 384]⟩
abbrev S512x8x64 : Shape := ⟨3, ![512, 8, 64]⟩
abbrev S8x512x64 : Shape := ⟨3, ![8, 512, 64]⟩
abbrev S512x8 : Shape := ⟨2, ![512, 8]⟩

abbrev nBuf : Space → Nat
  | .hbm => 255
  | .vmem => 0
  | .smem => 0
  | _ => 0

abbrev hbmTy0_0 (i : Nat) : BufTy := match i % 128 with
  | 0 => ⟨S128x4x1024, .f32⟩
  | 1 => ⟨S1024, .f32⟩
  | 2 => ⟨S1024x2024, .f32⟩
  | 3 => ⟨S384, .f32⟩
  | 4 => ⟨S384x768, .f32⟩
  | 5 => ⟨S256, .f32⟩
  | 6 => ⟨S256x8x64, .f32⟩
  | 7 => ⟨S4, .i32⟩
  | 8 => ⟨S_, .i32⟩
  | 9 => ⟨S4, .i32⟩
  | 10 => ⟨S4, .i32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S128x4x2024, .f32⟩
  | 28 => ⟨S128x4x384, .f32⟩
  | 29 => ⟨S128x4x256, .f32⟩
  | 30 => ⟨S128x4x32, .f32⟩
  | 31 => ⟨S128x4x512, .f32⟩
  | 32 => ⟨S128x4x128, .f32⟩
  | 33 => ⟨S128x4x128, .f32⟩
  | 34 => ⟨S128x4x512, .f32⟩
  | 35 => ⟨S128x4x64, .f32⟩
  | 36 => ⟨S128x4x8, .f32⟩
  | 37 => ⟨S128x4x384, .f32⟩
  | 38 => ⟨S_, .f32⟩
  | 39 => ⟨S128x4, .f32⟩
  | 40 => ⟨S128x4x1, .f32⟩
  | 41 => ⟨S_, .f32⟩
  | 42 => ⟨S128x4x1, .f32⟩
  | 43 => ⟨S128x4x1, .f32⟩
  | 44 => ⟨S_, .f32⟩
  | 45 => ⟨S128x4x1, .f32⟩
  | 46 => ⟨S128x4x1, .f32⟩
  | 47 => ⟨S128x4x1, .f32⟩
  | 48 => ⟨S128x4x384, .f32⟩
  | 49 => ⟨S128x4x384, .f32⟩
  | 50 => ⟨S1x1x384, .f32⟩
  | 51 => ⟨S128x4x384, .f32⟩
  | 52 => ⟨S128x4x384, .f32⟩
  | 53 => ⟨S128x4x768, .f32⟩
  | 54 => ⟨S128x4x8x96, .f32⟩
  | 55 => ⟨S128x4x8x64, .f32⟩
  | 56 => ⟨S8x256x128x4, .f32⟩
  | 57 => ⟨S128x4x8x256, .f32⟩
  | 58 => ⟨S128x4x8x32, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S4, .f32⟩
  | 68 => ⟨S4x1x1, .f32⟩
  | 69 => ⟨S1x1x16, .f32⟩
  | 70 => ⟨S4x1x16, .f32⟩
  | 71 => ⟨S4x1x16, .f32⟩
  | 72 => ⟨S4x1x16, .f32⟩
  | 73 => ⟨S4x1x16, .f32⟩
  | 74 => ⟨S4x1x16, .f32⟩
  | 75 => ⟨S128x4x8x16, .f32⟩
  | 76 => ⟨S128x4x8x16, .f32⟩
  | 77 => ⟨S1x4x1x16, .f32⟩
  | 78 => ⟨S128x4x8x16, .f32⟩
  | 79 => ⟨S128x4x8x16, .f32⟩
  | 80 => ⟨S1x4x1x16, .f32⟩
  | 81 => ⟨S128x4x8x16, .f32⟩
  | 82 => ⟨S128x4x8x16, .f32⟩
  | 83 => ⟨S128x4x8x16, .f32⟩
  | 84 => ⟨S1x4x1x16, .f32⟩
  | 85 => ⟨S128x4x8x16, .f32⟩
  | 86 => ⟨S128x4x8x16, .f32⟩
  | 87 => ⟨S1x4x1x16, .f32⟩
  | 88 => ⟨S128x4x8x16, .f32⟩
  | 89 => ⟨S128x4x8x16, .f32⟩
  | 90 => ⟨S128x4x8x16, .f32⟩
  | 91 => ⟨S128x4x8x32, .f32⟩
  | 92 => ⟨S128x4x256, .f32⟩
  | 93 => ⟨S_, .f32⟩
  | 94 => ⟨S128x4, .f32⟩
  | 95 => ⟨S128x4x1, .f32⟩
  | 96 => ⟨S_, .f32⟩
  | 97 => ⟨S128x4x1, .f32⟩
  | 98 => ⟨S128x4x1, .f32⟩
  | 99 => ⟨S_, .f32⟩
  | 100 => ⟨S128x4x1, .f32⟩
  | 101 => ⟨S128x4x1, .f32⟩
  | 102 => ⟨S128x4x1, .f32⟩
  | 103 => ⟨S128x4x256, .f32⟩
  | 104 => ⟨S128x4x256, .f32⟩
  | 105 => ⟨S1x1x256, .f32⟩
  | 106 => ⟨S128x4x256, .f32⟩
  | 107 => ⟨S128x4x256, .f32⟩
  | 108 => ⟨S128x4x1x32, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S4, .f32⟩
  | 118 => ⟨S4x1x1, .f32⟩
  | 119 => ⟨S1x1x16, .f32⟩
  | 120 => ⟨S4x1x16, .f32⟩
  | 121 => ⟨S4x1x16, .f32⟩
  | 122 => ⟨S4x1x16, .f32⟩
  | 123 => ⟨S4x1x16, .f32⟩
  | 124 => ⟨S4x1x16, .f32⟩
  | 125 => ⟨S128x4x1x16, .f32⟩
  | 126 => ⟨S128x4x1x16, .f32⟩
  | 127 => ⟨S1x4x1x16, .f32⟩
  | _ => ⟨S128x4x1024, .f32⟩

abbrev hbmTy0_1 (i : Nat) : BufTy := match i % 128 with
  | 0 => ⟨S128x4x1x16, .f32⟩
  | 1 => ⟨S128x4x1x16, .f32⟩
  | 2 => ⟨S1x4x1x16, .f32⟩
  | 3 => ⟨S128x4x1x16, .f32⟩
  | 4 => ⟨S128x4x1x16, .f32⟩
  | 5 => ⟨S128x4x1x16, .f32⟩
  | 6 => ⟨S1x4x1x16, .f32⟩
  | 7 => ⟨S128x4x1x16, .f32⟩
  | 8 => ⟨S128x4x1x16, .f32⟩
  | 9 => ⟨S1x4x1x16, .f32⟩
  | 10 => ⟨S128x4x1x16, .f32⟩
  | 11 => ⟨S128x4x1x16, .f32⟩
  | 12 => ⟨S128x4x1x16, .f32⟩
  | 13 => ⟨S128x4x1x32, .f32⟩
  | 14 => ⟨S128x4x32, .f32⟩
  | 15 => ⟨S128x4x8x64, .f32⟩
  | 16 => ⟨S128x4x8x64, .f32⟩
  | 17 => ⟨S128x4x8x32, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4, .f32⟩
  | 27 => ⟨S4x1x1, .f32⟩
  | 28 => ⟨S1x1x16, .f32⟩
  | 29 => ⟨S4x1x16, .f32⟩
  | 30 => ⟨S4x1x16, .f32⟩
  | 31 => ⟨S4x1x16, .f32⟩
  | 32 => ⟨S4x1x16, .f32⟩
  | 33 => ⟨S4x1x16, .f32⟩
  | 34 => ⟨S128x4x8x16, .f32⟩
  | 35 => ⟨S128x4x8x16, .f32⟩
  | 36 => ⟨S1x4x1x16, .f32⟩
  | 37 => ⟨S128x4x8x16, .f32⟩
  | 38 => ⟨S128x4x8x16, .f32⟩
  | 39 => ⟨S1x4x1x16, .f32⟩
  | 40 => ⟨S128x4x8x16, .f32⟩
  | 41 => ⟨S128x4x8x16, .f32⟩
  | 42 => ⟨S128x4x8x16, .f32⟩
  | 43 => ⟨S1x4x1x16, .f32⟩
  | 44 => ⟨S128x4x8x16, .f32⟩
  | 45 => ⟨S128x4x8x16, .f32⟩
  | 46 => ⟨S1x4x1x16, .f32⟩
  | 47 => ⟨S128x4x8x16, .f32⟩
  | 48 => ⟨S128x4x8x16, .f32⟩
  | 49 => ⟨S128x4x8x16, .f32⟩
  | 50 => ⟨S128x4x8x32, .f32⟩
  | 51 => ⟨S128x4x8x32, .f32⟩
  | 52 => ⟨S128x4x8x64, .f32⟩
  | 53 => ⟨S128x4x32, .f32⟩
  | 54 => ⟨S128x4x1x32, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S4, .f32⟩
  | 64 => ⟨S4x1x1, .f32⟩
  | 65 => ⟨S1x1x16, .f32⟩
  | 66 => ⟨S4x1x16, .f32⟩
  | 67 => ⟨S4x1x16, .f32⟩
  | 68 => ⟨S4x1x16, .f32⟩
  | 69 => ⟨S4x1x16, .f32⟩
  | 70 => ⟨S4x1x16, .f32⟩
  | 71 => ⟨S128x4x1x16, .f32⟩
  | 72 => ⟨S128x4x1x16, .f32⟩
  | 73 => ⟨S1x4x1x16, .f32⟩
  | 74 => ⟨S128x4x1x16, .f32⟩
  | 75 => ⟨S128x4x1x16, .f32⟩
  | 76 => ⟨S1x4x1x16, .f32⟩
  | 77 => ⟨S128x4x1x16, .f32⟩
  | 78 => ⟨S128x4x1x16, .f32⟩
  | 79 => ⟨S128x4x1x16, .f32⟩
  | 80 => ⟨S1x4x1x16, .f32⟩
  | 81 => ⟨S128x4x1x16, .f32⟩
  | 82 => ⟨S128x4x1x16, .f32⟩
  | 83 => ⟨S1x4x1x16, .f32⟩
  | 84 => ⟨S128x4x1x16, .f32⟩
  | 85 => ⟨S128x4x1x16, .f32⟩
  | 86 => ⟨S128x4x1x16, .f32⟩
  | 87 => ⟨S128x4x1x32, .f32⟩
  | 88 => ⟨S128x4x32, .f32⟩
  | 89 => ⟨S128x4x32, .f32⟩
  | 90 => ⟨S128x4x64, .f32⟩
  | 91 => ⟨S_, .f32⟩
  | 92 => ⟨S128x4x8, .f32⟩
  | 93 => ⟨S128x4x8, .f32⟩
  | 94 => ⟨S_, .f32⟩
  | 95 => ⟨S128x4x96, .f32⟩
  | 96 => ⟨S128x4x384, .f32⟩
  | 97 => ⟨S_, .f32⟩
  | 98 => ⟨S128x4x8x96, .f32⟩
  | 99 => ⟨S128x4x8x384, .f32⟩
  | 100 => ⟨S512x256, .f32⟩
  | 101 => ⟨S1x512x32, .f32⟩
  | 102 => ⟨S1x32x512, .f32⟩
  | 103 => ⟨S1x512x128, .f32⟩
  | 104 => ⟨S1x128x512, .f32⟩
  | 105 => ⟨S1x512x128, .f32⟩
  | 106 => ⟨S1x128x512, .f32⟩
  | 107 => ⟨S1x512x64, .f32⟩
  | 108 => ⟨S1x64x512, .f32⟩
  | 109 => ⟨S512x384, .f32⟩
  | 110 => ⟨S512x384, .bf16⟩
  | 111 => ⟨S512x128, .f32⟩
  | 112 => ⟨S512x128, .bf16⟩
  | 113 => ⟨S512x128, .f32⟩
  | 114 => ⟨S512x128, .bf16⟩
  | 115 => ⟨S512x64, .f32⟩
  | 116 => ⟨S512x64, .bf16⟩
  | 117 => ⟨S512x8x384, .f32⟩
  | 118 => ⟨S8x512x384, .f32⟩
  | 119 => ⟨S8x512x384, .bf16⟩
  | 120 => ⟨S512x8x64, .f32⟩
  | 121 => ⟨S8x512x64, .f32⟩
  | 122 => ⟨S8x512x64, .bf16⟩
  | 123 => ⟨S512x8x64, .f32⟩
  | 124 => ⟨S8x512x64, .f32⟩
  | 125 => ⟨S8x512x64, .bf16⟩
  | 126 => ⟨S512x8, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_7 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_10 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_12 : Ref sig .tc := ⟨.hbm, 148, rfl⟩
abbrev main_v127 : Ref sig .tc := ⟨.hbm, 149, rfl⟩
abbrev main_v128 : Ref sig .tc := ⟨.hbm, 150, rfl⟩
abbrev main_cst_13 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_14 : Ref sig .tc := ⟨.hbm, 185, rfl⟩
abbrev main_v162 : Ref sig .tc := ⟨.hbm, 186, rfl⟩
abbrev main_v163 : Ref sig .tc := ⟨.hbm, 187, rfl⟩
abbrev main_cst_15 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_cst_16 : Ref sig .tc := ⟨.hbm, 219, rfl⟩
abbrev main_v194 : Ref sig .tc := ⟨.hbm, 220, rfl⟩
abbrev main_v195 : Ref sig .tc := ⟨.hbm, 221, rfl⟩
abbrev main_cst_17 : Ref sig .tc := ⟨.hbm, 222, rfl⟩
abbrev main_v196 : Ref sig .tc := ⟨.hbm, 223, rfl⟩
abbrev main_v197 : Ref sig .tc := ⟨.hbm, 224, rfl⟩
abbrev main_cst_18 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩

abbrev nD : Nat := 1
abbrev τ : Topo := Topo.v7x

variable {F : FTy → Type} [FloatOps F]
-- ==== Proof.Trips.lean ====
/- The three scratch buffers of the kernel through its loops: what a trip over one chunk of 512 keys leaves in the row
   maxima, the row sums and the accumulator, and what the loops leave when they end. -/
module

public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Flash

open Idealize.ShloMosaic Idealize.ShloMosaic.TcCoe Idealize.SL.Sem
open Cert.KernelIdeal Cert.KernelIdeal.Gen

variable {F : FTy → Type} [FloatOps F] [Named F]

/-- The three scratch buffers' contents: row maxima, row sums, accumulator. -/
abbrev St (F : FTy → Type) [FloatOps F] : Type := Vec F S1024x128 .f32 × Vec F S1024x128 .f32 × Vec F S1024x256 .f32

/-- One trip over a chunk of keys, as the body computes it. -/
def step (q : FVec F S1024x384 .bf16) (kb : Vec F S1x512x384 .bf16) (s : St F) : St F :=
  (k0_pay6 q kb s.1, k0_pay9 q kb s.1 s.2.1, k0_pay10 q kb s.1 s.2.2)

/-- The contents the body starts from. -/
def init : St F := (k0_pay19, k0_pay20, k0_pay21)

/-- The `k`-th chunk of 512 rows of the key block. -/
def chunk (x1 : Vec F S1x2048x384 .bf16) (k : ℕ) : Vec F S1x512x384 .bf16 := fun j =>
  x1 (ix3 0 ⟨(512 * k + (j 1).val) % 2048, Nat.mod_lt _ (by norm_num)⟩ (j 2))

/-- The state after `k` unmasked chunks. -/
def after (q : FVec F S1024x384 .bf16) (x1 : Vec F S1x2048x384 .bf16) : ℕ → St F
  | 0 => init
  | k + 1 => step q (chunk x1 k) (after q x1 k)

/-- The main loop runs over the chunks that lie wholly before the block's first row. -/
theorem trips1 (i : grid0.Coords) : Scf.trips (k0_t1_loop i).lb (k0_t1_loop i).ub (k0_t1_loop i).st = (i 1).val / 4 := by
  have h : ∀ j : Fin 16, ∀ i : grid0.Coords, i 1 = j → Scf.trips (k0_t1_loop i).lb (k0_t1_loop i).ub (k0_t1_loop i).st = j.val / 4 := by
    intro j i hi
    unfold k0_t1_loop
    rw [hi]
    clear hi
    revert j
    decide +kernel
  exact h (i 1) i rfl

/-- The remainder loop runs no trip. -/
theorem trips2 (i : grid0.Coords) : Scf.trips (k0_t2_loop i).lb (k0_t2_loop i).ub (k0_t2_loop i).st = 0 := by
  have h : ∀ j : Fin 16, ∀ i : grid0.Coords, i 1 = j → Scf.trips (k0_t2_loop i).lb (k0_t2_loop i).ub (k0_t2_loop i).st = 0 := by
    intro j i hi
    unfold k0_t2_loop
    rw [hi]
    clear hi
    revert j
    decide +kernel
  exact h (i 1) i rfl

/-- The masked chunk's offset: the chunk that holds the block's rows. -/
theorem off3_eq (i : grid0.Coords) : k0_off3 i = ![0, 512 * ((i 1).val / 4), 0] := by
  have h : ∀ j : Fin 16, ∀ i : grid0.Coords, i 1 = j → k0_off3 i = ![0, 512 * (j.val / 4), 0] := by
    intro j i hi
    unfold k0_off3
    rw [hi]
    clear hi
    revert j
    decide +kernel
  exact h (i 1) i rfl

/-- A trip's offset. -/
theorem off1_eq (i : grid0.Coords) (k : Fin (k0_t1_loop i).trips) : k0_off1 i k = ![0, 512 * k.val, 0] := by
  have hk : k.val < 4 := by
    have h1 := k.isLt
    have h2 : (k0_t1_loop i).trips = (i 1).val / 4 := trips1 i
    have h3 : (i 1).val < 16 := (i 1).isLt
    omega
  have h : ∀ j : Fin 4, ∀ k : Fin (k0_t1_loop i).trips, k.val = j.val → k0_off1 i k = ![0, 512 * j.val, 0] := by
    intro j k hk
    unfold k0_off1
    dsimp only
    rw [hk]
    clear hk
    revert j
    decide +kernel
  exact h ⟨k.val, hk⟩ k rfl

/-- Loading 512 rows of the key block at row `512 * k` reads chunk `k`. -/
theorem readAt_chunk (arg3 : Memref sig .tc .vmem S1x2048x384 .bf16) (X : BufTy.Contents (Elt F) arg3.view.ty) (k : ℕ) (hk : k < 4)
    (off : Fin 3 → ℕ) (h : off = ![0, 512 * k, 0]) (inb : ∀ a, off a + S1x512x384.size a ≤ S1x2048x384.size a) :
    View.readAt (Elt F) arg3.view (Rect.unit (s := S1x2048x384) off S1x512x384.size inb).toLoadRect X = chunk (arg3.view.read (Elt F) X) k := by
  subst h
  rw [View.readAt_eq_ld]
  funext j
  show arg3.view.read (Elt F) X _ = arg3.view.read (Elt F) X _
  congr 1
  have h1 : (j 1).val < 512 := (j 1).isLt
  have h0 : (j 0).val < 1 := (j 0).isLt
  funext a
  apply Fin.ext
  match a with
  | ⟨0, _⟩ => show 0 + 1 * (j 0).val = 0; omega
  | ⟨1, _⟩ => show 512 * k + 1 * (j 1).val = (512 * k + (j 1).val) % 2048; omega
  | ⟨2, _⟩ => show 0 + 1 * (j 2).val = (j 2).val; omega

section loop
variable (c : Dev nD) (i : grid0.Coords) (arg2 : Memref sig .tc .vmem S8x128x384 .bf16) (harg2 : arg2.IsWhole) (arg3 : Memref sig .tc .vmem S1x2048x384 .bf16) (harg3 : arg3.IsWhole) (arg4 : Memref sig .tc .vmem S8x256x64 .bf16) (harg4 : arg4.IsWhole) (arg5 : Memref sig .tc .vmem S128x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .f32) (harg8 : arg8.IsWhole)

/-- The pieces one trip stores: the new row sums, accumulator and row maxima, each over its whole buffer. -/
theorem trip_pieces (𝒱 : Variants) (bd : Option 𝒱.V) (arg1 : BitVec 32) (v2 : FVec F S1024x384 .bf16) (v32 c0 : BitVec 32) (X : BufTy.Contents (Elt F) arg3.view.ty) (k : Fin (k0_t1_loop i).trips)
    (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 arg1 v2 v32 c0 X k f6 f7 f8
      = ([⟨Rect.unit ![0, 0] S1024x128.size inb_S1024x128_S1024x128_0_0, (step v2 (chunk (arg3.view.read (Elt F) X) k.val) (arg6.view.read (Elt F) f6, arg7.view.read (Elt F) f7, arg8.view.read (Elt F) f8)).1⟩],
         [⟨Rect.unit ![0, 0] S1024x128.size inb_S1024x128_S1024x128_0_0, (step v2 (chunk (arg3.view.read (Elt F) X) k.val) (arg6.view.read (Elt F) f6, arg7.view.read (Elt F) f7, arg8.view.read (Elt F) f8)).2.1⟩],
         [⟨Rect.unit ![0, 0] S1024x256.size inb_S1024x256_S1024x256_0_0, (step v2 (chunk (arg3.view.read (Elt F) X) k.val) (arg6.view.read (Elt F) f6, arg7.view.read (Elt F) f7, arg8.view.read (Elt F) f8)).2.2⟩]) := by
  have hk : k.val < 4 := by
    have h1 := k.isLt
    have h2 : (k0_t1_loop i).trips = (i 1).val / 4 := trips1 i
    have h3 : (i 1).val < 16 := (i 1).isLt
    omega
  have hX := readAt_chunk (F := F) arg3 X k.val hk _ (off1_eq i k) (k0_off1_inb i k)
  have e : tripL_k0_t1 (F := F) 𝒱 c bd i arg2 harg2 arg3 harg3 arg4 harg4 arg5 harg5 arg6 harg6 arg7 harg7 arg8 harg8 arg1 v2 v32 c0 X k f6 f7 f8
      = ([⟨Rect.unit ![0, 0] S1024x128.size inb_S1024x128_S1024x128_0_0, k0_pay22 (k0_pay6 v2 (View.readAt (Elt F) arg3.view (Rect.unit (s := S1x2048x384) (k0_off1 i k) S1x512x384.size (k0_off1_inb i k)).toLoadRect X) (View.readAt (Elt F) arg6.view (Rect.unit (s := S1024x128) ![0, 0] S1024x128.size inb_S1024x128_S1024x128_0_0).toLoadRect f6))⟩],
         [⟨Rect.unit ![0, 0] S1024x128.size inb_S1024x128_S1024x128_0_0, k0_pay9 v2 (View.readAt (Elt F) arg3.view (Rect.unit (s := S1x2048x384) (k0_off1 i k) S1x512x384.size (k0_off1_inb i k)).toLoadRect X) (View.readAt (Elt F) arg6.view (Rect.unit (s := S1024x128) ![0, 0] S1024x128.size inb_S1024x128_S1024x128_0_0).toLoadRect f6) (View.readAt (Elt F) arg7.view (Rect.unit (s := S1024x128) ![0, 0] S1024x128.size inb_S1024x128_S1024x128_0_0).toLoadRect f7)⟩],
         [⟨Rect.unit ![0, 0] S1024x256.size inb_S1024x256_S1024x256_0_0, k0_pay10 v2 (View.readAt (Elt F) arg3.view (Rect.unit (s := S1x2048x384) (k0_off1 i k) S1x512x384.size (k0_off1_inb i k)).toLoadRect X) (View.readAt (Elt F) arg6.view (Rect.unit (s := S1024x128) ![0, 0] S1024x128.size inb_S1024x128_S1024x128_0_0).toLoadRect f6) (View.readAt (Elt F) arg8.view (Rect.unit (s := S1024x256) ![0, 0] S1024x256.size inb_S1024x256_S1024x256_0_0).toLoadRect f8)⟩]) := by
    unfold tripL_k0_t1 trip_k0_t1
    rfl
  rw [e, hX, View.readAt_full, View.readAt_full, View.readAt_full]
  unfold step k0_pay22
  simp only [shapeCast_self]

/-- The main loop's pieces, read: after `k` trips from buffers that read as the initial contents, the state after `k` chunks. -/
theorem loop_read (𝒱 : Variants) (bd : Option 𝒱.V) (arg1 : BitVec 32) (v2 : FVec F S1024x384 .bf16) (v32 c0 : BitVec 32) (X : BufTy.Contents (Elt F) arg3.view.ty)
    (G6 : BufTy.Contents (Elt F) arg6.view.ty) (G7 : BufTy.Contents (Elt F) arg7.view.ty) (G8 : BufTy.Contents (Elt F) arg8.view.ty)
    (hG : (arg6.view.read (Elt F) G6, arg7.view.read (Elt F) G7, arg8.view.read (Elt F) G8) = (init : St F)) :
    ∀ k : ℕ, k ≤ (k0_t1_loop i).trips →
      (arg6.view.read (Elt F) (arg6.view.writes (Elt F) G6 (pb_k0_t1 (F := F) 𝒱 c bd i arg2 harg2 arg3 harg3 arg4 harg4 arg5 harg5 arg6 harg6 arg7 harg7 arg8 harg8 arg1 v2 v32 c0 X G6 G7 G8 k).1),
       arg7.view.read (Elt F) (arg7.view.writes (Elt F) G7 (pb_k0_t1 (F := F) 𝒱 c bd i arg2 harg2 arg3 harg3 arg4 harg4 arg5 harg5 arg6 harg6 arg7 harg7 arg8 harg8 arg1 v2 v32 c0 X G6 G7 G8 k).2.1),
       arg8.view.read (Elt F) (arg8.view.writes (Elt F) G8 (pb_k0_t1 (F := F) 𝒱 c bd i arg2 harg2 arg3 harg3 arg4 harg4 arg5 harg5 arg6 harg6 arg7 harg7 arg8 harg8 arg1 v2 v32 c0 X G6 G7 G8 k).2.2))
        = after v2 (arg3.view.read (Elt F) X) k
  | 0, _ => hG
  | k + 1, hk => by
    have ih := loop_read 𝒱 bd arg1 v2 v32 c0 X G6 G7 G8 hG k (by omega)
    rw [pb_k0_t1_succ (F := F) 𝒱 c bd i arg2 harg2 arg3 harg3 arg4 harg4 arg5 harg5 arg6 harg6 arg7 harg7 arg8 harg8 arg1 v2 v32 c0 X G6 G7 G8 ⟨k, hk⟩]
    rw [trip_pieces (F := F) c i arg2 harg2 arg3 harg3 arg4 harg4 arg5 harg5 arg6 harg6 arg7 harg7 arg8 harg8 𝒱 bd]
    show _ = step v2 (chunk (arg3.view.read (Elt F) X) k) (after v2 (arg3.view.read (Elt F) X) k)
    rw [← ih]
    refine Prod.ext ?_ (Prod.ext ?_ ?_)
    · exact View.read_writes_full ..
    · exact View.read_writes_full ..
    · exact View.read_writes_full ..

/-- The query block as the body reads it. -/
def qOf (x0 : Vec F S8x128x384 .bf16) : FVec F S1024x384 .bf16 := k0_pay18 x0

theorem r_eq (x0 : Vec F S8x128x384 .bf16) : kernelRun0_A.sl.r c arg2 harg2 x0 = qOf x0 := by
  unfold kernelRun0_A.sl.r qOf
  rw [View.readAt_full, harg2.read_unread]

theorem v32_eq : kernelRun0_A.sl.v32 i = BitVec.ofNat 32 ((i 1).val / 4) := by
  have h : ∀ j : Fin 16, ∀ i : grid0.Coords, i 1 = j → kernelRun0_A.sl.v32 i = BitVec.ofNat 32 (j.val / 4) := by
    intro j i hi
    sl_unfold_words
    rw [hi]
    clear hi
    revert j
    decide +kernel
  exact h (i 1) i rfl

/-- The buffers at the main loop's entry read as the initial contents. -/
theorem entry_read : (arg6.view.read (Elt F) (arg6.view.writes (Elt F) arg6.view.junk kernelRun0_A.sl.HS0_1), arg7.view.read (Elt F) (arg7.view.writes (Elt F) arg7.view.junk kernelRun0_A.sl.HS1_1), arg8.view.read (Elt F) (arg8.view.writes (Elt F) arg8.view.junk kernelRun0_A.sl.HS2_1)) = (init : St F) := by
  refine Prod.ext ?_ (Prod.ext ?_ ?_)
  · exact View.read_writes_full ..
  · exact View.read_writes_full ..
  · exact View.read_writes_full ..

/-- What the masked chunk's body loads of the buffer, component `1` of the state. -/
theorem v73_eq (x0 : Vec F S8x128x384 .bf16) (x1 : Vec F S1x2048x384 .bf16) :
    kernelRun0_A.sl.v73 c i arg2 harg2 arg3 harg3 arg4 harg4 arg5 harg5 arg6 harg6 arg7 harg7 arg8 harg8 x0 x1 = (after (qOf x0) x1 ((i 1).val / 4)).1 := by
  unfold kernelRun0_A.sl.v73
  rw [trips2, pb_k0_t2.eq_1, r_eq]
  have E := (loop_read (F := F) c i arg2 harg2 arg3 harg3 arg4 harg4 arg5 harg5 arg6 harg6 arg7 harg7 arg8 harg8 Variants.none none (BitVec.ofNat 32 (i 1).val) (qOf x0) (kernelRun0_A.sl.v32 i) 0#32 (harg3.unread x1) _ _ _ (entry_read arg6 arg7 arg8) _ (le_refl _)).trans
    (congrArg₂ (after (qOf x0)) (harg3.read_unread x1) (trips1 i))
  dsimp only
  rw [List.nil_append, View.readCov, View.writes_append, View.readAt_full]
  exact congrArg (fun s : St F => s.1) E

/-- What the masked chunk's body loads of the buffer, component `2.1` of the state. -/
theorem v83_eq (x0 : Vec F S8x128x384 .bf16) (x1 : Vec F S1x2048x384 .bf16) :
    kernelRun0_A.sl.v83 c i arg2 harg2 arg3 harg3 arg4 harg4 arg5 harg5 arg6 harg6 arg7 harg7 arg8 harg8 x0 x1 = (after (qOf x0) x1 ((i 1).val / 4)).2.1 := by
  unfold kernelRun0_A.sl.v83
  rw [trips2, pb_k0_t2.eq_1, r_eq]
  have E := (loop_read (F := F) c i arg2 harg2 arg3 harg3 arg4 harg4 arg5 harg5 arg6 harg6 arg7 harg7 arg8 harg8 Variants.none none (BitVec.ofNat 32 (i 1).val) (qOf x0) (kernelRun0_A.sl.v32 i) 0#32 (harg3.unread x1) _ _ _ (entry_read arg6 arg7 arg8) _ (le_refl _)).trans
    (congrArg₂ (after (qOf x0)) (harg3.read_unread x1) (trips1 i))
  dsimp only
  rw [List.nil_append, View.readCov, View.writes_append, View.readAt_full]
  exact congrArg (fun s : St F => s.2.1) E

/-- What the masked chunk's body loads of the buffer, component `2.2` of the state. -/
theorem v92_eq (x0 : Vec F S8x128x384 .bf16) (x1 : Vec F S1x2048x384 .bf16) :
    kernelRun0_A.sl.v92 c i arg2 harg2 arg3 harg3 arg4 harg4 arg5 harg5 arg6 harg6 arg7 harg7 arg8 harg8 x0 x1 = (after (qOf x0) x1 ((i 1).val / 4)).2.2 := by
  unfold kernelRun0_A.sl.v92
  rw [trips2, pb_k0_t2.eq_1, r_eq]
  have E := (loop_read (F := F) c i arg2 harg2 arg3 harg3 arg4 harg4 arg5 harg5 arg6 harg6 arg7 harg7 arg8 harg8 Variants.none none (BitVec.ofNat 32 (i 1).val) (qOf x0) (kernelRun0_A.sl.v32 i) 0#32 (harg3.unread x1) _ _ _ (entry_read arg6 arg7 arg8) _ (le_refl _)).trans
    (congrArg₂ (after (qOf x0)) (harg3.read_unread x1) (trips1 i))
  dsimp only
  rw [List.nil_append, View.readCov, View.writes_append, View.readAt_full]
  exact congrArg (fun s : St F => s.2.2) E

/-- The masked chunk's scores, and the state it leaves. -/
def scores (q : FVec F S1024x384 .bf16) (x1 : Vec F S1x2048x384 .bf16) (j : ℕ) : FVec F S1024x512 .f32 :=
  k0_pay25 (BitVec.ofNat 32 j) q (BitVec.ofNat 32 (j / 4)) (chunk x1 (j / 4))

def last (q : FVec F S1024x384 .bf16) (x1 : Vec F S1x2048x384 .bf16) (j : ℕ) : St F :=
  (k0_pay26 (scores q x1 j) (after q x1 (j / 4)).1,
   k0_pay29 (scores q x1 j) (after q x1 (j / 4)).1 (after q x1 (j / 4)).2.1,
   k0_pay30 (k0_pay24 (chunk x1 (j / 4))) (scores q x1 j) (after q x1 (j / 4)).1 (after q x1 (j / 4)).2.2)

theorem r1_eq (x1 : Vec F S1x2048x384 .bf16) : kernelRun0_A.sl.r_1 i arg3 harg3 x1 = k0_pay24 (chunk x1 ((i 1).val / 4)) := by
  have h3 : (i 1).val < 16 := (i 1).isLt
  unfold kernelRun0_A.sl.r_1
  rw [readAt_chunk arg3 (harg3.unread x1) ((i 1).val / 4) (by omega) _ (off3_eq i), harg3.read_unread]

theorem r2_eq (x0 : Vec F S8x128x384 .bf16) (x1 : Vec F S1x2048x384 .bf16) :
    kernelRun0_A.sl.r_2 c i arg2 harg2 arg3 harg3 x0 x1 = scores (qOf x0) x1 (i 1).val := by
  have h3 : (i 1).val < 16 := (i 1).isLt
  unfold kernelRun0_A.sl.r_2 scores
  rw [readAt_chunk arg3 (harg3.unread x1) ((i 1).val / 4) (by omega) _ (off3_eq i), harg3.read_unread, r_eq, v32_eq]

/-- The accumulator the last division reads. -/
theorem v105_eq (x0 : Vec F S8x128x384 .bf16) (x1 : Vec F S1x2048x384 .bf16) :
    kernelRun0_A.sl.v105 c i arg2 harg2 arg3 harg3 arg4 harg4 arg5 harg5 arg6 harg6 arg7 harg7 arg8 harg8 x0 x1 = (last (qOf x0) x1 (i 1).val).2.2 := by
  unfold kernelRun0_A.sl.v105 kernelRun0_A.sl.HS2_1_1
  rw [View.readCov_full, v73_eq, v92_eq, r1_eq, r2_eq]
  rfl

/-- The row sums the last division reads. -/
theorem v106_eq (x0 : Vec F S8x128x384 .bf16) (x1 : Vec F S1x2048x384 .bf16) :
    kernelRun0_A.sl.v106 c i arg2 harg2 arg3 harg3 arg4 harg4 arg5 harg5 arg6 harg6 arg7 harg7 arg8 harg8 x0 x1 = (last (qOf x0) x1 (i 1).val).2.1 := by
  unfold kernelRun0_A.sl.v106 kernelRun0_A.sl.HS1_1_1
  rw [View.readCov_full, v73_eq, v83_eq, r2_eq]
  rfl

/-- The block's quotients: accumulator over row sums. -/
def quot (x0 : Vec F S8x128x384 .bf16) (x1 : Vec F S1x2048x384 .bf16) (j : ℕ) : FVec F S1024x256 .bf16 :=
  k0_pay32 (last (qOf x0) x1 j).2.2 (last (qOf x0) x1 j).2.1

theorem r3_eq (x0 : Vec F S8x128x384 .bf16) (x1 : Vec F S1x2048x384 .bf16) :
    kernelRun0_A.sl.r_3 c i arg2 harg2 arg3 harg3 arg4 harg4 arg5 harg5 arg6 harg6 arg7 harg7 arg8 harg8 x0 x1 = quot x0 x1 (i 1).val := by
  unfold kernelRun0_A.sl.r_3 quot
  rw [v105_eq, v106_eq]

end loop

end Cert.KernelIdeal.Flash

end
-- ==== Proof.Rows.lean ====
/- One row of the kernel's block over the extended reals: what a chunk of keys does to the row's maximum, its sum and
   its accumulator. -/
module

public import proofs.«01_k».proof.Proof.Trips
public import Idealize.ShloMosaic.Lib.Pointwise

@[expose] public section

set_option maxRecDepth 16384

noncomputable section

namespace Cert.KernelIdeal.Flash

open Idealize.ShloMosaic Idealize.ShloMosaic.TcCoe Idealize.SL.Sem
open Cert.KernelIdeal Cert.KernelIdeal.Gen

/-- The scale of the scores. -/
def kap : EReal := Ideal.ofBits .f32 0x3DD105EC#32

theorem bot_bits : Ideal.ofBits .f32 0xFF800000#32 = (⊥ : EReal) := by
  simp [Ideal.ofBits, Ideal.ieee]

theorem mask_bot : (Named.named (F := Ideal) κ "mask" (φ := .f32) 0xF149F2CA#32 : EReal) = ⊥ := rfl

/-- The scale is a real number. -/
theorem kap_real : ∃ r : ℝ, kap = (r : EReal) := by
  unfold kap
  simp only [Ideal.ofBits, Ideal.ieee]
  norm_num
  exact ⟨_, rfl⟩

theorem fold_max_bot {n : ℕ} (f : Fin n → EReal) : Finset.fold max ⊥ f Finset.univ = Finset.univ.sup f := rfl

/-- A comparison of two small counters is the comparison of the numbers. -/
theorem sle_nat (a b : ℕ) (ha : a < 2 ^ 31) (hb : b < 2 ^ 31) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, h]
  by_cases hab : a ≤ b <;> simp [hab]

/-- A row's number within its head, as the kernel computes it. -/
def rowWord (R : ℕ) : BitVec 32 :=
  Scalar.select
    (IntOp.andi
      (IntOp.xori
        (IntOp.cmpi CmpIPredicate.slt
          (IntOp.remsi ArithUnit.vector (BitVec.ofNat 32 R)
            (Scalar.select (Scalar.cmpi CmpIPredicate.eq 128#32 0#32) 1#32 128#32))
          0#32)
        (Scalar.cmpi CmpIPredicate.slt (Scalar.select (Scalar.cmpi CmpIPredicate.eq 128#32 0#32) 1#32 128#32)
          0#32))
      (IntOp.cmpi CmpIPredicate.ne
        (IntOp.remsi ArithUnit.vector (BitVec.ofNat 32 R)
          (Scalar.select (Scalar.cmpi CmpIPredicate.eq 128#32 0#32) 1#32 128#32))
        0#32))
    (IntOp.addi
      (IntOp.remsi ArithUnit.vector (BitVec.ofNat 32 R)
        (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 R)
      (Scalar.select (Scalar.cmpi CmpIPredicate.eq 128#32 0#32) 1#32 128#32))

theorem rowWord_eq (R : Fin 1024) : rowWord R.val = BitVec.ofNat 32 (R.val % 128) := by
  revert R; decide +kernel

theorem pay5_at (q : FVec Ideal S1024x384 .bf16) (kb : Vec Ideal S1x512x384 .bf16) (R : Fin 1024) (u : Fin 512) :
    k0_pay5 q kb (ix2 R u) = (∑ d : Fin 384, q (ix2 R d) * kb (ix3 0 u d)) * kap := by
  pointwise [k0_pay5, k0_pay4]
  rfl

theorem pay6_at (q : FVec Ideal S1024x384 .bf16) (kb : Vec Ideal S1x512x384 .bf16) (s : Vec Ideal S1024x128 .f32) (R : Fin 1024) (l : Fin 128) :
    k0_pay6 q kb s (ix2 R l) = max (s (ix2 R l)) (Finset.univ.sup fun u : Fin 512 => k0_pay5 q kb (ix2 R u)) := by
  pointwise [k0_pay6]
  rw [← fold_max_bot, ← bot_bits]

theorem init_at (R : Fin 1024) (l : Fin 128) (c : Fin 256) :
    (init (F := Ideal)).1 (ix2 R l) = ⊥ ∧ (init (F := Ideal)).2.1 (ix2 R l) = 0 ∧ (init (F := Ideal)).2.2 (ix2 R c) = 0 := by
  unfold init
  refine ⟨?_, ?_, ?_⟩
  · pointwise [k0_pay19]
    exact mask_bot
  · pointwise [k0_pay20]
  · pointwise [k0_pay21]

theorem pay24_at (kb : Vec Ideal S1x512x384 .bf16) (u : Fin 512) (d : Fin 384) : k0_pay24 kb (ix2 u d) = kb (ix3 0 u d) := by
  pointwise [k0_pay24]

theorem pay25_at (q : FVec Ideal S1024x384 .bf16) (kb : Vec Ideal S1x512x384 .bf16) (j : ℕ) (hj : j < 16) (R : Fin 1024) (u : Fin 512) :
    k0_pay25 (BitVec.ofNat 32 j) q (BitVec.ofNat 32 (j / 4)) kb (ix2 R u) =
      if 512 * (j / 4) + u.val ≤ 128 * j + R.val % 128 then (∑ d : Fin 384, q (ix2 R d) * kb (ix3 0 u d)) * kap else ⊥ := by
  have hu := u.isLt
  have e : IntOp.cmpi CmpIPredicate.sle (IntOp.addi (Scalar.muli (BitVec.ofNat 32 (j / 4)) 512#32) (BitVec.ofNat 32 ↑u))
        (IntOp.addi (Scalar.muli (BitVec.ofNat 32 j) 128#32) (rowWord R.val)) =
      if 512 * (j / 4) + u.val ≤ 128 * j + R.val % 128 then 1#1 else 0#1 := by
    rw [rowWord_eq, ← sle_nat _ _ (by omega) (by omega)]
    simp only [IntOp.addi, Scalar.muli, IntOp.muli, ← BitVec.ofNat_mul, ← BitVec.ofNat_add, Nat.mul_comm]
  pointwise [k0_pay25]
  unfold rowWord at e
  rw [e, mask_bot]
  simp only [pay24_at]
  unfold kap Scalar.select
  split_ifs <;> first | rfl | simp_all

theorem pay32_at (a : Vec Ideal S1024x256 .f32) (s : Vec Ideal S1024x128 .f32) (R : Fin 1024) (c : Fin 256) (L : EReal)
    (hL : ∀ l, s (ix2 R l) = L) : k0_pay32 a s (ix2 R c) = Ideal.div (a (ix2 R c)) L := by
  pointwise [k0_pay32]
  by_cases h : c.val < 128 <;> simp [h, hL]

theorem pay18_at (x0 : Vec Ideal S8x128x384 .bf16) (R : Fin 1024) (d : Fin 384) :
    qOf x0 (ix2 R d) = x0 (ix3 ⟨R.val / 128, by omega⟩ ⟨R.val % 128, by omega⟩ d) := by
  pointwise [qOf, k0_pay18]

theorem pay9_at (q : FVec Ideal S1024x384 .bf16) (kb : Vec Ideal S1x512x384 .bf16) (m s : Vec Ideal S1024x128 .f32) (R : Fin 1024) (l : Fin 128)
    (M : EReal) (hM : ∀ l, k0_pay6 q kb m (ix2 R l) = M) :
    k0_pay9 q kb m s (ix2 R l) = Ideal.exp (m (ix2 R l) - M) * s (ix2 R l) + ∑ u : Fin 512, Ideal.exp (k0_pay5 q kb (ix2 R u) - M) := by
  pointwise [k0_pay9, k0_pay8, k0_pay7]
  simp only [hM, dite_eq_ite, ite_self]

theorem pay10_at (q : FVec Ideal S1024x384 .bf16) (kb : Vec Ideal S1x512x384 .bf16) (m : Vec Ideal S1024x128 .f32) (a : Vec Ideal S1024x256 .f32)
    (R : Fin 1024) (c : Fin 256) (m0 M : EReal) (hm : ∀ l, m (ix2 R l) = m0) (hM : ∀ l, k0_pay6 q kb m (ix2 R l) = M) :
    k0_pay10 q kb m a (ix2 R c) =
      a (ix2 R c) * Ideal.exp (m0 - M) + ∑ u : Fin 512, Ideal.exp (k0_pay5 q kb (ix2 R u) - M) * kb (ix3 0 u ⟨c.val, by omega⟩) := by
  pointwise [k0_pay10, k0_pay8, k0_pay7, k0_pay4]
  simp only [hm, hM, dite_eq_ite, ite_self]

theorem pay26_at (sc : FVec Ideal S1024x512 .f32) (s : Vec Ideal S1024x128 .f32) (R : Fin 1024) (l : Fin 128) :
    k0_pay26 sc s (ix2 R l) = max (s (ix2 R l)) (Finset.univ.sup fun u : Fin 512 => sc (ix2 R u)) := by
  pointwise [k0_pay26]
  rw [← fold_max_bot, ← bot_bits]

theorem pay29_at (sc : FVec Ideal S1024x512 .f32) (m s : Vec Ideal S1024x128 .f32) (R : Fin 1024) (l : Fin 128)
    (M : EReal) (hM : ∀ l, k0_pay26 sc m (ix2 R l) = M) :
    k0_pay29 sc m s (ix2 R l) = Ideal.exp (m (ix2 R l) - M) * s (ix2 R l) + ∑ u : Fin 512, Ideal.exp (sc (ix2 R u) - M) := by
  pointwise [k0_pay29, k0_pay28, k0_pay27]
  simp only [hM, dite_eq_ite, ite_self]

theorem pay30_at (kb : FVec Ideal S512x384 .bf16) (sc : FVec Ideal S1024x512 .f32) (m : Vec Ideal S1024x128 .f32) (a : Vec Ideal S1024x256 .f32)
    (R : Fin 1024) (c : Fin 256) (m0 M : EReal) (hm : ∀ l, m (ix2 R l) = m0) (hM : ∀ l, k0_pay26 sc m (ix2 R l) = M) :
    k0_pay30 kb sc m a (ix2 R c) =
      a (ix2 R c) * Ideal.exp (m0 - M) + ∑ u : Fin 512, Ideal.exp (sc (ix2 R u) - M) * kb (ix2 u ⟨c.val, by omega⟩) := by
  pointwise [k0_pay30, k0_pay28, k0_pay27]
  simp only [hm, hM, dite_eq_ite, ite_self]

end Cert.KernelIdeal.Flash

end
-- ==== Proof.Heads.lean ====
/- The product with a head's output weights, element by element. -/
module

public import proofs.«01_k».proof.Proof.Rows
public import Idealize.ShloMosaic.Lib.Pointwise

@[expose] public section

set_option maxRecDepth 16384

noncomputable section

namespace Cert.KernelIdeal.Flash

open Idealize.ShloMosaic Idealize.ShloMosaic.TcCoe Idealize.SL.Sem
open Cert.KernelIdeal Cert.KernelIdeal.Gen

theorem pay37_at (a : FVec Ideal S1024x256 .bf16) (w : Vec Ideal S1x256x64 .bf16) (R : Fin 128) (c : Fin 64) :
    k0_pay37 a w (ix2 R c) = ∑ x : Fin 256, a (ix2 ⟨384 + R.val, by omega⟩ x) * w (ix3 0 x c) := by
  pointwise [k0_pay37]

theorem pay36_at (a : FVec Ideal S1024x256 .bf16) (w : Vec Ideal S1x256x64 .bf16) (R : Fin 128) (c : Fin 64) :
    k0_pay36 a w (ix2 R c) = ∑ x : Fin 256, a (ix2 ⟨256 + R.val, by omega⟩ x) * w (ix3 0 x c) := by
  pointwise [k0_pay36]

theorem pay35_at (a : FVec Ideal S1024x256 .bf16) (w : Vec Ideal S1x256x64 .bf16) (R : Fin 128) (c : Fin 64) :
    k0_pay35 a w (ix2 R c) = ∑ x : Fin 256, a (ix2 ⟨128 + R.val, by omega⟩ x) * w (ix3 0 x c) := by
  pointwise [k0_pay35]

theorem pay38_at (a : FVec Ideal S1024x256 .bf16) (w : Vec Ideal S1x256x64 .bf16) (R : Fin 128) (c : Fin 64) :
    k0_pay38 a w (ix2 R c) = ∑ x : Fin 256, a (ix2 ⟨512 + R.val, by omega⟩ x) * w (ix3 0 x c) := by
  pointwise [k0_pay38]

theorem pay1_at (a : FVec Ideal S1024x256 .bf16) (w : Vec Ideal S1x256x64 .bf16) (R : Fin 128) (c : Fin 64) :
    k0_pay1 a w (ix2 R c) = ∑ x : Fin 256, a (ix2 ⟨640 + R.val, by omega⟩ x) * w (ix3 0 x c) := by
  pointwise [k0_pay1]

theorem pay2_at (a : FVec Ideal S1024x256 .bf16) (w : Vec Ideal S1x256x64 .bf16) (R : Fin 128) (c : Fin 64) :
    k0_pay2 a w (ix2 R c) = ∑ x : Fin 256, a (ix2 ⟨768 + R.val, by omega⟩ x) * w (ix3 0 x c) := by
  pointwise [k0_pay2]

theorem pay3_at (a : FVec Ideal S1024x256 .bf16) (w : Vec Ideal S1x256x64 .bf16) (R : Fin 128) (c : Fin 64) :
    k0_pay3 a w (ix2 R c) = ∑ x : Fin 256, a (ix2 ⟨896 + R.val, by omega⟩ x) * w (ix3 0 x c) := by
  pointwise [k0_pay3]

theorem pay34_at (a : FVec Ideal S128x256 .bf16) (w : Vec Ideal S1x256x64 .bf16) (R : Fin 128) (c : Fin 64) :
    k0_pay34 a w (ix2 R c) = ∑ x : Fin 256, a (ix2 R x) * w (ix3 0 x c) := by
  pointwise [k0_pay34]

theorem pay33_at (a : Vec Ideal S1024x256 .f32) (s : Vec Ideal S1024x128 .f32) (R : Fin 128) (c : Fin 256) :
    k0_pay33 a s (ix2 R c) = k0_pay32 a s (ix2 ⟨R.val, by omega⟩ c) := by
  pointwise [k0_pay33]

end Cert.KernelIdeal.Flash

end
-- ==== Proof.Online.lean ====
/- The streaming softmax of one row over the extended reals: the running maximum, sum and weighted sum after a chunk of
   keys are those of all the keys so far. -/
module

public import Idealize.ShloMosaic.PureOps.Ideal

@[expose] public section

noncomputable section

namespace Softmax

open Idealize.ShloMosaic

/-- A row's state: its maximum, the sum of its weights, and its weighted sum of values. -/
abbrev Row (C : ℕ) : Type := EReal × EReal × (Fin C → EReal)

/-- The state after one more chunk of K keys with scores w and values v. -/
def rstep {K C : ℕ} (w : Fin K → EReal) (v : Fin K → Fin C → EReal) (s : Row C) : Row C :=
  (max s.1 (Finset.univ.sup w),
   Ideal.exp (s.1 - max s.1 (Finset.univ.sup w)) * s.2.1 + ∑ u, Ideal.exp (w u - max s.1 (Finset.univ.sup w)),
   fun c => s.2.2 c * Ideal.exp (s.1 - max s.1 (Finset.univ.sup w)) + ∑ u, Ideal.exp (w u - max s.1 (Finset.univ.sup w)) * v u c)

/-- The largest of the first n scores. -/
def top (w : ℕ → EReal) (n : ℕ) : EReal := (Finset.range n).sup w

/-- The state after the first n keys, in closed form. -/
def closed {C : ℕ} (w : ℕ → EReal) (v : ℕ → Fin C → ℝ) (n : ℕ) : Row C :=
  (top w n, ∑ u ∈ Finset.range n, Ideal.exp (w u - top w n), fun c => ∑ u ∈ Finset.range n, Ideal.exp (w u - top w n) * (v u c : EReal))

theorem closed_zero {C : ℕ} (w : ℕ → EReal) (v : ℕ → Fin C → ℝ) : closed w v 0 = (⊥, 0, fun _ => 0) := by
  simp [closed, top]

/-- The weight of a score x against a maximum m, as a real number. -/
def wt (x m : EReal) : ℝ := (Ideal.exp (x - m)).toReal

theorem exp_coe (r : ℝ) : Ideal.exp (r : EReal) = ((Real.exp r : ℝ) : EReal) := rfl

theorem exp_bot : Ideal.exp ⊥ = 0 := rfl

theorem exp_wt (x m : EReal) (hx : x ≤ m) (hm : m ≠ ⊤) : Ideal.exp (x - m) = ((wt x m : ℝ) : EReal) := by
  have hx' : x ≠ ⊤ := fun h => hm (top_le_iff.mp (h ▸ hx))
  unfold wt
  induction x with
  | bot => simp [exp_bot]
  | top => exact absurd rfl hx'
  | coe x =>
    induction m with
    | bot => exact absurd hx (by simp)
    | top => exact absurd rfl hm
    | coe m => rw [← EReal.coe_sub, exp_coe, EReal.toReal_coe]

theorem wt_bot (m : EReal) : wt ⊥ m = 0 := by simp [wt, exp_bot]

theorem wt_coe (x m : ℝ) : wt x m = Real.exp (x - m) := by
  unfold wt
  rw [← EReal.coe_sub, exp_coe, EReal.toReal_coe]

theorem wt_mul (x m M : EReal) (hx : x ≤ m) (hm : m ≤ M) (hM : M ≠ ⊤) : wt m M * wt x m = wt x M := by
  induction x with
  | bot => simp [wt_bot]
  | top => exact absurd (top_le_iff.mp (top_le_iff.mp hx ▸ hm)) hM
  | coe x =>
    induction m with
    | bot => exact absurd hx (by simp)
    | top => exact absurd (top_le_iff.mp hm) hM
    | coe m =>
      induction M with
      | bot => exact absurd hm (by simp)
      | top => exact absurd rfl hM
      | coe M => rw [wt_coe, wt_coe, wt_coe, ← Real.exp_add]; congr 1; ring

theorem coe_sum {ι : Type*} (s : Finset ι) (f : ι → ℝ) : ((∑ u ∈ s, f u : ℝ) : EReal) = ∑ u ∈ s, (f u : EReal) := by
  classical
  induction s using Finset.induction_on with
  | empty => simp
  | insert a s ha ih => rw [Finset.sum_insert ha, Finset.sum_insert ha, EReal.coe_add, ih]

theorem top_ne (w : ℕ → EReal) (hw : ∀ u, w u ≠ ⊤) (n : ℕ) : top w n ≠ ⊤ := by
  unfold top
  rw [← lt_top_iff_ne_top, Finset.sup_lt_iff (by simp)]
  exact fun u _ => lt_top_iff_ne_top.mpr (hw u)

theorem le_top' (w : ℕ → EReal) {n u : ℕ} (hu : u < n) : w u ≤ top w n := Finset.le_sup (Finset.mem_range.mpr hu)

/-- The closed form with the sums taken over the reals. -/
theorem closed_sum {C : ℕ} (w : ℕ → EReal) (v : ℕ → Fin C → ℝ) (hw : ∀ u, w u ≠ ⊤) (n : ℕ) :
    (closed w v n).2.1 = ((∑ u ∈ Finset.range n, wt (w u) (top w n) : ℝ) : EReal) := by
  rw [coe_sum]
  exact Finset.sum_congr rfl fun u hu => exp_wt _ _ (le_top' w (Finset.mem_range.mp hu)) (top_ne w hw n)

theorem closed_acc {C : ℕ} (w : ℕ → EReal) (v : ℕ → Fin C → ℝ) (hw : ∀ u, w u ≠ ⊤) (n : ℕ) (c : Fin C) :
    (closed w v n).2.2 c = ((∑ u ∈ Finset.range n, wt (w u) (top w n) * v u c : ℝ) : EReal) := by
  rw [coe_sum]
  unfold closed
  dsimp only
  refine Finset.sum_congr rfl fun u hu => ?_
  rw [exp_wt _ _ (le_top' w (Finset.mem_range.mp hu)) (top_ne w hw n), EReal.coe_mul]

theorem top_add (w : ℕ → EReal) (n K : ℕ) : top w (n + K) = max (top w n) (Finset.univ.sup fun u : Fin K => w (n + u)) := by
  unfold top
  apply le_antisymm
  · refine Finset.sup_le fun u hu => ?_
    rw [Finset.mem_range] at hu
    by_cases h : u < n
    · exact le_max_of_le_left (Finset.le_sup (Finset.mem_range.mpr h))
    · refine le_max_of_le_right ?_
      have := Finset.le_sup (f := fun u : Fin K => w (n + u)) (Finset.mem_univ ⟨u - n, by omega⟩)
      rwa [show n + ((⟨u - n, by omega⟩ : Fin K) : ℕ) = u by simp only; omega] at this
  · refine max_le (Finset.sup_le fun u hu => ?_) (Finset.sup_le fun u _ => ?_)
    · exact Finset.le_sup (Finset.mem_range.mpr (by rw [Finset.mem_range] at hu; omega))
    · exact Finset.le_sup (f := w) (Finset.mem_range.mpr (by omega))

theorem sum_add {β : Type*} [AddCommMonoid β] (f : ℕ → β) (n K : ℕ) :
    ∑ u ∈ Finset.range (n + K), f u = ∑ u ∈ Finset.range n, f u + ∑ u : Fin K, f (n + u) := by
  rw [Finset.sum_range_add, ← Finset.sum_range (fun u => f (n + u))]

/-- A chunk of keys takes the state of the first n keys to the state of the first n + K. -/
theorem rstep_closed {K C : ℕ} (w : ℕ → EReal) (v : ℕ → Fin C → ℝ) (hw : ∀ u, w u ≠ ⊤) (n : ℕ) :
    rstep (fun u : Fin K => w (n + u)) (fun u c => (v (n + u) c : EReal)) (closed w v n) = closed w v (n + K) := by
  have hle : top w n ≤ top w (n + K) := by rw [top_add]; exact le_max_left _ _
  have hM := top_ne w hw (n + K)
  have hk (u : Fin K) : Ideal.exp (w (n + u) - top w (n + K)) = ((wt (w (n + u)) (top w (n + K)) : ℝ) : EReal) :=
    exp_wt _ _ (le_top' w (by omega)) hM
  have e0 : max (closed w v n).1 (Finset.univ.sup fun u : Fin K => w (n + u)) = top w (n + K) := (top_add w n K).symm
  have e1 : Ideal.exp ((closed w v n).1 - top w (n + K)) = ((wt (top w n) (top w (n + K)) : ℝ) : EReal) := exp_wt _ _ hle hM
  unfold rstep
  rw [e0, e1]
  refine Prod.ext rfl (Prod.ext ?_ (funext fun c => ?_))
  · dsimp only
    rw [closed_sum w v hw, closed_sum w v hw, sum_add]
    simp only [hk]
    rw [← coe_sum, ← EReal.coe_mul, ← EReal.coe_add, Finset.mul_sum]
    congr 2
    exact Finset.sum_congr rfl fun u hu => wt_mul _ _ _ (le_top' w (Finset.mem_range.mp hu)) hle hM
  · dsimp only
    rw [closed_acc w v hw, closed_acc w v hw, sum_add]
    simp only [hk, ← EReal.coe_mul]
    rw [← coe_sum, ← EReal.coe_add, Finset.sum_mul]
    congr 2
    refine Finset.sum_congr rfl fun u hu => ?_
    rw [← wt_mul _ _ _ (le_top' w (Finset.mem_range.mp hu)) hle hM]
    ring

/-- Keys that nobody sees change nothing. -/
theorem closed_skip {C : ℕ} (w : ℕ → EReal) (v : ℕ → Fin C → ℝ) (n K : ℕ) (hn : n ≤ K) (h : ∀ u, n ≤ u → w u = ⊥) :
    closed w v n = closed w v K := by
  have et : top w n = top w K := by
    unfold top
    apply le_antisymm
    · exact Finset.sup_mono (Finset.range_mono hn)
    · refine Finset.sup_le fun u _ => ?_
      by_cases hu : u < n
      · exact Finset.le_sup (Finset.mem_range.mpr hu)
      · rw [h u (by omega)]; exact bot_le
  have hz (u : ℕ) (hu : u ∉ Finset.range n) : Ideal.exp (w u - top w K) = 0 := by
    rw [h u (by simpa using hu), EReal.bot_sub, exp_bot]
  unfold closed
  rw [et]
  refine Prod.ext rfl (Prod.ext ?_ (funext fun c => ?_))
  · exact Finset.sum_subset (Finset.range_mono hn) fun u _ hu => hz u hu
  · refine Finset.sum_subset (Finset.range_mono hn) fun u _ hu => ?_
    rw [hz u hu, zero_mul]

/-- Division by a real that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A row that sees one key at least has a positive sum of weights. -/
theorem sum_pos (w : ℕ → EReal) (hw : ∀ u, w u ≠ ⊤) (n u0 : ℕ) (h0 : u0 < n) (hb : w u0 ≠ ⊥) :
    0 < ∑ u ∈ Finset.range n, wt (w u) (top w n) := by
  have hnn (u : ℕ) : 0 ≤ wt (w u) (top w n) := by
    unfold wt
    apply EReal.toReal_nonneg
    generalize w u - top w n = z
    induction z with
    | bot => exact le_refl _
    | top => exact le_top
    | coe z => rw [exp_coe]; exact_mod_cast (Real.exp_pos z).le
  refine Finset.sum_pos' (fun u _ => hnn u) ⟨u0, Finset.mem_range.mpr h0, ?_⟩
  have h1 := le_top' w h0
  have h2 := top_ne w hw n
  have h3 := hw u0
  revert h1 h2 h3 hb
  generalize top w n = m
  generalize w u0 = x
  intro hb h1 h2 h3
  induction x with
  | bot => exact absurd rfl hb
  | top => exact absurd rfl h3
  | coe x =>
    induction m with
    | bot => exact absurd h1 (by simp)
    | top => exact absurd rfl h2
    | coe m => rw [wt_coe]; exact Real.exp_pos _

/-- The streamed quotient is the softmax-weighted sum. -/
theorem quotient {C : ℕ} (w : ℕ → EReal) (v : ℕ → Fin C → ℝ) (hw : ∀ u, w u ≠ ⊤) (n u0 : ℕ) (h0 : u0 < n) (hb : w u0 ≠ ⊥) (c : Fin C) :
    Ideal.div ((closed w v n).2.2 c) (closed w v n).2.1 =
      ∑ u : Fin n, Ideal.div (Ideal.exp (w u - Finset.univ.sup fun u : Fin n => w u)) (∑ u : Fin n, Ideal.exp (w u - Finset.univ.sup fun u : Fin n => w u)) * (v u c : EReal) := by
  have et : (Finset.univ.sup fun u : Fin n => w u) = top w n := by
    have := top_add w 0 n
    simp only [zero_add] at this
    rw [this]
    simp [top]
  have hp := sum_pos w hw n u0 h0 hb
  have hk (u : Fin n) : Ideal.exp (w u - top w n) = ((wt (w u) (top w n) : ℝ) : EReal) := exp_wt _ _ (le_top' w u.isLt) (top_ne w hw n)
  have es : ∑ u : Fin n, Ideal.exp (w u - top w n) = ((∑ u ∈ Finset.range n, wt (w u) (top w n) : ℝ) : EReal) := by
    rw [Finset.sum_range, coe_sum]
    exact Finset.sum_congr rfl fun u _ => hk u
  rw [et, es, closed_acc w v hw, closed_sum w v hw, div_coe _ _ hp.ne']
  simp only [hk, div_coe _ _ hp.ne', ← EReal.coe_mul]
  rw [← coe_sum, ← Finset.sum_range (fun u => wt (w u) (top w n) / (∑ u ∈ Finset.range n, wt (w u) (top w n)) * v u c), Finset.sum_div]
  congr 1
  refine Finset.sum_congr rfl fun u _ => ?_
  ring

end Softmax

end
-- ==== Proof.Block.lean ====
/- The kernel's block over the extended reals: each row of each head is the softmax-weighted sum of the latents it may
   see, times the head's output weights. -/
module

public import proofs.«01_k».proof.Proof.Rows
public import proofs.«01_k».proof.Proof.Heads
public import proofs.«01_k».proof.Proof.Online

@[expose] public section

set_option maxRecDepth 16384

noncomputable section

namespace Cert.KernelIdeal.Flash

open Idealize.ShloMosaic Idealize.ShloMosaic.TcCoe Idealize.SL.Sem
open Cert.KernelIdeal Cert.KernelIdeal.Gen

/-- Row R of a state has maximum, sum and accumulator `st`. -/
def Is (s : St Ideal) (R : Fin 1024) (st : Softmax.Row 256) : Prop :=
  (∀ l, s.1 (ix2 R l) = st.1) ∧ (∀ l, s.2.1 (ix2 R l) = st.2.1) ∧ ∀ c, s.2.2 (ix2 R c) = st.2.2 c

/-- An unmasked chunk is one step of the row. -/
theorem is_step (q : FVec Ideal S1024x384 .bf16) (kb : Vec Ideal S1x512x384 .bf16) (s : St Ideal) (R : Fin 1024) (st : Softmax.Row 256) (h : Is s R st) :
    Is (step q kb s) R (Softmax.rstep (fun u : Fin 512 => k0_pay5 q kb (ix2 R u)) (fun u c => kb (ix3 0 u ⟨c.val, by omega⟩)) st) := by
  obtain ⟨h1, h2, h3⟩ := h
  have hM (l : Fin 128) : k0_pay6 q kb s.1 (ix2 R l) = max st.1 (Finset.univ.sup fun u : Fin 512 => k0_pay5 q kb (ix2 R u)) := by
    rw [pay6_at, h1]
  refine ⟨hM, fun l => ?_, fun c => ?_⟩
  · unfold step
    dsimp only
    rw [pay9_at _ _ _ _ _ _ _ hM, h1, h2]
    rfl
  · unfold step
    dsimp only
    rw [pay10_at _ _ _ _ _ _ _ _ h1 hM, h3]
    rfl

/-- The masked chunk is one step of the row. -/
theorem is_last (q : FVec Ideal S1024x384 .bf16) (x1 : Vec Ideal S1x2048x384 .bf16) (j : ℕ) (R : Fin 1024) (st : Softmax.Row 256) (h : Is (after q x1 (j / 4)) R st) :
    Is (last q x1 j) R (Softmax.rstep (fun u : Fin 512 => scores q x1 j (ix2 R u)) (fun u c => chunk x1 (j / 4) (ix3 0 u ⟨c.val, by omega⟩)) st) := by
  obtain ⟨h1, h2, h3⟩ := h
  have hM (l : Fin 128) : k0_pay26 (scores q x1 j) (after q x1 (j / 4)).1 (ix2 R l) = max st.1 (Finset.univ.sup fun u : Fin 512 => scores q x1 j (ix2 R u)) := by
    rw [pay26_at, h1]
  refine ⟨hM, fun l => ?_, fun c => ?_⟩
  · unfold last
    dsimp only
    rw [pay29_at _ _ _ _ _ _ hM, h1, h2]
    rfl
  · unfold last
    dsimp only
    rw [pay30_at _ _ _ _ _ _ _ _ h1 hM, h3]
    simp only [pay24_at]
    rfl

theorem is_init (R : Fin 1024) : Is init R (⊥, 0, fun _ => 0) :=
  ⟨fun l => (init_at R l 0).1, fun l => (init_at R l 0).2.1, fun c => (init_at R 0 c).2.2⟩

/-- A key's row of the block. -/
def keyAt (u : ℕ) : Fin 2048 := ⟨u % 2048, Nat.mod_lt _ (by norm_num)⟩

/-- A latent's column among the packed ones. -/
def latAt (c : Fin 256) : Fin 384 := ⟨c.val, by omega⟩

/-- The score of key u for row R of block j: nothing after the row's own position. -/
def score (q : FVec Ideal S1024x384 .bf16) (x1 : Vec Ideal S1x2048x384 .bf16) (j : ℕ) (R : Fin 1024) (u : ℕ) : EReal :=
  if u ≤ 128 * j + R.val % 128 then
    (∑ d : Fin 384, q (ix2 R d) * x1 (ix3 0 ⟨u % 2048, Nat.mod_lt _ (by norm_num)⟩ d)) * kap else ⊥

theorem chunk_at (x1 : Vec Ideal S1x2048x384 .bf16) (k : ℕ) (u : Fin 512) (d : Fin 384) :
    chunk x1 k (ix3 0 u d) = x1 (ix3 0 ⟨(512 * k + u.val) % 2048, Nat.mod_lt _ (by norm_num)⟩ d) := rfl

section

variable (q : FVec Ideal S1024x384 .bf16) (x1 : Vec Ideal S1x2048x384 .bf16) (j : ℕ) (hj : j < 16) (R : Fin 1024)
  (y : ℕ → Fin 256 → ℝ) (hy : ∀ u c, x1 (ix3 0 (keyAt u) (latAt c)) = (y u c : EReal))
  (hw : ∀ u, score q x1 j R u ≠ ⊤)

include hj hy hw in
theorem is_after (k : ℕ) (hk : k ≤ j / 4) : Is (after q x1 k) R (Softmax.closed (score q x1 j R) y (512 * k)) := by
  induction k with
  | zero => rw [Nat.mul_zero, Softmax.closed_zero]; exact is_init R
  | succ k ih =>
    have h := is_step q (chunk x1 k) _ R _ (ih (by omega))
    rw [show 512 * (k + 1) = 512 * k + 512 by ring, ← Softmax.rstep_closed _ _ hw]
    change Is (step q (chunk x1 k) (after q x1 k)) R _
    convert h using 2
    · funext u
      have hu := u.isLt
      rw [pay5_at]
      unfold score
      rw [if_pos (by omega)]
      simp only [chunk_at]
    · funext u c
      rw [chunk_at]
      exact (hy _ c).symm

include hj hy hw in
theorem is_end : Is (last q x1 j) R (Softmax.closed (score q x1 j R) y 2048) := by
  have h := is_last q x1 j R _ (is_after q x1 j hj R y hy hw (j / 4) le_rfl)
  rw [← Softmax.closed_skip (score q x1 j R) y (512 * (j / 4) + 512) 2048 (by omega), ← Softmax.rstep_closed _ _ hw]
  · convert h using 2
    · funext u
      unfold scores
      rw [pay25_at _ _ j hj]
      unfold score
      simp only [chunk_at]
    · funext u c
      rw [chunk_at]
      exact (hy _ c).symm
  · intro u hu
    unfold score
    rw [if_neg (by omega)]

end

/-- The softmax-weighted latent a row reads. -/
def mix (w : ℕ → EReal) (v : ℕ → Fin 256 → ℝ) (c : Fin 256) : EReal :=
  ∑ u : Fin 2048, Ideal.div (Ideal.exp (w u - Finset.univ.sup fun u : Fin 2048 => w u)) (∑ u : Fin 2048, Ideal.exp (w u - Finset.univ.sup fun u : Fin 2048 => w u)) * (v u c : EReal)

theorem quot_at (x0 : Vec Ideal S8x128x384 .bf16) (x1 : Vec Ideal S1x2048x384 .bf16) (j : ℕ) (hj : j < 16) (R : Fin 1024)
    (y : ℕ → Fin 256 → ℝ) (hy : ∀ u c, x1 (ix3 0 (keyAt u) (latAt c)) = (y u c : EReal))
    (hw : ∀ u, score (qOf x0) x1 j R u ≠ ⊤) (hb : score (qOf x0) x1 j R 0 ≠ ⊥) (c : Fin 256) :
    quot x0 x1 j (ix2 R c) = mix (score (qOf x0) x1 j R) y c := by
  obtain ⟨_, h2, h3⟩ := is_end (qOf x0) x1 j hj R y hy hw
  unfold quot
  rw [pay32_at _ _ _ _ _ h2, h3]
  exact Softmax.quotient _ _ hw 2048 0 (by norm_num) hb c

/-- What the block leaves at row r and column c of its output: the quotient of the column's head, times that head's
    output weights. -/
def blockAt (x0 : Vec Ideal S8x128x384 .bf16) (x1 : Vec Ideal S1x2048x384 .bf16) (x2 : Vec Ideal S8x256x64 .bf16) (j : ℕ) : Vec Ideal S128x512 .bf16 := fun y =>
  ∑ x : Fin 256, quot x0 x1 j (ix2 ⟨128 * ((y 1).val / 64) + (y 0).val, by have h0 : (y 0).val < 128 := (y 0).isLt; have h1 : (y 1).val < 512 := (y 1).isLt; omega⟩ x) *
    x2 (ix3 ⟨(y 1).val / 64, by have h0 : (y 0).val < 128 := (y 0).isLt; have h1 : (y 1).val < 512 := (y 1).isLt; omega⟩ x ⟨(y 1).val % 64, Nat.mod_lt _ (by norm_num)⟩)

/-- A store of one head's columns leaves what the block has there. -/
theorem piece_eq (x0 : Vec Ideal S8x128x384 .bf16) (x1 : Vec Ideal S1x2048x384 .bf16) (x2 : Vec Ideal S8x256x64 .bf16) (j h : ℕ) (hh : h < 8)
    (inb : ∀ a, (![0, 64 * h] : Fin 2 → ℕ) a + (![128, 64] : Fin 2 → ℕ) a ≤ S128x512.size a) (p : Vec Ideal S128x64 .bf16)
    (hp : ∀ (R : Fin 128) (c : Fin 64), p (ix2 R c) = ∑ x : Fin 256, quot x0 x1 j (ix2 ⟨128 * h + R.val, by omega⟩ x) * x2 (ix3 ⟨h, hh⟩ x c))
    (x : (Rect.unit (s := S128x512) ![0, 64 * h] ![128, 64] inb).shape.Idx) :
    p x = blockAt x0 x1 x2 j ((Rect.unit (s := S128x512) ![0, 64 * h] ![128, 64] inb).emb x) := by
  have h0 : (x 0).val < 128 := (x 0).isLt
  have h1 : (x 1).val < 64 := (x 1).isLt
  have e0 : (((Rect.unit (s := S128x512) ![0, 64 * h] ![128, 64] inb).emb x) 0).val = (x 0).val := by
    refine (Rect.idx_unit_val _ _ inb x 0).trans ?_
    simp
  have e1 : (((Rect.unit (s := S128x512) ![0, 64 * h] ![128, 64] inb).emb x) 1).val = 64 * h + (x 1).val := by
    refine (Rect.idx_unit_val _ _ inb x 1).trans ?_
    simp
  have ex : (x : S128x64.Idx) = ix2 ⟨(x 0).val, h0⟩ ⟨(x 1).val, h1⟩ := by funext a; fin_cases a <;> rfl
  refine (congrArg p ex).trans ((hp _ _).trans ?_)
  unfold blockAt
  refine Finset.sum_congr rfl fun k _ => ?_
  congr 2
  · congr 1
    refine Fin.ext ?_
    dsimp only
    rw [e0, e1]
    omega
  · have a1 : h = (((Rect.unit (s := S128x512) ![0, 64 * h] ![128, 64] inb).emb x) 1).val / 64 := by rw [e1]; omega
    have a2 : (x 1).val = (((Rect.unit (s := S128x512) ![0, 64 * h] ![128, 64] inb).emb x) 1).val % 64 := by rw [e1]; omega
    congr 1 <;> exact Fin.ext (by first | exact a1 | exact a2)

/-- A head's output weights, as the block reads them. -/
theorem wload (arg4 : Memref sig .tc .vmem S8x256x64 .bf16) (harg4 : arg4.IsWhole) (x2 : Vec Ideal S8x256x64 .bf16) (h : ℕ) (hh : h < 8)
    (inb : ∀ a, (![h, 0, 0] : Fin 3 → ℕ) a + (![1, 256, 64] : Fin 3 → ℕ) a ≤ S8x256x64.size a) (x : Fin 256) (c : Fin 64) :
    View.readAt (Elt Ideal) arg4.view (Rect.unit (s := S8x256x64) ![h, 0, 0] ![1, 256, 64] inb).toLoadRect (harg4.unread x2) (ix3 0 x c) = x2 (ix3 ⟨h, hh⟩ x c) := by
  rw [View.readAt_eq_ld, harg4.read_unread]
  refine View.ld_unit_apply_of _ _ _ inb _ _ fun a => ?_
  fin_cases a <;> simp [ix3]

theorem out_eq (c : Dev nD) (i : grid0.Coords) (arg2 : Memref sig .tc .vmem S8x128x384 .bf16) (harg2 : arg2.IsWhole) (arg3 : Memref sig .tc .vmem S1x2048x384 .bf16) (harg3 : arg3.IsWhole) (arg4 : Memref sig .tc .vmem S8x256x64 .bf16) (harg4 : arg4.IsWhole) (arg5 : Memref sig .tc .vmem S128x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x256 .f32) (harg8 : arg8.IsWhole)
    (x0 : Vec Ideal S8x128x384 .bf16) (x1 : Vec Ideal S1x2048x384 .bf16) (x2 : Vec Ideal S8x256x64 .bf16) :
    out0_A_3 c i arg2 harg2 arg3 harg3 arg4 harg4 arg5 harg5 arg6 harg6 arg7 harg7 arg8 harg8 x0 x1 x2 = blockAt x0 x1 x2 (i 1).val := by
  unfold out0_A_3
  rw [View.read_writes_eq_canon _ _ _ (cover0_A_3 c i arg2 harg2 arg3 harg3 arg4 harg4 arg5 harg5 arg6 harg6 arg7 harg7 arg8 harg8 x0 x1 x2)]
  funext y
  refine View.canon_apply_of_pieces _ _ ?_ y (cover0_A_3 c i arg2 harg2 arg3 harg3 arg4 harg4 arg5 harg5 arg6 harg6 arg7 harg7 arg8 harg8 x0 x1 x2 y)
  unfold kernelRun0_A
  dsimp only
  simp only [List.forall_mem_cons]
  refine ⟨?_, ?_, ?_, ?_, ?_, ?_, ?_, ?_, fun _ h => absurd h List.not_mem_nil⟩
  · exact piece_eq x0 x1 x2 _ 7 (by norm_num) inb_S128x512_S128x64_0_448 _ fun R c => by
      rw [pay3_at, r3_eq]
      exact Finset.sum_congr rfl fun k _ => congrArg _ (wload arg4 harg4 x2 7 (by norm_num) inb_S8x256x64_S1x256x64_7_0_0 k c)
  · exact piece_eq x0 x1 x2 _ 6 (by norm_num) inb_S128x512_S128x64_0_384 _ fun R c => by
      rw [pay2_at, r3_eq]
      exact Finset.sum_congr rfl fun k _ => congrArg _ (wload arg4 harg4 x2 6 (by norm_num) inb_S8x256x64_S1x256x64_6_0_0 k c)
  · exact piece_eq x0 x1 x2 _ 5 (by norm_num) inb_S128x512_S128x64_0_320 _ fun R c => by
      rw [pay1_at, r3_eq]
      exact Finset.sum_congr rfl fun k _ => congrArg _ (wload arg4 harg4 x2 5 (by norm_num) inb_S8x256x64_S1x256x64_5_0_0 k c)
  · exact piece_eq x0 x1 x2 _ 4 (by norm_num) inb_S128x512_S128x64_0_256 _ fun R c => by
      unfold kernelRun0_A.sl.r_5
      rw [pay38_at, r3_eq]
      exact Finset.sum_congr rfl fun k _ => congrArg _ (wload arg4 harg4 x2 4 (by norm_num) inb_S8x256x64_S1x256x64_4_0_0 k c)
  · exact piece_eq x0 x1 x2 _ 3 (by norm_num) inb_S128x512_S128x64_0_192 _ fun R c => by
      rw [pay37_at, r3_eq]
      exact Finset.sum_congr rfl fun k _ => congrArg _ (wload arg4 harg4 x2 3 (by norm_num) inb_S8x256x64_S1x256x64_3_0_0 k c)
  · exact piece_eq x0 x1 x2 _ 2 (by norm_num) inb_S128x512_S128x64_0_128 _ fun R c => by
      rw [pay36_at, r3_eq]
      exact Finset.sum_congr rfl fun k _ => congrArg _ (wload arg4 harg4 x2 2 (by norm_num) inb_S8x256x64_S1x256x64_2_0_0 k c)
  · exact piece_eq x0 x1 x2 _ 1 (by norm_num) inb_S128x512_S128x64_0_64 _ fun R c => by
      rw [pay35_at, r3_eq]
      exact Finset.sum_congr rfl fun k _ => congrArg _ (wload arg4 harg4 x2 1 (by norm_num) inb_S8x256x64_S1x256x64_1_0_0 k c)
  · exact piece_eq x0 x1 x2 _ 0 (by norm_num) inb_S128x512_S128x64_0_0 _ fun R c => by
      unfold kernelRun0_A.sl.r_4
      rw [pay34_at, v105_eq, v106_eq]
      simp only [pay33_at]
      refine Finset.sum_congr rfl fun k _ => congrArg₂ _ (congrArg _ (congrArg₂ _ (Fin.ext (by simp)) rfl)) (wload arg4 harg4 x2 0 (by norm_num) inb_S8x256x64_S1x256x64_0_0_0 k c)

end Cert.KernelIdeal.Flash

end
-- ==== Proof.Host.lean ====
/- The arrays the host packs for the kernel, element by element, and the blocks the kernel reads of them. -/
module

public import proofs.«01_k».proof.Proof.Gen.KernelIdeal.Value
public import proofs.«01_k».proof.Proof.Block

@[expose] public section

set_option maxRecDepth 16384

noncomputable section

namespace Cert.KernelIdeal.Flash

open Idealize.ShloMosaic Idealize.ShloMosaic.TcCoe Idealize.SL.Sem
open Cert.KernelIdeal Cert.KernelIdeal.Gen

/-- The packed queries of the host program: per head, latent, rotary part and zeros. -/
def packQ (q : FVec Ideal S16x2048x8x256 .f32) (qr : FVec Ideal S16x2048x8x32 .f32) : FVec Ideal S8x32768x384 .bf16 :=
  truncf .bf16 (transpose S8x32768x384 [1, 0, 2] (shapeCast S32768x8x384 (concatenate S16x2048x8x384 3 [⟨S16x2048x8x256, q⟩, ⟨S16x2048x8x32, qr⟩, ⟨S16x2048x8x96, broadcastInDim S16x2048x8x96 ![] bcast_S_S16x2048x8x96 (constant S_ .f32 0x00000000#32)⟩] concatenates_S16x2048x8x256_S16x2048x8x32_S16x2048x8x96_S16x2048x8x384_d3) shapeCasts_S16x2048x8x384_S32768x8x384) transposes_S32768x8x384_S8x32768x384_1_0_2) bitsLt_bf16_f32

/-- The packed keys: latent, rotary part and zeros. -/
def packK (ck : FVec Ideal S16x2048x256 .f32) (kr : FVec Ideal S16x2048x32 .f32) : FVec Ideal S16x2048x384 .bf16 :=
  shapeCast S16x2048x384 (truncf .bf16 (shapeCast S32768x384 (concatenate S16x2048x384 2 [⟨S16x2048x256, ck⟩, ⟨S16x2048x32, kr⟩, ⟨S16x2048x96, broadcastInDim S16x2048x96 ![] bcast_S_S16x2048x96 (constant S_ .f32 0x00000000#32)⟩] concatenates_S16x2048x256_S16x2048x32_S16x2048x96_S16x2048x384_d2) shapeCasts_S16x2048x384_S32768x384) bitsLt_bf16_f32) shapeCasts_S32768x384_S16x2048x384

/-- The output weights, per head. -/
def packW (w : FVec Ideal S256x8x64 .f32) : FVec Ideal S8x256x64 .bf16 :=
  truncf .bf16 (transpose S8x256x64 [1, 0, 2] w transposes_S256x8x64_S8x256x64_1_0_2) bitsLt_bf16_f32

theorem packQ_at (q : FVec Ideal S16x2048x8x256 .f32) (qr : FVec Ideal S16x2048x8x32 .f32) (h : Fin 8) (g : Fin 32768) (d : Fin 384) :
    packQ q qr (ix3 h g d) =
      if hd : d.val < 256 then q (ix4 ⟨g.val / 2048, by omega⟩ ⟨g.val % 2048, by omega⟩ h ⟨d.val, hd⟩)
      else if hd' : d.val - 256 < 32 then qr (ix4 ⟨g.val / 2048, by omega⟩ ⟨g.val % 2048, by omega⟩ h ⟨d.val - 256, hd'⟩)
      else 0 := by
  pointwise [packQ]

theorem packK_at (ck : FVec Ideal S16x2048x256 .f32) (kr : FVec Ideal S16x2048x32 .f32) (b : Fin 16) (u : Fin 2048) (d : Fin 384) :
    packK ck kr (ix3 b u d) =
      if hd : d.val < 256 then ck (ix3 b u ⟨d.val, hd⟩)
      else if hd' : d.val - 256 < 32 then kr (ix3 b u ⟨d.val - 256, hd'⟩)
      else 0 := by
  pointwise [packK]

theorem packW_at (w : FVec Ideal S256x8x64 .f32) (h : Fin 8) (x : Fin 256) (k : Fin 64) : packW w (ix3 h x k) = w (ix3 x h k) := by
  pointwise [packW]

variable (m : (ℓ : Loc nD τ sig) → Buf (Elt Ideal) ℓ) (c : Dev nD)

/-- The arguments, as arrays of extended reals. -/
abbrev aQ : FVec Ideal S16x2048x8x256 .f32 := m ((c.tc : Thread nD τ).loc main_arg0)
abbrev aQr : FVec Ideal S16x2048x8x32 .f32 := m ((c.tc : Thread nD τ).loc main_arg1)
abbrev aC : FVec Ideal S16x2048x256 .f32 := m ((c.tc : Thread nD τ).loc main_arg2)
abbrev aKr : FVec Ideal S16x2048x32 .f32 := m ((c.tc : Thread nD τ).loc main_arg3)
abbrev aW : FVec Ideal S256x8x64 .f32 := m ((c.tc : Thread nD τ).loc main_arg4)

theorem v4_eq : V m c main_v4 = packQ (aQ m c) (aQr m c) := by
  unfold V hostOps0
  after_results_simp
  rfl

theorem v11_eq : V m c main_v11 = packK (aC m c) (aKr m c) := by
  unfold V hostOps0
  after_results_simp
  rfl

theorem v10_eq : V m c main_v10 = packW (aW m c) := by
  unfold V hostOps0
  after_results_simp
  rfl

/-! ## The blocks -/

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![t.val, 0] := (by decide +kernel : ∀ t : Fin grid0.N, win0_3.index t = ![t.val, 0])
theorem pos1 : ∀ t : Fin cfg0.N, (grid0.coords t 1).val = t.val % 16 := (by decide +kernel : ∀ t : Fin grid0.N, (grid0.coords t 1).val = t.val % 16)

theorem lt_points (t : Fin cfg0.N) : t.val < 256 := t.isLt

theorem blk0_at (t : Fin cfg0.N) (h : Fin 8) (r : Fin 128) (d : Fin 384) :
    iblk m c 0 t (ix3 h r d) = packQ (aQ m c) (aQr m c) (ix3 h ⟨128 * t.val + r.val, by have := lt_points t; omega⟩ d) := by
  blk_simp [iblk, idx0]
  rw [← v4_eq]
  refine congrArg _ ?_
  blk_ext [idx0]

theorem blk1_at (t : Fin cfg0.N) (u : Fin 2048) (d : Fin 384) :
    iblk m c 1 t (ix3 0 u d) = packK (aC m c) (aKr m c) (ix3 ⟨t.val / 16, by have := lt_points t; omega⟩ u d) := by
  blk_simp [iblk, idx1]
  rw [← v11_eq]
  refine congrArg _ ?_
  blk_ext [idx1]

theorem blk2_at (t : Fin cfg0.N) (h : Fin 8) (x : Fin 256) (k : Fin 64) :
    iblk m c 2 t (ix3 h x k) = packW (aW m c) (ix3 h x k) := by
  blk_simp [iblk, idx2]
  rw [← v10_eq]
  refine congrArg _ ?_
  blk_ext [idx2]

/-- The result: every block as its point leaves it. -/
def result (y : S32768x512.Idx) : EReal :=
  blockAt (iblk m c 0 ⟨(y 0).val / 128, by have h : (y 0).val < 32768 := (y 0).isLt; show _ < 256; omega⟩) (iblk m c 1 ⟨(y 0).val / 128, by have h : (y 0).val < 32768 := (y 0).isLt; show _ < 256; omega⟩)
    (iblk m c 2 ⟨(y 0).val / 128, by have h : (y 0).val < 32768 := (y 0).isLt; show _ < 256; omega⟩) ((y 0).val / 128 % 16)
    (ix2 ⟨(y 0).val % 128, Nat.mod_lt _ (by norm_num)⟩ ⟨(y 1).val, (y 1).isLt⟩)

theorem final : (dats m 0 c).arrAt 3 cfg0.N = result m c := by
  refine (dats m 0 c).arrAt_eq_of_covers 3 _ (by decide +kernel) fun t hf y => ?_
  blk_simp
  rw [after0_3]
  unfold outsAt0
  rw [out_eq]
  have ht := lt_points t
  have h0 : (y 0).val < 128 := (y 0).isLt
  have h1 : (y 1).val < 512 := (y 1).isLt
  have e0 : ((win0_3.blk t).view.emb y 0).val = t.val * 128 + (y 0).val := by blk_simp [idx3]
  have e1 : ((win0_3.blk t).view.emb y 1).val = (y 1).val := by blk_simp [idx3]
  unfold result
  have et : (⟨((win0_3.blk t).view.emb y 0).val / 128, by rw [e0]; show _ < 256; omega⟩ : Fin cfg0.N) = t := Fin.ext (by dsimp only; rw [e0]; omega)
  rw [et, pos1]
  have ej : ((win0_3.blk t).view.emb y 0).val / 128 % 16 = t.val % 16 := by rw [e0]; omega
  rw [ej]
  refine congrArg _ ?_
  funext a
  fin_cases a
  · refine Fin.ext ?_
    change (y 0).val = ((win0_3.blk t).view.emb y 0).val % 128
    rw [e0]; omega
  · exact Fin.ext e1.symm

end Cert.KernelIdeal.Flash

end
-- ==== Proof.Ref.lean ====
/- The reference's operations over the extended reals, element by element. -/
module

public import proofs.«01_k».proof.Proof.Gen.ReferenceIdeal.Run
public import Idealize.ShloMosaic.Lib.Pointwise
public import proofs.«01_k».proof.Proof.Rows

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.KernelIdeal.Flash (kap bot_bits fold_max_bot sle_nat)

/-- The largest entry of a row, for any sizes. -/
theorem row_max {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (a : Fin n0) (b : Fin n1) (d : Fin n2)
    (hc : c (Shape.Idx.first hu) = (⊥ : EReal)) :
    Host.reduce FloatOps.maximumf v c h hu (ix3 a b d) = Finset.univ.sup fun u : Fin n3 => v (ix4 a b d u) := by
  simp only [pointwise]
  rw [hc, ← fold_max_bot]

theorem max_at {s : Shape} (x y : FVec Ideal s .f32) (i : s.Idx) : maximumf x y i = max (x i) (y i) := rfl

section

variable (q : FVec Ideal S16x2048x8x256 .f32) (qr : FVec Ideal S16x2048x8x32 .f32) (ck : FVec Ideal S16x2048x256 .f32)
  (kr : FVec Ideal S16x2048x32 .f32) (w : FVec Ideal S256x8x64 .f32)

/-- The scaled scores. -/
def logits : FVec Ideal S16x8x2048x2048 .f32 :=
  mulf (addf (transpose S16x8x2048x2048 [0, 3, 2, 1] (Host.dotGeneral dot_S16x2048x256_S16x2048x8x256_S16x2048x2048x8_2_3_1_12_0_0 none ck q) transposes_S16x2048x2048x8_S16x8x2048x2048_0_3_2_1) (transpose S16x8x2048x2048 [0, 3, 2, 1] (Host.dotGeneral dot_S16x2048x32_S16x2048x8x32_S16x2048x2048x8_2_3_1_12_0_0 none kr qr) transposes_S16x2048x2048x8_S16x8x2048x2048_0_3_2_1)) (broadcastInDim S16x8x2048x2048 ![] bcast_S_S16x8x2048x2048 (constant S_ .f32 0x3DD105EC#32))

/-- The scores, the later keys masked. -/
def masked (lg : FVec Ideal S16x8x2048x2048 .f32) : FVec Ideal S16x8x2048x2048 .f32 :=
  select (broadcastInDim S16x8x2048x2048 ![0, 1, 2, 3] bcast_S1x1x2048x2048_S16x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) lg (broadcastInDim S16x8x2048x2048 ![] bcast_S_S16x8x2048x2048 (id (constant S_ .f32 0xFF800000#32)))

/-- The largest score of each row. -/
def rowTop (ms : FVec Ideal S16x8x2048x2048 .f32) : FVec Ideal S16x8x2048 .f32 :=
  Host.reduce FloatOps.maximumf ms (constant S_ .f32 0xFF800000#32) reducesTo_S16x8x2048x2048_S16x8x2048_d3 h_S_

/-- Minus infinity, over the rows. -/
def lowest : FVec Ideal S16x8x2048 .f32 := broadcastInDim S16x8x2048 ![] bcast_S_S16x8x2048 (constant S_ .f32 0xFF800000#32)

/-- The larger of the two. -/
def largest (ms : FVec Ideal S16x8x2048x2048 .f32) : FVec Ideal S16x8x2048 .f32 := maximumf lowest (rowTop ms)

/-- The exponentials of the scores against a row's largest. -/
def exps (ms : FVec Ideal S16x8x2048x2048 .f32) (mx : FVec Ideal S16x8x2048 .f32) : FVec Ideal S16x8x2048x2048 .f32 :=
  Host.exp (subf ms (broadcastInDim S16x8x2048x2048 ![0, 1, 2, 3] bcast_S16x8x2048x1_S16x8x2048x2048_0_1_2_3 (broadcastInDim S16x8x2048x1 ![0, 1, 2] bcast_S16x8x2048_S16x8x2048x1_0_1_2 mx)))

/-- The softmax weights. -/
def weights (ex : FVec Ideal S16x8x2048x2048 .f32) : FVec Ideal S16x8x2048x2048 .f32 :=
  Host.divf ex (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd ex (constant S_ .f32 0x00000000#32) reducesTo_S16x8x2048x2048_S16x8x2048_d3 h_S_)))

/-- The weighted latents times the output weights. -/
def project (pr : FVec Ideal S16x8x2048x2048 .f32) : FVec Ideal S32768x512 .bf16 :=
  truncf .bf16 (shapeCast S32768x512 (transpose S16x2048x8x64 [2, 3, 0, 1] (Host.dotGeneral dot_S256x8x64_S16x2048x8x256_S8x64x16x2048_0_3_2_01_1_2 none w (transpose S16x2048x8x256 [0, 3, 2, 1] (Host.dotGeneral dot_S16x2048x256_S16x8x2048x2048_S16x256x8x2048_1_3_2_12_0_0 none ck pr) transposes_S16x256x8x2048_S16x2048x8x256_0_3_2_1)) transposes_S8x64x16x2048_S16x2048x8x64_2_3_0_1) shapeCasts_S16x2048x8x64_S32768x512) bitsLt_bf16_f32

theorem logits_at (b : Fin 16) (h : Fin 8) (t u : Fin 2048) :
    logits q qr ck kr (ix4 b h t u) = ((∑ x : Fin 256, ck (ix3 b u x) * q (ix4 b t h x)) + ∑ x : Fin 32, kr (ix3 b u x) * qr (ix4 b t h x)) * kap := by
  pointwise [logits]
  rfl

theorem masked_at (lg : FVec Ideal S16x8x2048x2048 .f32) (b : Fin 16) (h : Fin 8) (t u : Fin 2048) :
    masked lg (ix4 b h t u) = if u.val ≤ t.val then lg (ix4 b h t u) else ⊥ := by
  have e := sle_nat u.val t.val (by omega) (by omega)
  pointwise [masked]
  rw [e]
  change Scalar.select _ _ (Ideal.ofBits .f32 0xFF800000#32) = _
  rw [bot_bits]
  unfold Scalar.select
  split_ifs <;> first | rfl | simp_all

theorem rowTop_at (ms : FVec Ideal S16x8x2048x2048 .f32) (b : Fin 16) (h : Fin 8) (t : Fin 2048) :
    rowTop ms (ix3 b h t) = Finset.univ.sup fun u : Fin 2048 => ms (ix4 b h t u) := by
  unfold rowTop
  exact row_max ms _ _ _ b h t bot_bits

theorem lowest_at (i : S16x8x2048.Idx) : lowest i = (⊥ : EReal) := bot_bits

theorem largest_at (ms : FVec Ideal S16x8x2048x2048 .f32) (b : Fin 16) (h : Fin 8) (t : Fin 2048) :
    largest ms (ix3 b h t) = Finset.univ.sup fun u : Fin 2048 => ms (ix4 b h t u) := by
  unfold largest
  rw [max_at, rowTop_at, lowest_at]
  exact bot_sup_eq _

theorem exps_at (ms : FVec Ideal S16x8x2048x2048 .f32) (mx : FVec Ideal S16x8x2048 .f32) (b : Fin 16) (h : Fin 8) (t u : Fin 2048) :
    exps ms mx (ix4 b h t u) = Ideal.exp (ms (ix4 b h t u) - mx (ix3 b h t)) := by
  pointwise [exps]

theorem weights_at (ex : FVec Ideal S16x8x2048x2048 .f32) (b : Fin 16) (h : Fin 8) (t u : Fin 2048) :
    weights ex (ix4 b h t u) = Ideal.div (ex (ix4 b h t u)) (∑ u : Fin 2048, ex (ix4 b h t u)) := by
  pointwise [weights]

theorem project_at (pr : FVec Ideal S16x8x2048x2048 .f32) (g : Fin 32768) (k : Fin 512) :
    project ck w pr (ix2 g k) = ∑ x : Fin 256, w (ix3 x ⟨k.val / 64, by omega⟩ ⟨k.val % 64, by omega⟩) *
      ∑ u : Fin 2048, ck (ix3 ⟨g.val / 2048, by omega⟩ u x) * pr (ix4 ⟨g.val / 2048, by omega⟩ ⟨k.val / 64, by omega⟩ ⟨g.val % 2048, by omega⟩ u) := by
  pointwise [project]

end

variable (m : (ℓ : Loc nD τ sig) → Buf (Elt Ideal) ℓ) (c : Dev nD)

theorem res_eq : Value.res_out0 m c = project (m ((c.tc : Thread nD τ).loc main_arg2)) (m ((c.tc : Thread nD τ).loc main_arg4))
    (weights (exps (masked (logits (m ((c.tc : Thread nD τ).loc main_arg0)) (m ((c.tc : Thread nD τ).loc main_arg1)) (m ((c.tc : Thread nD τ).loc main_arg2)) (m ((c.tc : Thread nD τ).loc main_arg3))))
      (largest (masked (logits (m ((c.tc : Thread nD τ).loc main_arg0)) (m ((c.tc : Thread nD τ).loc main_arg1)) (m ((c.tc : Thread nD τ).loc main_arg2)) (m ((c.tc : Thread nD τ).loc main_arg3))))))) := by
  unfold Value.res_out0 Value.res_main_v31
  rfl

end Cert.ReferenceIdeal.Attn

end
-- ==== Proof.Equal.lean ====
/- The kernel's result and the reference's, equal element by element where queries, latents and rotary keys are finite. -/
module

public import proofs.«01_k».proof.Proof.Host
public import proofs.«01_k».proof.Proof.Ref

@[expose] public section

set_option maxRecDepth 16384

noncomputable section

namespace Cert.KernelIdeal.Flash

open Idealize.ShloMosaic Idealize.ShloMosaic.TcCoe Idealize.SL.Sem
open Cert.KernelIdeal Cert.KernelIdeal.Gen

/-- A finite extended real. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {n : ℕ} {f : Fin n → EReal} (h : ∀ i, IsReal (f i)) : IsReal (∑ i, f i) := by
  choose r hr using h
  exact ⟨∑ i, r i, by rw [Softmax.coe_sum]; exact Finset.sum_congr rfl fun i _ => hr i⟩

theorem IsReal.ne_top {x : EReal} : IsReal x → x ≠ ⊤ := by
  rintro ⟨a, rfl⟩
  exact EReal.coe_ne_top a

theorem IsReal.ne_bot {x : EReal} : IsReal x → x ≠ ⊥ := by
  rintro ⟨a, rfl⟩
  exact EReal.coe_ne_bot a

theorem IsReal.toReal {x : EReal} : IsReal x → x = (x.toReal : EReal) := by
  rintro ⟨a, rfl⟩
  rfl

/-- A sum over packed columns, part by part. -/
theorem sum_packed (f : Fin 384 → EReal) :
    ∑ d, f d = (∑ x : Fin 256, f ⟨x.val, by omega⟩) + (∑ x : Fin 32, f ⟨256 + x.val, by omega⟩) + ∑ x : Fin 96, f ⟨288 + x.val, by omega⟩ := by
  have h := Fin.sum_univ_add (a := 288) (b := 96) (fun i : Fin (288 + 96) => f ⟨i.val, by omega⟩)
  have h' := Fin.sum_univ_add (a := 256) (b := 32) (fun i : Fin (256 + 32) => f ⟨i.val, by omega⟩)
  refine (show ∑ d, f d = ∑ i : Fin (288 + 96), f ⟨i.val, by omega⟩ from rfl).trans (h.trans ?_)
  refine congrArg₂ _ ?_ rfl
  exact h'

/-- The score of key u for query g of head h, masked. -/
def attScore (q : FVec Ideal S16x2048x8x256 .f32) (qr : FVec Ideal S16x2048x8x32 .f32) (ck : FVec Ideal S16x2048x256 .f32)
    (kr : FVec Ideal S16x2048x32 .f32) (b : Fin 16) (h : Fin 8) (t : Fin 2048) (u : ℕ) : EReal :=
  if u ≤ t.val then ((∑ x : Fin 256, q (ix4 b t h x) * ck (ix3 b ⟨u % 2048, Nat.mod_lt _ (by norm_num)⟩ x)) +
    ∑ x : Fin 32, qr (ix4 b t h x) * kr (ix3 b ⟨u % 2048, Nat.mod_lt _ (by norm_num)⟩ x)) * kap else ⊥

section

variable (q : FVec Ideal S16x2048x8x256 .f32) (qr : FVec Ideal S16x2048x8x32 .f32) (ck : FVec Ideal S16x2048x256 .f32)
  (kr : FVec Ideal S16x2048x32 .f32)

theorem packed_dot (h : Fin 8) (g : Fin 32768) (b : Fin 16) (hb : b.val = g.val / 2048) (t : Fin 2048) (ht : t.val = g.val % 2048) (u : Fin 2048) :
    ∑ d : Fin 384, packQ q qr (ix3 h g d) * packK ck kr (ix3 b u d) =
      (∑ x : Fin 256, q (ix4 b t h x) * ck (ix3 b u x)) + ∑ x : Fin 32, qr (ix4 b t h x) * kr (ix3 b u x) := by
  have pb : g.val / 2048 < 16 := by omega
  have pt : g.val % 2048 < 2048 := by omega
  obtain rfl : b = ⟨g.val / 2048, pb⟩ := Fin.ext hb
  obtain rfl : t = ⟨g.val % 2048, pt⟩ := Fin.ext ht
  rw [sum_packed]
  have z : ∑ x : Fin 96, packQ q qr (ix3 h g ⟨288 + x.val, by omega⟩) * packK ck kr (ix3 ⟨g.val / 2048, by omega⟩ u ⟨288 + x.val, by omega⟩) = 0 := by
    refine Finset.sum_eq_zero fun x _ => ?_
    rw [packQ_at, dif_neg (by simp only [not_lt]; omega), dif_neg (by simp only [not_lt]; omega), zero_mul]
  rw [z, add_zero]
  refine congrArg₂ _ (Finset.sum_congr rfl fun x _ => ?_) (Finset.sum_congr rfl fun x _ => ?_)
  · rw [packQ_at, packK_at, dif_pos x.isLt, dif_pos x.isLt]
  · have n : ¬ 256 + x.val < 256 := by omega
    have y : 256 + x.val - 256 < 32 := by omega
    rw [packQ_at, packK_at, dif_neg n, dif_pos y, dif_neg n, dif_pos y]
    refine congrArg₂ _ (congrArg _ ?_) (congrArg _ ?_)
    · congr 1
      exact Fin.ext (Nat.add_sub_cancel_left _ _)
    · congr 1
      exact Fin.ext (Nat.add_sub_cancel_left _ _)

variable (hq : ∀ i, IsReal (q i)) (hqr : ∀ i, IsReal (qr i)) (hck : ∀ i, IsReal (ck i)) (hkr : ∀ i, IsReal (kr i))

include hq hqr hck hkr

theorem attScore_real (b : Fin 16) (h : Fin 8) (t : Fin 2048) (u : ℕ) (hu : u ≤ t.val) : IsReal (attScore q qr ck kr b h t u) := by
  unfold attScore
  rw [if_pos hu]
  exact ((IsReal.sum fun x => (hq _).mul (hck _)).add (IsReal.sum fun x => (hqr _).mul (hkr _))).mul kap_real

theorem attScore_ne_top (b : Fin 16) (h : Fin 8) (t : Fin 2048) (u : ℕ) : attScore q qr ck kr b h t u ≠ ⊤ := by
  by_cases hu : u ≤ t.val
  · exact (attScore_real q qr ck kr hq hqr hck hkr b h t u hu).ne_top
  · unfold attScore
    rw [if_neg hu]
    exact bot_ne_top

end

variable (m : (ℓ : Loc nD τ sig) → Buf (Elt Ideal) ℓ) (c : Dev nD)

/-- The block's scores are the masked scores of its rows. -/
theorem score_eq (p : Fin cfg0.N) (h : Fin 8) (r : Fin 128) (b : Fin 16) (hb : b.val = p.val / 16) (t : Fin 2048) (ht : t.val = 128 * (p.val % 16) + r.val) (u : ℕ) :
    score (qOf (iblk m c 0 p)) (iblk m c 1 p) (p.val % 16) ⟨128 * h.val + r.val, by omega⟩ u = attScore (aQ m c) (aQr m c) (aC m c) (aKr m c) b h t u := by
  have hp := lt_points p
  have pb : p.val / 16 < 16 := by omega
  obtain rfl : b = ⟨p.val / 16, pb⟩ := Fin.ext hb
  have e1 : (128 * h.val + r.val) / 128 = h.val := by omega
  have e2 : (128 * h.val + r.val) % 128 = r.val := by omega
  unfold score attScore
  rw [ht, ← packed_dot _ _ _ _ h ⟨128 * p.val + r.val, by omega⟩ _ (by simp only; omega) t (by simp only; omega)]
  simp only [pay18_at, blk1_at, e1, e2, Fin.eta]
  simp only [blk0_at]

variable (hq : ∀ i, IsReal (aQ m c i)) (hqr : ∀ i, IsReal (aQr m c i)) (hck : ∀ i, IsReal (aC m c i)) (hkr : ∀ i, IsReal (aKr m c i))

include hq hqr hck hkr

/-- The kernel's result, element by element. -/
theorem result_at (g : Fin 32768) (k : Fin 512) :
    result m c (ix2 g k) = ∑ x : Fin 256,
      mix (attScore (aQ m c) (aQr m c) (aC m c) (aKr m c) ⟨g.val / 2048, by omega⟩ ⟨k.val / 64, by omega⟩ ⟨g.val % 2048, by omega⟩)
        (fun u x => (aC m c (ix3 ⟨g.val / 2048, by omega⟩ ⟨u % 2048, Nat.mod_lt _ (by norm_num)⟩ x)).toReal) x *
      aW m c (ix3 x ⟨k.val / 64, by omega⟩ ⟨k.val % 64, by omega⟩) := by
  have hg := g.isLt
  have hk := k.isLt
  unfold result blockAt
  refine Finset.sum_congr rfl fun x _ => ?_
  have es := score_eq m c ⟨g.val / 128, by show _ < 256; omega⟩ ⟨k.val / 64, by omega⟩ ⟨g.val % 128, by omega⟩ ⟨g.val / 2048, by omega⟩ (by simp only; omega)
    ⟨g.val % 2048, by omega⟩ (by simp only; omega)
  refine congrArg₂ _ ?_ ?_
  · refine (quot_at _ _ _ (by omega) _ (fun u x => (aC m c (ix3 ⟨g.val / 2048, by omega⟩ ⟨u % 2048, Nat.mod_lt _ (by norm_num)⟩ x)).toReal) ?_ ?_ ?_ x).trans ?_
    · intro u x
      rw [blk1_at, packK_at, dif_pos (show (latAt x).val < 256 from x.isLt)]
      refine Eq.trans ?_ (hck _).toReal
      refine congrArg _ ?_
      congr 1
      exact Fin.ext (by simp only; show g.val / 128 / 16 = _; omega)
    · intro u
      exact fun e => attScore_ne_top _ _ _ _ hq hqr hck hkr _ _ _ u ((es u).symm.trans e)
    · exact fun e => (attScore_real _ _ _ _ hq hqr hck hkr _ _ _ 0 (Nat.zero_le _)).ne_bot ((es 0).symm.trans e)
    · exact congrArg (fun w => mix w _ x) (funext es)
  · rw [blk2_at, packW_at]
    rfl

end Cert.KernelIdeal.Flash

end
-- ==== Proof.Same.lean ====
/- The one equation: where the arguments are finite, what the kernel leaves is what the reference computes. -/
module

public import proofs.«01_k».proof.Defs
public import proofs.«01_k».proof.Proof.Equal

@[expose] public section

set_option maxRecDepth 16384

noncomputable section

namespace Cert.KernelIdeal.Flash

open Idealize.ShloMosaic Idealize.ShloMosaic.TcCoe Idealize.SL.Sem
open Cert.KernelIdeal Cert.KernelIdeal.Gen

/-- The shape relations that the precondition states. -/
theorem finite_facts : Cert.Pre_finite.Facts := ⟨by decide, by decide, by decide, by decide⟩

theorem top_bits : Ideal.ofBits .f32 0x7F800000#32 = (⊤ : EReal) := by
  simp [Ideal.ofBits, Ideal.ieee]

/-- An extended real whose absolute value is below infinity is finite. -/
theorem real_of_lt {x : EReal} (h : Ideal.cmp .olt (max x (-x)) (Ideal.ofBits .f32 0x7F800000#32) = 1#1) : IsReal x := by
  rw [top_bits] at h
  have h' : max x (-x) < (⊤ : EReal) := by
    by_contra n
    simp [Ideal.cmp, n] at h
  rw [max_lt_iff] at h'
  induction x with
  | bot => simp at h'
  | top => simp at h'
  | coe a => exact ⟨a, rfl⟩

/-- The precondition of one array, element by element. -/
theorem real_of_ones {s : Shape} (x : FVec Ideal s .f32) (y : FVec Ideal s .f32) (hy : ∀ i, y i = Ideal.ofBits .f32 0x7F800000#32)
    (h : cmpf .olt (Host.absf x) y = fun _ => 1#1) (i : s.Idx) : IsReal (x i) := by
  have e := congrFun h i
  refine real_of_lt ?_
  rw [← hy i]
  exact e

section

open Cert.ReferenceIdeal.Attn

variable (q : FVec Ideal S16x2048x8x256 .f32) (qr : FVec Ideal S16x2048x8x32 .f32) (ck : FVec Ideal S16x2048x256 .f32)
  (kr : FVec Ideal S16x2048x32 .f32)

/-- The reference's masked scores. -/
theorem masked_score (b : Fin 16) (h : Fin 8) (t u : Fin 2048) :
    masked (logits q qr ck kr) (ix4 b h t u) = attScore q qr ck kr b h t u := by
  rw [masked_at, logits_at]
  unfold attScore
  have e : (⟨u.val % 2048, Nat.mod_lt _ (by norm_num)⟩ : Fin 2048) = u := Fin.ext (Nat.mod_eq_of_lt u.isLt)
  rw [e]
  simp only [mul_comm (ck _), mul_comm (kr _)]

/-- The reference's softmax weights. -/
theorem weight_at (b : Fin 16) (h : Fin 8) (t u : Fin 2048) :
    weights (exps (masked (logits q qr ck kr)) (largest (masked (logits q qr ck kr)))) (ix4 b h t u) =
      Ideal.div (Ideal.exp (attScore q qr ck kr b h t u - Finset.univ.sup fun u : Fin 2048 => attScore q qr ck kr b h t u))
        (∑ u : Fin 2048, Ideal.exp (attScore q qr ck kr b h t u - Finset.univ.sup fun u : Fin 2048 => attScore q qr ck kr b h t u)) := by
  simp only [weights_at, exps_at, largest_at, masked_score]

variable (w : FVec Ideal S256x8x64 .f32) (hck : ∀ i, IsReal (ck i))

include hck in
/-- The reference's result, element by element. -/
theorem reference_at (g : Fin 32768) (k : Fin 512) :
    project ck w (weights (exps (masked (logits q qr ck kr)) (largest (masked (logits q qr ck kr))))) (ix2 g k) = ∑ x : Fin 256,
      mix (attScore q qr ck kr ⟨g.val / 2048, by omega⟩ ⟨k.val / 64, by omega⟩ ⟨g.val % 2048, by omega⟩)
        (fun u x => (ck (ix3 ⟨g.val / 2048, by omega⟩ ⟨u % 2048, Nat.mod_lt _ (by norm_num)⟩ x)).toReal) x *
      w (ix3 x ⟨k.val / 64, by omega⟩ ⟨k.val % 64, by omega⟩) := by
  rw [project_at]
  refine Finset.sum_congr rfl fun x _ => ?_
  rw [mul_comm]
  refine congrArg₂ (fun a b : EReal => a * b) ?_ rfl
  unfold mix
  refine Finset.sum_congr rfl fun u _ => ?_
  rw [weight_at, mul_comm]
  refine congrArg₂ (fun a b : EReal => a * b) rfl ?_
  refine (hck _).toReal.trans ?_
  have e : (⟨u.val % 2048, Nat.mod_lt _ (by norm_num)⟩ : Fin 2048) = u := Fin.ext (Nat.mod_eq_of_lt u.isLt)
  exact congrArg (fun v : Fin 2048 => ((ck (ix3 ⟨g.val / 2048, by omega⟩ v x)).toReal : EReal)) e.symm

end

/-- The kernel's result is the reference's, from the same arguments. -/
theorem same (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (hq : ∀ i, IsReal (aQ m c i)) (hqr : ∀ i, IsReal (aQr m c i)) (hck : ∀ i, IsReal (aC m c i)) (hkr : ∀ i, IsReal (aKr m c i))
    (h0 : m' ((c.tc : Thread Cert.ReferenceIdeal.nD Cert.ReferenceIdeal.τ).loc Cert.ReferenceIdeal.main_arg0) = aQ m c)
    (h1 : m' ((c.tc : Thread Cert.ReferenceIdeal.nD Cert.ReferenceIdeal.τ).loc Cert.ReferenceIdeal.main_arg1) = aQr m c)
    (h2 : m' ((c.tc : Thread Cert.ReferenceIdeal.nD Cert.ReferenceIdeal.τ).loc Cert.ReferenceIdeal.main_arg2) = aC m c)
    (h3 : m' ((c.tc : Thread Cert.ReferenceIdeal.nD Cert.ReferenceIdeal.τ).loc Cert.ReferenceIdeal.main_arg3) = aKr m c)
    (h4 : m' ((c.tc : Thread Cert.ReferenceIdeal.nD Cert.ReferenceIdeal.τ).loc Cert.ReferenceIdeal.main_arg4) = aW m c) :
    (dats m 0 c).arrAt 3 cfg0.N = Cert.ReferenceIdeal.Value.res_out0 m' c := by
  rw [final, Cert.ReferenceIdeal.Attn.res_eq, h0, h1, h2, h3, h4]
  funext y
  have ey : y = ix2 ⟨(y 0).val, (y 0).isLt⟩ ⟨(y 1).val, (y 1).isLt⟩ := by funext a; fin_cases a <;> rfl
  rw [ey]
  exact (result_at m c hq hqr hck hkr _ _).trans (reference_at (aQ m c) (aQr m c) (aC m c) (aKr m c) (aW m c) hck _ _).symm

end Cert.KernelIdeal.Flash

end
-- ==== Proof.ProjRow.lean ====
/- One token's projections over the extended reals: from the weights as they are given, from the weights as they are
   packed, and that the two agree. -/
module

public import Idealize.ShloMosaic.Lib.Pointwise

@[expose] public section

set_option maxRecDepth 16384

noncomputable section

namespace Cert.Proj

open Idealize.ShloMosaic

/-- A row scaled to unit mean square, times its gains. -/
def nrm {n : ℕ} (count : BitVec 32) (g v : Fin n → EReal) (i : Fin n) : EReal :=
  v i * Ideal.rsqrt (Ideal.div (∑ j, v j * v j) (Ideal.ofBits .f32 count) + Ideal.ofBits .f32 0x358637BD#32) * g i

/-- A row times the columns of a matrix. -/
def mv {n k : ℕ} (v : Fin n → EReal) (w : Fin n → Fin k → EReal) (j : Fin k) : EReal := ∑ d, v d * w d j

/-- Rotation of the two halves of 32 entries by the angles with cosines c and sines s. -/
def rot (c s : Fin 16 → EReal) (v : Fin 32 → EReal) (d : Fin 32) : EReal :=
  if h : d.val < 16 then v ⟨d.val, by omega⟩ * c ⟨d.val, h⟩ - v ⟨16 + d.val, by omega⟩ * s ⟨d.val, h⟩
  else v ⟨16 + (d.val - 16), by omega⟩ * c ⟨d.val - 16, by omega⟩ + v ⟨d.val - 16, by omega⟩ * s ⟨d.val - 16, by omega⟩

theorem mv_zero {n k : ℕ} (v : Fin n → EReal) (w : Fin n → Fin k → EReal) (j : Fin k) (h : ∀ d, w d j = 0) : mv v w j = 0 := by
  unfold mv
  exact Finset.sum_eq_zero fun d _ => by rw [h d, mul_zero]

theorem mv_col {n k l : ℕ} (v : Fin n → EReal) (w : Fin n → Fin k → EReal) (u : Fin n → Fin l → EReal) (j : Fin k) (i : Fin l)
    (h : ∀ d, w d j = u d i) : mv v w j = mv v u i := by
  unfold mv
  exact Finset.sum_congr rfl fun d _ => by rw [h d]

/-! ## From the weights as they are given -/

section given

variable (xn : Fin 1024 → EReal) (w : Fin 1024 → Fin 2024 → EReal) (gq : Fin 384 → EReal) (uq : Fin 384 → Fin 768 → EReal)
  (gkv : Fin 256 → EReal) (uk : Fin 256 → Fin 8 → Fin 64 → EReal) (c s : Fin 16 → EReal)

def ckv (k : Fin 256) : EReal := nrm 0x43800000#32 gkv (fun k => mv xn w ⟨384 + k.val, by omega⟩) k

def kr (d : Fin 32) : EReal := rot c s (fun d => mv xn w ⟨640 + d.val, by omega⟩) d

def ki (d : Fin 64) : EReal :=
  if h : d.val < 32 then rot c s (fun d => mv xn w ⟨1952 + d.val, by omega⟩) ⟨d.val, h⟩ else mv xn w ⟨1952 + d.val, by omega⟩

def qi (h : Fin 8) (d : Fin 64) : EReal :=
  if hd : d.val < 32 then rot c s (fun d => mv xn w ⟨1440 + (h.val * 64 + d.val), by omega⟩) ⟨d.val, hd⟩
  else mv xn w ⟨1440 + (h.val * 64 + d.val), by omega⟩

def cq (k : Fin 384) : EReal := nrm 0x43C00000#32 gq (fun k => mv xn w ⟨k.val, by omega⟩) k

def q (h : Fin 8) (d : Fin 96) : EReal := mv (cq xn w gq) uq ⟨h.val * 96 + d.val, by omega⟩

def qlat (h : Fin 8) (k : Fin 256) : EReal := ∑ n : Fin 64, uk k h n * q xn w gq uq h ⟨n.val, by omega⟩

def qr (h : Fin 8) (d : Fin 32) : EReal := rot c s (fun d => q xn w gq uq h ⟨64 + d.val, by omega⟩) d

def kcat (j : Fin 384) : EReal :=
  if h : j.val < 256 then ckv xn w gkv ⟨j.val, h⟩ else if h' : j.val - 256 < 32 then kr xn w c s ⟨j.val - 256, h'⟩ else 0

def qcat (h : Fin 8) (j : Fin 384) : EReal :=
  if hj : j.val < 256 then qlat xn w gq uq uk h ⟨j.val, hj⟩ else if hj' : j.val - 256 < 32 then qr xn w gq uq c s h ⟨j.val - 256, hj'⟩ else 0

end given

/-! ## From the weights as they are packed -/

section packed

variable (xn : Fin 1024 → EReal) (W : Fin 1024 → Fin 3072 → EReal) (gq : Fin 384 → EReal) (U : Fin 384 → Fin 2560 → EReal)
  (gkv : Fin 256 → EReal) (K : Fin 4 → Fin 128 → Fin 512 → EReal) (ca sa cb sb : Fin 128 → EReal)

def pckv (k : Fin 256) : EReal := nrm 0x43800000#32 gkv (fun k => mv xn W ⟨384 + k.val, by omega⟩) k

def pkr (d : Fin 128) : EReal := mv xn W ⟨2432 + d.val, by omega⟩ * ca d + mv xn W ⟨2560 + d.val, by omega⟩ * sa d

def pki (d : Fin 128) : EReal := mv xn W ⟨2688 + d.val, by omega⟩ * ca d + mv xn W ⟨2816 + d.val, by omega⟩ * sa d

def pqi (h : Fin 8) (d : Fin 64) : EReal :=
  mv xn W ⟨1408 + (64 * h.val + d.val), by omega⟩ * cb ⟨64 * (h.val % 2) + d.val, by omega⟩ +
    mv xn W ⟨1920 + (64 * h.val + d.val), by omega⟩ * sb ⟨64 * (h.val % 2) + d.val, by omega⟩

def pqb (h : Fin 8) (d : Fin 64) : EReal := mv xn W ⟨640 + (64 * h.val + d.val), by omega⟩

def pcq (k : Fin 384) : EReal := nrm 0x43C00000#32 gq (fun k => mv xn W ⟨k.val, by omega⟩) k

def pqlat (h : Fin 8) (k : Fin 256) : EReal :=
  ∑ n : Fin 128, mv (pcq xn W gq) U ⟨128 * (h.val / 2) + n.val, by omega⟩ * K ⟨h.val / 2, by omega⟩ n ⟨256 * (h.val % 2) + k.val, by omega⟩

def pqr (h : Fin 8) (d : Fin 128) : EReal :=
  mv (pcq xn W gq) U ⟨512 + 128 * h.val + d.val, by omega⟩ * ca d + mv (pcq xn W gq) U ⟨1536 + 128 * h.val + d.val, by omega⟩ * sa d

def pkcat (j : Fin 384) : EReal := if h : j.val < 256 then pckv xn W gkv ⟨j.val, h⟩ else pkr xn W ca sa ⟨j.val - 256, by omega⟩

def pqcat (h : Fin 8) (j : Fin 384) : EReal :=
  if hj : j.val < 256 then pqlat xn W gq U K h ⟨j.val, hj⟩ else pqr xn W gq U ca sa h ⟨j.val - 256, by omega⟩

end packed

/-! ## How the weights are packed -/

/-- The rotation tables: cosines and signed sines of the rotated entries, ones and zeros of the others. -/
structure Tables (c s : Fin 16 → EReal) (ca sa cb sb : Fin 128 → EReal) : Prop where
  ca_lo : ∀ d : Fin 16, ca ⟨d.val, by omega⟩ = c d
  ca_hi : ∀ d : Fin 16, ca ⟨16 + d.val, by omega⟩ = c d
  ca_one : ∀ d : Fin 96, ca ⟨32 + d.val, by omega⟩ = 1
  sa_lo : ∀ d : Fin 16, sa ⟨d.val, by omega⟩ = -s d
  sa_hi : ∀ d : Fin 16, sa ⟨16 + d.val, by omega⟩ = s d
  sa_zero : ∀ d : Fin 96, sa ⟨32 + d.val, by omega⟩ = 0
  cb_lo : ∀ (p : Fin 2) (d : Fin 16), cb ⟨64 * p.val + d.val, by omega⟩ = c d
  cb_hi : ∀ (p : Fin 2) (d : Fin 16), cb ⟨64 * p.val + (16 + d.val), by omega⟩ = c d
  cb_one : ∀ (p : Fin 2) (d : Fin 32), cb ⟨64 * p.val + (32 + d.val), by omega⟩ = 1
  sb_lo : ∀ (p : Fin 2) (d : Fin 16), sb ⟨64 * p.val + d.val, by omega⟩ = -s d
  sb_hi : ∀ (p : Fin 2) (d : Fin 16), sb ⟨64 * p.val + (16 + d.val), by omega⟩ = s d
  sb_zero : ∀ (p : Fin 2) (d : Fin 32), sb ⟨64 * p.val + (32 + d.val), by omega⟩ = 0

/-- The columns of the packed input weights. -/
structure PackedIn (w : Fin 1024 → Fin 2024 → EReal) (W : Fin 1024 → Fin 3072 → EReal) : Prop where
  low : ∀ (d : Fin 1024) (j : Fin 640), W d ⟨j.val, by omega⟩ = w d ⟨j.val, by omega⟩
  mid : ∀ (d : Fin 1024) (j : Fin 1280), W d ⟨640 + j.val, by omega⟩ = w d ⟨672 + j.val, by omega⟩
  qi_lo : ∀ (d : Fin 1024) (h : Fin 8) (i : Fin 16), W d ⟨1920 + (64 * h.val + i.val), by omega⟩ = w d ⟨1440 + (h.val * 64 + (16 + i.val)), by omega⟩
  qi_hi : ∀ (d : Fin 1024) (h : Fin 8) (i : Fin 16), W d ⟨1920 + (64 * h.val + (16 + i.val)), by omega⟩ = w d ⟨1440 + (h.val * 64 + i.val), by omega⟩
  qi_zero : ∀ (d : Fin 1024) (h : Fin 8) (i : Fin 32), W d ⟨1920 + (64 * h.val + (32 + i.val)), by omega⟩ = 0
  kr : ∀ (d : Fin 1024) (i : Fin 32), W d ⟨2432 + i.val, by omega⟩ = w d ⟨640 + i.val, by omega⟩
  kr_zero : ∀ (d : Fin 1024) (i : Fin 96), W d ⟨2432 + (32 + i.val), by omega⟩ = 0
  krp_lo : ∀ (d : Fin 1024) (i : Fin 16), W d ⟨2560 + i.val, by omega⟩ = w d ⟨640 + (16 + i.val), by omega⟩
  krp_hi : ∀ (d : Fin 1024) (i : Fin 16), W d ⟨2560 + (16 + i.val), by omega⟩ = w d ⟨640 + i.val, by omega⟩
  ki : ∀ (d : Fin 1024) (i : Fin 64), W d ⟨2688 + i.val, by omega⟩ = w d ⟨1952 + i.val, by omega⟩
  kip_lo : ∀ (d : Fin 1024) (i : Fin 16), W d ⟨2816 + i.val, by omega⟩ = w d ⟨1952 + (16 + i.val), by omega⟩
  kip_hi : ∀ (d : Fin 1024) (i : Fin 16), W d ⟨2816 + (16 + i.val), by omega⟩ = w d ⟨1952 + i.val, by omega⟩
  wi : ∀ (d : Fin 1024) (i : Fin 8), W d ⟨2944 + i.val, by omega⟩ = w d ⟨2016 + i.val, by omega⟩

/-- The columns of the packed query weights. -/
structure PackedQ (uq : Fin 384 → Fin 768 → EReal) (U : Fin 384 → Fin 2560 → EReal) : Prop where
  nope : ∀ (d : Fin 384) (h : Fin 8) (i : Fin 64), U d ⟨64 * h.val + i.val, by omega⟩ = uq d ⟨h.val * 96 + i.val, by omega⟩
  rope : ∀ (d : Fin 384) (h : Fin 8) (i : Fin 32), U d ⟨512 + 128 * h.val + i.val, by omega⟩ = uq d ⟨h.val * 96 + (64 + i.val), by omega⟩
  rope_zero : ∀ (d : Fin 384) (h : Fin 8) (i : Fin 96), U d ⟨512 + 128 * h.val + (32 + i.val), by omega⟩ = 0
  swap_lo : ∀ (d : Fin 384) (h : Fin 8) (i : Fin 16), U d ⟨1536 + 128 * h.val + i.val, by omega⟩ = uq d ⟨h.val * 96 + (64 + (16 + i.val)), by omega⟩
  swap_hi : ∀ (d : Fin 384) (h : Fin 8) (i : Fin 16), U d ⟨1536 + 128 * h.val + (16 + i.val), by omega⟩ = uq d ⟨h.val * 96 + (64 + i.val), by omega⟩

/-- The packed latent weights: two heads to a block, each on its own rows and columns. -/
structure PackedK (uk : Fin 256 → Fin 8 → Fin 64 → EReal) (K : Fin 4 → Fin 128 → Fin 512 → EReal) : Prop where
  even : ∀ (p : Fin 4) (n : Fin 64) (k : Fin 256), K p ⟨n.val, by omega⟩ ⟨k.val, by omega⟩ = uk k ⟨2 * p.val, by omega⟩ n
  odd : ∀ (p : Fin 4) (n : Fin 64) (k : Fin 256), K p ⟨64 + n.val, by omega⟩ ⟨256 + k.val, by omega⟩ = uk k ⟨2 * p.val + 1, by omega⟩ n
  even_zero : ∀ (p : Fin 4) (n : Fin 64) (k : Fin 256), K p ⟨64 + n.val, by omega⟩ ⟨k.val, by omega⟩ = 0
  odd_zero : ∀ (p : Fin 4) (n : Fin 64) (k : Fin 256), K p ⟨n.val, by omega⟩ ⟨256 + k.val, by omega⟩ = 0

section agree

variable {xn : Fin 1024 → EReal} {w : Fin 1024 → Fin 2024 → EReal} {W : Fin 1024 → Fin 3072 → EReal} {gq : Fin 384 → EReal}
  {uq : Fin 384 → Fin 768 → EReal} {U : Fin 384 → Fin 2560 → EReal} {gkv : Fin 256 → EReal} {uk : Fin 256 → Fin 8 → Fin 64 → EReal}
  {K : Fin 4 → Fin 128 → Fin 512 → EReal} {c s : Fin 16 → EReal} {ca sa cb sb : Fin 128 → EReal}

theorem fin_lo {n : ℕ} (d : Fin n) (k : ℕ) (h : d.val < k) (hk : k ≤ n) : ∃ e : Fin k, d = ⟨e.val, lt_of_lt_of_le e.isLt hk⟩ := ⟨⟨d.val, h⟩, rfl⟩

theorem fin_hi {n : ℕ} (d : Fin n) (k l : ℕ) (h : k ≤ d.val) (hk : k + l = n) : ∃ e : Fin l, d = ⟨k + e.val, lt_of_lt_of_le (Nat.add_lt_add_left e.isLt k) hk.le⟩ :=
  ⟨⟨d.val - k, by omega⟩, Fin.ext (by dsimp only; omega)⟩

theorem rot_lo (v : Fin 32 → EReal) (e : Fin 16) : rot c s v ⟨e.val, by omega⟩ = v ⟨e.val, by omega⟩ * c e - v ⟨16 + e.val, by omega⟩ * s e := by
  unfold rot
  rw [dif_pos e.isLt]

theorem rot_hi (v : Fin 32 → EReal) (e : Fin 16) : rot c s v ⟨16 + e.val, by omega⟩ = v ⟨16 + e.val, by omega⟩ * c e + v ⟨e.val, by omega⟩ * s e := by
  unfold rot
  rw [dif_neg (by simp)]
  have : 16 + e.val - 16 = e.val := by omega
  simp only [this]

/-- Entry times cosine plus partner times signed sine is the rotation. -/
theorem rot_eq (v : Fin 32 → EReal) (a b ct st : Fin 32 → EReal)
    (ha : ∀ d, a d = v d)
    (hlo : ∀ e : Fin 16, b ⟨e.val, by omega⟩ = v ⟨16 + e.val, by omega⟩) (hhi : ∀ e : Fin 16, b ⟨16 + e.val, by omega⟩ = v ⟨e.val, by omega⟩)
    (clo : ∀ e : Fin 16, ct ⟨e.val, by omega⟩ = c e) (chi : ∀ e : Fin 16, ct ⟨16 + e.val, by omega⟩ = c e)
    (slo : ∀ e : Fin 16, st ⟨e.val, by omega⟩ = -s e) (shi : ∀ e : Fin 16, st ⟨16 + e.val, by omega⟩ = s e) (d : Fin 32) :
    a d * ct d + b d * st d = rot c s v d := by
  by_cases h : d.val < 16
  · obtain ⟨e, rfl⟩ := fin_lo d 16 h (by norm_num)
    rw [rot_lo, ha, hlo, clo, slo, sub_eq_add_neg, mul_neg]
  · obtain ⟨e, rfl⟩ := fin_hi d 16 16 (by omega) (by norm_num)
    rw [rot_hi, ha, hhi, chi, shi]

theorem ckv_eq (hW : PackedIn w W) (k : Fin 256) : pckv xn W gkv k = ckv xn w gkv k := by
  unfold pckv ckv
  congr 1
  funext k
  exact mv_col _ _ _ _ _ fun d => hW.low d ⟨384 + k.val, by omega⟩

theorem kr_eq (hW : PackedIn w W) (hT : Tables c s ca sa cb sb) (d : Fin 32) : pkr xn W ca sa ⟨d.val, by omega⟩ = kr xn w c s d :=
  rot_eq (fun d => mv xn w ⟨640 + d.val, by omega⟩) (fun d => mv xn W ⟨2432 + d.val, by omega⟩) (fun d => mv xn W ⟨2560 + d.val, by omega⟩)
    (fun d => ca ⟨d.val, by omega⟩) (fun d => sa ⟨d.val, by omega⟩)
    (fun d => mv_col _ _ _ _ _ fun e => hW.kr e d) (fun d => mv_col _ _ _ _ _ fun e => hW.krp_lo e d) (fun d => mv_col _ _ _ _ _ fun e => hW.krp_hi e d)
    hT.ca_lo hT.ca_hi hT.sa_lo hT.sa_hi d

theorem kr_zero (hW : PackedIn w W) (hT : Tables c s ca sa cb sb) (d : Fin 96) : pkr xn W ca sa ⟨32 + d.val, by omega⟩ = 0 := by
  unfold pkr
  rw [hT.sa_zero, mul_zero, add_zero, mv_zero _ _ _ fun e => hW.kr_zero e d, zero_mul]

theorem ki_eq (hW : PackedIn w W) (hT : Tables c s ca sa cb sb) (d : Fin 64) : pki xn W ca sa ⟨d.val, by omega⟩ = ki xn w c s d := by
  unfold ki
  by_cases h : d.val < 32
  · rw [dif_pos h]
    exact rot_eq (fun d => mv xn w ⟨1952 + d.val, by omega⟩) (fun d => mv xn W ⟨2688 + d.val, by omega⟩) (fun d => mv xn W ⟨2816 + d.val, by omega⟩)
      (fun d => ca ⟨d.val, by omega⟩) (fun d => sa ⟨d.val, by omega⟩)
      (fun d => mv_col _ _ _ _ _ fun e => hW.ki e ⟨d.val, by omega⟩) (fun d => mv_col _ _ _ _ _ fun e => hW.kip_lo e d) (fun d => mv_col _ _ _ _ _ fun e => hW.kip_hi e d)
      hT.ca_lo hT.ca_hi hT.sa_lo hT.sa_hi ⟨d.val, h⟩
  · rw [dif_neg h]
    obtain ⟨e, rfl⟩ := fin_hi d 32 32 (by omega) (by norm_num)
    unfold pki
    rw [hT.sa_zero ⟨e.val, by omega⟩, hT.ca_one ⟨e.val, by omega⟩, mul_zero, add_zero, mul_one]
    exact mv_col _ _ _ _ _ fun d => hW.ki d ⟨32 + e.val, by omega⟩

theorem kb_eq (hW : PackedIn w W) (k : Fin 128) : mv xn W ⟨1152 + k.val, by omega⟩ = mv xn w ⟨1184 + k.val, by omega⟩ :=
  mv_col _ _ _ _ _ fun d => (congrArg (W d) (Fin.ext (by dsimp only; omega))).trans ((hW.mid d ⟨512 + k.val, by omega⟩).trans (congrArg (w d) (Fin.ext (by dsimp only; omega))))

theorem vb_eq (hW : PackedIn w W) (k : Fin 128) : mv xn W ⟨1280 + k.val, by omega⟩ = mv xn w ⟨1312 + k.val, by omega⟩ :=
  mv_col _ _ _ _ _ fun d => (congrArg (W d) (Fin.ext (by dsimp only; omega))).trans ((hW.mid d ⟨640 + k.val, by omega⟩).trans (congrArg (w d) (Fin.ext (by dsimp only; omega))))

theorem qb_eq (hW : PackedIn w W) (h : Fin 8) (k : Fin 64) : pqb xn W h k = mv xn w ⟨672 + (h.val * 64 + k.val), by omega⟩ :=
  mv_col _ _ _ _ _ fun d => (hW.mid d ⟨64 * h.val + k.val, by omega⟩).trans (congrArg (w d) (Fin.ext (by dsimp only; omega)))

theorem wi_eq (hW : PackedIn w W) (h : Fin 8) : mv xn W ⟨2944 + h.val, by omega⟩ = mv xn w ⟨2016 + h.val, by omega⟩ :=
  mv_col _ _ _ _ _ fun d => hW.wi d h

theorem qi_mid (hW : PackedIn w W) (h : Fin 8) (k : Fin 64) : mv xn W ⟨1408 + (64 * h.val + k.val), by omega⟩ = mv xn w ⟨1440 + (h.val * 64 + k.val), by omega⟩ :=
  mv_col _ _ _ _ _ fun d => (congrArg (W d) (Fin.ext (by dsimp only; omega))).trans ((hW.mid d ⟨768 + (64 * h.val + k.val), by omega⟩).trans (congrArg (w d) (Fin.ext (by dsimp only; omega))))

theorem qi_eq (hW : PackedIn w W) (hT : Tables c s ca sa cb sb) (h : Fin 8) (d : Fin 64) : pqi xn W cb sb h d = qi xn w c s h d := by
  unfold qi
  by_cases hd : d.val < 32
  · rw [dif_pos hd]
    exact rot_eq (fun d => mv xn w ⟨1440 + (h.val * 64 + d.val), by omega⟩) (fun d => mv xn W ⟨1408 + (64 * h.val + d.val), by omega⟩)
      (fun d => mv xn W ⟨1920 + (64 * h.val + d.val), by omega⟩) (fun d => cb ⟨64 * (h.val % 2) + d.val, by omega⟩) (fun d => sb ⟨64 * (h.val % 2) + d.val, by omega⟩)
      (fun d => qi_mid hW h ⟨d.val, by omega⟩) (fun d => mv_col _ _ _ _ _ fun e => hW.qi_lo e h d) (fun d => mv_col _ _ _ _ _ fun e => hW.qi_hi e h d)
      (hT.cb_lo ⟨h.val % 2, by omega⟩) (hT.cb_hi ⟨h.val % 2, by omega⟩) (hT.sb_lo ⟨h.val % 2, by omega⟩) (hT.sb_hi ⟨h.val % 2, by omega⟩) ⟨d.val, hd⟩
  · rw [dif_neg hd]
    obtain ⟨e, rfl⟩ := fin_hi d 32 32 (by omega) (by norm_num)
    unfold pqi
    rw [hT.sb_zero ⟨h.val % 2, by omega⟩ e, hT.cb_one ⟨h.val % 2, by omega⟩ e, mul_zero, add_zero, mul_one]
    exact qi_mid hW h ⟨32 + e.val, by omega⟩

theorem cq_eq (hW : PackedIn w W) : pcq xn W gq = cq xn w gq := by
  funext k
  unfold pcq cq
  congr 1
  funext k
  exact mv_col _ _ _ _ _ fun d => hW.low d ⟨k.val, by omega⟩

theorem nope_eq (hW : PackedIn w W) (hQ : PackedQ uq U) (h : Fin 8) (n : Fin 64) :
    mv (pcq xn W gq) U ⟨64 * h.val + n.val, by omega⟩ = q xn w gq uq h ⟨n.val, by omega⟩ := by
  unfold q
  rw [cq_eq hW]
  exact mv_col _ _ _ _ _ fun d => hQ.nope d h n

/-- A sum over 128 is the sums over its halves. -/
theorem sum_halves (f : Fin 128 → EReal) : ∑ n, f n = (∑ n : Fin 64, f ⟨n.val, by omega⟩) + ∑ n : Fin 64, f ⟨64 + n.val, by omega⟩ :=
  Fin.sum_univ_add (a := 64) (b := 64) f

theorem qlat_even (hW : PackedIn w W) (hQ : PackedQ uq U) (hK : PackedK uk K) (p : Fin 4) (k : Fin 256) :
    (∑ n : Fin 128, mv (pcq xn W gq) U ⟨128 * p.val + n.val, by omega⟩ * K p n ⟨k.val, by omega⟩) = qlat xn w gq uq uk ⟨2 * p.val, by omega⟩ k := by
  rw [sum_halves]
  have z : (∑ n : Fin 64, mv (pcq xn W gq) U ⟨128 * p.val + (64 + n.val), by omega⟩ * K p ⟨64 + n.val, by omega⟩ ⟨k.val, by omega⟩) = 0 :=
    Finset.sum_eq_zero fun n _ => by rw [hK.even_zero, mul_zero]
  refine (congrArg₂ (fun a b : EReal => a + b) rfl z).trans ((add_zero _).trans ?_)
  unfold qlat
  refine Finset.sum_congr rfl fun n _ => ?_
  rw [hK.even, mul_comm]
  refine congrArg₂ (fun a b : EReal => a * b) rfl ?_
  exact (congrArg (mv _ _) (Fin.ext (by dsimp only; omega))).trans (nope_eq hW hQ ⟨2 * p.val, by omega⟩ n)

theorem qlat_odd (hW : PackedIn w W) (hQ : PackedQ uq U) (hK : PackedK uk K) (p : Fin 4) (k : Fin 256) :
    (∑ n : Fin 128, mv (pcq xn W gq) U ⟨128 * p.val + n.val, by omega⟩ * K p n ⟨256 + k.val, by omega⟩) = qlat xn w gq uq uk ⟨2 * p.val + 1, by omega⟩ k := by
  rw [sum_halves]
  have z : (∑ n : Fin 64, mv (pcq xn W gq) U ⟨128 * p.val + n.val, by omega⟩ * K p ⟨n.val, by omega⟩ ⟨256 + k.val, by omega⟩) = 0 :=
    Finset.sum_eq_zero fun n _ => by rw [hK.odd_zero, mul_zero]
  refine (congrArg₂ (fun a b : EReal => a + b) z rfl).trans ((zero_add _).trans ?_)
  unfold qlat
  refine Finset.sum_congr rfl fun n _ => ?_
  rw [hK.odd, mul_comm]
  refine congrArg₂ (fun a b : EReal => a * b) rfl ?_
  exact (congrArg (mv _ _) (Fin.ext (by dsimp only; omega))).trans (nope_eq hW hQ ⟨2 * p.val + 1, by omega⟩ n)

theorem qlat_eq (hW : PackedIn w W) (hQ : PackedQ uq U) (hK : PackedK uk K) (h : Fin 8) (k : Fin 256) : pqlat xn W gq U K h k = qlat xn w gq uq uk h k := by
  unfold pqlat
  rcases Nat.mod_two_eq_zero_or_one h.val with e | e
  · have e1 : (⟨256 * (h.val % 2) + k.val, by omega⟩ : Fin 512) = ⟨k.val, by omega⟩ := Fin.ext (by dsimp only; omega)
    rw [e1]
    refine (qlat_even hW hQ hK ⟨h.val / 2, by omega⟩ k).trans ?_
    congr 1
    exact Fin.ext (by dsimp only; omega)
  · have e1 : (⟨256 * (h.val % 2) + k.val, by omega⟩ : Fin 512) = ⟨256 + k.val, by omega⟩ := Fin.ext (by dsimp only; omega)
    rw [e1]
    refine (qlat_odd hW hQ hK ⟨h.val / 2, by omega⟩ k).trans ?_
    congr 1
    exact Fin.ext (by dsimp only; omega)

theorem qr_eq (hW : PackedIn w W) (hQ : PackedQ uq U) (hT : Tables c s ca sa cb sb) (h : Fin 8) (d : Fin 32) :
    pqr xn W gq U ca sa h ⟨d.val, by omega⟩ = qr xn w gq uq c s h d := by
  unfold pqr
  rw [cq_eq hW]
  exact rot_eq (fun d => q xn w gq uq h ⟨64 + d.val, by omega⟩) (fun d => mv (cq xn w gq) U ⟨512 + 128 * h.val + d.val, by omega⟩)
    (fun d => mv (cq xn w gq) U ⟨1536 + 128 * h.val + d.val, by omega⟩) (fun d => ca ⟨d.val, by omega⟩) (fun d => sa ⟨d.val, by omega⟩)
    (fun d => mv_col _ _ _ _ _ fun e => hQ.rope e h d) (fun d => mv_col _ _ _ _ _ fun e => hQ.swap_lo e h d) (fun d => mv_col _ _ _ _ _ fun e => hQ.swap_hi e h d)
    hT.ca_lo hT.ca_hi hT.sa_lo hT.sa_hi d

theorem qr_zero (hQ : PackedQ uq U) (hT : Tables c s ca sa cb sb) (h : Fin 8) (d : Fin 96) : pqr xn W gq U ca sa h ⟨32 + d.val, by omega⟩ = 0 := by
  unfold pqr
  rw [hT.sa_zero, mul_zero, add_zero, mv_zero _ _ _ fun e => hQ.rope_zero e h d, zero_mul]

theorem kcat_eq (hW : PackedIn w W) (hT : Tables c s ca sa cb sb) (j : Fin 384) : pkcat xn W gkv ca sa j = kcat xn w gkv c s j := by
  unfold pkcat kcat
  split_ifs with h h'
  · exact ckv_eq hW _
  · exact kr_eq hW hT ⟨j.val - 256, h'⟩
  · exact (congrArg (pkr xn W ca sa) (Fin.ext (by dsimp only; omega))).trans (kr_zero hW hT ⟨j.val - 256 - 32, by omega⟩)

theorem qcat_eq (hW : PackedIn w W) (hQ : PackedQ uq U) (hK : PackedK uk K) (hT : Tables c s ca sa cb sb) (h : Fin 8) (j : Fin 384) :
    pqcat xn W gq U K ca sa h j = qcat xn w gq uq uk c s h j := by
  unfold pqcat qcat
  split_ifs with hj hj'
  · exact qlat_eq hW hQ hK _ _
  · exact qr_eq hW hQ hT h ⟨j.val - 256, hj'⟩
  · exact (congrArg (pqr xn W gq U ca sa h) (Fin.ext (by dsimp only; omega))).trans (qr_zero hQ hT h ⟨j.val - 256 - 32, by omega⟩)

end agree

end Cert.Proj

end
-- ==== Proof.ProjLoad.lean ====
/- Reading a box of a staged array, and writing an array box by box, entry by entry. -/
module

public import Idealize.ShloMosaic.Lib.Pipeline.ValueKit
public import proofs.«01_k».proof.Proof.ProjRow

@[expose] public section

set_option maxRecDepth 16384

noncomputable section

namespace Cert.Proj

open Idealize.ShloMosaic Idealize.ShloMosaic.TcCoe Idealize.SL.Sem

section load

variable {nD : ℕ} {τ : Topo} {sig : RefSig} {κ : Kind} {sp : Space} {e : EltTy} {A B C b p h : ℕ}

/-- A whole array of rank 2, as a block reads it. -/
theorem ld_whole (arg : Memref sig κ sp ⟨2, ![A, B]⟩ e) (harg : arg.IsWhole) (x : Vec Ideal ⟨2, ![A, B]⟩ e)
    (inb : ∀ a, (![0, 0] : Fin 2 → ℕ) a + (![A, B] : Fin 2 → ℕ) a ≤ (⟨2, ![A, B]⟩ : Shape).size a) (i : Fin A) (j : Fin B) :
    View.readAt (Elt Ideal) arg.view (Rect.unit (s := ⟨2, ![A, B]⟩) ![0, 0] ![A, B] inb).toLoadRect (harg.unread x) (ix2 i j) = x (ix2 i j) := by
  rw [View.readAt_eq_ld, harg.read_unread]
  refine View.ld_unit_apply_of _ _ _ inb _ _ fun a => ?_
  fin_cases a <;> simp [ix2]

/-- Columns of an array of rank 2, from p on. -/
theorem ld_cols (arg : Memref sig κ sp ⟨2, ![A, B]⟩ e) (harg : arg.IsWhole) (x : Vec Ideal ⟨2, ![A, B]⟩ e) (hp : p + b ≤ B)
    (inb : ∀ a, (![0, p] : Fin 2 → ℕ) a + (![A, b] : Fin 2 → ℕ) a ≤ (⟨2, ![A, B]⟩ : Shape).size a) (i : Fin A) (j : Fin b) :
    View.readAt (Elt Ideal) arg.view (Rect.unit (s := ⟨2, ![A, B]⟩) ![0, p] ![A, b] inb).toLoadRect (harg.unread x) (ix2 i j) = x (ix2 i ⟨p + j.val, by omega⟩) := by
  rw [View.readAt_eq_ld, harg.read_unread]
  refine View.ld_unit_apply_of _ _ _ inb _ _ fun a => ?_
  fin_cases a <;> simp [ix2]

/-- One slice of an array of rank 3. -/
theorem ld_slice (arg : Memref sig κ sp ⟨3, ![A, B, C]⟩ e) (harg : arg.IsWhole) (x : Vec Ideal ⟨3, ![A, B, C]⟩ e) (hh : h < A)
    (inb : ∀ a, (![h, 0, 0] : Fin 3 → ℕ) a + (![1, B, C] : Fin 3 → ℕ) a ≤ (⟨3, ![A, B, C]⟩ : Shape).size a) (i : Fin B) (j : Fin C) :
    View.readAt (Elt Ideal) arg.view (Rect.unit (s := ⟨3, ![A, B, C]⟩) ![h, 0, 0] ![1, B, C] inb).toLoadRect (harg.unread x) (ix3 0 i j) = x (ix3 ⟨h, hh⟩ i j) := by
  rw [View.readAt_eq_ld, harg.read_unread]
  refine View.ld_unit_apply_of _ _ _ inb _ _ fun a => ?_
  fin_cases a <;> simp [ix3]

end load

section piece

variable {e : EltTy} {A B C b c o p : ℕ}

/-- Columns p and up of an array of rank 2 are a box's, if they are entry by entry. -/
theorem piece2 (hp : p + b ≤ B)
    (inb : ∀ i, (![0, p] : Fin 2 → ℕ) i + (![A, b] : Fin 2 → ℕ) i ≤ (⟨2, ![A, B]⟩ : Shape).size i)
    (out : Vec Ideal ⟨2, ![A, B]⟩ e) (v : Vec Ideal ⟨2, ![A, b]⟩ e)
    (hv : ∀ (i : Fin A) (j : Fin b), v (ix2 i j) = out (ix2 i ⟨p + j.val, by omega⟩))
    (x : (Rect.unit (s := ⟨2, ![A, B]⟩) ![0, p] ![A, b] inb).shape.Idx) :
    v x = out ((Rect.unit (s := ⟨2, ![A, B]⟩) ![0, p] ![A, b] inb).emb x) := by
  have h0 : (x 0).val < A := (x 0).isLt
  have h1 : (x 1).val < b := (x 1).isLt
  have ex : (x : (⟨2, ![A, b]⟩ : Shape).Idx) = ix2 ⟨(x 0).val, h0⟩ ⟨(x 1).val, h1⟩ := by funext i; fin_cases i <;> rfl
  refine (congrArg v ex).trans ((hv _ _).trans (congrArg out ?_))
  funext i
  refine Fin.ext ?_
  fin_cases i
  · exact ((Rect.idx_unit_val _ _ inb x 0).trans (by simp)).symm
  · exact ((Rect.idx_unit_val _ _ inb x 1).trans (by simp)).symm

/-- The same from the first column on. -/
theorem piece2z (hb : b ≤ B)
    (inb : ∀ i, (![0, 0] : Fin 2 → ℕ) i + (![A, b] : Fin 2 → ℕ) i ≤ (⟨2, ![A, B]⟩ : Shape).size i)
    (out : Vec Ideal ⟨2, ![A, B]⟩ e) (v : Vec Ideal ⟨2, ![A, b]⟩ e)
    (hv : ∀ (i : Fin A) (j : Fin b), v (ix2 i j) = out (ix2 i ⟨j.val, lt_of_lt_of_le j.isLt hb⟩))
    (x : (Rect.unit (s := ⟨2, ![A, B]⟩) ![0, 0] ![A, b] inb).shape.Idx) :
    v x = out ((Rect.unit (s := ⟨2, ![A, B]⟩) ![0, 0] ![A, b] inb).emb x) :=
  piece2 (by omega) inb out v (fun i j => (hv i j).trans (congrArg (fun k => out (ix2 i k)) (Fin.ext (Nat.zero_add _).symm))) x

/-- The same for columns of one slice of an array of rank 3. -/
theorem piece3 (ho : o < A) (hp : p + c ≤ C)
    (inb : ∀ i, (![o, 0, p] : Fin 3 → ℕ) i + (![1, B, c] : Fin 3 → ℕ) i ≤ (⟨3, ![A, B, C]⟩ : Shape).size i)
    (out : Vec Ideal ⟨3, ![A, B, C]⟩ e) (v : Vec Ideal ⟨3, ![1, B, c]⟩ e)
    (hv : ∀ (i : Fin B) (j : Fin c), v (ix3 0 i j) = out (ix3 ⟨o, ho⟩ i ⟨p + j.val, by omega⟩))
    (x : (Rect.unit (s := ⟨3, ![A, B, C]⟩) ![o, 0, p] ![1, B, c] inb).shape.Idx) :
    v x = out ((Rect.unit (s := ⟨3, ![A, B, C]⟩) ![o, 0, p] ![1, B, c] inb).emb x) := by
  have h1 : (x 1).val < B := (x 1).isLt
  have h2 : (x 2).val < c := (x 2).isLt
  have ex : (x : (⟨3, ![1, B, c]⟩ : Shape).Idx) = ix3 0 ⟨(x 1).val, h1⟩ ⟨(x 2).val, h2⟩ := by
    funext i
    fin_cases i
    · exact Fin.ext (by simp [ix3])
    · rfl
    · rfl
  refine (congrArg v ex).trans ((hv _ _).trans (congrArg out ?_))
  funext i
  refine Fin.ext ?_
  fin_cases i
  · exact ((Rect.idx_unit_val _ _ inb x 0).trans (by simp)).symm
  · exact ((Rect.idx_unit_val _ _ inb x 1).trans (by simp)).symm
  · exact ((Rect.idx_unit_val _ _ inb x 2).trans (by simp)).symm

/-- The same from the first column on. -/
theorem piece3z (ho : o < A) (hc : c ≤ C)
    (inb : ∀ i, (![o, 0, 0] : Fin 3 → ℕ) i + (![1, B, c] : Fin 3 → ℕ) i ≤ (⟨3, ![A, B, C]⟩ : Shape).size i)
    (out : Vec Ideal ⟨3, ![A, B, C]⟩ e) (v : Vec Ideal ⟨3, ![1, B, c]⟩ e)
    (hv : ∀ (i : Fin B) (j : Fin c), v (ix3 0 i j) = out (ix3 ⟨o, ho⟩ i ⟨j.val, lt_of_lt_of_le j.isLt hc⟩))
    (x : (Rect.unit (s := ⟨3, ![A, B, C]⟩) ![o, 0, 0] ![1, B, c] inb).shape.Idx) :
    v x = out ((Rect.unit (s := ⟨3, ![A, B, C]⟩) ![o, 0, 0] ![1, B, c] inb).emb x) :=
  piece3 ho (by omega) inb out v (fun i j => (hv i j).trans (congrArg (fun k => out (ix3 ⟨o, ho⟩ i k)) (Fin.ext (Nat.zero_add _).symm))) x

end piece

theorem mv_idx {n k : ℕ} (v : Fin n → EReal) (w : Fin n → Fin k → EReal) (j j' : Fin k) (h : j.val = j'.val) : mv v w j = mv v w j' :=
  congrArg (mv v w) (Fin.ext h)

/-- Two products of a row with columns, times two factors, where the places agree. -/
theorem fma_idx {n k l : ℕ} (v : Fin n → EReal) (w : Fin n → Fin k → EReal) (a b : Fin l → EReal) (i i' j j' : Fin k) (u u' : Fin l)
    (hi : i.val = i'.val) (hj : j.val = j'.val) (hu : u.val = u'.val) :
    mv v w i * a u + mv v w j * b u = mv v w i' * a u' + mv v w j' * b u' := by
  obtain rfl := Fin.ext hi
  obtain rfl := Fin.ext hj
  obtain rfl := Fin.ext hu
  rfl

/-- The input row scaled to unit mean square, times its gains. -/
def xrow (g x : Fin 1024 → EReal) : Fin 1024 → EReal := nrm 0x44800000#32 g x

theorem pkcat_lo (xn : Fin 1024 → EReal) (W : Fin 1024 → Fin 3072 → EReal) (gkv : Fin 256 → EReal) (ca sa : Fin 128 → EReal) (j : Fin 256) :
    pkcat xn W gkv ca sa ⟨j.val, by omega⟩ = pckv xn W gkv j := by
  unfold pkcat
  rw [dif_pos j.isLt]

theorem pkcat_hi (xn : Fin 1024 → EReal) (W : Fin 1024 → Fin 3072 → EReal) (gkv : Fin 256 → EReal) (ca sa : Fin 128 → EReal) (j : Fin 128) :
    pkcat xn W gkv ca sa ⟨256 + j.val, by omega⟩ = pkr xn W ca sa j := by
  unfold pkcat
  rw [dif_neg (by simp)]
  exact congrArg (pkr xn W ca sa) (Fin.ext (by simp))

theorem pqcat_lo (xn : Fin 1024 → EReal) (W : Fin 1024 → Fin 3072 → EReal) (gq : Fin 384 → EReal) (U : Fin 384 → Fin 2560 → EReal)
    (K : Fin 4 → Fin 128 → Fin 512 → EReal) (ca sa : Fin 128 → EReal) (h : Fin 8) (j : Fin 256) :
    pqcat xn W gq U K ca sa h ⟨j.val, by omega⟩ = pqlat xn W gq U K h j := by
  unfold pqcat
  rw [dif_pos j.isLt]

theorem pqcat_hi (xn : Fin 1024 → EReal) (W : Fin 1024 → Fin 3072 → EReal) (gq : Fin 384 → EReal) (U : Fin 384 → Fin 2560 → EReal)
    (K : Fin 4 → Fin 128 → Fin 512 → EReal) (ca sa : Fin 128 → EReal) (h : Fin 8) (j : Fin 128) :
    pqcat xn W gq U K ca sa h ⟨256 + j.val, by omega⟩ = pqr xn W gq U ca sa h j := by
  unfold pqcat
  rw [dif_neg (by simp)]
  exact congrArg (pqr xn W gq U ca sa h) (Fin.ext (by simp))

end Cert.Proj

end
-- ==== Proof.ProjSpec.lean ====
/- The parameters of the projections, and the angles of the rotations. -/
module

public import proofs.«01_k».proof.Proof.ProjLoad

@[expose] public section

noncomputable section

namespace Cert.Proj

open Idealize.ShloMosaic

/-- The weights and gains, by row and column. -/
structure Data where
  g : Fin 1024 → EReal
  w : Fin 1024 → Fin 2024 → EReal
  gq : Fin 384 → EReal
  uq : Fin 384 → Fin 768 → EReal
  gkv : Fin 256 → EReal
  uk : Fin 256 → Fin 8 → Fin 64 → EReal

/-- The angle of frequency d at position p. -/
def ang (p : BitVec 32) (d : Fin 16) : EReal :=
  FloatOps.sitofp (F := Ideal) .f32 p *
    Ideal.pow (Ideal.ofBits .f32 0x461C4000#32)
      (Ideal.div (-FloatOps.sitofp (F := Ideal) .f32 (BitVec.ofNat 32 d.val)) (Ideal.ofBits .f32 0x41800000#32))

def cosT (p : BitVec 32) (d : Fin 16) : EReal := Ideal.cos (ang p d)

def sinT (p : BitVec 32) (d : Fin 16) : EReal := Ideal.sin (ang p d)

end Cert.Proj

end
-- ==== Proof.ProjPack.lean ====
/- The weights as the host packs them, element by element. -/
module

public import proofs.«01_k».proof.Proof.Gen.Kernel2Ideal.Frame
public import proofs.«01_k».proof.Proof.ProjSpec

@[expose] public section

set_option maxRecDepth 16384
set_option maxHeartbeats 1000000

noncomputable section

namespace Cert.Proj

open Idealize.ShloMosaic Idealize.ShloMosaic.TcCoe Idealize.SL.Sem
open Cert.Kernel2Ideal Cert.Kernel2Ideal.Gen

/-- Twelve blocks of columns side by side. -/
def cat12 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) : FVec Ideal S1024x3072 .f32 :=
  concatenate S1024x3072 1 [⟨S1024x384, a0⟩, ⟨S1024x256, a1⟩, ⟨S1024x512, a2⟩, ⟨S1024x128, a3⟩, ⟨S1024x128, a4⟩, ⟨S1024x512, a5⟩, ⟨S1024x512, a6⟩, ⟨S1024x128, a7⟩, ⟨S1024x128, a8⟩, ⟨S1024x128, a9⟩, ⟨S1024x128, a10⟩, ⟨S1024x128, a11⟩] concatenates_S1024x384_S1024x256_S1024x512_S1024x128_S1024x128_S1024x512_S1024x512_S1024x128_S1024x128_S1024x128_S1024x128_S1024x128_S1024x3072_d1

theorem cat12_0 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 384) :
    cat12 a0 a1 a2 a3 a4 a5 a6 a7 a8 a9 a10 a11 (ix2 d ⟨j.val, by omega⟩) = a0 (ix2 d j) := by
  pointwise [cat12]

theorem cat12_1 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 256) :
    cat12 a0 a1 a2 a3 a4 a5 a6 a7 a8 a9 a10 a11 (ix2 d ⟨384 + j.val, by omega⟩) = a1 (ix2 d j) := by
  pointwise [cat12]

theorem cat12_2 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 512) :
    cat12 a0 a1 a2 a3 a4 a5 a6 a7 a8 a9 a10 a11 (ix2 d ⟨640 + j.val, by omega⟩) = a2 (ix2 d j) := by
  pointwise [cat12]
  refine (dif_neg (by omega)).trans ?_
  refine (dif_neg (by omega)).trans ?_
  refine (dif_pos (by omega)).trans ?_
  exact congrArg (fun k => a2 (ix2 d k)) (Fin.ext (by dsimp only; omega))

theorem cat12_3 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨1152 + j.val, by omega⟩) = a3 (ix2 d j) := by
  pointwise [cat12]
  refine (dif_neg (by omega)).trans ?_
  refine (dif_neg (by omega)).trans ?_
  refine (dif_neg (by omega)).trans ?_
  refine (dif_pos (by omega)).trans ?_
  exact congrArg (fun k => a3 (ix2 d k)) (Fin.ext (by dsimp only; omega))

theorem cat12_4 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨1280 + j.val, by omega⟩) = a4 (ix2 d j) := by
  pointwise [cat12]
  refine (dif_neg (by omega)).trans ?_
  refine (dif_neg (by omega)).trans ?_
  refine (dif_neg (by omega)).trans ?_
  refine (dif_neg (by omega)).trans ?_
  refine (dif_pos (by omega)).trans ?_
  exact congrArg (fun k => a4 (ix2 d k)) (Fin.ext (by dsimp only; omega))

theorem cat12_5 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 512) :
    cat12 a0 a1 a2 a3 a4 a5 a6 a7 a8 a9 a10 a11 (ix2 d ⟨1408 + j.val, by omega⟩) = a5 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a5 (ix2 d k)) (Fin.ext (by dsimp only; omega))

theorem cat12_6 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 512) :
    cat12 a0 a1 a2 a3 a4 a5 a6 a7 a8 a9 a10 a11 (ix2 d ⟨1920 + j.val, by omega⟩) = a6 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a6 (ix2 d k)) (Fin.ext (by dsimp only; omega))

theorem cat12_7 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨2432 + j.val, by omega⟩) = a7 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a7 (ix2 d k)) (Fin.ext (by dsimp only; omega))

theorem cat12_8 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨2560 + j.val, by omega⟩) = a8 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a8 (ix2 d k)) (Fin.ext (by dsimp only; omega))

theorem cat12_9 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨2688 + j.val, by omega⟩) = a9 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a9 (ix2 d k)) (Fin.ext (by dsimp only; omega))

theorem cat12_10 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨2816 + j.val, by omega⟩) = a10 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun k => a10 (ix2 d k)) (Fin.ext (by dsimp only; omega))

theorem cat12_11 (a0 : FVec Ideal S1024x384 .f32) (a1 : FVec Ideal S1024x256 .f32) (a2 : FVec Ideal S1024x512 .f32) (a3 : FVec Ideal S1024x128 .f32) (a4 : FVec Ideal S1024x128 .f32) (a5 : FVec Ideal S1024x512 .f32) (a6 : FVec Ideal S1024x512 .f32) (a7 : FVec Ideal S1024x128 .f32) (a8 : FVec Ideal S1024x128 .f32) (a9 : FVec Ideal S1024x128 .f32) (a10 : FVec Ideal S1024x128 .f32) (a11 : FVec Ideal S1024x128 .f32) (d : Fin 1024) (j : Fin 128) :
    cat12 a0 a1 a2 a3 a4 a5 a6 a7 a8 a9 a10 a11 (ix2 d ⟨2944 + j.val, by omega⟩) = a11 (ix2 d j) := by
  pointwise [cat12]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact congrArg (fun k => a11 (ix2 d k)) (Fin.ext (by dsimp only; omega))

theorem sitofp_zero : FloatOps.sitofp (F := Ideal) .f32 (0#32) = 0 := by
  simp [FloatOps.sitofp]

/-- Columns widened to 128 by zeros. -/
def wide32 (x : FVec Ideal S1024x32 .f32) : FVec Ideal S1024x128 .f32 :=
  pad S1024x128 ![0, 0] ![0, 96] ![0, 0] x (sitofp .f32 (constantI S_ 32 0#32)) pads_S1024x32_S1024x128_000_0960 h_S_

def wide64 (x : FVec Ideal S1024x64 .f32) : FVec Ideal S1024x128 .f32 :=
  pad S1024x128 ![0, 0] ![0, 64] ![0, 0] x (sitofp .f32 (constantI S_ 32 0#32)) pads_S1024x64_S1024x128_000_0640 h_S_

def wide8 (x : FVec Ideal S1024x8 .f32) : FVec Ideal S1024x128 .f32 :=
  pad S1024x128 ![0, 0] ![0, 120] ![0, 0] x (sitofp .f32 (constantI S_ 32 0#32)) pads_S1024x8_S1024x128_000_01200 h_S_

/-- The two halves of 32 columns, exchanged. -/
def swap32 (x : FVec Ideal S1024x32 .f32) : FVec Ideal S1024x32 .f32 :=
  concatenate S1024x32 1 [⟨S1024x16, extractStridedSlice S1024x16 ![0, 16] x slices_S1024x32_S1024x16_0_16⟩, ⟨S1024x16, extractStridedSlice S1024x16 ![0, 0] x slices_S1024x32_S1024x16_0_0⟩] concatenates_S1024x16_S1024x16_S1024x32_d1

theorem wide32_lo (x : FVec Ideal S1024x32 .f32) (d : Fin 1024) (j : Fin 32) : wide32 x (ix2 d ⟨j.val, by omega⟩) = x (ix2 d j) := by
  pointwise [wide32]
  first
    | done
    | exact sitofp_zero
    | split_ifs <;> first
        | rfl
        | (exfalso; omega)
        | exact sitofp_zero
        | exact congrArg (fun k => x (ix2 d k)) (Fin.ext (by dsimp only; omega))

theorem wide32_hi (x : FVec Ideal S1024x32 .f32) (d : Fin 1024) (j : Fin 96) : wide32 x (ix2 d ⟨32 + j.val, by omega⟩) = 0 := by
  pointwise [wide32]
  first
    | done
    | exact sitofp_zero
    | split_ifs <;> first
        | rfl
        | (exfalso; omega)
        | exact sitofp_zero
        | exact congrArg (fun k => x (ix2 d k)) (Fin.ext (by dsimp only; omega))

theorem wide64_lo (x : FVec Ideal S1024x64 .f32) (d : Fin 1024) (j : Fin 64) : wide64 x (ix2 d ⟨j.val, by omega⟩) = x (ix2 d j) := by
  pointwise [wide64]
  first
    | done
    | exact sitofp_zero
    | split_ifs <;> first
        | rfl
        | (exfalso; omega)
        | exact sitofp_zero
        | exact congrArg (fun k => x (ix2 d k)) (Fin.ext (by dsimp only; omega))

theorem wide8_lo (x : FVec Ideal S1024x8 .f32) (d : Fin 1024) (j : Fin 8) : wide8 x (ix2 d ⟨j.val, by omega⟩) = x (ix2 d j) := by
  pointwise [wide8]
  first
    | done
    | exact sitofp_zero
    | split_ifs <;> first
        | rfl
        | (exfalso; omega)
        | exact sitofp_zero
        | exact congrArg (fun k => x (ix2 d k)) (Fin.ext (by dsimp only; omega))

theorem swap32_lo (x : FVec Ideal S1024x32 .f32) (d : Fin 1024) (j : Fin 16) : swap32 x (ix2 d ⟨j.val, by omega⟩) = x (ix2 d ⟨16 + j.val, by omega⟩) := by
  pointwise [swap32]
  first
    | done
    | exact sitofp_zero
    | split_ifs <;> first
        | rfl
        | (exfalso; omega)
        | exact sitofp_zero
        | exact congrArg (fun k => x (ix2 d k)) (Fin.ext (by dsimp only; omega))

theorem swap32_hi (x : FVec Ideal S1024x32 .f32) (d : Fin 1024) (j : Fin 16) : swap32 x (ix2 d ⟨16 + j.val, by omega⟩) = x (ix2 d ⟨j.val, by omega⟩) := by
  pointwise [swap32]
  first
    | done
    | exact sitofp_zero
    | split_ifs <;> first
        | rfl
        | (exfalso; omega)
        | exact sitofp_zero
        | exact congrArg (fun k => x (ix2 d k)) (Fin.ext (by dsimp only; omega))

/-- The index queries' columns, the halves of each head's first 32 exchanged and its others zero. -/
def swapQ (w : FVec Ideal S1024x2024 .f32) : FVec Ideal S1024x512 .f32 :=
  let v34 := shapeCast S1024x8x64 (extractStridedSlice S1024x512 ![0, 1440] w slices_S1024x2024_S1024x512_0_1440) shapeCasts_S1024x512_S1024x8x64
  let v35 := extractStridedSlice S1024x8x32 ![0, 0, 0] v34 slices_S1024x8x64_S1024x8x32_0_0_0
  shapeCast S1024x512 (concatenate S1024x8x64 2 [⟨S1024x8x32, concatenate S1024x8x32 2 [⟨S1024x8x16, extractStridedSlice S1024x8x16 ![0, 0, 16] v35 slices_S1024x8x32_S1024x8x16_0_0_16⟩, ⟨S1024x8x16, extractStridedSlice S1024x8x16 ![0, 0, 0] v35 slices_S1024x8x32_S1024x8x16_0_0_0⟩] concatenates_S1024x8x16_S1024x8x16_S1024x8x32_d2⟩, ⟨S1024x8x32, broadcastInDim S1024x8x32 ![] bcast_S_S1024x8x32 (constant S_ .f32 0x00000000#32)⟩] concatenates_S1024x8x32_S1024x8x32_S1024x8x64_d2) shapeCasts_S1024x8x64_S1024x512

/-- The input weights as packed. -/
def packIn (w : FVec Ideal S1024x2024 .f32) : FVec Ideal S1024x3072 .bf16 :=
  truncf .bf16 (cat12
    (extractStridedSlice S1024x384 ![0, 0] w slices_S1024x2024_S1024x384_0_0)
    (extractStridedSlice S1024x256 ![0, 384] w slices_S1024x2024_S1024x256_0_384)
    (extractStridedSlice S1024x512 ![0, 672] w slices_S1024x2024_S1024x512_0_672)
    (extractStridedSlice S1024x128 ![0, 1184] w slices_S1024x2024_S1024x128_0_1184)
    (extractStridedSlice S1024x128 ![0, 1312] w slices_S1024x2024_S1024x128_0_1312)
    (extractStridedSlice S1024x512 ![0, 1440] w slices_S1024x2024_S1024x512_0_1440)
    (swapQ w)
    (wide32 (extractStridedSlice S1024x32 ![0, 640] w slices_S1024x2024_S1024x32_0_640))
    (wide32 (swap32 (extractStridedSlice S1024x32 ![0, 640] w slices_S1024x2024_S1024x32_0_640)))
    (wide64 (extractStridedSlice S1024x64 ![0, 1952] w slices_S1024x2024_S1024x64_0_1952))
    (wide32 (swap32 (extractStridedSlice S1024x32 ![0, 0] (extractStridedSlice S1024x64 ![0, 1952] w slices_S1024x2024_S1024x64_0_1952) slices_S1024x64_S1024x32_0_0)))
    (wide8 (extractStridedSlice S1024x8 ![0, 2016] w slices_S1024x2024_S1024x8_0_2016))) bitsLt_bf16_f32

theorem swapQ_lo (w : FVec Ideal S1024x2024 .f32) (d : Fin 1024) (h : Fin 8) (i : Fin 16) :
    swapQ w (ix2 d ⟨64 * h.val + i.val, by omega⟩) = w (ix2 d ⟨1440 + (h.val * 64 + (16 + i.val)), by omega⟩) := by
  pointwise [swapQ]
  first
    | done
    | exact sitofp_zero
    | split_ifs <;> first
        | rfl
        | (exfalso; omega)
        | exact sitofp_zero
        | exact congrArg (fun k => w (ix2 d k)) (Fin.ext (by dsimp only; omega))

theorem swapQ_hi (w : FVec Ideal S1024x2024 .f32) (d : Fin 1024) (h : Fin 8) (i : Fin 16) :
    swapQ w (ix2 d ⟨64 * h.val + (16 + i.val), by omega⟩) = w (ix2 d ⟨1440 + (h.val * 64 + i.val), by omega⟩) := by
  pointwise [swapQ]
  first
    | done
    | exact sitofp_zero
    | split_ifs <;> first
        | rfl
        | (exfalso; omega)
        | exact sitofp_zero
        | exact congrArg (fun k => w (ix2 d k)) (Fin.ext (by dsimp only; omega))

theorem swapQ_zero (w : FVec Ideal S1024x2024 .f32) (d : Fin 1024) (h : Fin 8) (i : Fin 32) :
    swapQ w (ix2 d ⟨64 * h.val + (32 + i.val), by omega⟩) = 0 := by
  pointwise [swapQ]
  first
    | done
    | exact sitofp_zero
    | split_ifs <;> first
        | rfl
        | (exfalso; omega)
        | exact sitofp_zero
        | exact congrArg (fun k => w (ix2 d k)) (Fin.ext (by dsimp only; omega))

/-- The query weights as packed. -/
def packQ (u : FVec Ideal S384x768 .f32) : FVec Ideal S384x2560 .bf16 :=
  let v57 := shapeCast S384x8x96 u shapeCasts_S384x768_S384x8x96
  let v58 := extractStridedSlice S384x8x32 ![0, 0, 64] v57 slices_S384x8x96_S384x8x32_0_0_64
  let wide := fun x : FVec Ideal S384x8x32 .f32 => shapeCast S384x1024 (pad S384x8x128 ![0, 0, 0] ![0, 0, 96] ![0, 0, 0] x (sitofp .f32 (constantI S_ 32 0#32)) pads_S384x8x32_S384x8x128_000_000_0960 h_S_) shapeCasts_S384x8x128_S384x1024
  truncf .bf16 (concatenate S384x2560 1 [
    ⟨S384x512, shapeCast S384x512 (extractStridedSlice S384x8x64 ![0, 0, 0] v57 slices_S384x8x96_S384x8x64_0_0_0) shapeCasts_S384x8x64_S384x512⟩,
    ⟨S384x1024, wide v58⟩,
    ⟨S384x1024, wide (concatenate S384x8x32 2 [⟨S384x8x16, extractStridedSlice S384x8x16 ![0, 0, 16] v58 slices_S384x8x32_S384x8x16_0_0_16⟩, ⟨S384x8x16, extractStridedSlice S384x8x16 ![0, 0, 0] v58 slices_S384x8x32_S384x8x16_0_0_0⟩] concatenates_S384x8x16_S384x8x16_S384x8x32_d2)⟩]
    concatenates_S384x512_S384x1024_S384x1024_S384x2560_d1) bitsLt_bf16_f32

theorem packQ_nope (u : FVec Ideal S384x768 .f32) (d : Fin 384) (h : Fin 8) (i : Fin 64) :
    packQ u (ix2 d ⟨64 * h.val + i.val, by omega⟩) = u (ix2 d ⟨h.val * 96 + i.val, by omega⟩) := by
  pointwise [packQ]
  first
    | done
    | exact sitofp_zero
    | split_ifs <;> first
        | rfl
        | (exfalso; omega)
        | exact sitofp_zero
        | exact congrArg (fun k => u (ix2 d k)) (Fin.ext (by dsimp only; omega))

theorem packQ_rope (u : FVec Ideal S384x768 .f32) (d : Fin 384) (h : Fin 8) (i : Fin 32) :
    packQ u (ix2 d ⟨512 + 128 * h.val + i.val, by omega⟩) = u (ix2 d ⟨h.val * 96 + (64 + i.val), by omega⟩) := by
  pointwise [packQ]
  first
    | done
    | exact sitofp_zero
    | split_ifs <;> first
        | rfl
        | (exfalso; omega)
        | exact sitofp_zero
        | exact congrArg (fun k => u (ix2 d k)) (Fin.ext (by dsimp only; omega))

theorem packQ_rope_zero (u : FVec Ideal S384x768 .f32) (d : Fin 384) (h : Fin 8) (i : Fin 96) :
    packQ u (ix2 d ⟨512 + 128 * h.val + (32 + i.val), by omega⟩) = 0 := by
  pointwise [packQ]
  first
    | done
    | exact sitofp_zero
    | split_ifs <;> first
        | rfl
        | (exfalso; omega)
        | exact sitofp_zero
        | exact congrArg (fun k => u (ix2 d k)) (Fin.ext (by dsimp only; omega))

theorem packQ_swap_lo (u : FVec Ideal S384x768 .f32) (d : Fin 384) (h : Fin 8) (i : Fin 16) :
    packQ u (ix2 d ⟨1536 + 128 * h.val + i.val, by omega⟩) = u (ix2 d ⟨h.val * 96 + (64 + (16 + i.val)), by omega⟩) := by
  pointwise [packQ]
  first
    | done
    | exact sitofp_zero
    | split_ifs <;> first
        | rfl
        | (exfalso; omega)
        | exact sitofp_zero
        | exact congrArg (fun k => u (ix2 d k)) (Fin.ext (by dsimp only; omega))

theorem packQ_swap_hi (u : FVec Ideal S384x768 .f32) (d : Fin 384) (h : Fin 8) (i : Fin 16) :
    packQ u (ix2 d ⟨1536 + 128 * h.val + (16 + i.val), by omega⟩) = u (ix2 d ⟨h.val * 96 + (64 + i.val), by omega⟩) := by
  pointwise [packQ]
  first
    | done
    | exact sitofp_zero
    | split_ifs <;> first
        | rfl
        | (exfalso; omega)
        | exact sitofp_zero
        | exact congrArg (fun k => u (ix2 d k)) (Fin.ext (by dsimp only; omega))

/-- Two heads' blocks on the diagonal. -/
def pairK (a b : FVec Ideal S64x256 .f32) : FVec Ideal S128x512 .f32 :=
  let z : FVec Ideal S64x256 .f32 := broadcastInDim S64x256 ![] bcast_S_S64x256 (constant S_ .f32 0x00000000#32)
  concatenate S128x512 0 [⟨S64x512, concatenate S64x512 1 [⟨S64x256, a⟩, ⟨S64x256, z⟩] concatenates_S64x256_S64x256_S64x512_d1⟩, ⟨S64x512, concatenate S64x512 1 [⟨S64x256, z⟩, ⟨S64x256, b⟩] concatenates_S64x256_S64x256_S64x512_d1⟩] concatenates_S64x512_S64x512_S128x512_d0

theorem pairK_even (a b : FVec Ideal S64x256 .f32) (n : Fin 64) (k : Fin 256) : pairK a b (ix2 ⟨n.val, by omega⟩ ⟨k.val, by omega⟩) = a (ix2 n k) := by
  pointwise [pairK]

theorem pairK_odd (a b : FVec Ideal S64x256 .f32) (n : Fin 64) (k : Fin 256) : pairK a b (ix2 ⟨64 + n.val, by omega⟩ ⟨256 + k.val, by omega⟩) = b (ix2 n k) := by
  pointwise [pairK]

theorem pairK_even_zero (a b : FVec Ideal S64x256 .f32) (n : Fin 64) (k : Fin 256) : pairK a b (ix2 ⟨64 + n.val, by omega⟩ ⟨k.val, by omega⟩) = 0 := by
  pointwise [pairK]

theorem pairK_odd_zero (a b : FVec Ideal S64x256 .f32) (n : Fin 64) (k : Fin 256) : pairK a b (ix2 ⟨n.val, by omega⟩ ⟨256 + k.val, by omega⟩) = 0 := by
  pointwise [pairK]

/-- Four blocks, one after the other. -/
def stack4 (a b c e : FVec Ideal S128x512 .f32) : FVec Ideal S4x128x512 .f32 :=
  concatenate S4x128x512 0 [⟨S1x128x512, broadcastInDim S1x128x512 ![1, 2] bcast_S128x512_S1x128x512_1_2 a⟩, ⟨S1x128x512, broadcastInDim S1x128x512 ![1, 2] bcast_S128x512_S1x128x512_1_2 b⟩, ⟨S1x128x512, broadcastInDim S1x128x512 ![1, 2] bcast_S128x512_S1x128x512_1_2 c⟩, ⟨S1x128x512, broadcastInDim S1x128x512 ![1, 2] bcast_S128x512_S1x128x512_1_2 e⟩] concatenates_S1x128x512_S1x128x512_S1x128x512_S1x128x512_S4x128x512_d0

theorem stack4_0 (a b c e : FVec Ideal S128x512 .f32) (n : Fin 128) (k : Fin 512) : stack4 a b c e (ix3 0 n k) = a (ix2 n k) := by
  pointwise [stack4]

theorem stack4_1 (a b c e : FVec Ideal S128x512 .f32) (n : Fin 128) (k : Fin 512) : stack4 a b c e (ix3 1 n k) = b (ix2 n k) := by
  pointwise [stack4]

theorem stack4_2 (a b c e : FVec Ideal S128x512 .f32) (n : Fin 128) (k : Fin 512) : stack4 a b c e (ix3 2 n k) = c (ix2 n k) := by
  pointwise [stack4]

theorem stack4_3 (a b c e : FVec Ideal S128x512 .f32) (n : Fin 128) (k : Fin 512) : stack4 a b c e (ix3 3 n k) = e (ix2 n k) := by
  pointwise [stack4]

def head0 (u : FVec Ideal S256x8x64 .f32) : FVec Ideal S64x256 .f32 :=
  shapeCast S64x256 (extractStridedSlice S1x64x256 ![0, 0, 0] (transpose S8x64x256 [1, 2, 0] u transposes_S256x8x64_S8x64x256_1_2_0) slices_S8x64x256_S1x64x256_0_0_0) shapeCasts_S1x64x256_S64x256

theorem head0_at (u : FVec Ideal S256x8x64 .f32) (n : Fin 64) (k : Fin 256) : head0 u (ix2 n k) = u (ix3 k 0 n) := by
  pointwise [head0]
  try rfl

def head1 (u : FVec Ideal S256x8x64 .f32) : FVec Ideal S64x256 .f32 :=
  shapeCast S64x256 (extractStridedSlice S1x64x256 ![1, 0, 0] (transpose S8x64x256 [1, 2, 0] u transposes_S256x8x64_S8x64x256_1_2_0) slices_S8x64x256_S1x64x256_1_0_0) shapeCasts_S1x64x256_S64x256

theorem head1_at (u : FVec Ideal S256x8x64 .f32) (n : Fin 64) (k : Fin 256) : head1 u (ix2 n k) = u (ix3 k 1 n) := by
  pointwise [head1]
  try rfl

def head2 (u : FVec Ideal S256x8x64 .f32) : FVec Ideal S64x256 .f32 :=
  shapeCast S64x256 (extractStridedSlice S1x64x256 ![2, 0, 0] (transpose S8x64x256 [1, 2, 0] u transposes_S256x8x64_S8x64x256_1_2_0) slices_S8x64x256_S1x64x256_2_0_0) shapeCasts_S1x64x256_S64x256

theorem head2_at (u : FVec Ideal S256x8x64 .f32) (n : Fin 64) (k : Fin 256) : head2 u (ix2 n k) = u (ix3 k 2 n) := by
  pointwise [head2]
  try rfl

def head3 (u : FVec Ideal S256x8x64 .f32) : FVec Ideal S64x256 .f32 :=
  shapeCast S64x256 (extractStridedSlice S1x64x256 ![3, 0, 0] (transpose S8x64x256 [1, 2, 0] u transposes_S256x8x64_S8x64x256_1_2_0) slices_S8x64x256_S1x64x256_3_0_0) shapeCasts_S1x64x256_S64x256

theorem head3_at (u : FVec Ideal S256x8x64 .f32) (n : Fin 64) (k : Fin 256) : head3 u (ix2 n k) = u (ix3 k 3 n) := by
  pointwise [head3]
  try rfl

def head4 (u : FVec Ideal S256x8x64 .f32) : FVec Ideal S64x256 .f32 :=
  shapeCast S64x256 (extractStridedSlice S1x64x256 ![4, 0, 0] (transpose S8x64x256 [1, 2, 0] u transposes_S256x8x64_S8x64x256_1_2_0) slices_S8x64x256_S1x64x256_4_0_0) shapeCasts_S1x64x256_S64x256

theorem head4_at (u : FVec Ideal S256x8x64 .f32) (n : Fin 64) (k : Fin 256) : head4 u (ix2 n k) = u (ix3 k 4 n) := by
  pointwise [head4]
  try rfl

def head5 (u : FVec Ideal S256x8x64 .f32) : FVec Ideal S64x256 .f32 :=
  shapeCast S64x256 (extractStridedSlice S1x64x256 ![5, 0, 0] (transpose S8x64x256 [1, 2, 0] u transposes_S256x8x64_S8x64x256_1_2_0) slices_S8x64x256_S1x64x256_5_0_0) shapeCasts_S1x64x256_S64x256

theorem head5_at (u : FVec Ideal S256x8x64 .f32) (n : Fin 64) (k : Fin 256) : head5 u (ix2 n k) = u (ix3 k 5 n) := by
  pointwise [head5]
  try rfl

def head6 (u : FVec Ideal S256x8x64 .f32) : FVec Ideal S64x256 .f32 :=
  shapeCast S64x256 (extractStridedSlice S1x64x256 ![6, 0, 0] (transpose S8x64x256 [1, 2, 0] u transposes_S256x8x64_S8x64x256_1_2_0) slices_S8x64x256_S1x64x256_6_0_0) shapeCasts_S1x64x256_S64x256

theorem head6_at (u : FVec Ideal S256x8x64 .f32) (n : Fin 64) (k : Fin 256) : head6 u (ix2 n k) = u (ix3 k 6 n) := by
  pointwise [head6]
  try rfl

def head7 (u : FVec Ideal S256x8x64 .f32) : FVec Ideal S64x256 .f32 :=
  shapeCast S64x256 (extractStridedSlice S1x64x256 ![7, 0, 0] (transpose S8x64x256 [1, 2, 0] u transposes_S256x8x64_S8x64x256_1_2_0) slices_S8x64x256_S1x64x256_7_0_0) shapeCasts_S1x64x256_S64x256

theorem head7_at (u : FVec Ideal S256x8x64 .f32) (n : Fin 64) (k : Fin 256) : head7 u (ix2 n k) = u (ix3 k 7 n) := by
  pointwise [head7]
  try rfl

/-- The latent weights as packed. -/
def packK (u : FVec Ideal S256x8x64 .f32) : FVec Ideal S4x128x512 .bf16 :=
  truncf .bf16 (stack4 (pairK (head0 u) (head1 u)) (pairK (head2 u) (head3 u)) (pairK (head4 u) (head5 u)) (pairK (head6 u) (head7 u))) bitsLt_bf16_f32

end Cert.Proj

end
-- ==== Proof.ProjPacked.lean ====
/- How the packed weights relate to the given ones. -/
module

public import proofs.«01_k».proof.Proof.ProjPack

@[expose] public section

set_option maxRecDepth 16384
set_option maxHeartbeats 1000000

noncomputable section

namespace Cert.Proj

open Idealize.ShloMosaic Idealize.ShloMosaic.TcCoe Idealize.SL.Sem
open Cert.Kernel2Ideal Cert.Kernel2Ideal.Gen

theorem packedQ (u : FVec Ideal S384x768 .f32) : PackedQ (fun d k => u (ix2 d k)) fun d k => packQ u (ix2 d k) where
  nope := packQ_nope u
  rope := packQ_rope u
  rope_zero := packQ_rope_zero u
  swap_lo := packQ_swap_lo u
  swap_hi := packQ_swap_hi u

theorem packK_eq (u : FVec Ideal S256x8x64 .f32) (j : S4x128x512.Idx) : packK u j = stack4 (pairK (head0 u) (head1 u)) (pairK (head2 u) (head3 u)) (pairK (head4 u) (head5 u)) (pairK (head6 u) (head7 u)) j := rfl

theorem packedK (u : FVec Ideal S256x8x64 .f32) : PackedK (fun k h n => u (ix3 k h n)) fun p n k => packK u (ix3 p n k) where
  even := by
    intro p n k
    refine (packK_eq u _).trans ?_
    fin_cases p
    · exact (stack4_0 _ _ _ _ _ _).trans ((pairK_even (head0 u) (head1 u) n k).trans (head0_at u n k))
    · exact (stack4_1 _ _ _ _ _ _).trans ((pairK_even (head2 u) (head3 u) n k).trans (head2_at u n k))
    · exact (stack4_2 _ _ _ _ _ _).trans ((pairK_even (head4 u) (head5 u) n k).trans (head4_at u n k))
    · exact (stack4_3 _ _ _ _ _ _).trans ((pairK_even (head6 u) (head7 u) n k).trans (head6_at u n k))
  odd := by
    intro p n k
    refine (packK_eq u _).trans ?_
    fin_cases p
    · exact (stack4_0 _ _ _ _ _ _).trans ((pairK_odd (head0 u) (head1 u) n k).trans (head1_at u n k))
    · exact (stack4_1 _ _ _ _ _ _).trans ((pairK_odd (head2 u) (head3 u) n k).trans (head3_at u n k))
    · exact (stack4_2 _ _ _ _ _ _).trans ((pairK_odd (head4 u) (head5 u) n k).trans (head5_at u n k))
    · exact (stack4_3 _ _ _ _ _ _).trans ((pairK_odd (head6 u) (head7 u) n k).trans (head7_at u n k))
  even_zero := by
    intro p n k
    refine (packK_eq u _).trans ?_
    fin_cases p
    · exact (stack4_0 _ _ _ _ _ _).trans ((pairK_even_zero (head0 u) (head1 u) n k))
    · exact (stack4_1 _ _ _ _ _ _).trans ((pairK_even_zero (head2 u) (head3 u) n k))
    · exact (stack4_2 _ _ _ _ _ _).trans ((pairK_even_zero (head4 u) (head5 u) n k))
    · exact (stack4_3 _ _ _ _ _ _).trans ((pairK_even_zero (head6 u) (head7 u) n k))
  odd_zero := by
    intro p n k
    refine (packK_eq u _).trans ?_
    fin_cases p
    · exact (stack4_0 _ _ _ _ _ _).trans ((pairK_odd_zero (head0 u) (head1 u) n k))
    · exact (stack4_1 _ _ _ _ _ _).trans ((pairK_odd_zero (head2 u) (head3 u) n k))
    · exact (stack4_2 _ _ _ _ _ _).trans ((pairK_odd_zero (head4 u) (head5 u) n k))
    · exact (stack4_3 _ _ _ _ _ _).trans ((pairK_odd_zero (head6 u) (head7 u) n k))

theorem packedIn (w : FVec Ideal S1024x2024 .f32) : PackedIn (fun d k => w (ix2 d k)) fun d k => packIn w (ix2 d k) where
  low := by
    intro d j
    by_cases hj : j.val < 384
    · exact (cat12_0 _ _ _ _ _ _ _ _ _ _ _ _ d ⟨j.val, hj⟩).trans (by pointwise [])
    · refine Eq.trans (congrArg (fun k => packIn w (ix2 d k)) (Fin.ext (show j.val = 384 + (j.val - 384) by omega))) ((cat12_1 _ _ _ _ _ _ _ _ _ _ _ _ d ⟨j.val - 384, by omega⟩).trans ?_)
      pointwise []
      exact congrArg (fun k => w (ix2 d k)) (Fin.ext (show 384 + (j.val - 384) = j.val by omega))
  mid := by
    intro d j
    by_cases h1 : j.val < 512
    · exact (cat12_2 _ _ _ _ _ _ _ _ _ _ _ _ d ⟨j.val, h1⟩).trans (by pointwise [])
    by_cases h2 : j.val < 640
    · refine Eq.trans (congrArg (fun k => packIn w (ix2 d k)) (Fin.ext (show 640 + j.val = 1152 + (j.val - 512) by omega))) ((cat12_3 _ _ _ _ _ _ _ _ _ _ _ _ d ⟨j.val - 512, by omega⟩).trans ?_)
      pointwise []
      exact congrArg (fun k => w (ix2 d k)) (Fin.ext (show 1184 + (j.val - 512) = 672 + j.val by omega))
    by_cases h3 : j.val < 768
    · refine Eq.trans (congrArg (fun k => packIn w (ix2 d k)) (Fin.ext (show 640 + j.val = 1280 + (j.val - 640) by omega))) ((cat12_4 _ _ _ _ _ _ _ _ _ _ _ _ d ⟨j.val - 640, by omega⟩).trans ?_)
      pointwise []
      exact congrArg (fun k => w (ix2 d k)) (Fin.ext (show 1312 + (j.val - 640) = 672 + j.val by omega))
    · refine Eq.trans (congrArg (fun k => packIn w (ix2 d k)) (Fin.ext (show 640 + j.val = 1408 + (j.val - 768) by omega))) ((cat12_5 _ _ _ _ _ _ _ _ _ _ _ _ d ⟨j.val - 768, by omega⟩).trans ?_)
      pointwise []
      exact congrArg (fun k => w (ix2 d k)) (Fin.ext (show 1440 + (j.val - 768) = 672 + j.val by omega))
  qi_lo := fun d h i => (cat12_6 _ _ _ _ _ _ _ _ _ _ _ _ d ⟨64 * h.val + i.val, by omega⟩).trans (swapQ_lo w d h i)
  qi_hi := fun d h i => (cat12_6 _ _ _ _ _ _ _ _ _ _ _ _ d ⟨64 * h.val + (16 + i.val), by omega⟩).trans (swapQ_hi w d h i)
  qi_zero := fun d h i => (cat12_6 _ _ _ _ _ _ _ _ _ _ _ _ d ⟨64 * h.val + (32 + i.val), by omega⟩).trans (swapQ_zero w d h i)
  kr := fun d i => (cat12_7 _ _ _ _ _ _ _ _ _ _ _ _ d ⟨i.val, by omega⟩).trans ((wide32_lo _ d i).trans (by pointwise []))
  kr_zero := fun d i => (cat12_7 _ _ _ _ _ _ _ _ _ _ _ _ d ⟨32 + i.val, by omega⟩).trans (wide32_hi _ d i)
  krp_lo := fun d i => (cat12_8 _ _ _ _ _ _ _ _ _ _ _ _ d ⟨i.val, by omega⟩).trans ((wide32_lo _ d ⟨i.val, by omega⟩).trans ((swap32_lo _ d i).trans (by pointwise [])))
  krp_hi := fun d i => (cat12_8 _ _ _ _ _ _ _ _ _ _ _ _ d ⟨16 + i.val, by omega⟩).trans ((wide32_lo _ d ⟨16 + i.val, by omega⟩).trans ((swap32_hi _ d i).trans (by pointwise [])))
  ki := fun d i => (cat12_9 _ _ _ _ _ _ _ _ _ _ _ _ d ⟨i.val, by omega⟩).trans ((wide64_lo _ d i).trans (by pointwise []))
  kip_lo := fun d i => (cat12_10 _ _ _ _ _ _ _ _ _ _ _ _ d ⟨i.val, by omega⟩).trans ((wide32_lo _ d ⟨i.val, by omega⟩).trans ((swap32_lo _ d i).trans (by pointwise [])))
  kip_hi := fun d i => (cat12_10 _ _ _ _ _ _ _ _ _ _ _ _ d ⟨16 + i.val, by omega⟩).trans ((wide32_lo _ d ⟨16 + i.val, by omega⟩).trans ((swap32_hi _ d i).trans (by pointwise [])))
  wi := fun d i => (cat12_11 _ _ _ _ _ _ _ _ _ _ _ _ d ⟨i.val, by omega⟩).trans ((wide8_lo _ d i).trans (by pointwise []))

end Cert.Proj

end
-- ==== Proof.ProjTab2.lean ====
/- The arrays the host hands the prompt's projections. -/
module

public import proofs.«01_k».proof.Proof.Gen.Kernel2Ideal.Value
public import proofs.«01_k».proof.Proof.ProjPacked

@[expose] public section

set_option maxRecDepth 16384
set_option maxHeartbeats 2000000

noncomputable section

namespace Cert.Kernel2Ideal.Proj

open Idealize.ShloMosaic Idealize.ShloMosaic.TcCoe Idealize.SL.Sem
open Cert.Kernel2Ideal Cert.Kernel2Ideal.Gen Cert.Proj

/-- The position of token s, as a word. -/
def pos (s : Fin 2048) : BitVec 32 := BitVec.ofNat 32 s.val

/-- The angles by position and frequency. -/
def angT : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem angT_at (r : Fin 2048) (d : Fin 16) : angT (ix2 r d) = ang (pos ⟨r.val % 2048, by omega⟩) d := by
  pointwise [angT]
  rw [show (⟨r.val % 2048, by omega⟩ : Fin 2048) = r from Fin.ext (Nat.mod_eq_of_lt r.isLt)]
  rfl

def ones : FVec Ideal S2048x32 .f32 := broadcastInDim S2048x32 ![] bcast_S_S2048x32 (constant S_ .f32 0x3F800000#32)

def zeros : FVec Ideal S2048x32 .f32 := broadcastInDim S2048x32 ![] bcast_S_S2048x32 (constant S_ .f32 0x00000000#32)

def two (a b : FVec Ideal S2048x16 .f32) : FVec Ideal S2048x32 .f32 :=
  concatenate S2048x32 1 [⟨S2048x16, a⟩, ⟨S2048x16, b⟩] concatenates_S2048x16_S2048x16_S2048x32_d1

def four (a b c e : FVec Ideal S2048x32 .f32) : FVec Ideal S2048x128 .f32 :=
  concatenate S2048x128 1 [⟨S2048x32, a⟩, ⟨S2048x32, b⟩, ⟨S2048x32, c⟩, ⟨S2048x32, e⟩] concatenates_S2048x32_S2048x32_S2048x32_S2048x32_S2048x128_d1

/-- The four tables: rotation of the first 32 entries, or of the first 32 of each half. -/
def tCa (a : FVec Ideal S2048x16 .f32) : FVec Ideal S2048x128 .f32 := four (two a a) ones ones ones

def tSa (a : FVec Ideal S2048x16 .f32) : FVec Ideal S2048x128 .f32 := four (two (Host.negf a) a) zeros zeros zeros

def tCb (a : FVec Ideal S2048x16 .f32) : FVec Ideal S2048x128 .f32 := four (two a a) ones (two a a) ones

def tSb (a : FVec Ideal S2048x16 .f32) : FVec Ideal S2048x128 .f32 := four (two (Host.negf a) a) zeros (two (Host.negf a) a) zeros

theorem one_bits : Ideal.ofBits .f32 0x3F800000#32 = 1 := Ideal.ofBits_one_f32

theorem t_ca_lo (a : FVec Ideal S2048x16 .f32) (r : Fin 2048) (d : Fin 16) : tCa a (ix2 r ⟨d.val, by omega⟩) = a (ix2 r d) := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_ca_hi (a : FVec Ideal S2048x16 .f32) (r : Fin 2048) (d : Fin 16) : tCa a (ix2 r ⟨16 + d.val, by omega⟩) = a (ix2 r d) := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_ca_one (a : FVec Ideal S2048x16 .f32) (r : Fin 2048) (d : Fin 96) : tCa a (ix2 r ⟨32 + d.val, by omega⟩) = 1 := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_lo (a : FVec Ideal S2048x16 .f32) (r : Fin 2048) (d : Fin 16) : tSa a (ix2 r ⟨d.val, by omega⟩) = -(a (ix2 r d)) := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_hi (a : FVec Ideal S2048x16 .f32) (r : Fin 2048) (d : Fin 16) : tSa a (ix2 r ⟨16 + d.val, by omega⟩) = a (ix2 r d) := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_zero (a : FVec Ideal S2048x16 .f32) (r : Fin 2048) (d : Fin 96) : tSa a (ix2 r ⟨32 + d.val, by omega⟩) = 0 := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_cb_lo (a : FVec Ideal S2048x16 .f32) (r : Fin 2048) (p : Fin 2) (d : Fin 16) : tCb a (ix2 r ⟨64 * p.val + d.val, by omega⟩) = a (ix2 r d) := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_cb_hi (a : FVec Ideal S2048x16 .f32) (r : Fin 2048) (p : Fin 2) (d : Fin 16) : tCb a (ix2 r ⟨64 * p.val + (16 + d.val), by omega⟩) = a (ix2 r d) := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_cb_one (a : FVec Ideal S2048x16 .f32) (r : Fin 2048) (p : Fin 2) (d : Fin 32) : tCb a (ix2 r ⟨64 * p.val + (32 + d.val), by omega⟩) = 1 := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_lo (a : FVec Ideal S2048x16 .f32) (r : Fin 2048) (p : Fin 2) (d : Fin 16) : tSb a (ix2 r ⟨64 * p.val + d.val, by omega⟩) = -(a (ix2 r d)) := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_hi (a : FVec Ideal S2048x16 .f32) (r : Fin 2048) (p : Fin 2) (d : Fin 16) : tSb a (ix2 r ⟨64 * p.val + (16 + d.val), by omega⟩) = a (ix2 r d) := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_zero (a : FVec Ideal S2048x16 .f32) (r : Fin 2048) (p : Fin 2) (d : Fin 32) : tSb a (ix2 r ⟨64 * p.val + (32 + d.val), by omega⟩) = 0 := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem cos_at (r : Fin 2048) (d : Fin 16) : (Host.cos angT : FVec Ideal S2048x16 .f32) (ix2 r d) = cosT (pos ⟨r.val % 2048, by omega⟩) d :=
  congrArg Ideal.cos (angT_at r d)

theorem sin_at (r : Fin 2048) (d : Fin 16) : (Host.sin angT : FVec Ideal S2048x16 .f32) (ix2 r d) = sinT (pos ⟨r.val % 2048, by omega⟩) d :=
  congrArg Ideal.sin (angT_at r d)

theorem tables (r : Fin 2048) :
    Tables (cosT (pos ⟨r.val % 2048, by omega⟩)) (sinT (pos ⟨r.val % 2048, by omega⟩)) (fun d => tCa (Host.cos angT) (ix2 r d))
      (fun d => tSa (Host.sin angT) (ix2 r d)) (fun d => tCb (Host.cos angT) (ix2 r d)) (fun d => tSb (Host.sin angT) (ix2 r d)) where
  ca_lo := fun d => (t_ca_lo _ r d).trans (cos_at r d)
  ca_hi := fun d => (t_ca_hi _ r d).trans (cos_at r d)
  ca_one := fun d => (t_ca_one _ r d)
  sa_lo := fun d => (t_sa_lo _ r d).trans (congrArg (fun v : EReal => -v) (sin_at r d))
  sa_hi := fun d => (t_sa_hi _ r d).trans (sin_at r d)
  sa_zero := fun d => (t_sa_zero _ r d)
  cb_lo := fun p d => (t_cb_lo _ r p d).trans (cos_at r d)
  cb_hi := fun p d => (t_cb_hi _ r p d).trans (cos_at r d)
  cb_one := fun p d => (t_cb_one _ r p d)
  sb_lo := fun p d => (t_sb_lo _ r p d).trans (congrArg (fun v : EReal => -v) (sin_at r d))
  sb_hi := fun p d => (t_sb_hi _ r p d).trans (sin_at r d)
  sb_zero := fun p d => (t_sb_zero _ r p d)

def flatX (x : FVec Ideal S16x2048x1024 .f32) : FVec Ideal S32768x1024 .f32 := shapeCast S32768x1024 x shapeCasts_S16x2048x1024_S32768x1024

theorem flatX_at (x : FVec Ideal S16x2048x1024 .f32) (n : Fin 32768) (d : Fin 1024) :
    flatX x (ix2 n d) = x (ix3 ⟨n.val / 2048, by omega⟩ ⟨n.val % 2048, by omega⟩ d) := by
  pointwise [flatX]

def wide1024 (g : FVec Ideal S1024 .f32) : FVec Ideal S1x1024 .f32 := shapeCast S1x1024 g shapeCasts_S1024_S1x1024

theorem wide1024_at (g : FVec Ideal S1024 .f32) (d : Fin 1024) : wide1024 g (ix2 0 d) = g (ix1 d) := by
  pointwise [wide1024]

def wide384 (g : FVec Ideal S384 .f32) : FVec Ideal S1x384 .f32 := shapeCast S1x384 g shapeCasts_S384_S1x384

theorem wide384_at (g : FVec Ideal S384 .f32) (d : Fin 384) : wide384 g (ix2 0 d) = g (ix1 d) := by
  pointwise [wide384]

def wide256 (g : FVec Ideal S256 .f32) : FVec Ideal S1x256 .f32 := shapeCast S1x256 g shapeCasts_S256_S1x256

theorem wide256_at (g : FVec Ideal S256 .f32) (d : Fin 256) : wide256 g (ix2 0 d) = g (ix1 d) := by
  pointwise [wide256]

end Cert.Kernel2Ideal.Proj

end
-- ==== Proof.ProjV2.lean ====
/- What the host's operations leave in the arrays the prompt's projections read. -/
module

public import proofs.«01_k».proof.Proof.ProjTab2

@[expose] public section

set_option maxRecDepth 16384
set_option maxHeartbeats 2000000

noncomputable section

namespace Cert.Kernel2Ideal.Proj

open Idealize.ShloMosaic Idealize.ShloMosaic.TcCoe Idealize.SL.Sem
open Cert.Kernel2Ideal Cert.Kernel2Ideal.Gen Cert.Proj

variable (m : (ℓ : Loc nD τ sig) → Buf (Elt Ideal) ℓ) (c : Dev nD)

/-- The arguments, as arrays of extended reals. -/
abbrev aX : FVec Ideal S16x2048x1024 .f32 := m ((c.tc : Thread nD τ).loc main_arg0)
abbrev aG : FVec Ideal S1024 .f32 := m ((c.tc : Thread nD τ).loc main_arg1)
abbrev aW : FVec Ideal S1024x2024 .f32 := m ((c.tc : Thread nD τ).loc main_arg2)
abbrev aGq : FVec Ideal S384 .f32 := m ((c.tc : Thread nD τ).loc main_arg3)
abbrev aUq : FVec Ideal S384x768 .f32 := m ((c.tc : Thread nD τ).loc main_arg4)
abbrev aGkv : FVec Ideal S256 .f32 := m ((c.tc : Thread nD τ).loc main_arg5)
abbrev aUk : FVec Ideal S256x8x64 .f32 := m ((c.tc : Thread nD τ).loc main_arg6)

theorem in0_eq : V m c main_v0 = flatX (aX m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in1_eq : V m c main_v106 = wide1024 (aG m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in2_eq : V m c main_v56 = packIn (aW m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in3_eq : V m c main_v107 = wide384 (aGq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in4_eq : V m c main_v69 = packQ (aUq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in5_eq : V m c main_v108 = wide256 (aGkv m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in6_eq : V m c main_v105 = packK (aUk m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in7_eq : V m c main_v21 = tCa (Host.cos angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in8_eq : V m c main_v22 = tSa (Host.sin angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in9_eq : V m c main_v23 = tCb (Host.cos angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in10_eq : V m c main_v24 = tSb (Host.sin angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.Kernel2Ideal.Proj

end
-- ==== Proof.ProjPay2.lean ====
/- What the projection kernel computes for one block of tokens, entry by entry: rows times weights, normed or rotated. -/
module

public import proofs.«01_k».proof.Proof.Gen.Kernel2Ideal.Skeleton
public import proofs.«01_k».proof.Proof.ProjRow

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen Cert.Proj

/-- The normed input. -/
theorem pay3_at (x : Vec Ideal S512x1024 .f32) (g : Vec Ideal S1x1024 .f32) (r : Fin 512) (d : Fin 1024) :
    k0_pay3 x g (ix2 r d) = nrm 0x44800000#32 (fun d => g (ix2 0 d)) (fun d => x (ix2 r d)) d := by
  pointwise [nrm, k0_pay3]
  try rfl

theorem pay4_at (v : Vec Ideal S512x128 .f32) (r : Fin 512) (d : Fin 128) :
    k0_pay4 v (ix2 r d) = v (ix2 r d) := by
  pointwise [k0_pay4]
  try rfl

theorem pay5_at (v : Vec Ideal S512x128 .f32) (r : Fin 512) (d : Fin 128) :
    k0_pay5 v (ix2 r d) = v (ix2 r d) := by
  pointwise [k0_pay5]
  try rfl

theorem pay6_at (v : Vec Ideal S512x128 .f32) (r : Fin 512) (d : Fin 128) :
    k0_pay6 v (ix2 r d) = v (ix2 r d) := by
  pointwise [k0_pay6]
  try rfl

theorem pay7_at (v : Vec Ideal S512x128 .f32) (r : Fin 512) (d : Fin 128) :
    k0_pay7 v (ix2 r d) = v (ix2 r d) := by
  pointwise [k0_pay7]
  try rfl

theorem pay8_at (x : Vec Ideal S512x1024 .f32) (g : Vec Ideal S1x1024 .f32) (w : Vec Ideal S1024x256 .bf16) (r : Fin 512) (k : Fin 256) :
    k0_pay8 x g w (ix2 r k) = mv (fun d => k0_pay3 x g (ix2 r d)) (fun d k => w (ix2 d k)) k := by
  pointwise [mv, k0_pay8]
  try rfl

theorem pay9_at (h : Vec Ideal S1x256 .f32) (k : Fin 256) :
    k0_pay9 h (ix2 0 k) = h (ix2 0 k) := by
  pointwise [k0_pay9]
  try rfl

theorem pay10_at (x : Vec Ideal S512x1024 .f32) (g : Vec Ideal S1x1024 .f32) (w : Vec Ideal S1024x256 .bf16) (r : Fin 512) :
    k0_pay10 x g w (ix2 r 0) = Ideal.div (∑ k, k0_pay8 x g w (ix2 r k) * k0_pay8 x g w (ix2 r k)) (Ideal.ofBits .f32 0x43800000#32) := by
  pointwise [k0_pay10]
  try rfl

theorem pay11_at (r : Fin 512) :
    k0_pay11 (F := Ideal) (ix2 r 0) = Ideal.ofBits .f32 0x358637BD#32 := by
  pointwise [k0_pay11]
  try rfl

theorem pay12_at (x : Vec Ideal S512x1024 .f32) (g : Vec Ideal S1x1024 .f32) (w : Vec Ideal S1024x256 .bf16) (h : Vec Ideal S1x256 .f32) (r : Fin 512) (k : Fin 256) :
    k0_pay12 (k0_pay8 x g w) (k0_pay9 h) (k0_pay10 x g w) k0_pay11 (ix2 r k) = nrm 0x43800000#32 (fun k => h (ix2 0 k)) (fun k => mv (fun d => k0_pay3 x g (ix2 r d)) (fun d k => w (ix2 d k)) k) k := by
  have e : k0_pay12 (k0_pay8 x g w) (k0_pay9 h) (k0_pay10 x g w) k0_pay11 (ix2 r k) = k0_pay8 x g w (ix2 r k) * Ideal.rsqrt (k0_pay10 x g w (ix2 r 0) + k0_pay11 (F := Ideal) (ix2 r 0)) * k0_pay9 h (ix2 0 k) := by
    generalize k0_pay8 x g w = a
    generalize k0_pay9 h = b
    generalize k0_pay10 x g w = p
    generalize k0_pay11 (F := Ideal) = q
    pointwise [k0_pay12, k0_pay13]
  rw [e, pay10_at, pay11_at, pay9_at]
  simp only [pay8_at]
  rfl

theorem pay13_at (x : Vec Ideal S512x1024 .f32) (g : Vec Ideal S1x1024 .f32) (w : Vec Ideal S1024x256 .bf16) (h : Vec Ideal S1x256 .f32) (r : Fin 512) (k : Fin 256) :
    k0_pay13 (k0_pay8 x g w) (k0_pay9 h) (k0_pay10 x g w) k0_pay11 (ix2 r k) = nrm 0x43800000#32 (fun k => h (ix2 0 k)) (fun k => mv (fun d => k0_pay3 x g (ix2 r d)) (fun d k => w (ix2 d k)) k) k := by
  have e : k0_pay13 (k0_pay8 x g w) (k0_pay9 h) (k0_pay10 x g w) k0_pay11 (ix2 r k) = k0_pay8 x g w (ix2 r k) * Ideal.rsqrt (k0_pay10 x g w (ix2 r 0) + k0_pay11 (F := Ideal) (ix2 r 0)) * k0_pay9 h (ix2 0 k) := by
    generalize k0_pay8 x g w = a
    generalize k0_pay9 h = b
    generalize k0_pay10 x g w = p
    generalize k0_pay11 (F := Ideal) = q
    pointwise [k0_pay12, k0_pay13]
  rw [e, pay10_at, pay11_at, pay9_at]
  simp only [pay8_at]
  rfl

/-- The shared rotary key. -/
theorem pay15_at (xn : FVec Ideal S512x1024 .bf16) (ca sa : FVec Ideal S512x128 .f32) (w w' : Vec Ideal S1024x128 .bf16) (r : Fin 512) (d : Fin 32) :
    k0_pay15 xn ca sa w w' (ix3 0 d r) = mv (fun d => xn (ix2 r d)) (fun d k => w (ix2 d k)) ⟨d.val, by omega⟩ * ca (ix2 r ⟨d.val, by omega⟩) + mv (fun d => xn (ix2 r d)) (fun d k => w' (ix2 d k)) ⟨d.val, by omega⟩ * sa (ix2 r ⟨d.val, by omega⟩) := by
  pointwise [mv, k0_pay15, k0_pay14]
  try rfl

theorem pay16_at (xn : FVec Ideal S512x1024 .bf16) (ca sa : FVec Ideal S512x128 .f32) (w w' : Vec Ideal S1024x128 .bf16) (r : Fin 512) (d : Fin 128) :
    k0_pay16 xn ca sa w w' (ix2 r d) = mv (fun d => xn (ix2 r d)) (fun d k => w (ix2 d k)) d * ca (ix2 r d) + mv (fun d => xn (ix2 r d)) (fun d k => w' (ix2 d k)) d * sa (ix2 r d) := by
  pointwise [mv, k0_pay16, k0_pay14]
  try rfl

/-- The indexer's key. -/
theorem pay17_at (xn : FVec Ideal S512x1024 .bf16) (ca sa : FVec Ideal S512x128 .f32) (w w' : Vec Ideal S1024x128 .bf16) (r : Fin 512) (d : Fin 128) :
    k0_pay17 xn ca sa w w' (ix2 r d) = mv (fun d => xn (ix2 r d)) (fun d k => w (ix2 d k)) d * ca (ix2 r d) + mv (fun d => xn (ix2 r d)) (fun d k => w' (ix2 d k)) d * sa (ix2 r d) := by
  pointwise [mv, k0_pay17]
  try rfl

theorem pay18_at (xn : FVec Ideal S512x1024 .bf16) (ca sa : FVec Ideal S512x128 .f32) (w w' : Vec Ideal S1024x128 .bf16) (r : Fin 512) (d : Fin 128) :
    k0_pay18 xn ca sa w w' (ix2 d r) = k0_pay17 xn ca sa w w' (ix2 r d) := by
  pointwise [k0_pay18]
  try rfl

theorem pay19_at (v : FVec Ideal S128x512 .f32) (r : Fin 512) (d : Fin 64) :
    k0_pay19 v (ix3 0 d r) = v (ix2 ⟨d.val, by omega⟩ r) := by
  pointwise [k0_pay19]
  try rfl

theorem pay20_at (v : FVec Ideal S512x128 .f32) (r : Fin 512) (d : Fin 64) :
    k0_pay20 v (ix2 r d) = v (ix2 r ⟨d.val, by omega⟩) := by
  pointwise [k0_pay20]
  try rfl

/-- The keys of the short attention. -/
theorem pay22_at (xn : FVec Ideal S512x1024 .bf16) (w : Vec Ideal S1024x128 .bf16) (r : Fin 512) (k : Fin 128) :
    k0_pay22 xn w (ix3 0 k r) = mv (fun d => xn (ix2 r d)) (fun d k => w (ix2 d k)) k := by
  pointwise [mv, k0_pay22, k0_pay21]
  try rfl

theorem pay23_at (xn : FVec Ideal S512x1024 .bf16) (w : Vec Ideal S1024x128 .bf16) (r : Fin 512) (k : Fin 128) :
    k0_pay23 xn w (ix2 r k) = mv (fun d => xn (ix2 r d)) (fun d k => w (ix2 d k)) k := by
  pointwise [mv, k0_pay23, k0_pay21]
  try rfl

/-- Its values. -/
theorem pay25_at (xn : FVec Ideal S512x1024 .bf16) (w : Vec Ideal S1024x128 .bf16) (r : Fin 512) (k : Fin 128) :
    k0_pay25 xn w (ix3 0 k r) = mv (fun d => xn (ix2 r d)) (fun d k => w (ix2 d k)) k := by
  pointwise [mv, k0_pay25, k0_pay24]
  try rfl

theorem pay26_at (xn : FVec Ideal S512x1024 .bf16) (w : Vec Ideal S1024x128 .bf16) (r : Fin 512) (k : Fin 128) :
    k0_pay26 xn w (ix2 r k) = mv (fun d => xn (ix2 r d)) (fun d k => w (ix2 d k)) k := by
  pointwise [mv, k0_pay26, k0_pay24]
  try rfl

/-- The indexer's head weights. -/
theorem pay27_at (xn : FVec Ideal S512x1024 .bf16) (w : Vec Ideal S1024x128 .bf16) (r : Fin 512) (h : Fin 8) :
    k0_pay27 xn w (ix2 r h) = mv (fun d => xn (ix2 r d)) (fun d k => w (ix2 d k)) ⟨h.val, by omega⟩ := by
  pointwise [mv, k0_pay27]
  try rfl

theorem pay28_at (v : FVec Ideal S512x8 .f32) (c : Ideal .f32) (r : Fin 512) (h : Fin 8) :
    k0_pay28 v c (ix2 r h) = v (ix2 r h) * c := by
  pointwise [k0_pay28]
  try rfl

/-- The queries, all heads side by side. -/
theorem pay29_at (xn : FVec Ideal S512x1024 .bf16) (w : Vec Ideal S1024x512 .bf16) (r : Fin 512) (j : Fin 512) :
    k0_pay29 xn w (ix2 r j) = mv (fun d => xn (ix2 r d)) (fun d k => w (ix2 d k)) j := by
  pointwise [mv, k0_pay29]
  try rfl

/-- The queries, all heads side by side. -/
theorem pay39_at (xn : FVec Ideal S512x1024 .bf16) (w : Vec Ideal S1024x512 .bf16) (r : Fin 512) (j : Fin 512) :
    k0_pay39 xn w (ix2 r j) = mv (fun d => xn (ix2 r d)) (fun d k => w (ix2 d k)) j := by
  pointwise [mv, k0_pay39]
  try rfl

theorem pay40_at (xn : FVec Ideal S512x1024 .bf16) (w : Vec Ideal S1024x512 .bf16) (r : Fin 512) (j : Fin 512) :
    k0_pay40 xn w (ix2 r j) = mv (fun d => xn (ix2 r d)) (fun d k => w (ix2 d k)) j := by
  pointwise [mv, k0_pay40]
  try rfl

theorem pay30_at (xn : FVec Ideal S512x1024 .bf16) (w : Vec Ideal S1024x512 .bf16) (r : Fin 512) (d : Fin 64) :
    k0_pay30 xn w (ix3 0 r d) = mv (fun d => xn (ix2 r d)) (fun d k => w (ix2 d k)) ⟨d.val, by omega⟩ := by
  pointwise [mv, k0_pay30, k0_pay29]
  try rfl

theorem pay31_at (xn : FVec Ideal S512x1024 .bf16) (w : Vec Ideal S1024x512 .bf16) (r : Fin 512) (d : Fin 64) :
    k0_pay31 xn w (ix3 0 r d) = mv (fun d => xn (ix2 r d)) (fun d k => w (ix2 d k)) ⟨64 + d.val, by omega⟩ := by
  pointwise [mv, k0_pay31, k0_pay29]
  try rfl

theorem pay32_at (xn : FVec Ideal S512x1024 .bf16) (w : Vec Ideal S1024x512 .bf16) (r : Fin 512) (d : Fin 64) :
    k0_pay32 xn w (ix3 0 r d) = mv (fun d => xn (ix2 r d)) (fun d k => w (ix2 d k)) ⟨128 + d.val, by omega⟩ := by
  pointwise [mv, k0_pay32, k0_pay29]
  try rfl

theorem pay33_at (xn : FVec Ideal S512x1024 .bf16) (w : Vec Ideal S1024x512 .bf16) (r : Fin 512) (d : Fin 64) :
    k0_pay33 xn w (ix3 0 r d) = mv (fun d => xn (ix2 r d)) (fun d k => w (ix2 d k)) ⟨192 + d.val, by omega⟩ := by
  pointwise [mv, k0_pay33, k0_pay29]
  try rfl

theorem pay34_at (xn : FVec Ideal S512x1024 .bf16) (w : Vec Ideal S1024x512 .bf16) (r : Fin 512) (d : Fin 64) :
    k0_pay34 xn w (ix3 0 r d) = mv (fun d => xn (ix2 r d)) (fun d k => w (ix2 d k)) ⟨256 + d.val, by omega⟩ := by
  pointwise [mv, k0_pay34, k0_pay29]
  try rfl

theorem pay36_at (xn : FVec Ideal S512x1024 .bf16) (w : Vec Ideal S1024x512 .bf16) (r : Fin 512) (d : Fin 64) :
    k0_pay36 (k0_pay35 xn w) (ix3 0 r d) = mv (fun d => xn (ix2 r d)) (fun d k => w (ix2 d k)) ⟨320 + d.val, by omega⟩ := by
  pointwise [mv, k0_pay36, k0_pay35, k0_pay29]
  try rfl

theorem pay37_at (xn : FVec Ideal S512x1024 .bf16) (w : Vec Ideal S1024x512 .bf16) (r : Fin 512) (d : Fin 64) :
    k0_pay37 (k0_pay29 xn w) (ix3 0 r d) = mv (fun d => xn (ix2 r d)) (fun d k => w (ix2 d k)) ⟨384 + d.val, by omega⟩ := by
  pointwise [mv, k0_pay37, k0_pay29]
  try rfl

theorem pay38_at (xn : FVec Ideal S512x1024 .bf16) (w : Vec Ideal S1024x512 .bf16) (r : Fin 512) (d : Fin 64) :
    k0_pay38 (k0_pay29 xn w) (ix3 0 r d) = mv (fun d => xn (ix2 r d)) (fun d k => w (ix2 d k)) ⟨448 + d.val, by omega⟩ := by
  pointwise [mv, k0_pay38, k0_pay29]
  try rfl

theorem qi0_at (xn : FVec Ideal S512x1024 .bf16) (cb sb : FVec Ideal S512x128 .f32) (w w' : Vec Ideal S1024x512 .bf16) (r : Fin 512) (d : Fin 64) :
    k0_pay42 xn cb sb w w' (ix3 0 r d) = mv (fun d => xn (ix2 r d)) (fun d k => w (ix2 d k)) ⟨d.val, by omega⟩ * cb (ix2 r ⟨d.val, by omega⟩) + mv (fun d => xn (ix2 r d)) (fun d k => w' (ix2 d k)) ⟨d.val, by omega⟩ * sb (ix2 r ⟨d.val, by omega⟩) := by
  pointwise [mv, k0_pay42, k0_pay41, k0_pay39, k0_pay40, k0_pay44]
  try rfl

theorem qi1_at (xn : FVec Ideal S512x1024 .bf16) (cb sb : FVec Ideal S512x128 .f32) (w w' : Vec Ideal S1024x512 .bf16) (r : Fin 512) (d : Fin 64) :
    k0_pay43 xn cb sb w w' (ix3 0 r d) = mv (fun d => xn (ix2 r d)) (fun d k => w (ix2 d k)) ⟨64 + d.val, by omega⟩ * cb (ix2 r ⟨64 + d.val, by omega⟩) + mv (fun d => xn (ix2 r d)) (fun d k => w' (ix2 d k)) ⟨64 + d.val, by omega⟩ * sb (ix2 r ⟨64 + d.val, by omega⟩) := by
  pointwise [mv, k0_pay43, k0_pay41, k0_pay39, k0_pay40, k0_pay44]
  try rfl

theorem qi2_at (xn : FVec Ideal S512x1024 .bf16) (cb sb : FVec Ideal S512x128 .f32) (w w' : Vec Ideal S1024x512 .bf16) (r : Fin 512) (d : Fin 64) :
    k0_pay46 cb sb (k0_pay40 xn w') (k0_pay44 xn w) (ix3 0 r d) = mv (fun d => xn (ix2 r d)) (fun d k => w (ix2 d k)) ⟨128 + d.val, by omega⟩ * cb (ix2 r ⟨d.val, by omega⟩) + mv (fun d => xn (ix2 r d)) (fun d k => w' (ix2 d k)) ⟨128 + d.val, by omega⟩ * sb (ix2 r ⟨d.val, by omega⟩) := by
  pointwise [mv, k0_pay46, k0_pay45, k0_pay39, k0_pay40, k0_pay44]
  try rfl

theorem qi3_at (xn : FVec Ideal S512x1024 .bf16) (cb sb : FVec Ideal S512x128 .f32) (w w' : Vec Ideal S1024x512 .bf16) (r : Fin 512) (d : Fin 64) :
    k0_pay47 cb sb (k0_pay40 xn w') (k0_pay44 xn w) (ix3 0 r d) = mv (fun d => xn (ix2 r d)) (fun d k => w (ix2 d k)) ⟨128 + (64 + d.val), by omega⟩ * cb (ix2 r ⟨64 + d.val, by omega⟩) + mv (fun d => xn (ix2 r d)) (fun d k => w' (ix2 d k)) ⟨128 + (64 + d.val), by omega⟩ * sb (ix2 r ⟨64 + d.val, by omega⟩) := by
  pointwise [mv, k0_pay47, k0_pay45, k0_pay39, k0_pay40, k0_pay44]
  try rfl

theorem qi4_at (xn : FVec Ideal S512x1024 .bf16) (cb sb : FVec Ideal S512x128 .f32) (w w' : Vec Ideal S1024x512 .bf16) (r : Fin 512) (d : Fin 64) :
    k0_pay49 cb sb (k0_pay39 xn w) (k0_pay40 xn w') (ix3 0 r d) = mv (fun d => xn (ix2 r d)) (fun d k => w (ix2 d k)) ⟨256 + d.val, by omega⟩ * cb (ix2 r ⟨d.val, by omega⟩) + mv (fun d => xn (ix2 r d)) (fun d k => w' (ix2 d k)) ⟨256 + d.val, by omega⟩ * sb (ix2 r ⟨d.val, by omega⟩) := by
  pointwise [mv, k0_pay49, k0_pay48, k0_pay39, k0_pay40, k0_pay44]
  try rfl

theorem qi5_at (xn : FVec Ideal S512x1024 .bf16) (cb sb : FVec Ideal S512x128 .f32) (w w' : Vec Ideal S1024x512 .bf16) (r : Fin 512) (d : Fin 64) :
    k0_pay50 cb sb (k0_pay39 xn w) (k0_pay40 xn w') (ix3 0 r d) = mv (fun d => xn (ix2 r d)) (fun d k => w (ix2 d k)) ⟨256 + (64 + d.val), by omega⟩ * cb (ix2 r ⟨64 + d.val, by omega⟩) + mv (fun d => xn (ix2 r d)) (fun d k => w' (ix2 d k)) ⟨256 + (64 + d.val), by omega⟩ * sb (ix2 r ⟨64 + d.val, by omega⟩) := by
  pointwise [mv, k0_pay50, k0_pay48, k0_pay39, k0_pay40, k0_pay44]
  try rfl

theorem qi6_at (xn : FVec Ideal S512x1024 .bf16) (cb sb : FVec Ideal S512x128 .f32) (w w' : Vec Ideal S1024x512 .bf16) (r : Fin 512) (d : Fin 64) :
    k0_pay52 cb sb (k0_pay39 xn w) (k0_pay40 xn w') (ix3 0 r d) = mv (fun d => xn (ix2 r d)) (fun d k => w (ix2 d k)) ⟨384 + d.val, by omega⟩ * cb (ix2 r ⟨d.val, by omega⟩) + mv (fun d => xn (ix2 r d)) (fun d k => w' (ix2 d k)) ⟨384 + d.val, by omega⟩ * sb (ix2 r ⟨d.val, by omega⟩) := by
  pointwise [mv, k0_pay52, k0_pay51, k0_pay39, k0_pay40, k0_pay44]
  try rfl

theorem qi7_at (xn : FVec Ideal S512x1024 .bf16) (cb sb : FVec Ideal S512x128 .f32) (w w' : Vec Ideal S1024x512 .bf16) (r : Fin 512) (d : Fin 64) :
    k0_pay54 (k0_pay53 cb sb (k0_pay39 xn w) (k0_pay40 xn w')) (ix3 0 r d) = mv (fun d => xn (ix2 r d)) (fun d k => w (ix2 d k)) ⟨384 + (64 + d.val), by omega⟩ * cb (ix2 r ⟨64 + d.val, by omega⟩) + mv (fun d => xn (ix2 r d)) (fun d k => w' (ix2 d k)) ⟨384 + (64 + d.val), by omega⟩ * sb (ix2 r ⟨64 + d.val, by omega⟩) := by
  pointwise [mv, k0_pay54, k0_pay53, k0_pay51, k0_pay39, k0_pay40, k0_pay44]
  try rfl

/-- The normed latent query. -/
theorem pay55_at (xn : FVec Ideal S512x1024 .bf16) (w : Vec Ideal S1024x384 .bf16) (g : Vec Ideal S1x384 .f32) (r : Fin 512) (k : Fin 384) :
    k0_pay55 xn w g (ix2 r k) = nrm 0x43C00000#32 (fun k => g (ix2 0 k)) (fun k => mv (fun d => xn (ix2 r d)) (fun d k => w (ix2 d k)) k) k := by
  pointwise [nrm, mv, k0_pay55]
  try rfl

theorem pay56_at (xn : FVec Ideal S512x1024 .bf16) (w : Vec Ideal S1024x384 .bf16) (g : Vec Ideal S1x384 .f32) (r : Fin 512) (u : Vec Ideal S384x512 .bf16) (j : Fin 512) :
    k0_pay56 xn w g u (ix2 r j) = mv (fun k => k0_pay55 xn w g (ix2 r k)) (fun d k => u (ix2 d k)) j := by
  pointwise [mv, k0_pay56]
  try rfl

theorem lat2_at (q : FVec Ideal S512x512 .bf16) (k : Vec Ideal S1x128x512 .bf16) (r : Fin 512) (c : Fin 256) :
    k0_pay62 q k (ix3 0 r c) = ∑ n : Fin 128, q (ix2 r ⟨128 + n.val, by omega⟩) * k (ix3 0 n ⟨c.val, by omega⟩) := by
  pointwise [k0_pay62, k0_pay61]
  try rfl

theorem lat3_at (q : FVec Ideal S512x512 .bf16) (k : Vec Ideal S1x128x512 .bf16) (r : Fin 512) (c : Fin 256) :
    k0_pay63 q k (ix3 0 r c) = ∑ n : Fin 128, q (ix2 r ⟨128 + n.val, by omega⟩) * k (ix3 0 n ⟨256 + c.val, by omega⟩) := by
  pointwise [k0_pay63, k0_pay61]
  try rfl

theorem lat4_at (q : FVec Ideal S512x512 .bf16) (k : Vec Ideal S1x128x512 .bf16) (r : Fin 512) (c : Fin 256) :
    k0_pay65 q k (ix3 0 r c) = ∑ n : Fin 128, q (ix2 r ⟨256 + n.val, by omega⟩) * k (ix3 0 n ⟨c.val, by omega⟩) := by
  pointwise [k0_pay65, k0_pay64]
  try rfl

theorem lat5_at (q : FVec Ideal S512x512 .bf16) (k : Vec Ideal S1x128x512 .bf16) (r : Fin 512) (c : Fin 256) :
    k0_pay66 q k (ix3 0 r c) = ∑ n : Fin 128, q (ix2 r ⟨256 + n.val, by omega⟩) * k (ix3 0 n ⟨256 + c.val, by omega⟩) := by
  pointwise [k0_pay66, k0_pay64]
  try rfl

theorem lat6_at (q : FVec Ideal S512x512 .bf16) (k : Vec Ideal S1x128x512 .bf16) (r : Fin 512) (c : Fin 256) :
    k0_pay69 (k0_pay67 q) k (ix3 0 r c) = ∑ n : Fin 128, q (ix2 r ⟨384 + n.val, by omega⟩) * k (ix3 0 n ⟨c.val, by omega⟩) := by
  pointwise [k0_pay69, k0_pay68, k0_pay67]
  try rfl

theorem lat7_at (q : FVec Ideal S512x512 .bf16) (k : Vec Ideal S1x128x512 .bf16) (r : Fin 512) (c : Fin 256) :
    k0_pay70 (k0_pay67 q) k (ix3 0 r c) = ∑ n : Fin 128, q (ix2 r ⟨384 + n.val, by omega⟩) * k (ix3 0 n ⟨256 + c.val, by omega⟩) := by
  pointwise [k0_pay70, k0_pay68, k0_pay67]
  try rfl

theorem lat0_at (xn : FVec Ideal S512x1024 .bf16) (w : Vec Ideal S1024x384 .bf16) (g : Vec Ideal S1x384 .f32) (r : Fin 512) (u : Vec Ideal S384x512 .bf16) (k : Vec Ideal S1x128x512 .bf16) (c : Fin 256) :
    k0_pay58 xn w g u k (ix3 0 r c) = ∑ n : Fin 128, k0_pay56 xn w g u (ix2 r ⟨n.val, by omega⟩) * k (ix3 0 n ⟨c.val, by omega⟩) := by
  pointwise [k0_pay58, k0_pay57]
  try rfl

theorem lat1_at (xn : FVec Ideal S512x1024 .bf16) (w : Vec Ideal S1024x384 .bf16) (g : Vec Ideal S1x384 .f32) (r : Fin 512) (u : Vec Ideal S384x512 .bf16) (k : Vec Ideal S1x128x512 .bf16) (c : Fin 256) :
    k0_pay60 (k0_pay59 xn w g u k) (ix3 0 r c) = ∑ n : Fin 128, k0_pay56 xn w g u (ix2 r ⟨n.val, by omega⟩) * k (ix3 0 n ⟨256 + c.val, by omega⟩) := by
  pointwise [k0_pay60, k0_pay59, k0_pay57]
  try rfl

theorem qr0_at (ca sa : FVec Ideal S512x128 .f32) (q : FVec Ideal S512x384 .bf16) (u u' : Vec Ideal S384x128 .bf16) (r : Fin 512) (d : Fin 128) :
    k0_pay71 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay71]
  try rfl

theorem qr1_at (ca sa : FVec Ideal S512x128 .f32) (q : FVec Ideal S512x384 .bf16) (u u' : Vec Ideal S384x128 .bf16) (r : Fin 512) (d : Fin 128) :
    k0_pay74 sa q (k0_pay72 ca q u) (k0_pay73 u') (constant S512x128 .f32 0x00000000#32) (ix3 0 r d) = mv (fun k => q (ix2 r k)) (fun d k => u (ix2 d k)) d * ca (ix2 r d) + mv (fun k => q (ix2 r k)) (fun d k => u' (ix2 d k)) d * sa (ix2 r d) := by
  pointwise [mv, k0_pay72, k0_pay73, k0_pay74]
  try rfl

theorem qr2_at (ca sa : FVec Ideal S512x128 .f32) (q : FVec Ideal S512x384 .bf16) (u u' : Vec Ideal S384x128 .bf16) (r : Fin 512) (d : Fin 128) :
    k0_pay75 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay75]
  try rfl

theorem qr3_at (ca sa : FVec Ideal S512x128 .f32) (q : FVec Ideal S512x384 .bf16) (u u' : Vec Ideal S384x128 .bf16) (r : Fin 512) (d : Fin 128) :
    k0_pay76 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay76]
  try rfl

theorem qr4_at (ca sa : FVec Ideal S512x128 .f32) (q : FVec Ideal S512x384 .bf16) (u u' : Vec Ideal S384x128 .bf16) (r : Fin 512) (d : Fin 128) :
    k0_pay77 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay77]
  try rfl

theorem qr5_at (ca sa : FVec Ideal S512x128 .f32) (q : FVec Ideal S512x384 .bf16) (u u' : Vec Ideal S384x128 .bf16) (r : Fin 512) (d : Fin 128) :
    k0_pay78 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay78]
  try rfl

theorem qr6_at (ca sa : FVec Ideal S512x128 .f32) (q : FVec Ideal S512x384 .bf16) (u u' : Vec Ideal S384x128 .bf16) (r : Fin 512) (d : Fin 128) :
    k0_pay1 (k0_pay79 ca sa q u u') (ix3 0 r d) = mv (fun k => q (ix2 r k)) (fun d k => u (ix2 d k)) d * ca (ix2 r d) + mv (fun k => q (ix2 r k)) (fun d k => u' (ix2 d k)) d * sa (ix2 r d) := by
  pointwise [mv, k0_pay1, k0_pay79]
  try rfl

theorem qr7_at (ca sa : FVec Ideal S512x128 .f32) (q : FVec Ideal S512x384 .bf16) (u u' : Vec Ideal S384x128 .bf16) (r : Fin 512) (d : Fin 128) :
    k0_pay2 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay2]
  try rfl

end Cert.Kernel2Ideal.Proj

end
-- ==== Proof.ProjBlock2.lean ====
/- What the projection kernel leaves in each output's block, as rows projected by the packed weights. -/
module

public import proofs.«01_k».proof.Proof.Gen.Kernel2Ideal.Frame
public import proofs.«01_k».proof.Proof.ProjPay2
public import proofs.«01_k».proof.Proof.ProjLoad

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen Cert.Proj

variable {c : Dev nD} {i : grid0.Coords} {arg1 : Memref sig .tc .vmem S512x1024 .f32} {harg1 : arg1.IsWhole} {arg2 : Memref sig .tc .vmem S1x1024 .f32} {harg2 : arg2.IsWhole} {arg3 : Memref sig .tc .vmem S1024x3072 .bf16} {harg3 : arg3.IsWhole} {arg4 : Memref sig .tc .vmem S1x384 .f32} {harg4 : arg4.IsWhole} {arg5 : Memref sig .tc .vmem S384x2560 .bf16} {harg5 : arg5.IsWhole} {arg6 : Memref sig .tc .vmem S1x256 .f32} {harg6 : arg6.IsWhole} {arg7 : Memref sig .tc .vmem S4x128x512 .bf16} {harg7 : arg7.IsWhole} {arg8 : Memref sig .tc .vmem S512x128 .f32} {harg8 : arg8.IsWhole} {arg9 : Memref sig .tc .vmem S512x128 .f32} {harg9 : arg9.IsWhole} {arg10 : Memref sig .tc .vmem S512x128 .f32} {harg10 : arg10.IsWhole} {arg11 : Memref sig .tc .vmem S512x128 .f32} {harg11 : arg11.IsWhole} {arg12 : Memref sig .tc .vmem S512x256 .f32} {harg12 : arg12.IsWhole} {arg13 : Memref sig .tc .vmem S1x32x512 .f32} {harg13 : arg13.IsWhole} {arg14 : Memref sig .tc .vmem S1x128x512 .f32} {harg14 : arg14.IsWhole} {arg15 : Memref sig .tc .vmem S1x128x512 .f32} {harg15 : arg15.IsWhole} {arg16 : Memref sig .tc .vmem S1x64x512 .f32} {harg16 : arg16.IsWhole} {arg17 : Memref sig .tc .vmem S512x384 .bf16} {harg17 : arg17.IsWhole} {arg18 : Memref sig .tc .vmem S512x128 .bf16} {harg18 : arg18.IsWhole} {arg19 : Memref sig .tc .vmem S512x128 .bf16} {harg19 : arg19.IsWhole} {arg20 : Memref sig .tc .vmem S512x64 .bf16} {harg20 : arg20.IsWhole} {arg21 : Memref sig .tc .vmem S8x512x384 .bf16} {harg21 : arg21.IsWhole} {arg22 : Memref sig .tc .vmem S8x512x64 .bf16} {harg22 : arg22.IsWhole} {arg23 : Memref sig .tc .vmem S8x512x64 .bf16} {harg23 : arg23.IsWhole} {arg24 : Memref sig .tc .vmem S512x8 .f32} {harg24 : arg24.IsWhole}
    {x0 : Vec Ideal S512x1024 .f32} {x1 : Vec Ideal S1x1024 .f32} {x2 : Vec Ideal S1024x3072 .bf16} {x3 : Vec Ideal S1x384 .f32} {x4 : Vec Ideal S384x2560 .bf16} {x5 : Vec Ideal S1x256 .f32} {x6 : Vec Ideal S4x128x512 .bf16} {x7 : Vec Ideal S512x128 .f32} {x8 : Vec Ideal S512x128 .f32} {x9 : Vec Ideal S512x128 .f32} {x10 : Vec Ideal S512x128 .f32}

/-! ## Values the stores share -/

theorem r_at (r : Fin 512) (d : Fin 1024) : kernelRun0_A.sl.r c arg1 harg1 arg2 harg2 x0 x1 (ix2 r d) = (xrow (fun d => x1 (ix2 0 d)) fun d => x0 (ix2 r d)) d := by
  unfold kernelRun0_A.sl.r
  refine (pay3_at _ _ r d).trans ?_
  simp only [ld_whole]
  rfl

theorem r1_at (r : Fin 512) (d : Fin 128) : kernelRun0_A.sl.r_1 c arg8 harg8 x7 (ix2 r d) = x7 (ix2 r d) := by
  unfold kernelRun0_A.sl.r_1
  refine (pay4_at _ r d).trans ?_
  simp only [ld_whole]

theorem r2_at (r : Fin 512) (d : Fin 128) : kernelRun0_A.sl.r_2 c arg9 harg9 x8 (ix2 r d) = x8 (ix2 r d) := by
  unfold kernelRun0_A.sl.r_2
  refine (pay5_at _ r d).trans ?_
  simp only [ld_whole]

theorem r3_at (r : Fin 512) (d : Fin 128) : kernelRun0_A.sl.r_3 c arg10 harg10 x9 (ix2 r d) = x9 (ix2 r d) := by
  unfold kernelRun0_A.sl.r_3
  refine (pay6_at _ r d).trans ?_
  simp only [ld_whole]

theorem r4_at (r : Fin 512) (d : Fin 128) : kernelRun0_A.sl.r_4 c arg11 harg11 x10 (ix2 r d) = x10 (ix2 r d) := by
  unfold kernelRun0_A.sl.r_4
  refine (pay7_at _ r d).trans ?_
  simp only [ld_whole]

theorem mvw (v : Fin 1024 → EReal) (p b : ℕ) (hp : p + b ≤ 3072) (inb : ∀ a, (![0, p] : Fin 2 → ℕ) a + (![1024, b] : Fin 2 → ℕ) a ≤ S1024x3072.size a) (j : Fin b) :
    mv v (fun d k => View.readAt (Elt Ideal) arg3.view (Rect.unit (s := S1024x3072) ![0, p] ![1024, b] inb).toLoadRect (harg3.unread x2) (ix2 d k)) j = mv v (fun d k => x2 (ix2 d k)) ⟨p + j.val, by omega⟩ :=
  mv_col _ _ _ _ _ fun d => ld_cols arg3 harg3 x2 hp inb d j

theorem mvu (v : Fin 384 → EReal) (p b : ℕ) (hp : p + b ≤ 2560) (inb : ∀ a, (![0, p] : Fin 2 → ℕ) a + (![384, b] : Fin 2 → ℕ) a ≤ S384x2560.size a) (j : Fin b) :
    mv v (fun d k => View.readAt (Elt Ideal) arg5.view (Rect.unit (s := S384x2560) ![0, p] ![384, b] inb).toLoadRect (harg5.unread x4) (ix2 d k)) j = mv v (fun d k => x4 (ix2 d k)) ⟨p + j.val, by omega⟩ :=
  mv_col _ _ _ _ _ fun d => ld_cols arg5 harg5 x4 hp inb d j

theorem cq_at (r : Fin 512) (k : Fin 384) : kernelRun0_A.sl.r_17 c arg1 harg1 arg2 harg2 arg3 harg3 arg4 harg4 x0 x1 x2 x3 (ix2 r k) = pcq (xrow (fun d => x1 (ix2 0 d)) fun d => x0 (ix2 r d)) (fun d k => x2 (ix2 d k)) (fun k => x3 (ix2 0 k)) k := by
  unfold kernelRun0_A.sl.r_17
  refine (pay55_at _ _ _ r k).trans ?_
  simp only [r_at, ld_whole]
  unfold pcq
  congr 1
  funext k
  refine (mv_col _ _ _ _ _ fun d => ld_cols (p := 0) arg3 harg3 x2 (by norm_num) _ d k).trans (mv_idx _ _ _ _ (Nat.zero_add _))

theorem q_at (r : Fin 512) (j : Fin 512) : kernelRun0_A.sl.r_18 c arg1 harg1 arg2 harg2 arg3 harg3 arg4 harg4 arg5 harg5 x0 x1 x2 x3 x4 (ix2 r j) = mv (pcq (xrow (fun d => x1 (ix2 0 d)) fun d => x0 (ix2 r d)) (fun d k => x2 (ix2 d k)) (fun k => x3 (ix2 0 k))) (fun d k => x4 (ix2 d k)) ⟨j.val, by omega⟩ := by
  unfold kernelRun0_A.sl.r_18
  refine (pay56_at _ _ _ r _ j).trans ?_
  have e : (fun k => k0_pay55 (kernelRun0_A.sl.r c arg1 harg1 arg2 harg2 x0 x1) (View.readAt (Elt Ideal) arg3.view (Rect.unit (s := S1024x3072) ![0, 0] S1024x384.size inb_S1024x3072_S1024x384_0_0).toLoadRect (harg3.unread x2)) (View.readAt (Elt Ideal) arg4.view (Rect.unit (s := S1x384) ![0, 0] S1x384.size inb_S1x384_S1x384_0_0).toLoadRect (harg4.unread x3)) (ix2 r k)) = pcq (xrow (fun d => x1 (ix2 0 d)) fun d => x0 (ix2 r d)) (fun d k => x2 (ix2 d k)) (fun k => x3 (ix2 0 k)) := funext fun k => cq_at r k
  refine (congrArg (fun v => mv v _ j) e).trans ?_
  exact (mv_col _ _ _ _ _ fun d => ld_cols (p := 0) arg5 harg5 x4 (by norm_num) _ d j).trans (mv_idx _ _ _ _ (Nat.zero_add _))

/-! ## The outputs -/

/-- The normed latents. -/
def o11 (x0 : Vec Ideal S512x1024 .f32) (x1 : Vec Ideal S1x1024 .f32) (x2 : Vec Ideal S1024x3072 .bf16) (x5 : Vec Ideal S1x256 .f32) : Vec Ideal S512x256 .f32 := fun y =>
  pckv (xrow (fun d => x1 (ix2 0 d)) fun d => x0 (ix2 (y 0) d)) (fun d k => x2 (ix2 d k)) (fun k => x5 (ix2 0 k)) (y 1)

/-- The rotated shared key. -/
def o12 (x0 : Vec Ideal S512x1024 .f32) (x1 : Vec Ideal S1x1024 .f32) (x2 : Vec Ideal S1024x3072 .bf16) (x7 : Vec Ideal S512x128 .f32) (x8 : Vec Ideal S512x128 .f32) : Vec Ideal S1x32x512 .f32 := fun y =>
  pkr (xrow (fun d => x1 (ix2 0 d)) fun d => x0 (ix2 (y 2) d)) (fun d k => x2 (ix2 d k)) (fun d => x7 (ix2 (y 2) d)) (fun d => x8 (ix2 (y 2) d)) ⟨(y 1).val, lt_of_lt_of_le (y 1).isLt (by decide)⟩

/-- The short attention's keys. -/
def o13 (x0 : Vec Ideal S512x1024 .f32) (x1 : Vec Ideal S1x1024 .f32) (x2 : Vec Ideal S1024x3072 .bf16) : Vec Ideal S1x128x512 .f32 := fun y =>
  mv (xrow (fun d => x1 (ix2 0 d)) fun d => x0 (ix2 (y 2) d)) (fun d k => x2 (ix2 d k)) ⟨1152 + (y 1).val, Nat.add_lt_of_lt_sub' (lt_of_lt_of_le (y 1).isLt (by decide))⟩

/-- Its values. -/
def o14 (x0 : Vec Ideal S512x1024 .f32) (x1 : Vec Ideal S1x1024 .f32) (x2 : Vec Ideal S1024x3072 .bf16) : Vec Ideal S1x128x512 .f32 := fun y =>
  mv (xrow (fun d => x1 (ix2 0 d)) fun d => x0 (ix2 (y 2) d)) (fun d k => x2 (ix2 d k)) ⟨1280 + (y 1).val, Nat.add_lt_of_lt_sub' (lt_of_lt_of_le (y 1).isLt (by decide))⟩

/-- The indexer's keys. -/
def o15 (x0 : Vec Ideal S512x1024 .f32) (x1 : Vec Ideal S1x1024 .f32) (x2 : Vec Ideal S1024x3072 .bf16) (x7 : Vec Ideal S512x128 .f32) (x8 : Vec Ideal S512x128 .f32) : Vec Ideal S1x64x512 .f32 := fun y =>
  pki (xrow (fun d => x1 (ix2 0 d)) fun d => x0 (ix2 (y 2) d)) (fun d k => x2 (ix2 d k)) (fun d => x7 (ix2 (y 2) d)) (fun d => x8 (ix2 (y 2) d)) ⟨(y 1).val, lt_of_lt_of_le (y 1).isLt (by decide)⟩

/-- Latents and rotated key side by side. -/
def o16 (x0 : Vec Ideal S512x1024 .f32) (x1 : Vec Ideal S1x1024 .f32) (x2 : Vec Ideal S1024x3072 .bf16) (x5 : Vec Ideal S1x256 .f32) (x7 : Vec Ideal S512x128 .f32) (x8 : Vec Ideal S512x128 .f32) : Vec Ideal S512x384 .bf16 := fun y =>
  pkcat (xrow (fun d => x1 (ix2 0 d)) fun d => x0 (ix2 (y 0) d)) (fun d k => x2 (ix2 d k)) (fun k => x5 (ix2 0 k)) (fun d => x7 (ix2 (y 0) d)) (fun d => x8 (ix2 (y 0) d)) (y 1)

/-- The short attention's keys again. -/
def o17 (x0 : Vec Ideal S512x1024 .f32) (x1 : Vec Ideal S1x1024 .f32) (x2 : Vec Ideal S1024x3072 .bf16) : Vec Ideal S512x128 .bf16 := fun y =>
  mv (xrow (fun d => x1 (ix2 0 d)) fun d => x0 (ix2 (y 0) d)) (fun d k => x2 (ix2 d k)) ⟨1152 + (y 1).val, Nat.add_lt_of_lt_sub' (lt_of_lt_of_le (y 1).isLt (by decide))⟩

/-- Its values again. -/
def o18 (x0 : Vec Ideal S512x1024 .f32) (x1 : Vec Ideal S1x1024 .f32) (x2 : Vec Ideal S1024x3072 .bf16) : Vec Ideal S512x128 .bf16 := fun y =>
  mv (xrow (fun d => x1 (ix2 0 d)) fun d => x0 (ix2 (y 0) d)) (fun d k => x2 (ix2 d k)) ⟨1280 + (y 1).val, Nat.add_lt_of_lt_sub' (lt_of_lt_of_le (y 1).isLt (by decide))⟩

/-- The indexer's keys again. -/
def o19 (x0 : Vec Ideal S512x1024 .f32) (x1 : Vec Ideal S1x1024 .f32) (x2 : Vec Ideal S1024x3072 .bf16) (x7 : Vec Ideal S512x128 .f32) (x8 : Vec Ideal S512x128 .f32) : Vec Ideal S512x64 .bf16 := fun y =>
  pki (xrow (fun d => x1 (ix2 0 d)) fun d => x0 (ix2 (y 0) d)) (fun d k => x2 (ix2 d k)) (fun d => x7 (ix2 (y 0) d)) (fun d => x8 (ix2 (y 0) d)) ⟨(y 1).val, lt_of_lt_of_le (y 1).isLt (by decide)⟩

/-- Latent and rotated queries side by side. -/
def o20 (x0 : Vec Ideal S512x1024 .f32) (x1 : Vec Ideal S1x1024 .f32) (x2 : Vec Ideal S1024x3072 .bf16) (x3 : Vec Ideal S1x384 .f32) (x4 : Vec Ideal S384x2560 .bf16) (x6 : Vec Ideal S4x128x512 .bf16) (x7 : Vec Ideal S512x128 .f32) (x8 : Vec Ideal S512x128 .f32) : Vec Ideal S8x512x384 .bf16 := fun y =>
  pqcat (xrow (fun d => x1 (ix2 0 d)) fun d => x0 (ix2 (y 1) d)) (fun d k => x2 (ix2 d k)) (fun k => x3 (ix2 0 k)) (fun d k => x4 (ix2 d k)) (fun p n k => x6 (ix3 p n k)) (fun d => x7 (ix2 (y 1) d)) (fun d => x8 (ix2 (y 1) d)) (y 0) (y 2)

/-- The short attention's queries. -/
def o21 (x0 : Vec Ideal S512x1024 .f32) (x1 : Vec Ideal S1x1024 .f32) (x2 : Vec Ideal S1024x3072 .bf16) : Vec Ideal S8x512x64 .bf16 := fun y =>
  pqb (xrow (fun d => x1 (ix2 0 d)) fun d => x0 (ix2 (y 1) d)) (fun d k => x2 (ix2 d k)) (y 0) (y 2)

/-- The indexer's queries. -/
def o22 (x0 : Vec Ideal S512x1024 .f32) (x1 : Vec Ideal S1x1024 .f32) (x2 : Vec Ideal S1024x3072 .bf16) (x9 : Vec Ideal S512x128 .f32) (x10 : Vec Ideal S512x128 .f32) : Vec Ideal S8x512x64 .bf16 := fun y =>
  pqi (xrow (fun d => x1 (ix2 0 d)) fun d => x0 (ix2 (y 1) d)) (fun d k => x2 (ix2 d k)) (fun d => x9 (ix2 (y 1) d)) (fun d => x10 (ix2 (y 1) d)) (y 0) (y 2)

/-- The indexer's head weights. -/
def o23 (x0 : Vec Ideal S512x1024 .f32) (x1 : Vec Ideal S1x1024 .f32) (x2 : Vec Ideal S1024x3072 .bf16) : Vec Ideal S512x8 .f32 := fun y =>
  mv (xrow (fun d => x1 (ix2 0 d)) fun d => x0 (ix2 (y 0) d)) (fun d k => x2 (ix2 d k)) ⟨2944 + (y 1).val, Nat.add_lt_of_lt_sub' (lt_of_lt_of_le (y 1).isLt (by decide))⟩ * Ideal.ofBits .f32 0x3D3504F3#32

theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o11 x0 x1 x2 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o11 x0 x1 x2 x5) _ fun r k => by
      unfold kernelRun0_A.sl.r_5 kernelRun0_A.sl.r_6 kernelRun0_A.sl.r_7
      refine (pay12_at _ _ _ _ r k).trans ?_
      have e : (fun d => k0_pay3 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (ix2 r d)) = (xrow (fun d => x1 (ix2 0 d)) fun d => x0 (ix2 r d)) := funext fun d => r_at (c := c) r d
      rw [e]
      simp only [ld_whole]
      exact congrArg (fun v => nrm 0x43800000#32 (fun k => x5 (ix2 0 k)) v k) (funext fun k => mvw _ 384 256 (by norm_num) _ k)

theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o12 x0 x1 x2 x7 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o12 x0 x1 x2 x7 x8) _ fun k r => by
      refine (pay15_at _ _ _ _ _ r k).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2432 128 (by norm_num) _ ⟨k.val, by omega⟩) (mvw _ 2560 128 (by norm_num) _ ⟨k.val, by omega⟩)

theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o13 x0 x1 x2 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o13 x0 x1 x2) _ fun k r => by
      refine (pay22_at _ _ r k).trans ?_
      simp only [r_at, r1_at, r2_at, r3_at, r4_at, ld_whole]
      exact mvw _ 1152 128 (by norm_num) _ k

theorem out14_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o14 x0 x1 x2 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o14 x0 x1 x2) _ fun k r => by
      refine (pay25_at _ _ r k).trans ?_
      simp only [r_at, r1_at, r2_at, r3_at, r4_at, ld_whole]
      exact mvw _ 1280 128 (by norm_num) _ k

theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o15 x0 x1 x2 x7 x8 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o15 x0 x1 x2 x7 x8) _ fun k r => by
      unfold kernelRun0_A.sl.r_9
      refine (pay19_at _ r k).trans ?_
      refine (pay18_at _ _ _ _ _ r _).trans ?_
      refine (pay17_at _ _ _ _ _ r _).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2688 128 (by norm_num) _ ⟨k.val, by omega⟩) (mvw _ 2816 128 (by norm_num) _ ⟨k.val, by omega⟩)

theorem out16_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o16 x0 x1 x2 x5 x7 x8 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, fun _ h => absurd h List.not_mem_nil⟩
  · exact piece2 (by norm_num) _ (o16 x0 x1 x2 x5 x7 x8) _ fun r k => by
      refine Eq.trans ?_ (pkcat_hi (xrow (fun d => x1 (ix2 0 d)) fun d => x0 (ix2 r d)) (fun d k => x2 (ix2 d k)) (fun k => x5 (ix2 0 k)) (fun d => x7 (ix2 r d)) (fun d => x8 (ix2 r d)) k).symm
      refine (pay16_at _ _ _ _ _ r k).trans ?_
      simp only [r_at, r1_at, r2_at, r3_at, r4_at, ld_whole]
      exact congrArg₂ (fun a b : EReal => a * x7 (ix2 r k) + b * x8 (ix2 r k)) (mvw _ 2432 128 (by norm_num) _ k) (mvw _ 2560 128 (by norm_num) _ k)
  · exact piece2z (by norm_num) _ (o16 x0 x1 x2 x5 x7 x8) _ fun r k => by
      refine Eq.trans ?_ (pkcat_lo (xrow (fun d => x1 (ix2 0 d)) fun d => x0 (ix2 r d)) (fun d k => x2 (ix2 d k)) (fun k => x5 (ix2 0 k)) (fun d => x7 (ix2 r d)) (fun d => x8 (ix2 r d)) k).symm
      unfold kernelRun0_A.sl.r_5 kernelRun0_A.sl.r_6 kernelRun0_A.sl.r_7
      refine (pay13_at _ _ _ _ r k).trans ?_
      have e : (fun d => k0_pay3 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (ix2 r d)) = (xrow (fun d => x1 (ix2 0 d)) fun d => x0 (ix2 r d)) := funext fun d => r_at (c := c) r d
      rw [e]
      simp only [ld_whole]
      exact congrArg (fun v => nrm 0x43800000#32 (fun k => x5 (ix2 0 k)) v k) (funext fun k => mvw _ 384 256 (by norm_num) _ k)

theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o17 x0 x1 x2 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o17 x0 x1 x2) _ fun r k => by
      refine (pay23_at _ _ r k).trans ?_
      simp only [r_at, r1_at, r2_at, r3_at, r4_at, ld_whole]
      exact mvw _ 1152 128 (by norm_num) _ k

theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o18 x0 x1 x2 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o18 x0 x1 x2) _ fun r k => by
      refine (pay26_at _ _ r k).trans ?_
      simp only [r_at, r1_at, r2_at, r3_at, r4_at, ld_whole]
      exact mvw _ 1280 128 (by norm_num) _ k

theorem out19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o19 x0 x1 x2 x7 x8 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o19 x0 x1 x2 x7 x8) _ fun r k => by
      unfold kernelRun0_A.sl.r_8
      refine (pay20_at _ r k).trans ?_
      refine (pay17_at _ _ _ _ _ r _).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2688 128 (by norm_num) _ ⟨k.val, by omega⟩) (mvw _ 2816 128 (by norm_num) _ ⟨k.val, by omega⟩)

theorem out20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o20 x0 x1 x2 x3 x4 x6 x7 x8 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, ?_, ?_, ?_, ?_, ?_, ?_, ?_, ?_, fun _ h => absurd h List.not_mem_nil⟩
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨7, by norm_num⟩ k).symm
      refine (qr7_at _ _ _ _ _ r k).trans ?_
      simp only [cq_at, r1_at, r2_at]
      refine (congrArg₂ (fun a b : EReal => a * x7 (ix2 r k) + b * x8 (ix2 r k)) (mvu _ 1408 128 (by norm_num) _ k) (mvu _ 2432 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨6, by norm_num⟩ k).symm
      unfold kernelRun0_A.sl.r_24
      refine (qr6_at _ _ _ _ _ r k).trans ?_
      simp only [cq_at, r1_at, r2_at]
      refine (congrArg₂ (fun a b : EReal => a * x7 (ix2 r k) + b * x8 (ix2 r k)) (mvu _ 1280 128 (by norm_num) _ k) (mvu _ 2304 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨5, by norm_num⟩ k).symm
      refine (qr5_at _ _ _ _ _ r k).trans ?_
      simp only [cq_at, r1_at, r2_at]
      refine (congrArg₂ (fun a b : EReal => a * x7 (ix2 r k) + b * x8 (ix2 r k)) (mvu _ 1152 128 (by norm_num) _ k) (mvu _ 2176 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨4, by norm_num⟩ k).symm
      unfold kernelRun0_A.sl.r_23
      refine (qr4_at _ _ _ _ _ r k).trans ?_
      simp only [cq_at, r1_at, r2_at]
      refine (congrArg₂ (fun a b : EReal => a * x7 (ix2 r k) + b * x8 (ix2 r k)) (mvu _ 1024 128 (by norm_num) _ k) (mvu _ 2048 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨3, by norm_num⟩ k).symm
      refine (qr3_at _ _ _ _ _ r k).trans ?_
      simp only [cq_at, r1_at, r2_at]
      refine (congrArg₂ (fun a b : EReal => a * x7 (ix2 r k) + b * x8 (ix2 r k)) (mvu _ 896 128 (by norm_num) _ k) (mvu _ 1920 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨2, by norm_num⟩ k).symm
      refine (qr2_at _ _ _ _ _ r k).trans ?_
      simp only [cq_at, r1_at, r2_at]
      refine (congrArg₂ (fun a b : EReal => a * x7 (ix2 r k) + b * x8 (ix2 r k)) (mvu _ 768 128 (by norm_num) _ k) (mvu _ 1792 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨1, by norm_num⟩ k).symm
      unfold kernelRun0_A.sl.r_21 kernelRun0_A.sl.r_22 kernelRun0_A.sl.cst_169
      refine (qr1_at _ _ _ _ _ r k).trans ?_
      simp only [cq_at, r1_at, r2_at]
      refine (congrArg₂ (fun a b : EReal => a * x7 (ix2 r k) + b * x8 (ix2 r k)) (mvu _ 640 128 (by norm_num) _ k) (mvu _ 1664 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨0, by norm_num⟩ k).symm
      refine (qr0_at _ _ _ _ _ r k).trans ?_
      simp only [cq_at, r1_at, r2_at]
      refine (congrArg₂ (fun a b : EReal => a * x7 (ix2 r k) + b * x8 (ix2 r k)) (mvu _ 512 128 (by norm_num) _ k) (mvu _ 1536 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨7, by norm_num⟩ k).symm
      unfold kernelRun0_A.sl.r_20
      refine (lat7_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 3) (by norm_num) _ n _).trans (congrArg (fun j => x6 (ix3 ⟨3, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨6, by norm_num⟩ k).symm
      unfold kernelRun0_A.sl.r_20
      refine (lat6_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 3) (by norm_num) _ n _).trans (congrArg (fun j => x6 (ix3 ⟨3, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨5, by norm_num⟩ k).symm
      refine (lat5_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 2) (by norm_num) _ n _).trans (congrArg (fun j => x6 (ix3 ⟨2, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨4, by norm_num⟩ k).symm
      refine (lat4_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 2) (by norm_num) _ n _).trans (congrArg (fun j => x6 (ix3 ⟨2, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨3, by norm_num⟩ k).symm
      refine (lat3_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 1) (by norm_num) _ n _).trans (congrArg (fun j => x6 (ix3 ⟨1, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨2, by norm_num⟩ k).symm
      refine (lat2_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 1) (by norm_num) _ n _).trans (congrArg (fun j => x6 (ix3 ⟨1, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨1, by norm_num⟩ k).symm
      unfold kernelRun0_A.sl.r_19
      refine (lat1_at _ _ _ r _ _ k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 0) (by norm_num) _ n _).trans (congrArg (fun j => x6 (ix3 ⟨0, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨0, by norm_num⟩ k).symm
      refine (lat0_at _ _ _ r _ _ k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 0) (by norm_num) _ n _).trans (congrArg (fun j => x6 (ix3 ⟨0, by norm_num⟩ n j)) (Fin.ext ?_))
        first | rfl | omega | (dsimp only; omega)

theorem out21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o21 x0 x1 x2 := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, fun _ h => absurd h List.not_mem_nil⟩
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨7, by norm_num⟩ k = _ from rfl)
      unfold kernelRun0_A.sl.r_11
      refine (pay38_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨6, by norm_num⟩ k = _ from rfl)
      unfold kernelRun0_A.sl.r_11
      refine (pay37_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨5, by norm_num⟩ k = _ from rfl)
      unfold kernelRun0_A.sl.r_12
      refine (pay36_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨4, by norm_num⟩ k = _ from rfl)
      refine (pay34_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨3, by norm_num⟩ k = _ from rfl)
      refine (pay33_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨2, by norm_num⟩ k = _ from rfl)
      refine (pay32_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨1, by norm_num⟩ k = _ from rfl)
      refine (pay31_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨0, by norm_num⟩ k = _ from rfl)
      refine (pay30_at _ _ r k).trans ?_
      simp only [r_at, r1_at, r2_at, r3_at, r4_at, ld_whole]
      refine (mvw _ 640 512 (by norm_num) _ _).trans (mv_idx _ _ _ _ ?_)
      first | rfl | omega | (dsimp only; omega)

theorem out22_eq : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o22 x0 x1 x2 x9 x10 := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, fun _ h => absurd h List.not_mem_nil⟩
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨7, by norm_num⟩ k = _ from rfl)
      unfold kernelRun0_A.sl.r_16 kernelRun0_A.sl.r_13 kernelRun0_A.sl.r_14
      refine (qi7_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨384 + (64 + k.val), by omega⟩) (mvw _ 1920 512 (by norm_num) _ ⟨384 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨6, by norm_num⟩ k = _ from rfl)
      unfold kernelRun0_A.sl.r_13 kernelRun0_A.sl.r_14
      refine (qi6_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨384 + k.val, by omega⟩) (mvw _ 1920 512 (by norm_num) _ ⟨384 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨5, by norm_num⟩ k = _ from rfl)
      unfold kernelRun0_A.sl.r_13 kernelRun0_A.sl.r_14
      refine (qi5_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨256 + (64 + k.val), by omega⟩) (mvw _ 1920 512 (by norm_num) _ ⟨256 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨4, by norm_num⟩ k = _ from rfl)
      unfold kernelRun0_A.sl.r_13 kernelRun0_A.sl.r_14
      refine (qi4_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨256 + k.val, by omega⟩) (mvw _ 1920 512 (by norm_num) _ ⟨256 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨3, by norm_num⟩ k = _ from rfl)
      unfold kernelRun0_A.sl.r_14 kernelRun0_A.sl.r_15
      refine (qi3_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨128 + (64 + k.val), by omega⟩) (mvw _ 1920 512 (by norm_num) _ ⟨128 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨2, by norm_num⟩ k = _ from rfl)
      unfold kernelRun0_A.sl.r_14 kernelRun0_A.sl.r_15
      refine (qi2_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨128 + k.val, by omega⟩) (mvw _ 1920 512 (by norm_num) _ ⟨128 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨1, by norm_num⟩ k = _ from rfl)
      refine (qi1_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨64 + k.val, by omega⟩) (mvw _ 1920 512 (by norm_num) _ ⟨64 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨0, by norm_num⟩ k = _ from rfl)
      refine (qi0_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨k.val, by omega⟩) (mvw _ 1920 512 (by norm_num) _ ⟨k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))

theorem out23_eq : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o23 x0 x1 x2 := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o23 x0 x1 x2) _ fun r k => by
      unfold kernelRun0_A.sl.r_10 kernelRun0_A.sl.cst_57
      refine (pay28_at _ _ r k).trans ?_
      refine (congrArg₂ (fun a b : EReal => a * b) (pay27_at _ _ r k) rfl).trans ?_
      simp only [r_at, r1_at, r2_at, r3_at, r4_at, ld_whole]
      exact congrArg₂ (fun a b : EReal => a * b) (mvw _ 2944 128 (by norm_num) _ ⟨k.val, by omega⟩) rfl

end Cert.Kernel2Ideal.Proj

end
-- ==== Proof.ProjIn2.lean ====
/- What the blocks the prompt's input projections are given hold. -/
module

public import proofs.«01_k».proof.Proof.ProjV2
public import proofs.«01_k».proof.Proof.ProjBlock2

@[expose] public section

set_option maxRecDepth 16384
set_option maxHeartbeats 2000000

noncomputable section

namespace Cert.Kernel2Ideal.Proj

open Idealize.ShloMosaic Idealize.ShloMosaic.TcCoe Idealize.SL.Sem
open Cert.Kernel2Ideal Cert.Kernel2Ideal.Gen Cert.Proj

variable (m : (ℓ : Loc nD τ sig) → Buf (Elt Ideal) ℓ) (c : Dev nD)

/-- The weights as they are given. -/
def dat : Data where
  g := fun d => aG m c (ix1 d)
  w := fun d k => aW m c (ix2 d k)
  gq := fun d => aGq m c (ix1 d)
  uq := fun d k => aUq m c (ix2 d k)
  gkv := fun d => aGkv m c (ix1 d)
  uk := fun k h n => aUk m c (ix3 k h n)

/-- The scaled row of token s of sequence b. -/
def row (b : Fin 16) (s : Fin 2048) : Fin 1024 → EReal := xrow (dat m c).g fun d => aX m c (ix3 b s d)

/-! ## The blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![t.val % 4, 0] := (by decide +kernel : ∀ t : Fin grid0.N, win0_7.index t = ![t.val % 4, 0])
theorem idx8 : ∀ t : Fin cfg0.N, win0_8.index t = ![t.val % 4, 0] := (by decide +kernel : ∀ t : Fin grid0.N, win0_8.index t = ![t.val % 4, 0])
theorem idx9 : ∀ t : Fin cfg0.N, win0_9.index t = ![t.val % 4, 0] := (by decide +kernel : ∀ t : Fin grid0.N, win0_9.index t = ![t.val % 4, 0])
theorem idx10 : ∀ t : Fin cfg0.N, win0_10.index t = ![t.val % 4, 0] := (by decide +kernel : ∀ t : Fin grid0.N, win0_10.index t = ![t.val % 4, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val / 4, 0, t.val % 4] := (by decide +kernel : ∀ t : Fin grid0.N, win0_12.index t = ![t.val / 4, 0, t.val % 4])
theorem idx13 : ∀ t : Fin cfg0.N, win0_13.index t = ![t.val / 4, 0, t.val % 4] := (by decide +kernel : ∀ t : Fin grid0.N, win0_13.index t = ![t.val / 4, 0, t.val % 4])
theorem idx14 : ∀ t : Fin cfg0.N, win0_14.index t = ![t.val / 4, 0, t.val % 4] := (by decide +kernel : ∀ t : Fin grid0.N, win0_14.index t = ![t.val / 4, 0, t.val % 4])
theorem idx15 : ∀ t : Fin cfg0.N, win0_15.index t = ![t.val / 4, 0, t.val % 4] := (by decide +kernel : ∀ t : Fin grid0.N, win0_15.index t = ![t.val / 4, 0, t.val % 4])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])
theorem idx23 : ∀ t : Fin cfg0.N, win0_23.index t = ![t.val, 0] := (by decide +kernel : ∀ t : Fin grid0.N, win0_23.index t = ![t.val, 0])
theorem idx20 : ∀ t : Fin cfg0.N, win0_20.index t = ![0, t.val, 0] := (by decide +kernel : ∀ t : Fin grid0.N, win0_20.index t = ![0, t.val, 0])
theorem idx21 : ∀ t : Fin cfg0.N, win0_21.index t = ![0, t.val, 0] := (by decide +kernel : ∀ t : Fin grid0.N, win0_21.index t = ![0, t.val, 0])
theorem idx22 : ∀ t : Fin cfg0.N, win0_22.index t = ![0, t.val, 0] := (by decide +kernel : ∀ t : Fin grid0.N, win0_22.index t = ![0, t.val, 0])

theorem lt_points (t : Fin cfg0.N) : t.val < 64 := t.isLt

theorem blk0_at (t : Fin cfg0.N) (r : Fin 512) (d : Fin 1024) :
    iblk m c 0 t (ix2 r d) = flatX (aX m c) (ix2 ⟨t.val * 512 + r.val, by have := lt_points t; omega⟩ d) := by
  blk_simp [iblk, idx0]
  rw [← in0_eq]
  refine congrArg _ ?_
  blk_ext [idx0]

theorem blk1_at (t : Fin cfg0.N) (d : Fin 1024) : iblk m c 1 t (ix2 0 d) = wide1024 (aG m c) (ix2 0 d) := by
  blk_simp [iblk, idx1]
  rw [← in1_eq]
  refine congrArg _ ?_
  blk_ext [idx1]

theorem blk2_at (t : Fin cfg0.N) (d : Fin 1024) (k : Fin 3072) : iblk m c 2 t (ix2 d k) = packIn (aW m c) (ix2 d k) := by
  blk_simp [iblk, idx2]
  rw [← in2_eq]
  refine congrArg _ ?_
  blk_ext [idx2]

theorem blk3_at (t : Fin cfg0.N) (d : Fin 384) : iblk m c 3 t (ix2 0 d) = wide384 (aGq m c) (ix2 0 d) := by
  blk_simp [iblk, idx3]
  rw [← in3_eq]
  refine congrArg _ ?_
  blk_ext [idx3]

theorem blk4_at (t : Fin cfg0.N) (d : Fin 384) (k : Fin 2560) : iblk m c 4 t (ix2 d k) = packQ (aUq m c) (ix2 d k) := by
  blk_simp [iblk, idx4]
  rw [← in4_eq]
  refine congrArg _ ?_
  blk_ext [idx4]

theorem blk5_at (t : Fin cfg0.N) (d : Fin 256) : iblk m c 5 t (ix2 0 d) = wide256 (aGkv m c) (ix2 0 d) := by
  blk_simp [iblk, idx5]
  rw [← in5_eq]
  refine congrArg _ ?_
  blk_ext [idx5]

theorem blk6_at (t : Fin cfg0.N) (p : Fin 4) (n : Fin 128) (k : Fin 512) : iblk m c 6 t (ix3 p n k) = packK (aUk m c) (ix3 p n k) := by
  blk_simp [iblk, idx6]
  rw [← in6_eq]
  refine congrArg _ ?_
  blk_ext [idx6]

theorem blk7_at (t : Fin cfg0.N) (r : Fin 512) (d : Fin 128) :
    iblk m c 7 t (ix2 r d) = tCa (Host.cos angT) (ix2 ⟨t.val % 4 * 512 + r.val, by have := lt_points t; omega⟩ d) := by
  blk_simp [iblk, idx7]
  rw [← in7_eq m c]
  refine congrArg _ ?_
  blk_ext [idx7]

theorem blk8_at (t : Fin cfg0.N) (r : Fin 512) (d : Fin 128) :
    iblk m c 8 t (ix2 r d) = tSa (Host.sin angT) (ix2 ⟨t.val % 4 * 512 + r.val, by have := lt_points t; omega⟩ d) := by
  blk_simp [iblk, idx8]
  rw [← in8_eq m c]
  refine congrArg _ ?_
  blk_ext [idx8]

theorem blk9_at (t : Fin cfg0.N) (r : Fin 512) (d : Fin 128) :
    iblk m c 9 t (ix2 r d) = tCb (Host.cos angT) (ix2 ⟨t.val % 4 * 512 + r.val, by have := lt_points t; omega⟩ d) := by
  blk_simp [iblk, idx9]
  rw [← in9_eq m c]
  refine congrArg _ ?_
  blk_ext [idx9]

theorem blk10_at (t : Fin cfg0.N) (r : Fin 512) (d : Fin 128) :
    iblk m c 10 t (ix2 r d) = tSb (Host.sin angT) (ix2 ⟨t.val % 4 * 512 + r.val, by have := lt_points t; omega⟩ d) := by
  blk_simp [iblk, idx10]
  rw [← in10_eq m c]
  refine congrArg _ ?_
  blk_ext [idx10]

/-! ## What the blocks hold -/

theorem x_eq (t : Fin cfg0.N) (r : Fin 512) (b : Fin 16) (s : Fin 2048) (h : b.val * 2048 + s.val = t.val * 512 + r.val) :
    (xrow (fun d => iblk m c 1 t (ix2 0 d)) fun d => iblk m c 0 t (ix2 r d)) = row m c b s := by
  unfold row
  have hb : (⟨(t.val * 512 + r.val) / 2048, by have := lt_points t; omega⟩ : Fin 16) = b := Fin.ext (by dsimp only; omega)
  have hs : (⟨(t.val * 512 + r.val) % 2048, by omega⟩ : Fin 2048) = s := Fin.ext (by dsimp only; omega)
  refine congrArg₂ xrow ?_ ?_
  · funext d
    exact (blk1_at m c t d).trans (wide1024_at _ d)
  · funext d
    refine (blk0_at m c t r d).trans ((flatX_at _ _ d).trans ?_)
    exact congrArg₂ (fun b s => aX m c (ix3 b s d)) hb hs

theorem w_eq (t : Fin cfg0.N) : PackedIn (dat m c).w fun d k => iblk m c 2 t (ix2 d k) := by
  have e : (fun (d : Fin 1024) (k : Fin 3072) => iblk m c 2 t (ix2 d k)) = fun d k => packIn (aW m c) (ix2 d k) := by
    funext d k
    exact blk2_at m c t d k
  rw [e]
  exact packedIn (aW m c)

theorem gq_eq (t : Fin cfg0.N) : (fun k => iblk m c 3 t (ix2 0 k)) = (dat m c).gq := by
  funext k
  exact (blk3_at m c t k).trans (wide384_at _ k)

theorem uq_eq (t : Fin cfg0.N) : PackedQ (dat m c).uq fun d k => iblk m c 4 t (ix2 d k) := by
  have e : (fun (d : Fin 384) (k : Fin 2560) => iblk m c 4 t (ix2 d k)) = fun d k => packQ (aUq m c) (ix2 d k) := by
    funext d k
    exact blk4_at m c t d k
  rw [e]
  exact packedQ (aUq m c)

theorem gkv_eq (t : Fin cfg0.N) : (fun k => iblk m c 5 t (ix2 0 k)) = (dat m c).gkv := by
  funext k
  exact (blk5_at m c t k).trans (wide256_at _ k)

theorem uk_eq (t : Fin cfg0.N) : PackedK (dat m c).uk fun p n k => iblk m c 6 t (ix3 p n k) := by
  have e : (fun (p : Fin 4) (n : Fin 128) (k : Fin 512) => iblk m c 6 t (ix3 p n k)) = fun p n k => packK (aUk m c) (ix3 p n k) := by
    funext p n k
    exact blk6_at m c t p n k
  rw [e]
  exact packedK (aUk m c)

theorem t_eq (t : Fin cfg0.N) (r : Fin 512) (s : Fin 2048) (h : s.val = (t.val * 512 + r.val) % 2048) :
    Tables (cosT (pos s)) (sinT (pos s)) (fun d => iblk m c 7 t (ix2 r d)) (fun d => iblk m c 8 t (ix2 r d))
      (fun d => iblk m c 9 t (ix2 r d)) (fun d => iblk m c 10 t (ix2 r d)) := by
  have hs : (⟨(t.val % 4 * 512 + r.val) % 2048, by omega⟩ : Fin 2048) = s := Fin.ext (by have := lt_points t; dsimp only; omega)
  rw [show (fun d => iblk m c 7 t (ix2 r d)) = _ from funext fun d => blk7_at m c t r d,
    show (fun d => iblk m c 8 t (ix2 r d)) = _ from funext fun d => blk8_at m c t r d,
    show (fun d => iblk m c 9 t (ix2 r d)) = _ from funext fun d => blk9_at m c t r d,
    show (fun d => iblk m c 10 t (ix2 r d)) = _ from funext fun d => blk10_at m c t r d, ← hs]
  exact tables ⟨t.val % 4 * 512 + r.val, by have := lt_points t; omega⟩

end Cert.Kernel2Ideal.Proj

end
-- ==== Proof.ProjFin2.lean ====
/- The arrays the prompt's projections leave, element by element. -/
module

public import proofs.«01_k».proof.Proof.ProjIn2

@[expose] public section

set_option maxRecDepth 16384
set_option maxHeartbeats 2000000

noncomputable section

namespace Cert.Kernel2Ideal.Proj

open Idealize.ShloMosaic Idealize.ShloMosaic.TcCoe Idealize.SL.Sem
open Cert.Kernel2Ideal Cert.Kernel2Ideal.Gen Cert.Proj

variable (m : (ℓ : Loc nD τ sig) → Buf (Elt Ideal) ℓ) (c : Dev nD)

def f11 (n : Fin 32768) (k : Fin 256) : EReal := ckv (row m c ⟨n.val / 2048, by omega⟩ ⟨n.val % 2048, by omega⟩) (dat m c).w (dat m c).gkv k

def r11 (z : S32768x256.Idx) : EReal := f11 m c (z 0) (z 1)

theorem p11 (t : Fin cfg0.N) (r : Fin 512) (k : Fin 256) :
    o11 (iblk m c 0 t) (iblk m c 1 t) (iblk m c 2 t) (iblk m c 5 t) (ix2 r k) = f11 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pckv (xrow (fun d => iblk m c 1 t (ix2 0 d)) fun d => iblk m c 0 t (ix2 r d)) (fun d k => iblk m c 2 t (ix2 d k)) (fun k => iblk m c 5 t (ix2 0 k)) k from rfl).trans ?_
  rw [x_eq m c t r _ _ hx, gkv_eq m c t]
  exact ckv_eq (w_eq m c t) k

theorem key11 (t : Fin cfg0.N) : (outsAt0 m c t).1 = o11 (iblk m c 0 t) (iblk m c 1 t) (iblk m c 2 t) (iblk m c 5 t) := by
  unfold outsAt0
  rw [out11_eq]

theorem q11 (n n' : Fin 32768) (k k' : Fin 256) (hn : n.val = n'.val) (hk : k.val = k'.val) : f11 m c n k = f11 m c n' k' := by
  rw [Fin.ext hn, Fin.ext hk]

theorem final11 : (dats m 0 c).arrAt 11 cfg0.N = r11 m c := by
  refine (dats m 0 c).arrAt_eq_of_covers 11 _ (by decide +kernel) fun t hf y => ?_
  blk_simp
  rw [after0_11, key11]
  have ht := lt_points t
  have e0 : ((win0_11.blk t).view.emb y 0).val = t.val * 512 + (y 0).val := by blk_simp [idx11]; try omega
  have e1 : ((win0_11.blk t).view.emb y 1).val = (y 1).val := by blk_simp [idx11]; try omega
  have yy : y = ix2 (y 0) (y 1) := by funext a; fin_cases a <;> rfl
  refine (congrArg (o11 (iblk m c 0 t) (iblk m c 1 t) (iblk m c 2 t) (iblk m c 5 t)) yy).trans ?_
  refine (p11 m c t (y 0) (y 1)).trans ?_
  exact q11 m c _ _ _ _ e0.symm e1.symm

def f12 (b : Fin 16) (k : Fin 32) (s : Fin 2048) : EReal := kr (row m c b s) (dat m c).w (cosT (pos s)) (sinT (pos s)) k

def r12 (z : S16x32x2048.Idx) : EReal := f12 m c (z 0) (z 1) (z 2)

theorem p12 (t : Fin cfg0.N) (r : Fin 512) (k : Fin 32) :
    o12 (iblk m c 0 t) (iblk m c 1 t) (iblk m c 2 t) (iblk m c 7 t) (iblk m c 8 t) (ix3 0 k r) = f12 m c ⟨t.val / 4, by have := lt_points t; omega⟩ k ⟨t.val % 4 * 512 + r.val, by omega⟩ := by
  have ht := lt_points t
  have hx : (⟨t.val / 4, by have := lt_points t; omega⟩ : Fin 16).val * 2048 + (⟨t.val % 4 * 512 + r.val, by omega⟩ : Fin 2048).val = t.val * 512 + r.val := by dsimp only; omega
  have hs : (⟨t.val % 4 * 512 + r.val, by omega⟩ : Fin 2048).val = (t.val * 512 + r.val) % 2048 := by dsimp only; try omega
  refine (show _ = pkr (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact kr_eq (w_eq m c t) (t_eq m c t r _ hs) k

theorem key12 (t : Fin cfg0.N) : (outsAt0 m c t).2.1 = o12 (iblk m c 0 t) (iblk m c 1 t) (iblk m c 2 t) (iblk m c 7 t) (iblk m c 8 t) := by
  unfold outsAt0
  rw [out12_eq]

theorem q12 (b b' : Fin 16) (k k' : Fin 32) (s s' : Fin 2048) (hb : b.val = b'.val) (hk : k.val = k'.val) (hs : s.val = s'.val) : f12 m c b k s = f12 m c b' k' s' := by
  rw [Fin.ext hb, Fin.ext hk, Fin.ext hs]

theorem final12 : (dats m 0 c).arrAt 12 cfg0.N = r12 m c := by
  refine (dats m 0 c).arrAt_eq_of_covers 12 _ (by decide +kernel) fun t hf y => ?_
  blk_simp
  rw [after0_12, key12]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_12.blk t).view.emb y 0).val = t.val / 4 := by blk_simp [idx12]; try omega
  have e1 : ((win0_12.blk t).view.emb y 1).val = (y 1).val := by blk_simp [idx12]; try omega
  have e2 : ((win0_12.blk t).view.emb y 2).val = t.val % 4 * 512 + (y 2).val := by blk_simp [idx12]; try omega
  refine (congrArg (o12 (iblk m c 0 t) (iblk m c 1 t) (iblk m c 2 t) (iblk m c 7 t) (iblk m c 8 t)) yy).trans ?_
  refine (p12 m c t (y 2) (y 1)).trans ?_
  exact q12 m c _ _ _ _ _ _ e0.symm e1.symm e2.symm

def f13 (b : Fin 16) (k : Fin 128) (s : Fin 2048) : EReal := mv (row m c b s) (dat m c).w ⟨1184 + k.val, by omega⟩

def r13 (z : S16x128x2048.Idx) : EReal := f13 m c (z 0) (z 1) (z 2)

theorem p13 (t : Fin cfg0.N) (r : Fin 512) (k : Fin 128) :
    o13 (iblk m c 0 t) (iblk m c 1 t) (iblk m c 2 t) (ix3 0 k r) = f13 m c ⟨t.val / 4, by have := lt_points t; omega⟩ k ⟨t.val % 4 * 512 + r.val, by omega⟩ := by
  have ht := lt_points t
  have hx : (⟨t.val / 4, by have := lt_points t; omega⟩ : Fin 16).val * 2048 + (⟨t.val % 4 * 512 + r.val, by omega⟩ : Fin 2048).val = t.val * 512 + r.val := by dsimp only; omega
  have hs : (⟨t.val % 4 * 512 + r.val, by omega⟩ : Fin 2048).val = (t.val * 512 + r.val) % 2048 := by dsimp only; try omega
  refine (show _ = mv (xrow (fun d => iblk m c 1 t (ix2 0 d)) fun d => iblk m c 0 t (ix2 r d)) (fun d k => iblk m c 2 t (ix2 d k)) ⟨1152 + k.val, by omega⟩ from rfl).trans ?_
  rw [x_eq m c t r _ _ hx]
  exact kb_eq (w_eq m c t) k

theorem key13 (t : Fin cfg0.N) : (outsAt0 m c t).2.2.1 = o13 (iblk m c 0 t) (iblk m c 1 t) (iblk m c 2 t) := by
  unfold outsAt0
  rw [out13_eq]

theorem q13 (b b' : Fin 16) (k k' : Fin 128) (s s' : Fin 2048) (hb : b.val = b'.val) (hk : k.val = k'.val) (hs : s.val = s'.val) : f13 m c b k s = f13 m c b' k' s' := by
  rw [Fin.ext hb, Fin.ext hk, Fin.ext hs]

theorem final13 : (dats m 0 c).arrAt 13 cfg0.N = r13 m c := by
  refine (dats m 0 c).arrAt_eq_of_covers 13 _ (by decide +kernel) fun t hf y => ?_
  blk_simp
  rw [after0_13, key13]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_13.blk t).view.emb y 0).val = t.val / 4 := by blk_simp [idx13]; try omega
  have e1 : ((win0_13.blk t).view.emb y 1).val = (y 1).val := by blk_simp [idx13]; try omega
  have e2 : ((win0_13.blk t).view.emb y 2).val = t.val % 4 * 512 + (y 2).val := by blk_simp [idx13]; try omega
  refine (congrArg (o13 (iblk m c 0 t) (iblk m c 1 t) (iblk m c 2 t)) yy).trans ?_
  refine (p13 m c t (y 2) (y 1)).trans ?_
  exact q13 m c _ _ _ _ _ _ e0.symm e1.symm e2.symm

def f14 (b : Fin 16) (k : Fin 128) (s : Fin 2048) : EReal := mv (row m c b s) (dat m c).w ⟨1312 + k.val, by omega⟩

def r14 (z : S16x128x2048.Idx) : EReal := f14 m c (z 0) (z 1) (z 2)

theorem p14 (t : Fin cfg0.N) (r : Fin 512) (k : Fin 128) :
    o14 (iblk m c 0 t) (iblk m c 1 t) (iblk m c 2 t) (ix3 0 k r) = f14 m c ⟨t.val / 4, by have := lt_points t; omega⟩ k ⟨t.val % 4 * 512 + r.val, by omega⟩ := by
  have ht := lt_points t
  have hx : (⟨t.val / 4, by have := lt_points t; omega⟩ : Fin 16).val * 2048 + (⟨t.val % 4 * 512 + r.val, by omega⟩ : Fin 2048).val = t.val * 512 + r.val := by dsimp only; omega
  have hs : (⟨t.val % 4 * 512 + r.val, by omega⟩ : Fin 2048).val = (t.val * 512 + r.val) % 2048 := by dsimp only; try omega
  refine (show _ = mv (xrow (fun d => iblk m c 1 t (ix2 0 d)) fun d => iblk m c 0 t (ix2 r d)) (fun d k => iblk m c 2 t (ix2 d k)) ⟨1280 + k.val, by omega⟩ from rfl).trans ?_
  rw [x_eq m c t r _ _ hx]
  exact vb_eq (w_eq m c t) k

theorem key14 (t : Fin cfg0.N) : (outsAt0 m c t).2.2.2.1 = o14 (iblk m c 0 t) (iblk m c 1 t) (iblk m c 2 t) := by
  unfold outsAt0
  rw [out14_eq]

theorem q14 (b b' : Fin 16) (k k' : Fin 128) (s s' : Fin 2048) (hb : b.val = b'.val) (hk : k.val = k'.val) (hs : s.val = s'.val) : f14 m c b k s = f14 m c b' k' s' := by
  rw [Fin.ext hb, Fin.ext hk, Fin.ext hs]

theorem final14 : (dats m 0 c).arrAt 14 cfg0.N = r14 m c := by
  refine (dats m 0 c).arrAt_eq_of_covers 14 _ (by decide +kernel) fun t hf y => ?_
  blk_simp
  rw [after0_14, key14]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_14.blk t).view.emb y 0).val = t.val / 4 := by blk_simp [idx14]; try omega
  have e1 : ((win0_14.blk t).view.emb y 1).val = (y 1).val := by blk_simp [idx14]; try omega
  have e2 : ((win0_14.blk t).view.emb y 2).val = t.val % 4 * 512 + (y 2).val := by blk_simp [idx14]; try omega
  refine (congrArg (o14 (iblk m c 0 t) (iblk m c 1 t) (iblk m c 2 t)) yy).trans ?_
  refine (p14 m c t (y 2) (y 1)).trans ?_
  exact q14 m c _ _ _ _ _ _ e0.symm e1.symm e2.symm

def f15 (b : Fin 16) (k : Fin 64) (s : Fin 2048) : EReal := ki (row m c b s) (dat m c).w (cosT (pos s)) (sinT (pos s)) k

def r15 (z : S16x64x2048.Idx) : EReal := f15 m c (z 0) (z 1) (z 2)

theorem p15 (t : Fin cfg0.N) (r : Fin 512) (k : Fin 64) :
    o15 (iblk m c 0 t) (iblk m c 1 t) (iblk m c 2 t) (iblk m c 7 t) (iblk m c 8 t) (ix3 0 k r) = f15 m c ⟨t.val / 4, by have := lt_points t; omega⟩ k ⟨t.val % 4 * 512 + r.val, by omega⟩ := by
  have ht := lt_points t
  have hx : (⟨t.val / 4, by have := lt_points t; omega⟩ : Fin 16).val * 2048 + (⟨t.val % 4 * 512 + r.val, by omega⟩ : Fin 2048).val = t.val * 512 + r.val := by dsimp only; omega
  have hs : (⟨t.val % 4 * 512 + r.val, by omega⟩ : Fin 2048).val = (t.val * 512 + r.val) % 2048 := by dsimp only; try omega
  refine (show _ = pki (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact ki_eq (w_eq m c t) (t_eq m c t r _ hs) k

theorem key15 (t : Fin cfg0.N) : (outsAt0 m c t).2.2.2.2.1 = o15 (iblk m c 0 t) (iblk m c 1 t) (iblk m c 2 t) (iblk m c 7 t) (iblk m c 8 t) := by
  unfold outsAt0
  rw [out15_eq]

theorem q15 (b b' : Fin 16) (k k' : Fin 64) (s s' : Fin 2048) (hb : b.val = b'.val) (hk : k.val = k'.val) (hs : s.val = s'.val) : f15 m c b k s = f15 m c b' k' s' := by
  rw [Fin.ext hb, Fin.ext hk, Fin.ext hs]

theorem final15 : (dats m 0 c).arrAt 15 cfg0.N = r15 m c := by
  refine (dats m 0 c).arrAt_eq_of_covers 15 _ (by decide +kernel) fun t hf y => ?_
  blk_simp
  rw [after0_15, key15]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_15.blk t).view.emb y 0).val = t.val / 4 := by blk_simp [idx15]; try omega
  have e1 : ((win0_15.blk t).view.emb y 1).val = (y 1).val := by blk_simp [idx15]; try omega
  have e2 : ((win0_15.blk t).view.emb y 2).val = t.val % 4 * 512 + (y 2).val := by blk_simp [idx15]; try omega
  refine (congrArg (o15 (iblk m c 0 t) (iblk m c 1 t) (iblk m c 2 t) (iblk m c 7 t) (iblk m c 8 t)) yy).trans ?_
  refine (p15 m c t (y 2) (y 1)).trans ?_
  exact q15 m c _ _ _ _ _ _ e0.symm e1.symm e2.symm

def f16 (n : Fin 32768) (k : Fin 384) : EReal := kcat (row m c ⟨n.val / 2048, by omega⟩ ⟨n.val % 2048, by omega⟩) (dat m c).w (dat m c).gkv (cosT (pos ⟨n.val % 2048, by omega⟩)) (sinT (pos ⟨n.val % 2048, by omega⟩)) k

def r16 (z : S32768x384.Idx) : EReal := f16 m c (z 0) (z 1)

theorem p16 (t : Fin cfg0.N) (r : Fin 512) (k : Fin 384) :
    o16 (iblk m c 0 t) (iblk m c 1 t) (iblk m c 2 t) (iblk m c 5 t) (iblk m c 7 t) (iblk m c 8 t) (ix2 r k) = f16 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pkcat (xrow (fun d => iblk m c 1 t (ix2 0 d)) fun d => iblk m c 0 t (ix2 r d)) (fun d k => iblk m c 2 t (ix2 d k)) (fun k => iblk m c 5 t (ix2 0 k)) (fun d => iblk m c 7 t (ix2 r d)) (fun d => iblk m c 8 t (ix2 r d)) k from rfl).trans ?_
  rw [x_eq m c t r _ _ hx, gkv_eq m c t]
  exact kcat_eq (w_eq m c t) (t_eq m c t r _ hs) k

theorem key16 (t : Fin cfg0.N) : (outsAt0 m c t).2.2.2.2.2.1 = o16 (iblk m c 0 t) (iblk m c 1 t) (iblk m c 2 t) (iblk m c 5 t) (iblk m c 7 t) (iblk m c 8 t) := by
  unfold outsAt0
  rw [out16_eq]

theorem q16 (n n' : Fin 32768) (k k' : Fin 384) (hn : n.val = n'.val) (hk : k.val = k'.val) : f16 m c n k = f16 m c n' k' := by
  rw [Fin.ext hn, Fin.ext hk]

theorem final16 : (dats m 0 c).arrAt 16 cfg0.N = r16 m c := by
  refine (dats m 0 c).arrAt_eq_of_covers 16 _ (by decide +kernel) fun t hf y => ?_
  blk_simp
  rw [after0_16, key16]
  have ht := lt_points t
  have e0 : ((win0_16.blk t).view.emb y 0).val = t.val * 512 + (y 0).val := by blk_simp [idx16]; try omega
  have e1 : ((win0_16.blk t).view.emb y 1).val = (y 1).val := by blk_simp [idx16]; try omega
  have yy : y = ix2 (y 0) (y 1) := by funext a; fin_cases a <;> rfl
  refine (congrArg (o16 (iblk m c 0 t) (iblk m c 1 t) (iblk m c 2 t) (iblk m c 5 t) (iblk m c 7 t) (iblk m c 8 t)) yy).trans ?_
  refine (p16 m c t (y 0) (y 1)).trans ?_
  exact q16 m c _ _ _ _ e0.symm e1.symm

def f17 (n : Fin 32768) (k : Fin 128) : EReal := mv (row m c ⟨n.val / 2048, by omega⟩ ⟨n.val % 2048, by omega⟩) (dat m c).w ⟨1184 + k.val, by omega⟩

def r17 (z : S32768x128.Idx) : EReal := f17 m c (z 0) (z 1)

theorem p17 (t : Fin cfg0.N) (r : Fin 512) (k : Fin 128) :
    o17 (iblk m c 0 t) (iblk m c 1 t) (iblk m c 2 t) (ix2 r k) = f17 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = mv (xrow (fun d => iblk m c 1 t (ix2 0 d)) fun d => iblk m c 0 t (ix2 r d)) (fun d k => iblk m c 2 t (ix2 d k)) ⟨1152 + k.val, by omega⟩ from rfl).trans ?_
  rw [x_eq m c t r _ _ hx]
  exact kb_eq (w_eq m c t) k

theorem key17 (t : Fin cfg0.N) : (outsAt0 m c t).2.2.2.2.2.2.1 = o17 (iblk m c 0 t) (iblk m c 1 t) (iblk m c 2 t) := by
  unfold outsAt0
  rw [out17_eq]

theorem q17 (n n' : Fin 32768) (k k' : Fin 128) (hn : n.val = n'.val) (hk : k.val = k'.val) : f17 m c n k = f17 m c n' k' := by
  rw [Fin.ext hn, Fin.ext hk]

theorem final17 : (dats m 0 c).arrAt 17 cfg0.N = r17 m c := by
  refine (dats m 0 c).arrAt_eq_of_covers 17 _ (by decide +kernel) fun t hf y => ?_
  blk_simp
  rw [after0_17, key17]
  have ht := lt_points t
  have e0 : ((win0_17.blk t).view.emb y 0).val = t.val * 512 + (y 0).val := by blk_simp [idx17]; try omega
  have e1 : ((win0_17.blk t).view.emb y 1).val = (y 1).val := by blk_simp [idx17]; try omega
  have yy : y = ix2 (y 0) (y 1) := by funext a; fin_cases a <;> rfl
  refine (congrArg (o17 (iblk m c 0 t) (iblk m c 1 t) (iblk m c 2 t)) yy).trans ?_
  refine (p17 m c t (y 0) (y 1)).trans ?_
  exact q17 m c _ _ _ _ e0.symm e1.symm

def f18 (n : Fin 32768) (k : Fin 128) : EReal := mv (row m c ⟨n.val / 2048, by omega⟩ ⟨n.val % 2048, by omega⟩) (dat m c).w ⟨1312 + k.val, by omega⟩

def r18 (z : S32768x128.Idx) : EReal := f18 m c (z 0) (z 1)

theorem p18 (t : Fin cfg0.N) (r : Fin 512) (k : Fin 128) :
    o18 (iblk m c 0 t) (iblk m c 1 t) (iblk m c 2 t) (ix2 r k) = f18 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = mv (xrow (fun d => iblk m c 1 t (ix2 0 d)) fun d => iblk m c 0 t (ix2 r d)) (fun d k => iblk m c 2 t (ix2 d k)) ⟨1280 + k.val, by omega⟩ from rfl).trans ?_
  rw [x_eq m c t r _ _ hx]
  exact vb_eq (w_eq m c t) k

theorem key18 (t : Fin cfg0.N) : (outsAt0 m c t).2.2.2.2.2.2.2.1 = o18 (iblk m c 0 t) (iblk m c 1 t) (iblk m c 2 t) := by
  unfold outsAt0
  rw [out18_eq]

theorem q18 (n n' : Fin 32768) (k k' : Fin 128) (hn : n.val = n'.val) (hk : k.val = k'.val) : f18 m c n k = f18 m c n' k' := by
  rw [Fin.ext hn, Fin.ext hk]

theorem final18 : (dats m 0 c).arrAt 18 cfg0.N = r18 m c := by
  refine (dats m 0 c).arrAt_eq_of_covers 18 _ (by decide +kernel) fun t hf y => ?_
  blk_simp
  rw [after0_18, key18]
  have ht := lt_points t
  have e0 : ((win0_18.blk t).view.emb y 0).val = t.val * 512 + (y 0).val := by blk_simp [idx18]; try omega
  have e1 : ((win0_18.blk t).view.emb y 1).val = (y 1).val := by blk_simp [idx18]; try omega
  have yy : y = ix2 (y 0) (y 1) := by funext a; fin_cases a <;> rfl
  refine (congrArg (o18 (iblk m c 0 t) (iblk m c 1 t) (iblk m c 2 t)) yy).trans ?_
  refine (p18 m c t (y 0) (y 1)).trans ?_
  exact q18 m c _ _ _ _ e0.symm e1.symm

def f19 (n : Fin 32768) (k : Fin 64) : EReal := ki (row m c ⟨n.val / 2048, by omega⟩ ⟨n.val % 2048, by omega⟩) (dat m c).w (cosT (pos ⟨n.val % 2048, by omega⟩)) (sinT (pos ⟨n.val % 2048, by omega⟩)) k

def r19 (z : S32768x64.Idx) : EReal := f19 m c (z 0) (z 1)

theorem p19 (t : Fin cfg0.N) (r : Fin 512) (k : Fin 64) :
    o19 (iblk m c 0 t) (iblk m c 1 t) (iblk m c 2 t) (iblk m c 7 t) (iblk m c 8 t) (ix2 r k) = f19 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pki (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact ki_eq (w_eq m c t) (t_eq m c t r _ hs) k

theorem key19 (t : Fin cfg0.N) : (outsAt0 m c t).2.2.2.2.2.2.2.2.1 = o19 (iblk m c 0 t) (iblk m c 1 t) (iblk m c 2 t) (iblk m c 7 t) (iblk m c 8 t) := by
  unfold outsAt0
  rw [out19_eq]

theorem q19 (n n' : Fin 32768) (k k' : Fin 64) (hn : n.val = n'.val) (hk : k.val = k'.val) : f19 m c n k = f19 m c n' k' := by
  rw [Fin.ext hn, Fin.ext hk]

theorem final19 : (dats m 0 c).arrAt 19 cfg0.N = r19 m c := by
  refine (dats m 0 c).arrAt_eq_of_covers 19 _ (by decide +kernel) fun t hf y => ?_
  blk_simp
  rw [after0_19, key19]
  have ht := lt_points t
  have e0 : ((win0_19.blk t).view.emb y 0).val = t.val * 512 + (y 0).val := by blk_simp [idx19]; try omega
  have e1 : ((win0_19.blk t).view.emb y 1).val = (y 1).val := by blk_simp [idx19]; try omega
  have yy : y = ix2 (y 0) (y 1) := by funext a; fin_cases a <;> rfl
  refine (congrArg (o19 (iblk m c 0 t) (iblk m c 1 t) (iblk m c 2 t) (iblk m c 7 t) (iblk m c 8 t)) yy).trans ?_
  refine (p19 m c t (y 0) (y 1)).trans ?_
  exact q19 m c _ _ _ _ e0.symm e1.symm

def f20 (h : Fin 8) (n : Fin 32768) (k : Fin 384) : EReal := qcat (row m c ⟨n.val / 2048, by omega⟩ ⟨n.val % 2048, by omega⟩) (dat m c).w (dat m c).gq (dat m c).uq (dat m c).uk (cosT (pos ⟨n.val % 2048, by omega⟩)) (sinT (pos ⟨n.val % 2048, by omega⟩)) h k

def r20 (z : S8x32768x384.Idx) : EReal := f20 m c (z 0) (z 1) (z 2)

theorem p20 (t : Fin cfg0.N) (h : Fin 8) (r : Fin 512) (k : Fin 384) :
    o20 (iblk m c 0 t) (iblk m c 1 t) (iblk m c 2 t) (iblk m c 3 t) (iblk m c 4 t) (iblk m c 6 t) (iblk m c 7 t) (iblk m c 8 t) (ix3 h r k) = f20 m c h ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pqcat (xrow (fun d => iblk m c 1 t (ix2 0 d)) fun d => iblk m c 0 t (ix2 r d)) (fun d k => iblk m c 2 t (ix2 d k)) (fun k => iblk m c 3 t (ix2 0 k)) (fun d k => iblk m c 4 t (ix2 d k)) (fun p n k => iblk m c 6 t (ix3 p n k)) (fun d => iblk m c 7 t (ix2 r d)) (fun d => iblk m c 8 t (ix2 r d)) h k from rfl).trans ?_
  rw [x_eq m c t r _ _ hx, gq_eq m c t]
  exact qcat_eq (w_eq m c t) (uq_eq m c t) (uk_eq m c t) (t_eq m c t r _ hs) h k

theorem key20 (t : Fin cfg0.N) : (outsAt0 m c t).2.2.2.2.2.2.2.2.2.1 = o20 (iblk m c 0 t) (iblk m c 1 t) (iblk m c 2 t) (iblk m c 3 t) (iblk m c 4 t) (iblk m c 6 t) (iblk m c 7 t) (iblk m c 8 t) := by
  unfold outsAt0
  rw [out20_eq]

theorem q20 (h h' : Fin 8) (n n' : Fin 32768) (k k' : Fin 384) (hh : h.val = h'.val) (hn : n.val = n'.val) (hk : k.val = k'.val) : f20 m c h n k = f20 m c h' n' k' := by
  rw [Fin.ext hh, Fin.ext hn, Fin.ext hk]

theorem final20 : (dats m 0 c).arrAt 20 cfg0.N = r20 m c := by
  refine (dats m 0 c).arrAt_eq_of_covers 20 _ (by decide +kernel) fun t hf y => ?_
  blk_simp
  rw [after0_20, key20]
  have ht := lt_points t
  have e0 : ((win0_20.blk t).view.emb y 0).val = (y 0).val := by blk_simp [idx20]; try omega
  have e1 : ((win0_20.blk t).view.emb y 1).val = t.val * 512 + (y 1).val := by blk_simp [idx20]; try omega
  have e2 : ((win0_20.blk t).view.emb y 2).val = (y 2).val := by blk_simp [idx20]; try omega
  have yy : y = ix3 (y 0) (y 1) (y 2) := by funext a; fin_cases a <;> rfl
  refine (congrArg (o20 (iblk m c 0 t) (iblk m c 1 t) (iblk m c 2 t) (iblk m c 3 t) (iblk m c 4 t) (iblk m c 6 t) (iblk m c 7 t) (iblk m c 8 t)) yy).trans ?_
  refine (p20 m c t (y 0) (y 1) (y 2)).trans ?_
  exact q20 m c _ _ _ _ _ _ e0.symm e1.symm e2.symm

def f21 (h : Fin 8) (n : Fin 32768) (k : Fin 64) : EReal := mv (row m c ⟨n.val / 2048, by omega⟩ ⟨n.val % 2048, by omega⟩) (dat m c).w ⟨672 + (h.val * 64 + k.val), by omega⟩

def r21 (z : S8x32768x64.Idx) : EReal := f21 m c (z 0) (z 1) (z 2)

theorem p21 (t : Fin cfg0.N) (h : Fin 8) (r : Fin 512) (k : Fin 64) :
    o21 (iblk m c 0 t) (iblk m c 1 t) (iblk m c 2 t) (ix3 h r k) = f21 m c h ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pqb (xrow (fun d => iblk m c 1 t (ix2 0 d)) fun d => iblk m c 0 t (ix2 r d)) (fun d k => iblk m c 2 t (ix2 d k)) h k from rfl).trans ?_
  rw [x_eq m c t r _ _ hx]
  exact qb_eq (w_eq m c t) h k

theorem key21 (t : Fin cfg0.N) : (outsAt0 m c t).2.2.2.2.2.2.2.2.2.2.1 = o21 (iblk m c 0 t) (iblk m c 1 t) (iblk m c 2 t) := by
  unfold outsAt0
  rw [out21_eq]

theorem q21 (h h' : Fin 8) (n n' : Fin 32768) (k k' : Fin 64) (hh : h.val = h'.val) (hn : n.val = n'.val) (hk : k.val = k'.val) : f21 m c h n k = f21 m c h' n' k' := by
  rw [Fin.ext hh, Fin.ext hn, Fin.ext hk]

theorem final21 : (dats m 0 c).arrAt 21 cfg0.N = r21 m c := by
  refine (dats m 0 c).arrAt_eq_of_covers 21 _ (by decide +kernel) fun t hf y => ?_
  blk_simp
  rw [after0_21, key21]
  have ht := lt_points t
  have e0 : ((win0_21.blk t).view.emb y 0).val = (y 0).val := by blk_simp [idx21]; try omega
  have e1 : ((win0_21.blk t).view.emb y 1).val = t.val * 512 + (y 1).val := by blk_simp [idx21]; try omega
  have e2 : ((win0_21.blk t).view.emb y 2).val = (y 2).val := by blk_simp [idx21]; try omega
  have yy : y = ix3 (y 0) (y 1) (y 2) := by funext a; fin_cases a <;> rfl
  refine (congrArg (o21 (iblk m c 0 t) (iblk m c 1 t) (iblk m c 2 t)) yy).trans ?_
  refine (p21 m c t (y 0) (y 1) (y 2)).trans ?_
  exact q21 m c _ _ _ _ _ _ e0.symm e1.symm e2.symm

def f22 (h : Fin 8) (n : Fin 32768) (k : Fin 64) : EReal := qi (row m c ⟨n.val / 2048, by omega⟩ ⟨n.val % 2048, by omega⟩) (dat m c).w (cosT (pos ⟨n.val % 2048, by omega⟩)) (sinT (pos ⟨n.val % 2048, by omega⟩)) h k

def r22 (z : S8x32768x64.Idx) : EReal := f22 m c (z 0) (z 1) (z 2)

theorem p22 (t : Fin cfg0.N) (h : Fin 8) (r : Fin 512) (k : Fin 64) :
    o22 (iblk m c 0 t) (iblk m c 1 t) (iblk m c 2 t) (iblk m c 9 t) (iblk m c 10 t) (ix3 h r k) = f22 m c h ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = pqi (xrow (fun d => iblk m c 1 t (ix2 0 d)) fun d => iblk m c 0 t (ix2 r d)) (fun d k => iblk m c 2 t (ix2 d k)) (fun d => iblk m c 9 t (ix2 r d)) (fun d => iblk m c 10 t (ix2 r d)) h k from rfl).trans ?_
  rw [x_eq m c t r _ _ hx]
  exact qi_eq (w_eq m c t) (t_eq m c t r _ hs) h k

theorem key22 (t : Fin cfg0.N) : (outsAt0 m c t).2.2.2.2.2.2.2.2.2.2.2.1 = o22 (iblk m c 0 t) (iblk m c 1 t) (iblk m c 2 t) (iblk m c 9 t) (iblk m c 10 t) := by
  unfold outsAt0
  rw [out22_eq]

theorem q22 (h h' : Fin 8) (n n' : Fin 32768) (k k' : Fin 64) (hh : h.val = h'.val) (hn : n.val = n'.val) (hk : k.val = k'.val) : f22 m c h n k = f22 m c h' n' k' := by
  rw [Fin.ext hh, Fin.ext hn, Fin.ext hk]

theorem final22 : (dats m 0 c).arrAt 22 cfg0.N = r22 m c := by
  refine (dats m 0 c).arrAt_eq_of_covers 22 _ (by decide +kernel) fun t hf y => ?_
  blk_simp
  rw [after0_22, key22]
  have ht := lt_points t
  have e0 : ((win0_22.blk t).view.emb y 0).val = (y 0).val := by blk_simp [idx22]; try omega
  have e1 : ((win0_22.blk t).view.emb y 1).val = t.val * 512 + (y 1).val := by blk_simp [idx22]; try omega
  have e2 : ((win0_22.blk t).view.emb y 2).val = (y 2).val := by blk_simp [idx22]; try omega
  have yy : y = ix3 (y 0) (y 1) (y 2) := by funext a; fin_cases a <;> rfl
  refine (congrArg (o22 (iblk m c 0 t) (iblk m c 1 t) (iblk m c 2 t) (iblk m c 9 t) (iblk m c 10 t)) yy).trans ?_
  refine (p22 m c t (y 0) (y 1) (y 2)).trans ?_
  exact q22 m c _ _ _ _ _ _ e0.symm e1.symm e2.symm

def f23 (n : Fin 32768) (k : Fin 8) : EReal := mv (row m c ⟨n.val / 2048, by omega⟩ ⟨n.val % 2048, by omega⟩) (dat m c).w ⟨2016 + k.val, by omega⟩ * Ideal.ofBits .f32 0x3D3504F3#32

def r23 (z : S32768x8.Idx) : EReal := f23 m c (z 0) (z 1)

theorem p23 (t : Fin cfg0.N) (r : Fin 512) (k : Fin 8) :
    o23 (iblk m c 0 t) (iblk m c 1 t) (iblk m c 2 t) (ix2 r k) = f23 m c ⟨t.val * 512 + r.val, by have := lt_points t; omega⟩ k := by
  have ht := lt_points t
  have hx : (⟨(t.val * 512 + r.val) / 2048, by have := lt_points t; omega⟩ : Fin 16).val * 2048 + (⟨(t.val * 512 + r.val) % 2048, by omega⟩ : Fin 2048).val = t.val * 512 + r.val := by dsimp only; omega
  have hs : (⟨(t.val * 512 + r.val) % 2048, by omega⟩ : Fin 2048).val = (t.val * 512 + r.val) % 2048 := by dsimp only; try omega
  refine (show _ = mv (xrow (fun d => iblk m c 1 t (ix2 0 d)) fun d => iblk m c 0 t (ix2 r d)) (fun d k => iblk m c 2 t (ix2 d k)) ⟨2944 + k.val, by omega⟩ * Ideal.ofBits .f32 0x3D3504F3#32 from rfl).trans ?_
  rw [x_eq m c t r _ _ hx]
  exact congrArg (fun v : EReal => v * Ideal.ofBits .f32 0x3D3504F3#32) (wi_eq (w_eq m c t) k)

theorem key23 (t : Fin cfg0.N) : (outsAt0 m c t).2.2.2.2.2.2.2.2.2.2.2.2 = o23 (iblk m c 0 t) (iblk m c 1 t) (iblk m c 2 t) := by
  unfold outsAt0
  rw [out23_eq]

theorem q23 (n n' : Fin 32768) (k k' : Fin 8) (hn : n.val = n'.val) (hk : k.val = k'.val) : f23 m c n k = f23 m c n' k' := by
  rw [Fin.ext hn, Fin.ext hk]

theorem final23 : (dats m 0 c).arrAt 23 cfg0.N = r23 m c := by
  refine (dats m 0 c).arrAt_eq_of_covers 23 _ (by decide +kernel) fun t hf y => ?_
  blk_simp
  rw [after0_23, key23]
  have ht := lt_points t
  have e0 : ((win0_23.blk t).view.emb y 0).val = t.val * 512 + (y 0).val := by blk_simp [idx23]; try omega
  have e1 : ((win0_23.blk t).view.emb y 1).val = (y 1).val := by blk_simp [idx23]; try omega
  have yy : y = ix2 (y 0) (y 1) := by funext a; fin_cases a <;> rfl
  refine (congrArg (o23 (iblk m c 0 t) (iblk m c 1 t) (iblk m c 2 t)) yy).trans ?_
  refine (p23 m c t (y 0) (y 1)).trans ?_
  exact q23 m c _ _ _ _ e0.symm e1.symm

end Cert.Kernel2Ideal.Proj

end
-- ==== Proof.ProjRef2.lean ====
/- The entries of the results of the prompt's projections, as the program of single lines computes them. -/
module

public import proofs.«01_k».proof.Proof.Gen.Reference2Ideal.Run
public import proofs.«01_k».proof.Proof.ProjSpec

@[expose] public section

set_option maxRecDepth 16384
set_option maxHeartbeats 1000000

noncomputable section

namespace Cert.Reference2Ideal.Proj

open Idealize.ShloMosaic Idealize.ShloMosaic.TcCoe Idealize.SL.Sem
open Cert.Reference2Ideal Cert.Reference2Ideal.Value Cert.Proj

variable (V0 : Valuation τ sig (Elt Ideal))

/-- The weights as they are given. -/
def dat : Data where
  g := fun d => (V0 (Proc.devRef .tc main_arg1) : FVec Ideal S1024 .f32) (ix1 d)
  w := fun d k => (V0 (Proc.devRef .tc main_arg2) : FVec Ideal S1024x2024 .f32) (ix2 d k)
  gq := fun d => (V0 (Proc.devRef .tc main_arg3) : FVec Ideal S384 .f32) (ix1 d)
  uq := fun d k => (V0 (Proc.devRef .tc main_arg4) : FVec Ideal S384x768 .f32) (ix2 d k)
  gkv := fun d => (V0 (Proc.devRef .tc main_arg5) : FVec Ideal S256 .f32) (ix1 d)
  uk := fun k h n => (V0 (Proc.devRef .tc main_arg6) : FVec Ideal S256x8x64 .f32) (ix3 k h n)

/-- The scaled row of token s of sequence b. -/
def row (b : Fin 16) (s : Fin 2048) : Fin 1024 → EReal :=
  xrow (dat V0).g fun d => (V0 (Proc.devRef .tc main_arg0) : FVec Ideal S16x2048x1024 .f32) (ix3 b s d)

/-- The position of token s, as a word. -/
def pos (s : Fin 2048) : BitVec 32 := BitVec.ofNat 32 s.val

theorem in_at (b : Fin 16) (s : Fin 2048) (k : Fin 2024) :
    (res_main_v14 V0 : FVec Ideal S16x2048x2024 .f32) (ix3 b s k) = mv (row V0 b s) (dat V0).w k := by
  pointwise [res_main_v14]
  rfl

theorem ang54_at (s : Fin 2048) (d : Fin 16) : (res_main_v54 V0 : FVec Ideal S2048x1x16 .f32) (ix3 s 0 d) = ang (pos s) d := by
  pointwise [res_main_v54, res_main_v0]
  rfl

theorem ang99_at (s : Fin 2048) (d : Fin 16) : (res_main_v99 V0 : FVec Ideal S2048x1x16 .f32) (ix3 s 0 d) = ang (pos s) d := by
  pointwise [res_main_v99, res_main_v0]
  rfl

theorem ang134_at (s : Fin 2048) (d : Fin 16) : (res_main_v134 V0 : FVec Ideal S2048x1x16 .f32) (ix3 s 0 d) = ang (pos s) d := by
  pointwise [res_main_v134, res_main_v0]
  rfl

theorem ang169_at (s : Fin 2048) (d : Fin 16) : (res_main_v169 V0 : FVec Ideal S2048x1x16 .f32) (ix3 s 0 d) = ang (pos s) d := by
  pointwise [res_main_v169, res_main_v0]
  rfl

theorem tab55_at (s : Fin 2048) (d : Fin 16) : (res_main_v55 V0 : FVec Ideal S2048x1x16 .f32) (ix3 s 0 d) = cosT (pos s) d := by
  pointwise [res_main_v55]
  exact congrArg Ideal.cos (ang54_at V0 s d)

theorem tab56_at (s : Fin 2048) (d : Fin 16) : (res_main_v56 V0 : FVec Ideal S2048x1x16 .f32) (ix3 s 0 d) = sinT (pos s) d := by
  pointwise [res_main_v56]
  exact congrArg Ideal.sin (ang54_at V0 s d)

theorem tab100_at (s : Fin 2048) (d : Fin 16) : (res_main_v100 V0 : FVec Ideal S2048x1x16 .f32) (ix3 s 0 d) = cosT (pos s) d := by
  pointwise [res_main_v100]
  exact congrArg Ideal.cos (ang99_at V0 s d)

theorem tab101_at (s : Fin 2048) (d : Fin 16) : (res_main_v101 V0 : FVec Ideal S2048x1x16 .f32) (ix3 s 0 d) = sinT (pos s) d := by
  pointwise [res_main_v101]
  exact congrArg Ideal.sin (ang99_at V0 s d)

theorem tab135_at (s : Fin 2048) (d : Fin 16) : (res_main_v135 V0 : FVec Ideal S2048x1x16 .f32) (ix3 s 0 d) = cosT (pos s) d := by
  pointwise [res_main_v135]
  exact congrArg Ideal.cos (ang134_at V0 s d)

theorem tab136_at (s : Fin 2048) (d : Fin 16) : (res_main_v136 V0 : FVec Ideal S2048x1x16 .f32) (ix3 s 0 d) = sinT (pos s) d := by
  pointwise [res_main_v136]
  exact congrArg Ideal.sin (ang134_at V0 s d)

theorem tab170_at (s : Fin 2048) (d : Fin 16) : (res_main_v170 V0 : FVec Ideal S2048x1x16 .f32) (ix3 s 0 d) = cosT (pos s) d := by
  pointwise [res_main_v170]
  exact congrArg Ideal.cos (ang169_at V0 s d)

theorem tab171_at (s : Fin 2048) (d : Fin 16) : (res_main_v171 V0 : FVec Ideal S2048x1x16 .f32) (ix3 s 0 d) = sinT (pos s) d := by
  pointwise [res_main_v171]
  exact congrArg Ideal.sin (ang169_at V0 s d)

theorem ckv_at (b : Fin 16) (s : Fin 2048) (k : Fin 256) :
    (res_main_v86 V0 : FVec Ideal S16x2048x256 .f32) (ix3 b s k) = ckv (row V0 b s) (dat V0).w (dat V0).gkv k := by
  pointwise [res_main_v86, res_main_v16]
  simp only [in_at]
  rfl

theorem kr_at (b : Fin 16) (s : Fin 2048) (d : Fin 32) :
    (res_main_v119 V0 : FVec Ideal S16x2048x32 .f32) (ix3 b s d) = kr (row V0 b s) (dat V0).w (cosT (pos s)) (sinT (pos s)) d := by
  pointwise [res_main_v119, res_main_v102, res_main_v103, res_main_v87]
  simp only [in_at, tab100_at, tab101_at]
  rfl

theorem kb_at (b : Fin 16) (s : Fin 2048) (d : Fin 128) :
    (res_main_v19 V0 : FVec Ideal S16x2048x128 .f32) (ix3 b s d) = mv (row V0 b s) (dat V0).w ⟨1184 + d.val, by omega⟩ := by
  pointwise [res_main_v19]
  simp only [in_at]

theorem vb_at (b : Fin 16) (s : Fin 2048) (d : Fin 128) :
    (res_main_v20 V0 : FVec Ideal S16x2048x128 .f32) (ix3 b s d) = mv (row V0 b s) (dat V0).w ⟨1312 + d.val, by omega⟩ := by
  pointwise [res_main_v20]
  simp only [in_at]

theorem ki22_at (b : Fin 16) (s : Fin 2048) (d : Fin 64) :
    (res_main_v22 V0 : FVec Ideal S16x2048x64 .f32) (ix3 b s d) = mv (row V0 b s) (dat V0).w ⟨1952 + d.val, by omega⟩ := by
  pointwise [res_main_v22]
  simp only [in_at]

theorem ki_at (b : Fin 16) (s : Fin 2048) (d : Fin 64) :
    (res_main_v191 V0 : FVec Ideal S16x2048x64 .f32) (ix3 b s d) = ki (row V0 b s) (dat V0).w (cosT (pos s)) (sinT (pos s)) d := by
  pointwise [res_main_v191, res_main_v157, res_main_v172, res_main_v173]
  simp only [ki22_at, tab170_at, tab171_at]
  unfold ki rot
  refine dite_congr rfl (fun _ => rfl) fun hd => ?_
  exact congrArg (mv (row V0 b s) (dat V0).w) (Fin.ext (by dsimp only; omega))

theorem q_at (b : Fin 16) (s : Fin 2048) (h : Fin 8) (d : Fin 96) :
    (res_main_v38 V0 : FVec Ideal S16x2048x8x96 .f32) (ix4 b s h d) = q (row V0 b s) (dat V0).w (dat V0).gq (dat V0).uq h d := by
  pointwise [res_main_v38, res_main_v15]
  simp only [in_at]
  rfl

theorem q57_at (b : Fin 16) (s : Fin 2048) (h : Fin 8) (d : Fin 16) :
    (res_main_v57 V0 : FVec Ideal S16x2048x8x16 .f32) (ix4 b s h d) = q (row V0 b s) (dat V0).w (dat V0).gq (dat V0).uq h ⟨64 + d.val, by omega⟩ := by
  pointwise [res_main_v57, res_main_v42]
  simp only [q_at]

theorem q58_at (b : Fin 16) (s : Fin 2048) (h : Fin 8) (d : Fin 16) :
    (res_main_v58 V0 : FVec Ideal S16x2048x8x16 .f32) (ix4 b s h d) = q (row V0 b s) (dat V0).w (dat V0).gq (dat V0).uq h ⟨64 + (16 + d.val), by omega⟩ := by
  pointwise [res_main_v58, res_main_v42]
  simp only [q_at]

theorem qi121_at (b : Fin 16) (s : Fin 2048) (h : Fin 8) (d : Fin 64) :
    (res_main_v121 V0 : FVec Ideal S16x2048x8x64 .f32) (ix4 b s h d) = mv (row V0 b s) (dat V0).w ⟨1440 + (h.val * 64 + d.val), by omega⟩ := by
  pointwise [res_main_v121]
  simp only [in_at]

theorem qi137_at (b : Fin 16) (s : Fin 2048) (h : Fin 8) (d : Fin 16) :
    (res_main_v137 V0 : FVec Ideal S16x2048x8x16 .f32) (ix4 b s h d) = mv (row V0 b s) (dat V0).w ⟨1440 + (h.val * 64 + d.val), by omega⟩ := by
  pointwise [res_main_v137, res_main_v122]
  simp only [qi121_at]

theorem qi138_at (b : Fin 16) (s : Fin 2048) (h : Fin 8) (d : Fin 16) :
    (res_main_v138 V0 : FVec Ideal S16x2048x8x16 .f32) (ix4 b s h d) = mv (row V0 b s) (dat V0).w ⟨1440 + (h.val * 64 + (16 + d.val)), by omega⟩ := by
  pointwise [res_main_v138, res_main_v122]
  simp only [qi121_at]

/-! ## The results -/

theorem res0_at (n : Fin 32768) (k : Fin 256) :
    (val5 V0 (Proc.devRef .tc main_v198) : FVec Ideal S32768x256 .f32) (ix2 n k) =
      ckv (row V0 ⟨n.val / 2048, by omega⟩ ⟨n.val % 2048, by omega⟩) (dat V0).w (dat V0).gkv k := by
  rw [val5_main_v198]
  pointwise []
  exact ckv_at V0 _ _ k

theorem res1_at (b : Fin 16) (d : Fin 32) (s : Fin 2048) :
    (val5 V0 (Proc.devRef .tc main_v199) : FVec Ideal S16x32x2048 .f32) (ix3 b d s) =
      kr (row V0 b s) (dat V0).w (cosT (pos s)) (sinT (pos s)) d := by
  rw [val5_main_v199]
  pointwise []
  exact kr_at V0 _ _ d

theorem res2_at (b : Fin 16) (d : Fin 128) (s : Fin 2048) :
    (val5 V0 (Proc.devRef .tc main_v200) : FVec Ideal S16x128x2048 .f32) (ix3 b d s) =
      mv (row V0 b s) (dat V0).w ⟨1184 + d.val, by omega⟩ := by
  rw [val5_main_v200]
  pointwise []
  exact kb_at V0 _ _ d

theorem res3_at (b : Fin 16) (d : Fin 128) (s : Fin 2048) :
    (val5 V0 (Proc.devRef .tc main_v201) : FVec Ideal S16x128x2048 .f32) (ix3 b d s) =
      mv (row V0 b s) (dat V0).w ⟨1312 + d.val, by omega⟩ := by
  rw [val5_main_v201]
  pointwise []
  exact vb_at V0 _ _ d

theorem res4_at (b : Fin 16) (d : Fin 64) (s : Fin 2048) :
    (val5 V0 (Proc.devRef .tc main_v202) : FVec Ideal S16x64x2048 .f32) (ix3 b d s) =
      ki (row V0 b s) (dat V0).w (cosT (pos s)) (sinT (pos s)) d := by
  rw [val5_main_v202]
  pointwise []
  exact ki_at V0 _ _ d

theorem res5_at (n : Fin 32768) (j : Fin 384) :
    (val5 V0 (Proc.devRef .tc main_v204) : FVec Ideal S32768x384 .bf16) (ix2 n j) =
      kcat (row V0 ⟨n.val / 2048, by omega⟩ ⟨n.val % 2048, by omega⟩) (dat V0).w (dat V0).gkv (cosT (pos ⟨n.val % 2048, by omega⟩)) (sinT (pos ⟨n.val % 2048, by omega⟩)) j := by
  rw [val5_main_v204]
  pointwise []
  simp only [ckv_at, kr_at]
  rfl

theorem res6_at (n : Fin 32768) (d : Fin 128) :
    (val5 V0 (Proc.devRef .tc main_v206) : FVec Ideal S32768x128 .bf16) (ix2 n d) =
      mv (row V0 ⟨n.val / 2048, by omega⟩ ⟨n.val % 2048, by omega⟩) (dat V0).w ⟨1184 + d.val, by omega⟩ := by
  rw [val5_main_v206]
  pointwise []
  exact kb_at V0 _ _ d

theorem res7_at (n : Fin 32768) (d : Fin 128) :
    (val5 V0 (Proc.devRef .tc main_v208) : FVec Ideal S32768x128 .bf16) (ix2 n d) =
      mv (row V0 ⟨n.val / 2048, by omega⟩ ⟨n.val % 2048, by omega⟩) (dat V0).w ⟨1312 + d.val, by omega⟩ := by
  rw [val5_main_v208]
  pointwise []
  exact vb_at V0 _ _ d

theorem res8_at (n : Fin 32768) (d : Fin 64) :
    (val5 V0 (Proc.devRef .tc main_v210) : FVec Ideal S32768x64 .bf16) (ix2 n d) =
      ki (row V0 ⟨n.val / 2048, by omega⟩ ⟨n.val % 2048, by omega⟩) (dat V0).w (cosT (pos ⟨n.val % 2048, by omega⟩)) (sinT (pos ⟨n.val % 2048, by omega⟩)) d := by
  rw [val5_main_v210]
  pointwise []
  exact ki_at V0 _ _ d

theorem res9_at (h : Fin 8) (n : Fin 32768) (j : Fin 384) :
    (val5 V0 (Proc.devRef .tc main_v213) : FVec Ideal S8x32768x384 .bf16) (ix3 h n j) =
      qcat (row V0 ⟨n.val / 2048, by omega⟩ ⟨n.val % 2048, by omega⟩) (dat V0).w (dat V0).gq (dat V0).uq (dat V0).uk (cosT (pos ⟨n.val % 2048, by omega⟩)) (sinT (pos ⟨n.val % 2048, by omega⟩)) h j := by
  rw [val5_main_v213]
  pointwise []
  simp only [q_at, q57_at, q58_at, tab55_at, tab56_at]
  rfl

theorem res10_at (h : Fin 8) (n : Fin 32768) (d : Fin 64) :
    (val5 V0 (Proc.devRef .tc main_v216) : FVec Ideal S8x32768x64 .bf16) (ix3 h n d) =
      mv (row V0 ⟨n.val / 2048, by omega⟩ ⟨n.val % 2048, by omega⟩) (dat V0).w ⟨672 + (h.val * 64 + d.val), by omega⟩ := by
  rw [val5_main_v216]
  pointwise []
  simp only [in_at]

theorem res11_at (h : Fin 8) (n : Fin 32768) (d : Fin 64) :
    (val5 V0 (Proc.devRef .tc main_v219) : FVec Ideal S8x32768x64 .bf16) (ix3 h n d) =
      qi (row V0 ⟨n.val / 2048, by omega⟩ ⟨n.val % 2048, by omega⟩) (dat V0).w (cosT (pos ⟨n.val % 2048, by omega⟩)) (sinT (pos ⟨n.val % 2048, by omega⟩)) h d := by
  rw [val5_main_v219]
  pointwise []
  simp only [qi121_at, qi137_at, qi138_at, tab135_at, tab136_at]
  unfold qi rot
  refine dite_congr rfl (fun _ => rfl) fun hd => ?_
  exact congrArg (mv (row V0 ⟨n.val / 2048, by omega⟩ ⟨n.val % 2048, by omega⟩) (dat V0).w) (Fin.ext (by dsimp only; omega))

theorem res12_at (n : Fin 32768) (h : Fin 8) :
    (val5 V0 (Proc.devRef .tc main_v220) : FVec Ideal S32768x8 .f32) (ix2 n h) =
      mv (row V0 ⟨n.val / 2048, by omega⟩ ⟨n.val % 2048, by omega⟩) (dat V0).w ⟨2016 + h.val, by omega⟩ * Ideal.ofBits .f32 0x3D3504F3#32 := by
  rw [val5_main_v220]
  pointwise []
  simp only [in_at]

end Cert.Reference2Ideal.Proj

end
-- ==== Proof.ProjSame2.lean ====
/- The prompt's projections are the reference's. -/
module

public import proofs.«01_k».proof.Proof.ProjFin2
public import proofs.«01_k».proof.Proof.ProjRef2

@[expose] public section

set_option maxRecDepth 16384
set_option maxHeartbeats 2000000

noncomputable section

namespace Cert.Kernel2Ideal.Proj

open Idealize.ShloMosaic Idealize.ShloMosaic.TcCoe Idealize.SL.Sem
open Cert.Kernel2Ideal Cert.Kernel2Ideal.Gen Cert.Proj

variable (m : (ℓ : Loc nD τ sig) → Buf (Elt Ideal) ℓ) (m' : (ℓ : Loc Cert.Reference2Ideal.nD Cert.Reference2Ideal.τ Cert.Reference2Ideal.sig) → Buf (Elt Ideal) ℓ) (c : Dev nD)

/-- The two programs start from the same arguments. -/
structure Agree : Prop where

  h0 : m' ((c.tc : Thread Cert.Reference2Ideal.nD Cert.Reference2Ideal.τ).loc Cert.Reference2Ideal.main_arg0) = aX m c
  h1 : m' ((c.tc : Thread Cert.Reference2Ideal.nD Cert.Reference2Ideal.τ).loc Cert.Reference2Ideal.main_arg1) = aG m c
  h2 : m' ((c.tc : Thread Cert.Reference2Ideal.nD Cert.Reference2Ideal.τ).loc Cert.Reference2Ideal.main_arg2) = aW m c
  h3 : m' ((c.tc : Thread Cert.Reference2Ideal.nD Cert.Reference2Ideal.τ).loc Cert.Reference2Ideal.main_arg3) = aGq m c
  h4 : m' ((c.tc : Thread Cert.Reference2Ideal.nD Cert.Reference2Ideal.τ).loc Cert.Reference2Ideal.main_arg4) = aUq m c
  h5 : m' ((c.tc : Thread Cert.Reference2Ideal.nD Cert.Reference2Ideal.τ).loc Cert.Reference2Ideal.main_arg5) = aGkv m c
  h6 : m' ((c.tc : Thread Cert.Reference2Ideal.nD Cert.Reference2Ideal.τ).loc Cert.Reference2Ideal.main_arg6) = aUk m c

variable (ha : Agree m m' c)
include ha

theorem dat_eq : Cert.Reference2Ideal.Proj.dat (StableHlo.launchContents m' c) = dat m c := by
  have e1 : (Cert.Reference2Ideal.Proj.dat (StableHlo.launchContents m' c)).g = (dat m c).g := funext fun d => congrFun ha.h1 (ix1 d)
  have e2 : (Cert.Reference2Ideal.Proj.dat (StableHlo.launchContents m' c)).w = (dat m c).w := funext fun d => funext fun k => congrFun ha.h2 (ix2 d k)
  have e3 : (Cert.Reference2Ideal.Proj.dat (StableHlo.launchContents m' c)).gq = (dat m c).gq := funext fun d => congrFun ha.h3 (ix1 d)
  have e4 : (Cert.Reference2Ideal.Proj.dat (StableHlo.launchContents m' c)).uq = (dat m c).uq := funext fun d => funext fun k => congrFun ha.h4 (ix2 d k)
  have e5 : (Cert.Reference2Ideal.Proj.dat (StableHlo.launchContents m' c)).gkv = (dat m c).gkv := funext fun d => congrFun ha.h5 (ix1 d)
  have e6 : (Cert.Reference2Ideal.Proj.dat (StableHlo.launchContents m' c)).uk = (dat m c).uk := funext fun k => funext fun p => funext fun n => congrFun ha.h6 (ix3 k p n)
  exact (Data.mk.injEq _ _ _ _ _ _ _ _ _ _ _ _).mpr ⟨e1, e2, e3, e4, e5, e6⟩

theorem row_eq (b : Fin 16) (s : Fin 2048) : Cert.Reference2Ideal.Proj.row (StableHlo.launchContents m' c) b s = row m c b s :=
  congrArg₂ xrow (congrArg Data.g (dat_eq m m' c ha)) (funext fun d => congrFun ha.h0 (ix3 b s d))

theorem s11 (n : Fin 32768) (k : Fin 256) : f11 m c n k = (Cert.Reference2Ideal.Value.val5 (StableHlo.launchContents m' c) (Proc.devRef .tc Cert.Reference2Ideal.main_v198) : FVec Ideal Cert.Reference2Ideal.S32768x256 .f32) (ix2 n k) := by
  rw [Cert.Reference2Ideal.Proj.res0_at, dat_eq m m' c ha, row_eq m m' c ha]
  rfl

theorem same11 : (dats m 0 c).arrAt 11 cfg0.N = Cert.Reference2Ideal.Value.val5 (StableHlo.launchContents m' c) (Proc.devRef .tc Cert.Reference2Ideal.main_v198) := by
  rw [final11]
  funext z
  have ez : z = ix2 (z 0) (z 1) := by funext a; fin_cases a <;> rfl
  refine Eq.trans ?_ ((s11 m m' c ha (z 0) (z 1)).trans (congrArg (Cert.Reference2Ideal.Value.val5 (StableHlo.launchContents m' c) (Proc.devRef .tc Cert.Reference2Ideal.main_v198) : FVec Ideal Cert.Reference2Ideal.S32768x256 .f32) ez.symm))
  rfl

theorem s12 (b : Fin 16) (d : Fin 32) (s : Fin 2048) : f12 m c b d s = (Cert.Reference2Ideal.Value.val5 (StableHlo.launchContents m' c) (Proc.devRef .tc Cert.Reference2Ideal.main_v199) : FVec Ideal Cert.Reference2Ideal.S16x32x2048 .f32) (ix3 b d s) := by
  rw [Cert.Reference2Ideal.Proj.res1_at, dat_eq m m' c ha, row_eq m m' c ha]
  rfl

theorem same12 : (dats m 0 c).arrAt 12 cfg0.N = Cert.Reference2Ideal.Value.val5 (StableHlo.launchContents m' c) (Proc.devRef .tc Cert.Reference2Ideal.main_v199) := by
  rw [final12]
  funext z
  have ez : z = ix3 (z 0) (z 1) (z 2) := by funext a; fin_cases a <;> rfl
  refine Eq.trans ?_ ((s12 m m' c ha (z 0) (z 1) (z 2)).trans (congrArg (Cert.Reference2Ideal.Value.val5 (StableHlo.launchContents m' c) (Proc.devRef .tc Cert.Reference2Ideal.main_v199) : FVec Ideal Cert.Reference2Ideal.S16x32x2048 .f32) ez.symm))
  rfl

theorem s13 (b : Fin 16) (d : Fin 128) (s : Fin 2048) : f13 m c b d s = (Cert.Reference2Ideal.Value.val5 (StableHlo.launchContents m' c) (Proc.devRef .tc Cert.Reference2Ideal.main_v200) : FVec Ideal Cert.Reference2Ideal.S16x128x2048 .f32) (ix3 b d s) := by
  rw [Cert.Reference2Ideal.Proj.res2_at, dat_eq m m' c ha, row_eq m m' c ha]
  rfl

theorem same13 : (dats m 0 c).arrAt 13 cfg0.N = Cert.Reference2Ideal.Value.val5 (StableHlo.launchContents m' c) (Proc.devRef .tc Cert.Reference2Ideal.main_v200) := by
  rw [final13]
  funext z
  have ez : z = ix3 (z 0) (z 1) (z 2) := by funext a; fin_cases a <;> rfl
  refine Eq.trans ?_ ((s13 m m' c ha (z 0) (z 1) (z 2)).trans (congrArg (Cert.Reference2Ideal.Value.val5 (StableHlo.launchContents m' c) (Proc.devRef .tc Cert.Reference2Ideal.main_v200) : FVec Ideal Cert.Reference2Ideal.S16x128x2048 .f32) ez.symm))
  rfl

theorem s14 (b : Fin 16) (d : Fin 128) (s : Fin 2048) : f14 m c b d s = (Cert.Reference2Ideal.Value.val5 (StableHlo.launchContents m' c) (Proc.devRef .tc Cert.Reference2Ideal.main_v201) : FVec Ideal Cert.Reference2Ideal.S16x128x2048 .f32) (ix3 b d s) := by
  rw [Cert.Reference2Ideal.Proj.res3_at, dat_eq m m' c ha, row_eq m m' c ha]
  rfl

theorem same14 : (dats m 0 c).arrAt 14 cfg0.N = Cert.Reference2Ideal.Value.val5 (StableHlo.launchContents m' c) (Proc.devRef .tc Cert.Reference2Ideal.main_v201) := by
  rw [final14]
  funext z
  have ez : z = ix3 (z 0) (z 1) (z 2) := by funext a; fin_cases a <;> rfl
  refine Eq.trans ?_ ((s14 m m' c ha (z 0) (z 1) (z 2)).trans (congrArg (Cert.Reference2Ideal.Value.val5 (StableHlo.launchContents m' c) (Proc.devRef .tc Cert.Reference2Ideal.main_v201) : FVec Ideal Cert.Reference2Ideal.S16x128x2048 .f32) ez.symm))
  rfl

theorem s15 (b : Fin 16) (d : Fin 64) (s : Fin 2048) : f15 m c b d s = (Cert.Reference2Ideal.Value.val5 (StableHlo.launchContents m' c) (Proc.devRef .tc Cert.Reference2Ideal.main_v202) : FVec Ideal Cert.Reference2Ideal.S16x64x2048 .f32) (ix3 b d s) := by
  rw [Cert.Reference2Ideal.Proj.res4_at, dat_eq m m' c ha, row_eq m m' c ha]
  rfl

theorem same15 : (dats m 0 c).arrAt 15 cfg0.N = Cert.Reference2Ideal.Value.val5 (StableHlo.launchContents m' c) (Proc.devRef .tc Cert.Reference2Ideal.main_v202) := by
  rw [final15]
  funext z
  have ez : z = ix3 (z 0) (z 1) (z 2) := by funext a; fin_cases a <;> rfl
  refine Eq.trans ?_ ((s15 m m' c ha (z 0) (z 1) (z 2)).trans (congrArg (Cert.Reference2Ideal.Value.val5 (StableHlo.launchContents m' c) (Proc.devRef .tc Cert.Reference2Ideal.main_v202) : FVec Ideal Cert.Reference2Ideal.S16x64x2048 .f32) ez.symm))
  rfl

theorem s16 (n : Fin 32768) (j : Fin 384) : f16 m c n j = (Cert.Reference2Ideal.Value.val5 (StableHlo.launchContents m' c) (Proc.devRef .tc Cert.Reference2Ideal.main_v204) : FVec Ideal Cert.Reference2Ideal.S32768x384 .bf16) (ix2 n j) := by
  rw [Cert.Reference2Ideal.Proj.res5_at, dat_eq m m' c ha, row_eq m m' c ha]
  rfl

theorem same16 : (dats m 0 c).arrAt 16 cfg0.N = Cert.Reference2Ideal.Value.val5 (StableHlo.launchContents m' c) (Proc.devRef .tc Cert.Reference2Ideal.main_v204) := by
  rw [final16]
  funext z
  have ez : z = ix2 (z 0) (z 1) := by funext a; fin_cases a <;> rfl
  refine Eq.trans ?_ ((s16 m m' c ha (z 0) (z 1)).trans (congrArg (Cert.Reference2Ideal.Value.val5 (StableHlo.launchContents m' c) (Proc.devRef .tc Cert.Reference2Ideal.main_v204) : FVec Ideal Cert.Reference2Ideal.S32768x384 .bf16) ez.symm))
  rfl

theorem s17 (n : Fin 32768) (d : Fin 128) : f17 m c n d = (Cert.Reference2Ideal.Value.val5 (StableHlo.launchContents m' c) (Proc.devRef .tc Cert.Reference2Ideal.main_v206) : FVec Ideal Cert.Reference2Ideal.S32768x128 .bf16) (ix2 n d) := by
  rw [Cert.Reference2Ideal.Proj.res6_at, dat_eq m m' c ha, row_eq m m' c ha]
  rfl

theorem same17 : (dats m 0 c).arrAt 17 cfg0.N = Cert.Reference2Ideal.Value.val5 (StableHlo.launchContents m' c) (Proc.devRef .tc Cert.Reference2Ideal.main_v206) := by
  rw [final17]
  funext z
  have ez : z = ix2 (z 0) (z 1) := by funext a; fin_cases a <;> rfl
  refine Eq.trans ?_ ((s17 m m' c ha (z 0) (z 1)).trans (congrArg (Cert.Reference2Ideal.Value.val5 (StableHlo.launchContents m' c) (Proc.devRef .tc Cert.Reference2Ideal.main_v206) : FVec Ideal Cert.Reference2Ideal.S32768x128 .bf16) ez.symm))
  rfl

theorem s18 (n : Fin 32768) (d : Fin 128) : f18 m c n d = (Cert.Reference2Ideal.Value.val5 (StableHlo.launchContents m' c) (Proc.devRef .tc Cert.Reference2Ideal.main_v208) : FVec Ideal Cert.Reference2Ideal.S32768x128 .bf16) (ix2 n d) := by
  rw [Cert.Reference2Ideal.Proj.res7_at, dat_eq m m' c ha, row_eq m m' c ha]
  rfl

theorem same18 : (dats m 0 c).arrAt 18 cfg0.N = Cert.Reference2Ideal.Value.val5 (StableHlo.launchContents m' c) (Proc.devRef .tc Cert.Reference2Ideal.main_v208) := by
  rw [final18]
  funext z
  have ez : z = ix2 (z 0) (z 1) := by funext a; fin_cases a <;> rfl
  refine Eq.trans ?_ ((s18 m m' c ha (z 0) (z 1)).trans (congrArg (Cert.Reference2Ideal.Value.val5 (StableHlo.launchContents m' c) (Proc.devRef .tc Cert.Reference2Ideal.main_v208) : FVec Ideal Cert.Reference2Ideal.S32768x128 .bf16) ez.symm))
  rfl

theorem s19 (n : Fin 32768) (d : Fin 64) : f19 m c n d = (Cert.Reference2Ideal.Value.val5 (StableHlo.launchContents m' c) (Proc.devRef .tc Cert.Reference2Ideal.main_v210) : FVec Ideal Cert.Reference2Ideal.S32768x64 .bf16) (ix2 n d) := by
  rw [Cert.Reference2Ideal.Proj.res8_at, dat_eq m m' c ha, row_eq m m' c ha]
  rfl

theorem same19 : (dats m 0 c).arrAt 19 cfg0.N = Cert.Reference2Ideal.Value.val5 (StableHlo.launchContents m' c) (Proc.devRef .tc Cert.Reference2Ideal.main_v210) := by
  rw [final19]
  funext z
  have ez : z = ix2 (z 0) (z 1) := by funext a; fin_cases a <;> rfl
  refine Eq.trans ?_ ((s19 m m' c ha (z 0) (z 1)).trans (congrArg (Cert.Reference2Ideal.Value.val5 (StableHlo.launchContents m' c) (Proc.devRef .tc Cert.Reference2Ideal.main_v210) : FVec Ideal Cert.Reference2Ideal.S32768x64 .bf16) ez.symm))
  rfl

theorem s20 (h : Fin 8) (n : Fin 32768) (j : Fin 384) : f20 m c h n j = (Cert.Reference2Ideal.Value.val5 (StableHlo.launchContents m' c) (Proc.devRef .tc Cert.Reference2Ideal.main_v213) : FVec Ideal Cert.Reference2Ideal.S8x32768x384 .bf16) (ix3 h n j) := by
  rw [Cert.Reference2Ideal.Proj.res9_at, dat_eq m m' c ha, row_eq m m' c ha]
  rfl

theorem same20 : (dats m 0 c).arrAt 20 cfg0.N = Cert.Reference2Ideal.Value.val5 (StableHlo.launchContents m' c) (Proc.devRef .tc Cert.Reference2Ideal.main_v213) := by
  rw [final20]
  funext z
  have ez : z = ix3 (z 0) (z 1) (z 2) := by funext a; fin_cases a <;> rfl
  refine Eq.trans ?_ ((s20 m m' c ha (z 0) (z 1) (z 2)).trans (congrArg (Cert.Reference2Ideal.Value.val5 (StableHlo.launchContents m' c) (Proc.devRef .tc Cert.Reference2Ideal.main_v213) : FVec Ideal Cert.Reference2Ideal.S8x32768x384 .bf16) ez.symm))
  rfl

theorem s21 (h : Fin 8) (n : Fin 32768) (d : Fin 64) : f21 m c h n d = (Cert.Reference2Ideal.Value.val5 (StableHlo.launchContents m' c) (Proc.devRef .tc Cert.Reference2Ideal.main_v216) : FVec Ideal Cert.Reference2Ideal.S8x32768x64 .bf16) (ix3 h n d) := by
  rw [Cert.Reference2Ideal.Proj.res10_at, dat_eq m m' c ha, row_eq m m' c ha]
  rfl

theorem same21 : (dats m 0 c).arrAt 21 cfg0.N = Cert.Reference2Ideal.Value.val5 (StableHlo.launchContents m' c) (Proc.devRef .tc Cert.Reference2Ideal.main_v216) := by
  rw [final21]
  funext z
  have ez : z = ix3 (z 0) (z 1) (z 2) := by funext a; fin_cases a <;> rfl
  refine Eq.trans ?_ ((s21 m m' c ha (z 0) (z 1) (z 2)).trans (congrArg (Cert.Reference2Ideal.Value.val5 (StableHlo.launchContents m' c) (Proc.devRef .tc Cert.Reference2Ideal.main_v216) : FVec Ideal Cert.Reference2Ideal.S8x32768x64 .bf16) ez.symm))
  rfl

theorem s22 (h : Fin 8) (n : Fin 32768) (d : Fin 64) : f22 m c h n d = (Cert.Reference2Ideal.Value.val5 (StableHlo.launchContents m' c) (Proc.devRef .tc Cert.Reference2Ideal.main_v219) : FVec Ideal Cert.Reference2Ideal.S8x32768x64 .bf16) (ix3 h n d) := by
  rw [Cert.Reference2Ideal.Proj.res11_at, dat_eq m m' c ha, row_eq m m' c ha]
  rfl

theorem same22 : (dats m 0 c).arrAt 22 cfg0.N = Cert.Reference2Ideal.Value.val5 (StableHlo.launchContents m' c) (Proc.devRef .tc Cert.Reference2Ideal.main_v219) := by
  rw [final22]
  funext z
  have ez : z = ix3 (z 0) (z 1) (z 2) := by funext a; fin_cases a <;> rfl
  refine Eq.trans ?_ ((s22 m m' c ha (z 0) (z 1) (z 2)).trans (congrArg (Cert.Reference2Ideal.Value.val5 (StableHlo.launchContents m' c) (Proc.devRef .tc Cert.Reference2Ideal.main_v219) : FVec Ideal Cert.Reference2Ideal.S8x32768x64 .bf16) ez.symm))
  rfl

theorem s23 (n : Fin 32768) (h : Fin 8) : f23 m c n h = (Cert.Reference2Ideal.Value.val5 (StableHlo.launchContents m' c) (Proc.devRef .tc Cert.Reference2Ideal.main_v220) : FVec Ideal Cert.Reference2Ideal.S32768x8 .f32) (ix2 n h) := by
  rw [Cert.Reference2Ideal.Proj.res12_at, dat_eq m m' c ha, row_eq m m' c ha]
  rfl

theorem same23 : (dats m 0 c).arrAt 23 cfg0.N = Cert.Reference2Ideal.Value.val5 (StableHlo.launchContents m' c) (Proc.devRef .tc Cert.Reference2Ideal.main_v220) := by
  rw [final23]
  funext z
  have ez : z = ix2 (z 0) (z 1) := by funext a; fin_cases a <;> rfl
  refine Eq.trans ?_ ((s23 m m' c ha (z 0) (z 1)).trans (congrArg (Cert.Reference2Ideal.Value.val5 (StableHlo.launchContents m' c) (Proc.devRef .tc Cert.Reference2Ideal.main_v220) : FVec Ideal Cert.Reference2Ideal.S32768x8 .f32) ez.symm))
  rfl

end Cert.Kernel2Ideal.Proj

end
-- ==== Proof.ProjTab3.lean ====
/- The arrays the host hands the sample's projections. -/
module

public import proofs.«01_k».proof.Proof.Gen.Kernel3Ideal.Value
public import proofs.«01_k».proof.Proof.ProjPacked

@[expose] public section

set_option maxRecDepth 16384
set_option maxHeartbeats 2000000

noncomputable section

namespace Cert.Kernel3Ideal.Proj

open Idealize.ShloMosaic Idealize.ShloMosaic.TcCoe Idealize.SL.Sem
open Cert.Kernel3Ideal Cert.Kernel3Ideal.Gen Cert.Proj

/-- The position of token s, as a word. -/
def pos (s : Fin 4) : BitVec 32 := 8192#32 + BitVec.ofNat 32 s.val

/-- The angles by position and frequency. -/
def angT : FVec Ideal S512x16 .f32 :=
  mulf (broadcastInDim S512x16 ![0, 1] bcast_S512x1_S512x16_0_1 (broadcastInDim S512x1 ![0] bcast_S512_S512x1_0 (sitofp .f32 (addi (broadcastInDim S512 ![] bcast_S_S512 (constantI S_ 32 8192#32)) (shapeCast S512 (broadcastInDim S128x4 ![0, 1] bcast_S1x4_S128x4_0_1 (shapeCast S1x4 (iotaInDim S4 32 0) shapeCasts_S4_S1x4)) shapeCasts_S128x4_S512)))))
    (broadcastInDim S512x16 ![0, 1] bcast_S1x16_S512x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem angT_at (r : Fin 512) (d : Fin 16) : angT (ix2 r d) = ang (pos ⟨r.val % 4, by omega⟩) d := by
  pointwise [angT]
  skip
  rfl

def ones : FVec Ideal S512x32 .f32 := broadcastInDim S512x32 ![] bcast_S_S512x32 (constant S_ .f32 0x3F800000#32)

def zeros : FVec Ideal S512x32 .f32 := broadcastInDim S512x32 ![] bcast_S_S512x32 (constant S_ .f32 0x00000000#32)

def two (a b : FVec Ideal S512x16 .f32) : FVec Ideal S512x32 .f32 :=
  concatenate S512x32 1 [⟨S512x16, a⟩, ⟨S512x16, b⟩] concatenates_S512x16_S512x16_S512x32_d1

def four (a b c e : FVec Ideal S512x32 .f32) : FVec Ideal S512x128 .f32 :=
  concatenate S512x128 1 [⟨S512x32, a⟩, ⟨S512x32, b⟩, ⟨S512x32, c⟩, ⟨S512x32, e⟩] concatenates_S512x32_S512x32_S512x32_S512x32_S512x128_d1

/-- The four tables: rotation of the first 32 entries, or of the first 32 of each half. -/
def tCa (a : FVec Ideal S512x16 .f32) : FVec Ideal S512x128 .f32 := four (two a a) ones ones ones

def tSa (a : FVec Ideal S512x16 .f32) : FVec Ideal S512x128 .f32 := four (two (Host.negf a) a) zeros zeros zeros

def tCb (a : FVec Ideal S512x16 .f32) : FVec Ideal S512x128 .f32 := four (two a a) ones (two a a) ones

def tSb (a : FVec Ideal S512x16 .f32) : FVec Ideal S512x128 .f32 := four (two (Host.negf a) a) zeros (two (Host.negf a) a) zeros

theorem one_bits : Ideal.ofBits .f32 0x3F800000#32 = 1 := Ideal.ofBits_one_f32

theorem t_ca_lo (a : FVec Ideal S512x16 .f32) (r : Fin 512) (d : Fin 16) : tCa a (ix2 r ⟨d.val, by omega⟩) = a (ix2 r d) := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_ca_hi (a : FVec Ideal S512x16 .f32) (r : Fin 512) (d : Fin 16) : tCa a (ix2 r ⟨16 + d.val, by omega⟩) = a (ix2 r d) := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_ca_one (a : FVec Ideal S512x16 .f32) (r : Fin 512) (d : Fin 96) : tCa a (ix2 r ⟨32 + d.val, by omega⟩) = 1 := by
  pointwise [tCa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_lo (a : FVec Ideal S512x16 .f32) (r : Fin 512) (d : Fin 16) : tSa a (ix2 r ⟨d.val, by omega⟩) = -(a (ix2 r d)) := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_hi (a : FVec Ideal S512x16 .f32) (r : Fin 512) (d : Fin 16) : tSa a (ix2 r ⟨16 + d.val, by omega⟩) = a (ix2 r d) := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_sa_zero (a : FVec Ideal S512x16 .f32) (r : Fin 512) (d : Fin 96) : tSa a (ix2 r ⟨32 + d.val, by omega⟩) = 0 := by
  pointwise [tSa, four, two, ones, zeros]
  try split_ifs
  all_goals first
    | done
    | rfl
    | exact one_bits
    | (exfalso; omega)
    | exact congrArg (fun k => a (ix2 r k)) (Fin.ext (by dsimp only; omega))
    | exact congrArg (fun k => -(a (ix2 r k))) (Fin.ext (by dsimp only; omega))

theorem t_cb_lo (a : FVec Ideal S512x16 .f32) (r : Fin 512) (p : Fin 2) (d : Fin 16) : tCb a (ix2 r ⟨64 * p.val + d.val, by omega⟩) = a (ix2 r d) := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_cb_hi (a : FVec Ideal S512x16 .f32) (r : Fin 512) (p : Fin 2) (d : Fin 16) : tCb a (ix2 r ⟨64 * p.val + (16 + d.val), by omega⟩) = a (ix2 r d) := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_cb_one (a : FVec Ideal S512x16 .f32) (r : Fin 512) (p : Fin 2) (d : Fin 32) : tCb a (ix2 r ⟨64 * p.val + (32 + d.val), by omega⟩) = 1 := by
  fin_cases p <;>
  (pointwise [tCb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_lo (a : FVec Ideal S512x16 .f32) (r : Fin 512) (p : Fin 2) (d : Fin 16) : tSb a (ix2 r ⟨64 * p.val + d.val, by omega⟩) = -(a (ix2 r d)) := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_hi (a : FVec Ideal S512x16 .f32) (r : Fin 512) (p : Fin 2) (d : Fin 16) : tSb a (ix2 r ⟨64 * p.val + (16 + d.val), by omega⟩) = a (ix2 r d) := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem t_sb_zero (a : FVec Ideal S512x16 .f32) (r : Fin 512) (p : Fin 2) (d : Fin 32) : tSb a (ix2 r ⟨64 * p.val + (32 + d.val), by omega⟩) = 0 := by
  fin_cases p <;>
  (pointwise [tSb, four, two, ones, zeros]
   try dsimp only
   try split_ifs
   all_goals first
    | done
    | rfl
    | exact one_bits
    | (exfalso; omega)
    | exact congrArg (fun k => a (ix2 r k)) (Fin.ext (by dsimp only; omega))
    | exact congrArg (fun k => -(a (ix2 r k))) (Fin.ext (by dsimp only; omega)))

theorem cos_at (r : Fin 512) (d : Fin 16) : (Host.cos angT : FVec Ideal S512x16 .f32) (ix2 r d) = cosT (pos ⟨r.val % 4, by omega⟩) d :=
  congrArg Ideal.cos (angT_at r d)

theorem sin_at (r : Fin 512) (d : Fin 16) : (Host.sin angT : FVec Ideal S512x16 .f32) (ix2 r d) = sinT (pos ⟨r.val % 4, by omega⟩) d :=
  congrArg Ideal.sin (angT_at r d)

theorem tables (r : Fin 512) :
    Tables (cosT (pos ⟨r.val % 4, by omega⟩)) (sinT (pos ⟨r.val % 4, by omega⟩)) (fun d => tCa (Host.cos angT) (ix2 r d))
      (fun d => tSa (Host.sin angT) (ix2 r d)) (fun d => tCb (Host.cos angT) (ix2 r d)) (fun d => tSb (Host.sin angT) (ix2 r d)) where
  ca_lo := fun d => (t_ca_lo _ r d).trans (cos_at r d)
  ca_hi := fun d => (t_ca_hi _ r d).trans (cos_at r d)
  ca_one := fun d => (t_ca_one _ r d)
  sa_lo := fun d => (t_sa_lo _ r d).trans (congrArg (fun v : EReal => -v) (sin_at r d))
  sa_hi := fun d => (t_sa_hi _ r d).trans (sin_at r d)
  sa_zero := fun d => (t_sa_zero _ r d)
  cb_lo := fun p d => (t_cb_lo _ r p d).trans (cos_at r d)
  cb_hi := fun p d => (t_cb_hi _ r p d).trans (cos_at r d)
  cb_one := fun p d => (t_cb_one _ r p d)
  sb_lo := fun p d => (t_sb_lo _ r p d).trans (congrArg (fun v : EReal => -v) (sin_at r d))
  sb_hi := fun p d => (t_sb_hi _ r p d).trans (sin_at r d)
  sb_zero := fun p d => (t_sb_zero _ r p d)

def flatX (x : FVec Ideal S128x4x1024 .f32) : FVec Ideal S512x1024 .f32 := shapeCast S512x1024 x shapeCasts_S128x4x1024_S512x1024

theorem flatX_at (x : FVec Ideal S128x4x1024 .f32) (n : Fin 512) (d : Fin 1024) :
    flatX x (ix2 n d) = x (ix3 ⟨n.val / 4, by omega⟩ ⟨n.val % 4, by omega⟩ d) := by
  pointwise [flatX]

def wide1024 (g : FVec Ideal S1024 .f32) : FVec Ideal S1x1024 .f32 := shapeCast S1x1024 g shapeCasts_S1024_S1x1024

theorem wide1024_at (g : FVec Ideal S1024 .f32) (d : Fin 1024) : wide1024 g (ix2 0 d) = g (ix1 d) := by
  pointwise [wide1024]

def wide384 (g : FVec Ideal S384 .f32) : FVec Ideal S1x384 .f32 := shapeCast S1x384 g shapeCasts_S384_S1x384

theorem wide384_at (g : FVec Ideal S384 .f32) (d : Fin 384) : wide384 g (ix2 0 d) = g (ix1 d) := by
  pointwise [wide384]

def wide256 (g : FVec Ideal S256 .f32) : FVec Ideal S1x256 .f32 := shapeCast S1x256 g shapeCasts_S256_S1x256

theorem wide256_at (g : FVec Ideal S256 .f32) (d : Fin 256) : wide256 g (ix2 0 d) = g (ix1 d) := by
  pointwise [wide256]

end Cert.Kernel3Ideal.Proj

end
-- ==== Proof.ProjV3.lean ====
/- What the host's operations leave in the arrays the sample's projections read. -/
module

public import proofs.«01_k».proof.Proof.ProjTab3

@[expose] public section

set_option maxRecDepth 16384
set_option maxHeartbeats 2000000

noncomputable section

namespace Cert.Kernel3Ideal.Proj

open Idealize.ShloMosaic Idealize.ShloMosaic.TcCoe Idealize.SL.Sem
open Cert.Kernel3Ideal Cert.Kernel3Ideal.Gen Cert.Proj

variable (m : (ℓ : Loc nD τ sig) → Buf (Elt Ideal) ℓ) (c : Dev nD)

/-- The arguments, as arrays of extended reals. -/
abbrev aX : FVec Ideal S128x4x1024 .f32 := m ((c.tc : Thread nD τ).loc main_arg0)
abbrev aG : FVec Ideal S1024 .f32 := m ((c.tc : Thread nD τ).loc main_arg1)
abbrev aW : FVec Ideal S1024x2024 .f32 := m ((c.tc : Thread nD τ).loc main_arg2)
abbrev aGq : FVec Ideal S384 .f32 := m ((c.tc : Thread nD τ).loc main_arg3)
abbrev aUq : FVec Ideal S384x768 .f32 := m ((c.tc : Thread nD τ).loc main_arg4)
abbrev aGkv : FVec Ideal S256 .f32 := m ((c.tc : Thread nD τ).loc main_arg5)
abbrev aUk : FVec Ideal S256x8x64 .f32 := m ((c.tc : Thread nD τ).loc main_arg6)

theorem in0_eq : V m c main_v6 = flatX (aX m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in1_eq : V m c main_v111 = wide1024 (aG m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in2_eq : V m c main_v61 = packIn (aW m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in3_eq : V m c main_v112 = wide384 (aGq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in4_eq : V m c main_v74 = packQ (aUq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in5_eq : V m c main_v113 = wide256 (aGkv m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in6_eq : V m c main_v110 = packK (aUk m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in7_eq : V m c main_v26 = tCa (Host.cos angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in8_eq : V m c main_v27 = tSa (Host.sin angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in9_eq : V m c main_v28 = tCb (Host.cos angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem in10_eq : V m c main_v29 = tSb (Host.sin angT) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.Kernel3Ideal.Proj

end
-- ==== Proof.ProjPay3.lean ====
/- What the projection kernel computes for one block of tokens, entry by entry: rows times weights, normed or rotated. -/
module

public import proofs.«01_k».proof.Proof.Gen.Kernel3Ideal.Skeleton
public import proofs.«01_k».proof.Proof.ProjRow

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen Cert.Proj

/-- The normed input. -/
theorem pay3_at (x : Vec Ideal S512x1024 .f32) (g : Vec Ideal S1x1024 .f32) (r : Fin 512) (d : Fin 1024) :
    k0_pay3 x g (ix2 r d) = nrm 0x44800000#32 (fun d => g (ix2 0 d)) (fun d => x (ix2 r d)) d := by
  pointwise [nrm, k0_pay3]
  try rfl

theorem pay4_at (v : Vec Ideal S512x128 .f32) (r : Fin 512) (d : Fin 128) :
    k0_pay4 v (ix2 r d) = v (ix2 r d) := by
  pointwise [k0_pay4]
  try rfl

theorem pay5_at (v : Vec Ideal S512x128 .f32) (r : Fin 512) (d : Fin 128) :
    k0_pay5 v (ix2 r d) = v (ix2 r d) := by
  pointwise [k0_pay5]
  try rfl

theorem pay6_at (v : Vec Ideal S512x128 .f32) (r : Fin 512) (d : Fin 128) :
    k0_pay6 v (ix2 r d) = v (ix2 r d) := by
  pointwise [k0_pay6]
  try rfl

theorem pay7_at (v : Vec Ideal S512x128 .f32) (r : Fin 512) (d : Fin 128) :
    k0_pay7 v (ix2 r d) = v (ix2 r d) := by
  pointwise [k0_pay7]
  try rfl

theorem pay8_at (x : Vec Ideal S512x1024 .f32) (g : Vec Ideal S1x1024 .f32) (w : Vec Ideal S1024x256 .bf16) (r : Fin 512) (k : Fin 256) :
    k0_pay8 x g w (ix2 r k) = mv (fun d => k0_pay3 x g (ix2 r d)) (fun d k => w (ix2 d k)) k := by
  pointwise [mv, k0_pay8]
  try rfl

theorem pay9_at (h : Vec Ideal S1x256 .f32) (k : Fin 256) :
    k0_pay9 h (ix2 0 k) = h (ix2 0 k) := by
  pointwise [k0_pay9]
  try rfl

theorem pay10_at (x : Vec Ideal S512x1024 .f32) (g : Vec Ideal S1x1024 .f32) (w : Vec Ideal S1024x256 .bf16) (r : Fin 512) :
    k0_pay10 x g w (ix2 r 0) = Ideal.div (∑ k, k0_pay8 x g w (ix2 r k) * k0_pay8 x g w (ix2 r k)) (Ideal.ofBits .f32 0x43800000#32) := by
  pointwise [k0_pay10]
  try rfl

theorem pay11_at (r : Fin 512) :
    k0_pay11 (F := Ideal) (ix2 r 0) = Ideal.ofBits .f32 0x358637BD#32 := by
  pointwise [k0_pay11]
  try rfl

theorem pay12_at (x : Vec Ideal S512x1024 .f32) (g : Vec Ideal S1x1024 .f32) (w : Vec Ideal S1024x256 .bf16) (h : Vec Ideal S1x256 .f32) (r : Fin 512) (k : Fin 256) :
    k0_pay12 (k0_pay8 x g w) (k0_pay9 h) (k0_pay10 x g w) k0_pay11 (ix2 r k) = nrm 0x43800000#32 (fun k => h (ix2 0 k)) (fun k => mv (fun d => k0_pay3 x g (ix2 r d)) (fun d k => w (ix2 d k)) k) k := by
  have e : k0_pay12 (k0_pay8 x g w) (k0_pay9 h) (k0_pay10 x g w) k0_pay11 (ix2 r k) = k0_pay8 x g w (ix2 r k) * Ideal.rsqrt (k0_pay10 x g w (ix2 r 0) + k0_pay11 (F := Ideal) (ix2 r 0)) * k0_pay9 h (ix2 0 k) := by
    generalize k0_pay8 x g w = a
    generalize k0_pay9 h = b
    generalize k0_pay10 x g w = p
    generalize k0_pay11 (F := Ideal) = q
    pointwise [k0_pay12, k0_pay13]
  rw [e, pay10_at, pay11_at, pay9_at]
  simp only [pay8_at]
  rfl

theorem pay13_at (x : Vec Ideal S512x1024 .f32) (g : Vec Ideal S1x1024 .f32) (w : Vec Ideal S1024x256 .bf16) (h : Vec Ideal S1x256 .f32) (r : Fin 512) (k : Fin 256) :
    k0_pay13 (k0_pay8 x g w) (k0_pay9 h) (k0_pay10 x g w) k0_pay11 (ix2 r k) = nrm 0x43800000#32 (fun k => h (ix2 0 k)) (fun k => mv (fun d => k0_pay3 x g (ix2 r d)) (fun d k => w (ix2 d k)) k) k := by
  have e : k0_pay13 (k0_pay8 x g w) (k0_pay9 h) (k0_pay10 x g w) k0_pay11 (ix2 r k) = k0_pay8 x g w (ix2 r k) * Ideal.rsqrt (k0_pay10 x g w (ix2 r 0) + k0_pay11 (F := Ideal) (ix2 r 0)) * k0_pay9 h (ix2 0 k) := by
    generalize k0_pay8 x g w = a
    generalize k0_pay9 h = b
    generalize k0_pay10 x g w = p
    generalize k0_pay11 (F := Ideal) = q
    pointwise [k0_pay12, k0_pay13]
  rw [e, pay10_at, pay11_at, pay9_at]
  simp only [pay8_at]
  rfl

/-- The shared rotary key. -/
theorem pay15_at (xn : FVec Ideal S512x1024 .bf16) (ca sa : FVec Ideal S512x128 .f32) (w w' : Vec Ideal S1024x128 .bf16) (r : Fin 512) (d : Fin 32) :
    k0_pay15 xn ca sa w w' (ix3 0 d r) = mv (fun d => xn (ix2 r d)) (fun d k => w (ix2 d k)) ⟨d.val, by omega⟩ * ca (ix2 r ⟨d.val, by omega⟩) + mv (fun d => xn (ix2 r d)) (fun d k => w' (ix2 d k)) ⟨d.val, by omega⟩ * sa (ix2 r ⟨d.val, by omega⟩) := by
  pointwise [mv, k0_pay15, k0_pay14]
  try rfl

theorem pay16_at (xn : FVec Ideal S512x1024 .bf16) (ca sa : FVec Ideal S512x128 .f32) (w w' : Vec Ideal S1024x128 .bf16) (r : Fin 512) (d : Fin 128) :
    k0_pay16 xn ca sa w w' (ix2 r d) = mv (fun d => xn (ix2 r d)) (fun d k => w (ix2 d k)) d * ca (ix2 r d) + mv (fun d => xn (ix2 r d)) (fun d k => w' (ix2 d k)) d * sa (ix2 r d) := by
  pointwise [mv, k0_pay16, k0_pay14]
  try rfl

/-- The indexer's key. -/
theorem pay17_at (xn : FVec Ideal S512x1024 .bf16) (ca sa : FVec Ideal S512x128 .f32) (w w' : Vec Ideal S1024x128 .bf16) (r : Fin 512) (d : Fin 128) :
    k0_pay17 xn ca sa w w' (ix2 r d) = mv (fun d => xn (ix2 r d)) (fun d k => w (ix2 d k)) d * ca (ix2 r d) + mv (fun d => xn (ix2 r d)) (fun d k => w' (ix2 d k)) d * sa (ix2 r d) := by
  pointwise [mv, k0_pay17]
  try rfl

theorem pay18_at (xn : FVec Ideal S512x1024 .bf16) (ca sa : FVec Ideal S512x128 .f32) (w w' : Vec Ideal S1024x128 .bf16) (r : Fin 512) (d : Fin 128) :
    k0_pay18 xn ca sa w w' (ix2 d r) = k0_pay17 xn ca sa w w' (ix2 r d) := by
  pointwise [k0_pay18]
  try rfl

theorem pay19_at (v : FVec Ideal S128x512 .f32) (r : Fin 512) (d : Fin 64) :
    k0_pay19 v (ix3 0 d r) = v (ix2 ⟨d.val, by omega⟩ r) := by
  pointwise [k0_pay19]
  try rfl

theorem pay20_at (v : FVec Ideal S512x128 .f32) (r : Fin 512) (d : Fin 64) :
    k0_pay20 v (ix2 r d) = v (ix2 r ⟨d.val, by omega⟩) := by
  pointwise [k0_pay20]
  try rfl

/-- The keys of the short attention. -/
theorem pay22_at (xn : FVec Ideal S512x1024 .bf16) (w : Vec Ideal S1024x128 .bf16) (r : Fin 512) (k : Fin 128) :
    k0_pay22 xn w (ix3 0 k r) = mv (fun d => xn (ix2 r d)) (fun d k => w (ix2 d k)) k := by
  pointwise [mv, k0_pay22, k0_pay21]
  try rfl

theorem pay23_at (xn : FVec Ideal S512x1024 .bf16) (w : Vec Ideal S1024x128 .bf16) (r : Fin 512) (k : Fin 128) :
    k0_pay23 xn w (ix2 r k) = mv (fun d => xn (ix2 r d)) (fun d k => w (ix2 d k)) k := by
  pointwise [mv, k0_pay23, k0_pay21]
  try rfl

/-- Its values. -/
theorem pay25_at (xn : FVec Ideal S512x1024 .bf16) (w : Vec Ideal S1024x128 .bf16) (r : Fin 512) (k : Fin 128) :
    k0_pay25 xn w (ix3 0 k r) = mv (fun d => xn (ix2 r d)) (fun d k => w (ix2 d k)) k := by
  pointwise [mv, k0_pay25, k0_pay24]
  try rfl

theorem pay26_at (xn : FVec Ideal S512x1024 .bf16) (w : Vec Ideal S1024x128 .bf16) (r : Fin 512) (k : Fin 128) :
    k0_pay26 xn w (ix2 r k) = mv (fun d => xn (ix2 r d)) (fun d k => w (ix2 d k)) k := by
  pointwise [mv, k0_pay26, k0_pay24]
  try rfl

/-- The indexer's head weights. -/
theorem pay27_at (xn : FVec Ideal S512x1024 .bf16) (w : Vec Ideal S1024x128 .bf16) (r : Fin 512) (h : Fin 8) :
    k0_pay27 xn w (ix2 r h) = mv (fun d => xn (ix2 r d)) (fun d k => w (ix2 d k)) ⟨h.val, by omega⟩ := by
  pointwise [mv, k0_pay27]
  try rfl

theorem pay28_at (v : FVec Ideal S512x8 .f32) (c : Ideal .f32) (r : Fin 512) (h : Fin 8) :
    k0_pay28 v c (ix2 r h) = v (ix2 r h) * c := by
  pointwise [k0_pay28]
  try rfl

/-- The queries, all heads side by side. -/
theorem pay29_at (xn : FVec Ideal S512x1024 .bf16) (w : Vec Ideal S1024x512 .bf16) (r : Fin 512) (j : Fin 512) :
    k0_pay29 xn w (ix2 r j) = mv (fun d => xn (ix2 r d)) (fun d k => w (ix2 d k)) j := by
  pointwise [mv, k0_pay29]
  try rfl

/-- The queries, all heads side by side. -/
theorem pay39_at (xn : FVec Ideal S512x1024 .bf16) (w : Vec Ideal S1024x512 .bf16) (r : Fin 512) (j : Fin 512) :
    k0_pay39 xn w (ix2 r j) = mv (fun d => xn (ix2 r d)) (fun d k => w (ix2 d k)) j := by
  pointwise [mv, k0_pay39]
  try rfl

theorem pay40_at (xn : FVec Ideal S512x1024 .bf16) (w : Vec Ideal S1024x512 .bf16) (r : Fin 512) (j : Fin 512) :
    k0_pay40 xn w (ix2 r j) = mv (fun d => xn (ix2 r d)) (fun d k => w (ix2 d k)) j := by
  pointwise [mv, k0_pay40]
  try rfl

theorem pay30_at (xn : FVec Ideal S512x1024 .bf16) (w : Vec Ideal S1024x512 .bf16) (r : Fin 512) (d : Fin 64) :
    k0_pay30 xn w (ix3 0 r d) = mv (fun d => xn (ix2 r d)) (fun d k => w (ix2 d k)) ⟨d.val, by omega⟩ := by
  pointwise [mv, k0_pay30, k0_pay29]
  try rfl

theorem pay31_at (xn : FVec Ideal S512x1024 .bf16) (w : Vec Ideal S1024x512 .bf16) (r : Fin 512) (d : Fin 64) :
    k0_pay31 xn w (ix3 0 r d) = mv (fun d => xn (ix2 r d)) (fun d k => w (ix2 d k)) ⟨64 + d.val, by omega⟩ := by
  pointwise [mv, k0_pay31, k0_pay29]
  try rfl

theorem pay32_at (xn : FVec Ideal S512x1024 .bf16) (w : Vec Ideal S1024x512 .bf16) (r : Fin 512) (d : Fin 64) :
    k0_pay32 xn w (ix3 0 r d) = mv (fun d => xn (ix2 r d)) (fun d k => w (ix2 d k)) ⟨128 + d.val, by omega⟩ := by
  pointwise [mv, k0_pay32, k0_pay29]
  try rfl

theorem pay33_at (xn : FVec Ideal S512x1024 .bf16) (w : Vec Ideal S1024x512 .bf16) (r : Fin 512) (d : Fin 64) :
    k0_pay33 xn w (ix3 0 r d) = mv (fun d => xn (ix2 r d)) (fun d k => w (ix2 d k)) ⟨192 + d.val, by omega⟩ := by
  pointwise [mv, k0_pay33, k0_pay29]
  try rfl

theorem pay34_at (xn : FVec Ideal S512x1024 .bf16) (w : Vec Ideal S1024x512 .bf16) (r : Fin 512) (d : Fin 64) :
    k0_pay34 xn w (ix3 0 r d) = mv (fun d => xn (ix2 r d)) (fun d k => w (ix2 d k)) ⟨256 + d.val, by omega⟩ := by
  pointwise [mv, k0_pay34, k0_pay29]
  try rfl

theorem pay36_at (xn : FVec Ideal S512x1024 .bf16) (w : Vec Ideal S1024x512 .bf16) (r : Fin 512) (d : Fin 64) :
    k0_pay36 (k0_pay35 xn w) (ix3 0 r d) = mv (fun d => xn (ix2 r d)) (fun d k => w (ix2 d k)) ⟨320 + d.val, by omega⟩ := by
  pointwise [mv, k0_pay36, k0_pay35, k0_pay29]
  try rfl

theorem pay37_at (xn : FVec Ideal S512x1024 .bf16) (w : Vec Ideal S1024x512 .bf16) (r : Fin 512) (d : Fin 64) :
    k0_pay37 (k0_pay29 xn w) (ix3 0 r d) = mv (fun d => xn (ix2 r d)) (fun d k => w (ix2 d k)) ⟨384 + d.val, by omega⟩ := by
  pointwise [mv, k0_pay37, k0_pay29]
  try rfl

theorem pay38_at (xn : FVec Ideal S512x1024 .bf16) (w : Vec Ideal S1024x512 .bf16) (r : Fin 512) (d : Fin 64) :
    k0_pay38 (k0_pay29 xn w) (ix3 0 r d) = mv (fun d => xn (ix2 r d)) (fun d k => w (ix2 d k)) ⟨448 + d.val, by omega⟩ := by
  pointwise [mv, k0_pay38, k0_pay29]
  try rfl

theorem qi0_at (xn : FVec Ideal S512x1024 .bf16) (cb sb : FVec Ideal S512x128 .f32) (w w' : Vec Ideal S1024x512 .bf16) (r : Fin 512) (d : Fin 64) :
    k0_pay42 xn cb sb w w' (ix3 0 r d) = mv (fun d => xn (ix2 r d)) (fun d k => w (ix2 d k)) ⟨d.val, by omega⟩ * cb (ix2 r ⟨d.val, by omega⟩) + mv (fun d => xn (ix2 r d)) (fun d k => w' (ix2 d k)) ⟨d.val, by omega⟩ * sb (ix2 r ⟨d.val, by omega⟩) := by
  pointwise [mv, k0_pay42, k0_pay41, k0_pay39, k0_pay40, k0_pay44]
  try rfl

theorem qi1_at (xn : FVec Ideal S512x1024 .bf16) (cb sb : FVec Ideal S512x128 .f32) (w w' : Vec Ideal S1024x512 .bf16) (r : Fin 512) (d : Fin 64) :
    k0_pay43 xn cb sb w w' (ix3 0 r d) = mv (fun d => xn (ix2 r d)) (fun d k => w (ix2 d k)) ⟨64 + d.val, by omega⟩ * cb (ix2 r ⟨64 + d.val, by omega⟩) + mv (fun d => xn (ix2 r d)) (fun d k => w' (ix2 d k)) ⟨64 + d.val, by omega⟩ * sb (ix2 r ⟨64 + d.val, by omega⟩) := by
  pointwise [mv, k0_pay43, k0_pay41, k0_pay39, k0_pay40, k0_pay44]
  try rfl

theorem qi2_at (xn : FVec Ideal S512x1024 .bf16) (cb sb : FVec Ideal S512x128 .f32) (w w' : Vec Ideal S1024x512 .bf16) (r : Fin 512) (d : Fin 64) :
    k0_pay46 cb sb (k0_pay40 xn w') (k0_pay44 xn w) (ix3 0 r d) = mv (fun d => xn (ix2 r d)) (fun d k => w (ix2 d k)) ⟨128 + d.val, by omega⟩ * cb (ix2 r ⟨d.val, by omega⟩) + mv (fun d => xn (ix2 r d)) (fun d k => w' (ix2 d k)) ⟨128 + d.val, by omega⟩ * sb (ix2 r ⟨d.val, by omega⟩) := by
  pointwise [mv, k0_pay46, k0_pay45, k0_pay39, k0_pay40, k0_pay44]
  try rfl

theorem qi3_at (xn : FVec Ideal S512x1024 .bf16) (cb sb : FVec Ideal S512x128 .f32) (w w' : Vec Ideal S1024x512 .bf16) (r : Fin 512) (d : Fin 64) :
    k0_pay47 cb sb (k0_pay40 xn w') (k0_pay44 xn w) (ix3 0 r d) = mv (fun d => xn (ix2 r d)) (fun d k => w (ix2 d k)) ⟨128 + (64 + d.val), by omega⟩ * cb (ix2 r ⟨64 + d.val, by omega⟩) + mv (fun d => xn (ix2 r d)) (fun d k => w' (ix2 d k)) ⟨128 + (64 + d.val), by omega⟩ * sb (ix2 r ⟨64 + d.val, by omega⟩) := by
  pointwise [mv, k0_pay47, k0_pay45, k0_pay39, k0_pay40, k0_pay44]
  try rfl

theorem qi4_at (xn : FVec Ideal S512x1024 .bf16) (cb sb : FVec Ideal S512x128 .f32) (w w' : Vec Ideal S1024x512 .bf16) (r : Fin 512) (d : Fin 64) :
    k0_pay49 cb sb (k0_pay39 xn w) (k0_pay40 xn w') (ix3 0 r d) = mv (fun d => xn (ix2 r d)) (fun d k => w (ix2 d k)) ⟨256 + d.val, by omega⟩ * cb (ix2 r ⟨d.val, by omega⟩) + mv (fun d => xn (ix2 r d)) (fun d k => w' (ix2 d k)) ⟨256 + d.val, by omega⟩ * sb (ix2 r ⟨d.val, by omega⟩) := by
  pointwise [mv, k0_pay49, k0_pay48, k0_pay39, k0_pay40, k0_pay44]
  try rfl

theorem qi5_at (xn : FVec Ideal S512x1024 .bf16) (cb sb : FVec Ideal S512x128 .f32) (w w' : Vec Ideal S1024x512 .bf16) (r : Fin 512) (d : Fin 64) :
    k0_pay50 cb sb (k0_pay39 xn w) (k0_pay40 xn w') (ix3 0 r d) = mv (fun d => xn (ix2 r d)) (fun d k => w (ix2 d k)) ⟨256 + (64 + d.val), by omega⟩ * cb (ix2 r ⟨64 + d.val, by omega⟩) + mv (fun d => xn (ix2 r d)) (fun d k => w' (ix2 d k)) ⟨256 + (64 + d.val), by omega⟩ * sb (ix2 r ⟨64 + d.val, by omega⟩) := by
  pointwise [mv, k0_pay50, k0_pay48, k0_pay39, k0_pay40, k0_pay44]
  try rfl

theorem qi6_at (xn : FVec Ideal S512x1024 .bf16) (cb sb : FVec Ideal S512x128 .f32) (w w' : Vec Ideal S1024x512 .bf16) (r : Fin 512) (d : Fin 64) :
    k0_pay52 cb sb (k0_pay39 xn w) (k0_pay40 xn w') (ix3 0 r d) = mv (fun d => xn (ix2 r d)) (fun d k => w (ix2 d k)) ⟨384 + d.val, by omega⟩ * cb (ix2 r ⟨d.val, by omega⟩) + mv (fun d => xn (ix2 r d)) (fun d k => w' (ix2 d k)) ⟨384 + d.val, by omega⟩ * sb (ix2 r ⟨d.val, by omega⟩) := by
  pointwise [mv, k0_pay52, k0_pay51, k0_pay39, k0_pay40, k0_pay44]
  try rfl

theorem qi7_at (xn : FVec Ideal S512x1024 .bf16) (cb sb : FVec Ideal S512x128 .f32) (w w' : Vec Ideal S1024x512 .bf16) (r : Fin 512) (d : Fin 64) :
    k0_pay54 (k0_pay53 cb sb (k0_pay39 xn w) (k0_pay40 xn w')) (ix3 0 r d) = mv (fun d => xn (ix2 r d)) (fun d k => w (ix2 d k)) ⟨384 + (64 + d.val), by omega⟩ * cb (ix2 r ⟨64 + d.val, by omega⟩) + mv (fun d => xn (ix2 r d)) (fun d k => w' (ix2 d k)) ⟨384 + (64 + d.val), by omega⟩ * sb (ix2 r ⟨64 + d.val, by omega⟩) := by
  pointwise [mv, k0_pay54, k0_pay53, k0_pay51, k0_pay39, k0_pay40, k0_pay44]
  try rfl

/-- The normed latent query. -/
theorem pay55_at (xn : FVec Ideal S512x1024 .bf16) (w : Vec Ideal S1024x384 .bf16) (g : Vec Ideal S1x384 .f32) (r : Fin 512) (k : Fin 384) :
    k0_pay55 xn w g (ix2 r k) = nrm 0x43C00000#32 (fun k => g (ix2 0 k)) (fun k => mv (fun d => xn (ix2 r d)) (fun d k => w (ix2 d k)) k) k := by
  pointwise [nrm, mv, k0_pay55]
  try rfl

theorem pay56_at (xn : FVec Ideal S512x1024 .bf16) (w : Vec Ideal S1024x384 .bf16) (g : Vec Ideal S1x384 .f32) (r : Fin 512) (u : Vec Ideal S384x512 .bf16) (j : Fin 512) :
    k0_pay56 xn w g u (ix2 r j) = mv (fun k => k0_pay55 xn w g (ix2 r k)) (fun d k => u (ix2 d k)) j := by
  pointwise [mv, k0_pay56]
  try rfl

theorem lat2_at (q : FVec Ideal S512x512 .bf16) (k : Vec Ideal S1x128x512 .bf16) (r : Fin 512) (c : Fin 256) :
    k0_pay62 q k (ix3 0 r c) = ∑ n : Fin 128, q (ix2 r ⟨128 + n.val, by omega⟩) * k (ix3 0 n ⟨c.val, by omega⟩) := by
  pointwise [k0_pay62, k0_pay61]
  try rfl

theorem lat3_at (q : FVec Ideal S512x512 .bf16) (k : Vec Ideal S1x128x512 .bf16) (r : Fin 512) (c : Fin 256) :
    k0_pay63 q k (ix3 0 r c) = ∑ n : Fin 128, q (ix2 r ⟨128 + n.val, by omega⟩) * k (ix3 0 n ⟨256 + c.val, by omega⟩) := by
  pointwise [k0_pay63, k0_pay61]
  try rfl

theorem lat4_at (q : FVec Ideal S512x512 .bf16) (k : Vec Ideal S1x128x512 .bf16) (r : Fin 512) (c : Fin 256) :
    k0_pay65 q k (ix3 0 r c) = ∑ n : Fin 128, q (ix2 r ⟨256 + n.val, by omega⟩) * k (ix3 0 n ⟨c.val, by omega⟩) := by
  pointwise [k0_pay65, k0_pay64]
  try rfl

theorem lat5_at (q : FVec Ideal S512x512 .bf16) (k : Vec Ideal S1x128x512 .bf16) (r : Fin 512) (c : Fin 256) :
    k0_pay66 q k (ix3 0 r c) = ∑ n : Fin 128, q (ix2 r ⟨256 + n.val, by omega⟩) * k (ix3 0 n ⟨256 + c.val, by omega⟩) := by
  pointwise [k0_pay66, k0_pay64]
  try rfl

theorem lat6_at (q : FVec Ideal S512x512 .bf16) (k : Vec Ideal S1x128x512 .bf16) (r : Fin 512) (c : Fin 256) :
    k0_pay69 (k0_pay67 q) k (ix3 0 r c) = ∑ n : Fin 128, q (ix2 r ⟨384 + n.val, by omega⟩) * k (ix3 0 n ⟨c.val, by omega⟩) := by
  pointwise [k0_pay69, k0_pay68, k0_pay67]
  try rfl

theorem lat7_at (q : FVec Ideal S512x512 .bf16) (k : Vec Ideal S1x128x512 .bf16) (r : Fin 512) (c : Fin 256) :
    k0_pay70 (k0_pay67 q) k (ix3 0 r c) = ∑ n : Fin 128, q (ix2 r ⟨384 + n.val, by omega⟩) * k (ix3 0 n ⟨256 + c.val, by omega⟩) := by
  pointwise [k0_pay70, k0_pay68, k0_pay67]
  try rfl

theorem lat0_at (xn : FVec Ideal S512x1024 .bf16) (w : Vec Ideal S1024x384 .bf16) (g : Vec Ideal S1x384 .f32) (r : Fin 512) (u : Vec Ideal S384x512 .bf16) (k : Vec Ideal S1x128x512 .bf16) (c : Fin 256) :
    k0_pay58 xn w g u k (ix3 0 r c) = ∑ n : Fin 128, k0_pay56 xn w g u (ix2 r ⟨n.val, by omega⟩) * k (ix3 0 n ⟨c.val, by omega⟩) := by
  pointwise [k0_pay58, k0_pay57]
  try rfl

theorem lat1_at (xn : FVec Ideal S512x1024 .bf16) (w : Vec Ideal S1024x384 .bf16) (g : Vec Ideal S1x384 .f32) (r : Fin 512) (u : Vec Ideal S384x512 .bf16) (k : Vec Ideal S1x128x512 .bf16) (c : Fin 256) :
    k0_pay60 (k0_pay59 xn w g u k) (ix3 0 r c) = ∑ n : Fin 128, k0_pay56 xn w g u (ix2 r ⟨n.val, by omega⟩) * k (ix3 0 n ⟨256 + c.val, by omega⟩) := by
  pointwise [k0_pay60, k0_pay59, k0_pay57]
  try rfl

theorem qr0_at (ca sa : FVec Ideal S512x128 .f32) (q : FVec Ideal S512x384 .bf16) (u u' : Vec Ideal S384x128 .bf16) (r : Fin 512) (d : Fin 128) :
    k0_pay71 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay71]
  try rfl

theorem qr1_at (ca sa : FVec Ideal S512x128 .f32) (q : FVec Ideal S512x384 .bf16) (u u' : Vec Ideal S384x128 .bf16) (r : Fin 512) (d : Fin 128) :
    k0_pay74 sa q (k0_pay72 ca q u) (k0_pay73 u') (constant S512x128 .f32 0x00000000#32) (ix3 0 r d) = mv (fun k => q (ix2 r k)) (fun d k => u (ix2 d k)) d * ca (ix2 r d) + mv (fun k => q (ix2 r k)) (fun d k => u' (ix2 d k)) d * sa (ix2 r d) := by
  pointwise [mv, k0_pay72, k0_pay73, k0_pay74]
  try rfl

theorem qr2_at (ca sa : FVec Ideal S512x128 .f32) (q : FVec Ideal S512x384 .bf16) (u u' : Vec Ideal S384x128 .bf16) (r : Fin 512) (d : Fin 128) :
    k0_pay75 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay75]
  try rfl

theorem qr3_at (ca sa : FVec Ideal S512x128 .f32) (q : FVec Ideal S512x384 .bf16) (u u' : Vec Ideal S384x128 .bf16) (r : Fin 512) (d : Fin 128) :
    k0_pay76 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay76]
  try rfl

theorem qr4_at (ca sa : FVec Ideal S512x128 .f32) (q : FVec Ideal S512x384 .bf16) (u u' : Vec Ideal S384x128 .bf16) (r : Fin 512) (d : Fin 128) :
    k0_pay77 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay77]
  try rfl

theorem qr5_at (ca sa : FVec Ideal S512x128 .f32) (q : FVec Ideal S512x384 .bf16) (u u' : Vec Ideal S384x128 .bf16) (r : Fin 512) (d : Fin 128) :
    k0_pay78 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay78]
  try rfl

theorem qr6_at (ca sa : FVec Ideal S512x128 .f32) (q : FVec Ideal S512x384 .bf16) (u u' : Vec Ideal S384x128 .bf16) (r : Fin 512) (d : Fin 128) :
    k0_pay1 (k0_pay79 ca sa q u u') (ix3 0 r d) = mv (fun k => q (ix2 r k)) (fun d k => u (ix2 d k)) d * ca (ix2 r d) + mv (fun k => q (ix2 r k)) (fun d k => u' (ix2 d k)) d * sa (ix2 r d) := by
  pointwise [mv, k0_pay1, k0_pay79]
  try rfl

theorem qr7_at (ca sa : FVec Ideal S512x128 .f32) (q : FVec Ideal S512x384 .bf16) (u u' : Vec Ideal S384x128 .bf16) (r : Fin 512) (d : Fin 128) :
    k0_pay2 ca sa q u u' (ix3 0 r d) = mv (fun k => q (ix2 r k)) (fun d k => u (ix2 d k)) d * ca (ix2 r d) + mv (fun k => q (ix2 r k)) (fun d k => u' (ix2 d k)) d * sa (ix2 r d) := by
  pointwise [mv, k0_pay2]
  try rfl

end Cert.Kernel3Ideal.Proj

end
-- ==== Proof.ProjBlock3.lean ====
/- What the projection kernel leaves in each output's block, as rows projected by the packed weights. -/
module

public import proofs.«01_k».proof.Proof.Gen.Kernel3Ideal.Frame
public import proofs.«01_k».proof.Proof.ProjPay3
public import proofs.«01_k».proof.Proof.ProjLoad

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen Cert.Proj

variable {c : Dev nD} {i : grid0.Coords} {arg1 : Memref sig .tc .vmem S512x1024 .f32} {harg1 : arg1.IsWhole} {arg2 : Memref sig .tc .vmem S1x1024 .f32} {harg2 : arg2.IsWhole} {arg3 : Memref sig .tc .vmem S1024x3072 .bf16} {harg3 : arg3.IsWhole} {arg4 : Memref sig .tc .vmem S1x384 .f32} {harg4 : arg4.IsWhole} {arg5 : Memref sig .tc .vmem S384x2560 .bf16} {harg5 : arg5.IsWhole} {arg6 : Memref sig .tc .vmem S1x256 .f32} {harg6 : arg6.IsWhole} {arg7 : Memref sig .tc .vmem S4x128x512 .bf16} {harg7 : arg7.IsWhole} {arg8 : Memref sig .tc .vmem S512x128 .f32} {harg8 : arg8.IsWhole} {arg9 : Memref sig .tc .vmem S512x128 .f32} {harg9 : arg9.IsWhole} {arg10 : Memref sig .tc .vmem S512x128 .f32} {harg10 : arg10.IsWhole} {arg11 : Memref sig .tc .vmem S512x128 .f32} {harg11 : arg11.IsWhole} {arg12 : Memref sig .tc .vmem S512x256 .f32} {harg12 : arg12.IsWhole} {arg13 : Memref sig .tc .vmem S1x32x512 .f32} {harg13 : arg13.IsWhole} {arg14 : Memref sig .tc .vmem S1x128x512 .f32} {harg14 : arg14.IsWhole} {arg15 : Memref sig .tc .vmem S1x128x512 .f32} {harg15 : arg15.IsWhole} {arg16 : Memref sig .tc .vmem S1x64x512 .f32} {harg16 : arg16.IsWhole} {arg17 : Memref sig .tc .vmem S512x384 .bf16} {harg17 : arg17.IsWhole} {arg18 : Memref sig .tc .vmem S512x128 .bf16} {harg18 : arg18.IsWhole} {arg19 : Memref sig .tc .vmem S512x128 .bf16} {harg19 : arg19.IsWhole} {arg20 : Memref sig .tc .vmem S512x64 .bf16} {harg20 : arg20.IsWhole} {arg21 : Memref sig .tc .vmem S8x512x384 .bf16} {harg21 : arg21.IsWhole} {arg22 : Memref sig .tc .vmem S8x512x64 .bf16} {harg22 : arg22.IsWhole} {arg23 : Memref sig .tc .vmem S8x512x64 .bf16} {harg23 : arg23.IsWhole} {arg24 : Memref sig .tc .vmem S512x8 .f32} {harg24 : arg24.IsWhole}
    {x0 : Vec Ideal S512x1024 .f32} {x1 : Vec Ideal S1x1024 .f32} {x2 : Vec Ideal S1024x3072 .bf16} {x3 : Vec Ideal S1x384 .f32} {x4 : Vec Ideal S384x2560 .bf16} {x5 : Vec Ideal S1x256 .f32} {x6 : Vec Ideal S4x128x512 .bf16} {x7 : Vec Ideal S512x128 .f32} {x8 : Vec Ideal S512x128 .f32} {x9 : Vec Ideal S512x128 .f32} {x10 : Vec Ideal S512x128 .f32}

/-! ## Values the stores share -/

theorem r_at (r : Fin 512) (d : Fin 1024) : kernelRun0_A.sl.r c arg1 harg1 arg2 harg2 x0 x1 (ix2 r d) = (xrow (fun d => x1 (ix2 0 d)) fun d => x0 (ix2 r d)) d := by
  unfold kernelRun0_A.sl.r
  refine (pay3_at _ _ r d).trans ?_
  simp only [ld_whole]
  rfl

theorem r1_at (r : Fin 512) (d : Fin 128) : kernelRun0_A.sl.r_1 c arg8 harg8 x7 (ix2 r d) = x7 (ix2 r d) := by
  unfold kernelRun0_A.sl.r_1
  refine (pay4_at _ r d).trans ?_
  simp only [ld_whole]

theorem r2_at (r : Fin 512) (d : Fin 128) : kernelRun0_A.sl.r_2 c arg9 harg9 x8 (ix2 r d) = x8 (ix2 r d) := by
  unfold kernelRun0_A.sl.r_2
  refine (pay5_at _ r d).trans ?_
  simp only [ld_whole]

theorem r3_at (r : Fin 512) (d : Fin 128) : kernelRun0_A.sl.r_3 c arg10 harg10 x9 (ix2 r d) = x9 (ix2 r d) := by
  unfold kernelRun0_A.sl.r_3
  refine (pay6_at _ r d).trans ?_
  simp only [ld_whole]

theorem r4_at (r : Fin 512) (d : Fin 128) : kernelRun0_A.sl.r_4 c arg11 harg11 x10 (ix2 r d) = x10 (ix2 r d) := by
  unfold kernelRun0_A.sl.r_4
  refine (pay7_at _ r d).trans ?_
  simp only [ld_whole]

theorem mvw (v : Fin 1024 → EReal) (p b : ℕ) (hp : p + b ≤ 3072) (inb : ∀ a, (![0, p] : Fin 2 → ℕ) a + (![1024, b] : Fin 2 → ℕ) a ≤ S1024x3072.size a) (j : Fin b) :
    mv v (fun d k => View.readAt (Elt Ideal) arg3.view (Rect.unit (s := S1024x3072) ![0, p] ![1024, b] inb).toLoadRect (harg3.unread x2) (ix2 d k)) j = mv v (fun d k => x2 (ix2 d k)) ⟨p + j.val, by omega⟩ :=
  mv_col _ _ _ _ _ fun d => ld_cols arg3 harg3 x2 hp inb d j

theorem mvu (v : Fin 384 → EReal) (p b : ℕ) (hp : p + b ≤ 2560) (inb : ∀ a, (![0, p] : Fin 2 → ℕ) a + (![384, b] : Fin 2 → ℕ) a ≤ S384x2560.size a) (j : Fin b) :
    mv v (fun d k => View.readAt (Elt Ideal) arg5.view (Rect.unit (s := S384x2560) ![0, p] ![384, b] inb).toLoadRect (harg5.unread x4) (ix2 d k)) j = mv v (fun d k => x4 (ix2 d k)) ⟨p + j.val, by omega⟩ :=
  mv_col _ _ _ _ _ fun d => ld_cols arg5 harg5 x4 hp inb d j

theorem cq_at (r : Fin 512) (k : Fin 384) : kernelRun0_A.sl.r_17 c arg1 harg1 arg2 harg2 arg3 harg3 arg4 harg4 x0 x1 x2 x3 (ix2 r k) = pcq (xrow (fun d => x1 (ix2 0 d)) fun d => x0 (ix2 r d)) (fun d k => x2 (ix2 d k)) (fun k => x3 (ix2 0 k)) k := by
  unfold kernelRun0_A.sl.r_17
  refine (pay55_at _ _ _ r k).trans ?_
  simp only [r_at, ld_whole]
  unfold pcq
  congr 1
  funext k
  refine (mv_col _ _ _ _ _ fun d => ld_cols (p := 0) arg3 harg3 x2 (by norm_num) _ d k).trans (mv_idx _ _ _ _ (Nat.zero_add _))

theorem q_at (r : Fin 512) (j : Fin 512) : kernelRun0_A.sl.r_18 c arg1 harg1 arg2 harg2 arg3 harg3 arg4 harg4 arg5 harg5 x0 x1 x2 x3 x4 (ix2 r j) = mv (pcq (xrow (fun d => x1 (ix2 0 d)) fun d => x0 (ix2 r d)) (fun d k => x2 (ix2 d k)) (fun k => x3 (ix2 0 k))) (fun d k => x4 (ix2 d k)) ⟨j.val, by omega⟩ := by
  unfold kernelRun0_A.sl.r_18
  refine (pay56_at _ _ _ r _ j).trans ?_
  have e : (fun k => k0_pay55 (kernelRun0_A.sl.r c arg1 harg1 arg2 harg2 x0 x1) (View.readAt (Elt Ideal) arg3.view (Rect.unit (s := S1024x3072) ![0, 0] S1024x384.size inb_S1024x3072_S1024x384_0_0).toLoadRect (harg3.unread x2)) (View.readAt (Elt Ideal) arg4.view (Rect.unit (s := S1x384) ![0, 0] S1x384.size inb_S1x384_S1x384_0_0).toLoadRect (harg4.unread x3)) (ix2 r k)) = pcq (xrow (fun d => x1 (ix2 0 d)) fun d => x0 (ix2 r d)) (fun d k => x2 (ix2 d k)) (fun k => x3 (ix2 0 k)) := funext fun k => cq_at r k
  refine (congrArg (fun v => mv v _ j) e).trans ?_
  exact (mv_col _ _ _ _ _ fun d => ld_cols (p := 0) arg5 harg5 x4 (by norm_num) _ d j).trans (mv_idx _ _ _ _ (Nat.zero_add _))

/-! ## The outputs -/

/-- The normed latents. -/
def o11 (x0 : Vec Ideal S512x1024 .f32) (x1 : Vec Ideal S1x1024 .f32) (x2 : Vec Ideal S1024x3072 .bf16) (x5 : Vec Ideal S1x256 .f32) : Vec Ideal S512x256 .f32 := fun y =>
  pckv (xrow (fun d => x1 (ix2 0 d)) fun d => x0 (ix2 (y 0) d)) (fun d k => x2 (ix2 d k)) (fun k => x5 (ix2 0 k)) (y 1)

/-- The rotated shared key. -/
def o12 (x0 : Vec Ideal S512x1024 .f32) (x1 : Vec Ideal S1x1024 .f32) (x2 : Vec Ideal S1024x3072 .bf16) (x7 : Vec Ideal S512x128 .f32) (x8 : Vec Ideal S512x128 .f32) : Vec Ideal S1x32x512 .f32 := fun y =>
  pkr (xrow (fun d => x1 (ix2 0 d)) fun d => x0 (ix2 (y 2) d)) (fun d k => x2 (ix2 d k)) (fun d => x7 (ix2 (y 2) d)) (fun d => x8 (ix2 (y 2) d)) ⟨(y 1).val, lt_of_lt_of_le (y 1).isLt (by decide)⟩

/-- The short attention's keys. -/
def o13 (x0 : Vec Ideal S512x1024 .f32) (x1 : Vec Ideal S1x1024 .f32) (x2 : Vec Ideal S1024x3072 .bf16) : Vec Ideal S1x128x512 .f32 := fun y =>
  mv (xrow (fun d => x1 (ix2 0 d)) fun d => x0 (ix2 (y 2) d)) (fun d k => x2 (ix2 d k)) ⟨1152 + (y 1).val, Nat.add_lt_of_lt_sub' (lt_of_lt_of_le (y 1).isLt (by decide))⟩

/-- Its values. -/
def o14 (x0 : Vec Ideal S512x1024 .f32) (x1 : Vec Ideal S1x1024 .f32) (x2 : Vec Ideal S1024x3072 .bf16) : Vec Ideal S1x128x512 .f32 := fun y =>
  mv (xrow (fun d => x1 (ix2 0 d)) fun d => x0 (ix2 (y 2) d)) (fun d k => x2 (ix2 d k)) ⟨1280 + (y 1).val, Nat.add_lt_of_lt_sub' (lt_of_lt_of_le (y 1).isLt (by decide))⟩

/-- The indexer's keys. -/
def o15 (x0 : Vec Ideal S512x1024 .f32) (x1 : Vec Ideal S1x1024 .f32) (x2 : Vec Ideal S1024x3072 .bf16) (x7 : Vec Ideal S512x128 .f32) (x8 : Vec Ideal S512x128 .f32) : Vec Ideal S1x64x512 .f32 := fun y =>
  pki (xrow (fun d => x1 (ix2 0 d)) fun d => x0 (ix2 (y 2) d)) (fun d k => x2 (ix2 d k)) (fun d => x7 (ix2 (y 2) d)) (fun d => x8 (ix2 (y 2) d)) ⟨(y 1).val, lt_of_lt_of_le (y 1).isLt (by decide)⟩

/-- Latents and rotated key side by side. -/
def o16 (x0 : Vec Ideal S512x1024 .f32) (x1 : Vec Ideal S1x1024 .f32) (x2 : Vec Ideal S1024x3072 .bf16) (x5 : Vec Ideal S1x256 .f32) (x7 : Vec Ideal S512x128 .f32) (x8 : Vec Ideal S512x128 .f32) : Vec Ideal S512x384 .bf16 := fun y =>
  pkcat (xrow (fun d => x1 (ix2 0 d)) fun d => x0 (ix2 (y 0) d)) (fun d k => x2 (ix2 d k)) (fun k => x5 (ix2 0 k)) (fun d => x7 (ix2 (y 0) d)) (fun d => x8 (ix2 (y 0) d)) (y 1)

/-- The short attention's keys again. -/
def o17 (x0 : Vec Ideal S512x1024 .f32) (x1 : Vec Ideal S1x1024 .f32) (x2 : Vec Ideal S1024x3072 .bf16) : Vec Ideal S512x128 .bf16 := fun y =>
  mv (xrow (fun d => x1 (ix2 0 d)) fun d => x0 (ix2 (y 0) d)) (fun d k => x2 (ix2 d k)) ⟨1152 + (y 1).val, Nat.add_lt_of_lt_sub' (lt_of_lt_of_le (y 1).isLt (by decide))⟩

/-- Its values again. -/
def o18 (x0 : Vec Ideal S512x1024 .f32) (x1 : Vec Ideal S1x1024 .f32) (x2 : Vec Ideal S1024x3072 .bf16) : Vec Ideal S512x128 .bf16 := fun y =>
  mv (xrow (fun d => x1 (ix2 0 d)) fun d => x0 (ix2 (y 0) d)) (fun d k => x2 (ix2 d k)) ⟨1280 + (y 1).val, Nat.add_lt_of_lt_sub' (lt_of_lt_of_le (y 1).isLt (by decide))⟩

/-- The indexer's keys again. -/
def o19 (x0 : Vec Ideal S512x1024 .f32) (x1 : Vec Ideal S1x1024 .f32) (x2 : Vec Ideal S1024x3072 .bf16) (x7 : Vec Ideal S512x128 .f32) (x8 : Vec Ideal S512x128 .f32) : Vec Ideal S512x64 .bf16 := fun y =>
  pki (xrow (fun d => x1 (ix2 0 d)) fun d => x0 (ix2 (y 0) d)) (fun d k => x2 (ix2 d k)) (fun d => x7 (ix2 (y 0) d)) (fun d => x8 (ix2 (y 0) d)) ⟨(y 1).val, lt_of_lt_of_le (y 1).isLt (by decide)⟩

/-- Latent and rotated queries side by side. -/
def o20 (x0 : Vec Ideal S512x1024 .f32) (x1 : Vec Ideal S1x1024 .f32) (x2 : Vec Ideal S1024x3072 .bf16) (x3 : Vec Ideal S1x384 .f32) (x4 : Vec Ideal S384x2560 .bf16) (x6 : Vec Ideal S4x128x512 .bf16) (x7 : Vec Ideal S512x128 .f32) (x8 : Vec Ideal S512x128 .f32) : Vec Ideal S8x512x384 .bf16 := fun y =>
  pqcat (xrow (fun d => x1 (ix2 0 d)) fun d => x0 (ix2 (y 1) d)) (fun d k => x2 (ix2 d k)) (fun k => x3 (ix2 0 k)) (fun d k => x4 (ix2 d k)) (fun p n k => x6 (ix3 p n k)) (fun d => x7 (ix2 (y 1) d)) (fun d => x8 (ix2 (y 1) d)) (y 0) (y 2)

/-- The short attention's queries. -/
def o21 (x0 : Vec Ideal S512x1024 .f32) (x1 : Vec Ideal S1x1024 .f32) (x2 : Vec Ideal S1024x3072 .bf16) : Vec Ideal S8x512x64 .bf16 := fun y =>
  pqb (xrow (fun d => x1 (ix2 0 d)) fun d => x0 (ix2 (y 1) d)) (fun d k => x2 (ix2 d k)) (y 0) (y 2)

/-- The indexer's queries. -/
def o22 (x0 : Vec Ideal S512x1024 .f32) (x1 : Vec Ideal S1x1024 .f32) (x2 : Vec Ideal S1024x3072 .bf16) (x9 : Vec Ideal S512x128 .f32) (x10 : Vec Ideal S512x128 .f32) : Vec Ideal S8x512x64 .bf16 := fun y =>
  pqi (xrow (fun d => x1 (ix2 0 d)) fun d => x0 (ix2 (y 1) d)) (fun d k => x2 (ix2 d k)) (fun d => x9 (ix2 (y 1) d)) (fun d => x10 (ix2 (y 1) d)) (y 0) (y 2)

/-- The indexer's head weights. -/
def o23 (x0 : Vec Ideal S512x1024 .f32) (x1 : Vec Ideal S1x1024 .f32) (x2 : Vec Ideal S1024x3072 .bf16) : Vec Ideal S512x8 .f32 := fun y =>
  mv (xrow (fun d => x1 (ix2 0 d)) fun d => x0 (ix2 (y 0) d)) (fun d k => x2 (ix2 d k)) ⟨2944 + (y 1).val, Nat.add_lt_of_lt_sub' (lt_of_lt_of_le (y 1).isLt (by decide))⟩ * Ideal.ofBits .f32 0x3D3504F3#32

theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o11 x0 x1 x2 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o11 x0 x1 x2 x5) _ fun r k => by
      unfold kernelRun0_A.sl.r_5 kernelRun0_A.sl.r_6 kernelRun0_A.sl.r_7
      refine (pay12_at _ _ _ _ r k).trans ?_
      have e : (fun d => k0_pay3 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (ix2 r d)) = (xrow (fun d => x1 (ix2 0 d)) fun d => x0 (ix2 r d)) := funext fun d => r_at (c := c) r d
      rw [e]
      simp only [ld_whole]
      exact congrArg (fun v => nrm 0x43800000#32 (fun k => x5 (ix2 0 k)) v k) (funext fun k => mvw _ 384 256 (by norm_num) _ k)

theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o12 x0 x1 x2 x7 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o12 x0 x1 x2 x7 x8) _ fun k r => by
      refine (pay15_at _ _ _ _ _ r k).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2432 128 (by norm_num) _ ⟨k.val, by omega⟩) (mvw _ 2560 128 (by norm_num) _ ⟨k.val, by omega⟩)

theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o13 x0 x1 x2 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o13 x0 x1 x2) _ fun k r => by
      refine (pay22_at _ _ r k).trans ?_
      simp only [r_at, r1_at, r2_at, r3_at, r4_at, ld_whole]
      exact mvw _ 1152 128 (by norm_num) _ k

theorem out14_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o14 x0 x1 x2 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o14 x0 x1 x2) _ fun k r => by
      refine (pay25_at _ _ r k).trans ?_
      simp only [r_at, r1_at, r2_at, r3_at, r4_at, ld_whole]
      exact mvw _ 1280 128 (by norm_num) _ k

theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o15 x0 x1 x2 x7 x8 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece3z (by norm_num) (by norm_num) _ (o15 x0 x1 x2 x7 x8) _ fun k r => by
      unfold kernelRun0_A.sl.r_9
      refine (pay19_at _ r k).trans ?_
      refine (pay18_at _ _ _ _ _ r _).trans ?_
      refine (pay17_at _ _ _ _ _ r _).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2688 128 (by norm_num) _ ⟨k.val, by omega⟩) (mvw _ 2816 128 (by norm_num) _ ⟨k.val, by omega⟩)

theorem out16_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o16 x0 x1 x2 x5 x7 x8 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, fun _ h => absurd h List.not_mem_nil⟩
  · exact piece2 (by norm_num) _ (o16 x0 x1 x2 x5 x7 x8) _ fun r k => by
      refine Eq.trans ?_ (pkcat_hi (xrow (fun d => x1 (ix2 0 d)) fun d => x0 (ix2 r d)) (fun d k => x2 (ix2 d k)) (fun k => x5 (ix2 0 k)) (fun d => x7 (ix2 r d)) (fun d => x8 (ix2 r d)) k).symm
      refine (pay16_at _ _ _ _ _ r k).trans ?_
      simp only [r_at, r1_at, r2_at, r3_at, r4_at, ld_whole]
      exact congrArg₂ (fun a b : EReal => a * x7 (ix2 r k) + b * x8 (ix2 r k)) (mvw _ 2432 128 (by norm_num) _ k) (mvw _ 2560 128 (by norm_num) _ k)
  · exact piece2z (by norm_num) _ (o16 x0 x1 x2 x5 x7 x8) _ fun r k => by
      refine Eq.trans ?_ (pkcat_lo (xrow (fun d => x1 (ix2 0 d)) fun d => x0 (ix2 r d)) (fun d k => x2 (ix2 d k)) (fun k => x5 (ix2 0 k)) (fun d => x7 (ix2 r d)) (fun d => x8 (ix2 r d)) k).symm
      unfold kernelRun0_A.sl.r_5 kernelRun0_A.sl.r_6 kernelRun0_A.sl.r_7
      refine (pay13_at _ _ _ _ r k).trans ?_
      have e : (fun d => k0_pay3 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1)) (ix2 r d)) = (xrow (fun d => x1 (ix2 0 d)) fun d => x0 (ix2 r d)) := funext fun d => r_at (c := c) r d
      rw [e]
      simp only [ld_whole]
      exact congrArg (fun v => nrm 0x43800000#32 (fun k => x5 (ix2 0 k)) v k) (funext fun k => mvw _ 384 256 (by norm_num) _ k)

theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o17 x0 x1 x2 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o17 x0 x1 x2) _ fun r k => by
      refine (pay23_at _ _ r k).trans ?_
      simp only [r_at, r1_at, r2_at, r3_at, r4_at, ld_whole]
      exact mvw _ 1152 128 (by norm_num) _ k

theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o18 x0 x1 x2 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o18 x0 x1 x2) _ fun r k => by
      refine (pay26_at _ _ r k).trans ?_
      simp only [r_at, r1_at, r2_at, r3_at, r4_at, ld_whole]
      exact mvw _ 1280 128 (by norm_num) _ k

theorem out19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o19 x0 x1 x2 x7 x8 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o19 x0 x1 x2 x7 x8) _ fun r k => by
      unfold kernelRun0_A.sl.r_8
      refine (pay20_at _ r k).trans ?_
      refine (pay17_at _ _ _ _ _ r _).trans ?_
      simp only [r_at, r1_at, r2_at, r3_at, r4_at, ld_whole]
      exact congrArg₂ (fun a b : EReal => a * x7 (ix2 r ⟨k.val, by omega⟩) + b * x8 (ix2 r ⟨k.val, by omega⟩)) (mvw _ 2688 128 (by norm_num) _ ⟨k.val, by omega⟩) (mvw _ 2816 128 (by norm_num) _ ⟨k.val, by omega⟩)

theorem out20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o20 x0 x1 x2 x3 x4 x6 x7 x8 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, ?_, ?_, ?_, ?_, ?_, ?_, ?_, ?_, fun _ h => absurd h List.not_mem_nil⟩
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨7, by norm_num⟩ k).symm
      refine (qr7_at _ _ _ _ _ r k).trans ?_
      simp only [cq_at, r1_at, r2_at]
      refine (congrArg₂ (fun a b : EReal => a * x7 (ix2 r k) + b * x8 (ix2 r k)) (mvu _ 1408 128 (by norm_num) _ k) (mvu _ 2432 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨6, by norm_num⟩ k).symm
      unfold kernelRun0_A.sl.r_24
      refine (qr6_at _ _ _ _ _ r k).trans ?_
      simp only [cq_at, r1_at, r2_at]
      refine (congrArg₂ (fun a b : EReal => a * x7 (ix2 r k) + b * x8 (ix2 r k)) (mvu _ 1280 128 (by norm_num) _ k) (mvu _ 2304 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨5, by norm_num⟩ k).symm
      refine (qr5_at _ _ _ _ _ r k).trans ?_
      simp only [cq_at, r1_at, r2_at]
      refine (congrArg₂ (fun a b : EReal => a * x7 (ix2 r k) + b * x8 (ix2 r k)) (mvu _ 1152 128 (by norm_num) _ k) (mvu _ 2176 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨4, by norm_num⟩ k).symm
      unfold kernelRun0_A.sl.r_23
      refine (qr4_at _ _ _ _ _ r k).trans ?_
      simp only [cq_at, r1_at, r2_at]
      refine (congrArg₂ (fun a b : EReal => a * x7 (ix2 r k) + b * x8 (ix2 r k)) (mvu _ 1024 128 (by norm_num) _ k) (mvu _ 2048 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨3, by norm_num⟩ k).symm
      refine (qr3_at _ _ _ _ _ r k).trans ?_
      simp only [cq_at, r1_at, r2_at]
      refine (congrArg₂ (fun a b : EReal => a * x7 (ix2 r k) + b * x8 (ix2 r k)) (mvu _ 896 128 (by norm_num) _ k) (mvu _ 1920 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨2, by norm_num⟩ k).symm
      refine (qr2_at _ _ _ _ _ r k).trans ?_
      simp only [cq_at, r1_at, r2_at]
      refine (congrArg₂ (fun a b : EReal => a * x7 (ix2 r k) + b * x8 (ix2 r k)) (mvu _ 768 128 (by norm_num) _ k) (mvu _ 1792 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨1, by norm_num⟩ k).symm
      unfold kernelRun0_A.sl.r_21 kernelRun0_A.sl.r_22 kernelRun0_A.sl.cst_169
      refine (qr1_at _ _ _ _ _ r k).trans ?_
      simp only [cq_at, r1_at, r2_at]
      refine (congrArg₂ (fun a b : EReal => a * x7 (ix2 r k) + b * x8 (ix2 r k)) (mvu _ 640 128 (by norm_num) _ k) (mvu _ 1664 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3 (by norm_num) (by norm_num) _ (o20 x0 x1 x2 x3 x4 x6 x7 x8) _ fun r k => by
      refine Eq.trans ?_ (pqcat_hi (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨0, by norm_num⟩ k).symm
      refine (qr0_at _ _ _ _ _ r k).trans ?_
      simp only [cq_at, r1_at, r2_at]
      refine (congrArg₂ (fun a b : EReal => a * x7 (ix2 r k) + b * x8 (ix2 r k)) (mvu _ 512 128 (by norm_num) _ k) (mvu _ 1536 128 (by norm_num) _ k)).trans ?_
      exact fma_idx (pcq (xrow (fun d => x1 (ix2 0 d)) fun d => x0 (ix2 r d)) (fun d k => x2 (ix2 d k)) (fun k => x3 (ix2 0 k))) (fun d k => x4 (ix2 d k)) (fun d => x7 (ix2 r d)) (fun d => x8 (ix2 r d)) _ _ _ _ _ _ (by first | rfl | omega | (dsimp only; omega)) (by first | rfl | omega | (dsimp only; omega)) rfl
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨7, by norm_num⟩ k).symm
      unfold kernelRun0_A.sl.r_20
      refine (lat7_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 3) (by norm_num) _ n _).trans (congrArg (fun j => x6 (ix3 ⟨3, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨6, by norm_num⟩ k).symm
      unfold kernelRun0_A.sl.r_20
      refine (lat6_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 3) (by norm_num) _ n _).trans (congrArg (fun j => x6 (ix3 ⟨3, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨5, by norm_num⟩ k).symm
      refine (lat5_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 2) (by norm_num) _ n _).trans (congrArg (fun j => x6 (ix3 ⟨2, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨4, by norm_num⟩ k).symm
      refine (lat4_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 2) (by norm_num) _ n _).trans (congrArg (fun j => x6 (ix3 ⟨2, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨3, by norm_num⟩ k).symm
      refine (lat3_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 1) (by norm_num) _ n _).trans (congrArg (fun j => x6 (ix3 ⟨1, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨2, by norm_num⟩ k).symm
      refine (lat2_at _ _ r k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 1) (by norm_num) _ n _).trans (congrArg (fun j => x6 (ix3 ⟨1, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨1, by norm_num⟩ k).symm
      unfold kernelRun0_A.sl.r_19
      refine (lat1_at _ _ _ r _ _ k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 0) (by norm_num) _ n _).trans (congrArg (fun j => x6 (ix3 ⟨0, by norm_num⟩ n j)) (Fin.ext ?_))
        first | rfl | omega | (dsimp only; omega)
  · exact piece3z (by norm_num) (by norm_num) _ (o20 x0 x1 x2 x3 x4 x6 x7 x8) _ fun r k => by
      refine Eq.trans ?_ (pqcat_lo (xrow (fun d => x1 (ix2 0 d)) fun d => x0 (ix2 r d)) (fun d k => x2 (ix2 d k)) (fun k => x3 (ix2 0 k)) (fun d k => x4 (ix2 d k)) (fun p n k => x6 (ix3 p n k)) (fun d => x7 (ix2 r d)) (fun d => x8 (ix2 r d)) ⟨0, by norm_num⟩ k).symm
      refine (lat0_at _ _ _ r _ _ k).trans ?_
      unfold pqlat
      refine Finset.sum_congr rfl fun n _ => congrArg₂ (fun a b : EReal => a * b) ?_ ?_
      · refine (q_at r _).trans (mv_idx _ _ _ _ ?_)
        first | rfl | omega | (dsimp only; omega)
      · refine (ld_slice arg7 harg7 x6 (h := 0) (by norm_num) _ n _).trans (congrArg (fun j => x6 (ix3 ⟨0, by norm_num⟩ n j)) (Fin.ext ?_))
        first | rfl | omega | (dsimp only; omega)

theorem out21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o21 x0 x1 x2 := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, fun _ h => absurd h List.not_mem_nil⟩
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨7, by norm_num⟩ k = _ from rfl)
      unfold kernelRun0_A.sl.r_11
      refine (pay38_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨6, by norm_num⟩ k = _ from rfl)
      unfold kernelRun0_A.sl.r_11
      refine (pay37_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨5, by norm_num⟩ k = _ from rfl)
      unfold kernelRun0_A.sl.r_12
      refine (pay36_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨4, by norm_num⟩ k = _ from rfl)
      refine (pay34_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨3, by norm_num⟩ k = _ from rfl)
      refine (pay33_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨2, by norm_num⟩ k = _ from rfl)
      refine (pay32_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨1, by norm_num⟩ k = _ from rfl)
      refine (pay31_at _ _ r k).trans ?_
      simp only [r_at, r1_at, r2_at, r3_at, r4_at, ld_whole]
      refine (mvw _ 640 512 (by norm_num) _ _).trans (mv_idx _ _ _ _ ?_)
      first | rfl | omega | (dsimp only; omega)
  · exact piece3z (by norm_num) (by norm_num) _ (o21 x0 x1 x2) _ fun r k => by
      refine Eq.trans ?_ (show pqb (xrow (fun d => x1 (ix2 0 d)) fun d => x0 (ix2 r d)) (fun d k => x2 (ix2 d k)) ⟨0, by norm_num⟩ k = _ from rfl)
      refine (pay30_at _ _ r k).trans ?_
      simp only [r_at, r1_at, r2_at, r3_at, r4_at, ld_whole]
      refine (mvw _ 640 512 (by norm_num) _ _).trans (mv_idx _ _ _ _ ?_)
      first | rfl | omega | (dsimp only; omega)

theorem out22_eq : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o22 x0 x1 x2 x9 x10 := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, ?_, ?_, ?_, ?_, ?_, ?_, ?_, fun _ h => absurd h List.not_mem_nil⟩
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨7, by norm_num⟩ k = _ from rfl)
      unfold kernelRun0_A.sl.r_16 kernelRun0_A.sl.r_13 kernelRun0_A.sl.r_14
      refine (qi7_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨384 + (64 + k.val), by omega⟩) (mvw _ 1920 512 (by norm_num) _ ⟨384 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨6, by norm_num⟩ k = _ from rfl)
      unfold kernelRun0_A.sl.r_13 kernelRun0_A.sl.r_14
      refine (qi6_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨384 + k.val, by omega⟩) (mvw _ 1920 512 (by norm_num) _ ⟨384 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨5, by norm_num⟩ k = _ from rfl)
      unfold kernelRun0_A.sl.r_13 kernelRun0_A.sl.r_14
      refine (qi5_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨256 + (64 + k.val), by omega⟩) (mvw _ 1920 512 (by norm_num) _ ⟨256 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨4, by norm_num⟩ k = _ from rfl)
      unfold kernelRun0_A.sl.r_13 kernelRun0_A.sl.r_14
      refine (qi4_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨256 + k.val, by omega⟩) (mvw _ 1920 512 (by norm_num) _ ⟨256 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨3, by norm_num⟩ k = _ from rfl)
      unfold kernelRun0_A.sl.r_14 kernelRun0_A.sl.r_15
      refine (qi3_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨128 + (64 + k.val), by omega⟩) (mvw _ 1920 512 (by norm_num) _ ⟨128 + (64 + k.val), by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨2, by norm_num⟩ k = _ from rfl)
      unfold kernelRun0_A.sl.r_14 kernelRun0_A.sl.r_15
      refine (qi2_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨128 + k.val, by omega⟩) (mvw _ 1920 512 (by norm_num) _ ⟨128 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨1, by norm_num⟩ k = _ from rfl)
      refine (qi1_at _ _ _ _ _ r k).trans ?_
      unfold pqi
      simp only [r_at, r1_at, r2_at, r3_at, r4_at, ld_whole]
      refine (congrArg₂ (fun a b : EReal => a * x9 (ix2 r ⟨64 + k.val, by omega⟩) + b * x10 (ix2 r ⟨64 + k.val, by omega⟩)) (mvw _ 1408 512 (by norm_num) _ ⟨64 + k.val, by omega⟩) (mvw _ 1920 512 (by norm_num) _ ⟨64 + k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))
  · exact piece3z (by norm_num) (by norm_num) _ (o22 x0 x1 x2 x9 x10) _ fun r k => by
      refine Eq.trans ?_ (show pqi (xrow (fun d => x1 (ix2 0 d)) fun d => x0 (ix2 r d)) (fun d k => x2 (ix2 d k)) (fun d => x9 (ix2 r d)) (fun d => x10 (ix2 r d)) ⟨0, by norm_num⟩ k = _ from rfl)
      refine (qi0_at _ _ _ _ _ r k).trans ?_
      unfold pqi
      simp only [r_at, r1_at, r2_at, r3_at, r4_at, ld_whole]
      refine (congrArg₂ (fun a b : EReal => a * x9 (ix2 r ⟨k.val, by omega⟩) + b * x10 (ix2 r ⟨k.val, by omega⟩)) (mvw _ 1408 512 (by norm_num) _ ⟨k.val, by omega⟩) (mvw _ 1920 512 (by norm_num) _ ⟨k.val, by omega⟩)).trans ?_
      exact fma_idx (xrow (fun d => x1 (ix2 0 d)) fun d => x0 (ix2 r d)) (fun d k => x2 (ix2 d k)) (fun d => x9 (ix2 r d)) (fun d => x10 (ix2 r d)) _ _ _ _ _ _ (by first | rfl | omega | (dsimp only; omega)) (by first | rfl | omega | (dsimp only; omega)) (by first | rfl | omega | (dsimp only; omega))

theorem out23_eq : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = o23 x0 x1 x2 := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10)]
  funext y
  refine View.canon_apply_of_pieces _ _ ?_ y (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 y)
  unfold kernelRun0_A
  dsimp only
  simp only [List.forall_mem_cons]
  refine ⟨?_, fun _ h => absurd h List.not_mem_nil⟩
  · exact piece2z (by norm_num) _ (o23 x0 x1 x2) _ fun r k => by
      unfold kernelRun0_A.sl.r_10 kernelRun0_A.sl.cst_57
      refine (pay28_at _ _ r k).trans ?_
      refine (congrArg₂ (fun a b : EReal => a * b) (pay27_at _ _ r k) rfl).trans ?_
      simp only [r_at, r1_at, r2_at, r3_at, r4_at, ld_whole]
      exact congrArg₂ (fun a b : EReal => a * b) (mvw _ 2944 128 (by norm_num) _ ⟨k.val, by omega⟩) rfl

end Cert.Kernel3Ideal.Proj

end
-- ==== Proof.ProjIn3.lean ====
/- What the blocks the sample's input projections are given hold. -/
module

public import proofs.«01_k».proof.Proof.ProjV3
public import proofs.«01_k».proof.Proof.ProjBlock3

@[expose] public section

set_option maxRecDepth 16384
set_option maxHeartbeats 2000000

noncomputable section

namespace Cert.Kernel3Ideal.Proj

open Idealize.ShloMosaic Idealize.ShloMosaic.TcCoe Idealize.SL.Sem
open Cert.Kernel3Ideal Cert.Kernel3Ideal.Gen Cert.Proj

variable (m : (ℓ : Loc nD τ sig) → Buf (Elt Ideal) ℓ) (c : Dev nD)

/-- The weights as they are given. -/
def dat : Data where
  g := fun d => aG m c (ix1 d)
  w := fun d k => aW m c (ix2 d k)
  gq := fun d => aGq m c (ix1 d)
  uq := fun d k => aUq m c (ix2 d k)
  gkv := fun d => aGkv m c (ix1 d)
  uk := fun k h n => aUk m c (ix3 k h n)

/-- The scaled row of token s of sequence b. -/
def row (b : Fin 128) (s : Fin 4) : Fin 1024 → EReal := xrow (dat m c).g fun d => aX m c (ix3 b s d)

/-! ## The blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0, 0] := (by decide +kernel : ∀ t : Fin grid0.N, win0_12.index t = ![t.val, 0, 0])
theorem idx13 : ∀ t : Fin cfg0.N, win0_13.index t = ![t.val, 0, 0] := (by decide +kernel : ∀ t : Fin grid0.N, win0_13.index t = ![t.val, 0, 0])
theorem idx14 : ∀ t : Fin cfg0.N, win0_14.index t = ![t.val, 0, 0] := (by decide +kernel : ∀ t : Fin grid0.N, win0_14.index t = ![t.val, 0, 0])
theorem idx15 : ∀ t : Fin cfg0.N, win0_15.index t = ![t.val, 0, 0] := (by decide +kernel : ∀ t : Fin grid0.N, win0_15.index t = ![t.val, 0, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])
theorem idx23 : ∀ t : Fin cfg0.N, win0_23.index t = ![t.val, 0] := (by decide +kernel : ∀ t : Fin grid0.N, win0_23.index t = ![t.val, 0])
theorem idx20 : ∀ t : Fin cfg0.N, win0_20.index t = ![0, t.val, 0] := (by decide +kernel : ∀ t : Fin grid0.N, win0_20.index t = ![0, t.val, 0])
theorem idx21 : ∀ t : Fin cfg0.N, win0_21.index t = ![0, t.val, 0] := (by decide +kernel : ∀ t : Fin grid0.N, win0_21.index t = ![0, t.val, 0])
theorem idx22 : ∀ t : Fin cfg0.N, win0_22.index t = ![0, t.val, 0] := (by decide +kernel : ∀ t : Fin grid0.N, win0_22.index t = ![0, t.val, 0])

theorem lt_points (t : Fin cfg0.N) : t.val < 1 := t.isLt

theorem blk0_at (t : Fin cfg0.N) (r : Fin 512) (d : Fin 1024) :
    iblk m c 0 t (ix2 r d) = flatX (aX m c) (ix2 ⟨t.val * 512 + r.val, by have := lt_points t; omega⟩ d) := by
  blk_simp [iblk, idx0]
  rw [← in0_eq]
  refine congrArg _ ?_
  blk_ext [idx0]

theorem blk1_at (t : Fin cfg0.N) (d : Fin 1024) : iblk m c 1 t (ix2 0 d) = wide1024 (aG m c) (ix2 0 d) := by
  blk_simp [iblk, idx1]
  rw [← in1_eq]
  refine congrArg _ ?_
  blk_ext [idx1]

theorem blk2_at (t : Fin cfg0.N) (d : Fin 1024) (k : Fin 3072) : iblk m c 2 t (ix2 d k) = packIn (aW m c) (ix2 d k) := by
  blk_simp [iblk, idx2]
  rw [← in2_eq]
  refine congrArg _ ?_
  blk_ext [idx2]

theorem blk3_at (t : Fin cfg0.N) (d : Fin 384) : iblk m c 3 t (ix2 0 d) = wide384 (aGq m c) (ix2 0 d) := by
  blk_simp [iblk, idx3]
  rw [← in3_eq]
  refine congrArg _ ?_
  blk_ext [idx3]

theorem blk4_at (t : Fin cfg0.N) (d : Fin 384) (k : Fin 2560) : iblk m c 4 t (ix2 d k) = packQ (aUq m c) (ix2 d k) := by
  blk_simp [iblk, idx4]
  rw [← in4_eq]
  refine congrArg _ ?_
  blk_ext [idx4]

theorem blk5_at (t : Fin cfg0.N) (d : Fin 256) : iblk m c 5 t (ix2 0 d) = wide256 (aGkv m c) (ix2 0 d) := by
  blk_simp [iblk, idx5]
  rw [← in5_eq]
  refine congrArg _ ?_
  blk_ext [idx5]

theorem blk6_at (t : Fin cfg0.N) (p : Fin 4) (n : Fin 128) (k : Fin 512) : iblk m c 6 t (ix3 p n k) = packK (aUk m c) (ix3 p n k) := by
  blk_simp [iblk, idx6]
  rw [← in6_eq]
  refine congrArg _ ?_
  blk_ext [idx6]

theorem blk7_at (t : Fin cfg0.N) (r : Fin 512) (d : Fin 128) :
    iblk m c 7 t (ix2 r d) = tCa (Host.cos angT) (ix2 ⟨r.val, by have := lt_points t; omega⟩ d) := by
  blk_simp [iblk, idx7]
  rw [← in7_eq m c]
  refine congrArg _ ?_
  blk_ext [idx7]

theorem blk8_at (t : Fin cfg0.N) (r : Fin 512) (d : Fin 128) :
    iblk m c 8 t (ix2 r d) = tSa (Host.sin angT) (ix2 ⟨r.val, by have := lt_points t; omega⟩ d) := by
  blk_simp [iblk, idx8]
  rw [← in8_eq m c]
  refine congrArg _ ?_
  blk_ext [idx8]

theorem blk9_at (t : Fin cfg0.N) (r : Fin 512) (d : Fin 128) :
    iblk m c 9 t (ix2 r d) = tCb (Host.cos angT) (ix2 ⟨r.val, by have := lt_points t; omega⟩ d) := by
  blk_simp [iblk, idx9]
  rw [← in9_eq m c]
  refine congrArg _ ?_
  blk_ext [idx9]

theorem blk10_at (t : Fin cfg0.N) (r : Fin 512) (d : Fin 128) :
    iblk m c 10 t (ix2 r d) = tSb (Host.sin angT) (ix2 ⟨r.val, by have := lt_points t; omega⟩ d) := by
  blk_simp [iblk, idx10]
  rw [← in10_eq m c]
  refine congrArg _ ?_
  blk_ext [idx10]

/-! ## What the blocks hold -/

theorem x_eq (t : Fin cfg0.N) (r : Fin 512) (b : Fin 128) (s : Fin 4) (h : b.val * 4 + s.val = t.val * 512 + r.val) :
    (xrow (fun d => iblk m c 1 t (ix2 0 d)) fun d => iblk m c 0 t (ix2 r d)) = row m c b s := by
  unfold row
  have hb : (⟨(t.val * 512 + r.val) / 4, by have := lt_points t; omega⟩ : Fin 128) = b := Fin.ext (by dsimp only; omega)
  have hs : (⟨(t.val * 512 + r.val) % 4, by omega⟩ : Fin 4) = s := Fin.ext (by dsimp only; omega)
  refine congrArg₂ xrow ?_ ?_
  · funext d
    exact (blk1_at m c t d).trans (wide1024_at _ d)
  · funext d
    refine (blk0_at m c t r d).trans ((flatX_at _ _ d).trans ?_)
    exact congrArg₂ (fun b s => aX m c (ix3 b s d)) hb hs

theorem w_eq (t : Fin cfg0.N) : PackedIn (dat m c).w fun d k => iblk m c 2 t (ix2 d k) := by
  have e : (fun (d : Fin 1024) (k : Fin 3072) => iblk m c 2 t (ix2 d k)) = fun d k => packIn (aW m c) (ix2 d k) := by
    funext d k
    exact blk2_at m c t d k
  rw [e]
  exact packedIn (aW m c)

theorem gq_eq (t : Fin cfg0.N) : (fun k => iblk m c 3 t (ix2 0 k)) = (dat m c).gq := by
  funext k
  exact (blk3_at m c t k).trans (wide384_at _ k)

theorem uq_eq (t : Fin cfg0.N) : PackedQ (dat m c).uq fun d k => iblk m c 4 t (ix2 d k) := by
  have e : (fun (d : Fin 384) (k : Fin 2560) => iblk m c 4 t (ix2 d k)) = fun d k => packQ (aUq m c) (ix2 d k) := by
    funext d k
    exact blk4_at m c t d k
  rw [e]
  exact packedQ (aUq m c)

theorem gkv_eq (t : Fin cfg0.N) : (fun k => iblk m c 5 t (ix2 0 k)) = (dat m c).gkv := by
  funext k
  exact (blk5_at m c t k).trans (wide256_at _ k)

theorem uk_eq (t : Fin cfg0.N) : PackedK (dat m c).uk fun p n k => iblk m c 6 t (ix3 p n k) := by
  have e : (fun (p : Fin 4) (n : Fin 128) (k : Fin 512) => iblk m c 6 t (ix3 p n k)) = fun p n k => packK (aUk m c) (ix3 p n k) := by
    funext p n k
    exact blk6_at m c t p n k
  rw [e]
  exact packedK (aUk m c)

theorem t_eq (t : Fin cfg0.N) (r : Fin 512) (s : Fin 4) (h : s.val = (t.val * 512 + r.val) % 4) :
    Tables (cosT (pos s)) (sinT (pos s)) (fun d => iblk m c 7 t (ix2 r d)) (fun d => iblk m c 8 t (ix2 r d))
      (fun d => iblk m c 9 t (ix2 r d)) (fun d => iblk m c 10 t (ix2 r d)) := by
  have hs : (⟨(r.val) % 4, by omega⟩ : Fin 4) = s := Fin.ext (by have := lt_points t; dsimp only; omega)
  rw [show (fun d => iblk m c 7 t (ix2 r d)) = _ from funext fun d => blk7_at m c t r d,
    show (fun d => iblk m c 8 t (ix2 r d)) = _ from funext fun d => blk8_at m c t r d,
    show (fun d => iblk m c 9 t (ix2 r d)) = _ from funext fun d => blk9_at m c t r d,
    show (fun d => iblk m c 10 t (ix2 r d)) = _ from funext fun d => blk10_at m c t r d, ← hs]
  exact tables ⟨r.val, by have := lt_points t; omega⟩

end Cert.Kernel3Ideal.Proj

end
-- ==== Proof.ProjFin3.lean ====
/- The arrays the sample's projections leave, element by element. -/
module

public import proofs.«01_k».proof.Proof.ProjIn3

@[expose] public section

set_option maxRecDepth 16384
set_option maxHeartbeats 2000000

noncomputable section

namespace Cert.Kernel3Ideal.Proj

open Idealize.ShloMosaic Idealize.ShloMosaic.TcCoe Idealize.SL.Sem
open Cert.Kernel3Ideal Cert.Kernel3Ideal.Gen Cert.Proj

variable (m : (ℓ : Loc nD τ sig) → Buf (Elt Ideal) ℓ) (c : Dev nD)

def f11 (n : Fin 512) (k : Fin 256) : EReal := ckv (row m c ⟨n.val / 4, by omega⟩ ⟨n.val % 4, by omega⟩) (dat m c).w (dat m c).gkv k

def r11 (z : S512x256.Idx) : EReal := f11 m c (z 0) (z 1)

theorem p11 (t : Fin cfg0.N) (r : Fin 512) (k : Fin 256) :
    o11 (iblk m c 0 t) (iblk m c 1 t) (iblk m c 2 t) (iblk m c 5 t) (ix2 r k) = f11 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pckv (xrow (fun d => iblk m c 1 t (ix2 0 d)) fun d => iblk m c 0 t (ix2 r d)) (fun d k => iblk m c 2 t (ix2 d k)) (fun k => iblk m c 5 t (ix2 0 k)) k from rfl).trans ?_
  rw [x_eq m c t r _ _ hx, gkv_eq m c t]
  exact ckv_eq (w_eq m c t) k

theorem key11 (t : Fin cfg0.N) : (outsAt0 m c t).1 = o11 (iblk m c 0 t) (iblk m c 1 t) (iblk m c 2 t) (iblk m c 5 t) := by
  unfold outsAt0
  rw [out11_eq]

theorem q11 (n n' : Fin 512) (k k' : Fin 256) (hn : n.val = n'.val) (hk : k.val = k'.val) : f11 m c n k = f11 m c n' k' := by
  rw [Fin.ext hn, Fin.ext hk]

theorem final11 : (dats m 0 c).arrAt 11 cfg0.N = r11 m c := by
  refine (dats m 0 c).arrAt_eq_of_covers 11 _ (by decide +kernel) fun t hf y => ?_
  blk_simp
  rw [after0_11, key11]
  have ht := lt_points t
  have e0 : ((win0_11.blk t).view.emb y 0).val = t.val * 512 + (y 0).val := by blk_simp [idx11]; try omega
  have e1 : ((win0_11.blk t).view.emb y 1).val = (y 1).val := by blk_simp [idx11]; try omega
  have yy : y = ix2 (y 0) (y 1) := by funext a; fin_cases a <;> rfl
  refine (congrArg (o11 (iblk m c 0 t) (iblk m c 1 t) (iblk m c 2 t) (iblk m c 5 t)) yy).trans ?_
  refine (p11 m c t (y 0) (y 1)).trans ?_
  exact q11 m c _ _ _ _ e0.symm e1.symm

def f12 (b : Fin 1) (k : Fin 32) (n : Fin 512) : EReal := kr (row m c ⟨n.val / 4, by omega⟩ ⟨n.val % 4, by omega⟩) (dat m c).w (cosT (pos ⟨n.val % 4, by omega⟩)) (sinT (pos ⟨n.val % 4, by omega⟩)) k

def r12 (z : S1x32x512.Idx) : EReal := f12 m c (z 0) (z 1) (z 2)

theorem p12 (t : Fin cfg0.N) (r : Fin 512) (k : Fin 32) :
    o12 (iblk m c 0 t) (iblk m c 1 t) (iblk m c 2 t) (iblk m c 7 t) (iblk m c 8 t) (ix3 0 k r) = f12 m c ⟨t.val, lt_points t⟩ k ⟨r.val, r.isLt⟩ := by
  have ht := lt_points t
  have hx : (⟨r.val / 4, by omega⟩ : Fin 128).val * 4 + (⟨r.val % 4, by omega⟩ : Fin 4).val = t.val * 512 + r.val := by dsimp only; omega
  have hs : (⟨r.val % 4, by omega⟩ : Fin 4).val = (t.val * 512 + r.val) % 4 := by dsimp only; try omega
  refine (show _ = pkr (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact kr_eq (w_eq m c t) (t_eq m c t r _ hs) k

theorem key12 (t : Fin cfg0.N) : (outsAt0 m c t).2.1 = o12 (iblk m c 0 t) (iblk m c 1 t) (iblk m c 2 t) (iblk m c 7 t) (iblk m c 8 t) := by
  unfold outsAt0
  rw [out12_eq]

theorem q12 (b b' : Fin 1) (k k' : Fin 32) (n n' : Fin 512) (hb : b.val = b'.val) (hk : k.val = k'.val) (hn : n.val = n'.val) : f12 m c b k n = f12 m c b' k' n' := by
  rw [Fin.ext hb, Fin.ext hk, Fin.ext hn]

theorem final12 : (dats m 0 c).arrAt 12 cfg0.N = r12 m c := by
  refine (dats m 0 c).arrAt_eq_of_covers 12 _ (by decide +kernel) fun t hf y => ?_
  blk_simp
  rw [after0_12, key12]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_12.blk t).view.emb y 0).val = t.val := by blk_simp [idx12]; try omega
  have e1 : ((win0_12.blk t).view.emb y 1).val = (y 1).val := by blk_simp [idx12]; try omega
  have e2 : ((win0_12.blk t).view.emb y 2).val = (y 2).val := by blk_simp [idx12]; try omega
  refine (congrArg (o12 (iblk m c 0 t) (iblk m c 1 t) (iblk m c 2 t) (iblk m c 7 t) (iblk m c 8 t)) yy).trans ?_
  refine (p12 m c t (y 2) (y 1)).trans ?_
  exact q12 m c _ _ _ _ _ _ e0.symm e1.symm e2.symm

def f13 (b : Fin 1) (k : Fin 128) (n : Fin 512) : EReal := mv (row m c ⟨n.val / 4, by omega⟩ ⟨n.val % 4, by omega⟩) (dat m c).w ⟨1184 + k.val, by omega⟩

def r13 (z : S1x128x512.Idx) : EReal := f13 m c (z 0) (z 1) (z 2)

theorem p13 (t : Fin cfg0.N) (r : Fin 512) (k : Fin 128) :
    o13 (iblk m c 0 t) (iblk m c 1 t) (iblk m c 2 t) (ix3 0 k r) = f13 m c ⟨t.val, lt_points t⟩ k ⟨r.val, r.isLt⟩ := by
  have ht := lt_points t
  have hx : (⟨r.val / 4, by omega⟩ : Fin 128).val * 4 + (⟨r.val % 4, by omega⟩ : Fin 4).val = t.val * 512 + r.val := by dsimp only; omega
  have hs : (⟨r.val % 4, by omega⟩ : Fin 4).val = (t.val * 512 + r.val) % 4 := by dsimp only; try omega
  refine (show _ = mv (xrow (fun d => iblk m c 1 t (ix2 0 d)) fun d => iblk m c 0 t (ix2 r d)) (fun d k => iblk m c 2 t (ix2 d k)) ⟨1152 + k.val, by omega⟩ from rfl).trans ?_
  rw [x_eq m c t r _ _ hx]
  exact kb_eq (w_eq m c t) k

theorem key13 (t : Fin cfg0.N) : (outsAt0 m c t).2.2.1 = o13 (iblk m c 0 t) (iblk m c 1 t) (iblk m c 2 t) := by
  unfold outsAt0
  rw [out13_eq]

theorem q13 (b b' : Fin 1) (k k' : Fin 128) (n n' : Fin 512) (hb : b.val = b'.val) (hk : k.val = k'.val) (hn : n.val = n'.val) : f13 m c b k n = f13 m c b' k' n' := by
  rw [Fin.ext hb, Fin.ext hk, Fin.ext hn]

theorem final13 : (dats m 0 c).arrAt 13 cfg0.N = r13 m c := by
  refine (dats m 0 c).arrAt_eq_of_covers 13 _ (by decide +kernel) fun t hf y => ?_
  blk_simp
  rw [after0_13, key13]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_13.blk t).view.emb y 0).val = t.val := by blk_simp [idx13]; try omega
  have e1 : ((win0_13.blk t).view.emb y 1).val = (y 1).val := by blk_simp [idx13]; try omega
  have e2 : ((win0_13.blk t).view.emb y 2).val = (y 2).val := by blk_simp [idx13]; try omega
  refine (congrArg (o13 (iblk m c 0 t) (iblk m c 1 t) (iblk m c 2 t)) yy).trans ?_
  refine (p13 m c t (y 2) (y 1)).trans ?_
  exact q13 m c _ _ _ _ _ _ e0.symm e1.symm e2.symm

def f14 (b : Fin 1) (k : Fin 128) (n : Fin 512) : EReal := mv (row m c ⟨n.val / 4, by omega⟩ ⟨n.val % 4, by omega⟩) (dat m c).w ⟨1312 + k.val, by omega⟩

def r14 (z : S1x128x512.Idx) : EReal := f14 m c (z 0) (z 1) (z 2)

theorem p14 (t : Fin cfg0.N) (r : Fin 512) (k : Fin 128) :
    o14 (iblk m c 0 t) (iblk m c 1 t) (iblk m c 2 t) (ix3 0 k r) = f14 m c ⟨t.val, lt_points t⟩ k ⟨r.val, r.isLt⟩ := by
  have ht := lt_points t
  have hx : (⟨r.val / 4, by omega⟩ : Fin 128).val * 4 + (⟨r.val % 4, by omega⟩ : Fin 4).val = t.val * 512 + r.val := by dsimp only; omega
  have hs : (⟨r.val % 4, by omega⟩ : Fin 4).val = (t.val * 512 + r.val) % 4 := by dsimp only; try omega
  refine (show _ = mv (xrow (fun d => iblk m c 1 t (ix2 0 d)) fun d => iblk m c 0 t (ix2 r d)) (fun d k => iblk m c 2 t (ix2 d k)) ⟨1280 + k.val, by omega⟩ from rfl).trans ?_
  rw [x_eq m c t r _ _ hx]
  exact vb_eq (w_eq m c t) k

theorem key14 (t : Fin cfg0.N) : (outsAt0 m c t).2.2.2.1 = o14 (iblk m c 0 t) (iblk m c 1 t) (iblk m c 2 t) := by
  unfold outsAt0
  rw [out14_eq]

theorem q14 (b b' : Fin 1) (k k' : Fin 128) (n n' : Fin 512) (hb : b.val = b'.val) (hk : k.val = k'.val) (hn : n.val = n'.val) : f14 m c b k n = f14 m c b' k' n' := by
  rw [Fin.ext hb, Fin.ext hk, Fin.ext hn]

theorem final14 : (dats m 0 c).arrAt 14 cfg0.N = r14 m c := by
  refine (dats m 0 c).arrAt_eq_of_covers 14 _ (by decide +kernel) fun t hf y => ?_
  blk_simp
  rw [after0_14, key14]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_14.blk t).view.emb y 0).val = t.val := by blk_simp [idx14]; try omega
  have e1 : ((win0_14.blk t).view.emb y 1).val = (y 1).val := by blk_simp [idx14]; try omega
  have e2 : ((win0_14.blk t).view.emb y 2).val = (y 2).val := by blk_simp [idx14]; try omega
  refine (congrArg (o14 (iblk m c 0 t) (iblk m c 1 t) (iblk m c 2 t)) yy).trans ?_
  refine (p14 m c t (y 2) (y 1)).trans ?_
  exact q14 m c _ _ _ _ _ _ e0.symm e1.symm e2.symm

def f15 (b : Fin 1) (k : Fin 64) (n : Fin 512) : EReal := ki (row m c ⟨n.val / 4, by omega⟩ ⟨n.val % 4, by omega⟩) (dat m c).w (cosT (pos ⟨n.val % 4, by omega⟩)) (sinT (pos ⟨n.val % 4, by omega⟩)) k

def r15 (z : S1x64x512.Idx) : EReal := f15 m c (z 0) (z 1) (z 2)

theorem p15 (t : Fin cfg0.N) (r : Fin 512) (k : Fin 64) :
    o15 (iblk m c 0 t) (iblk m c 1 t) (iblk m c 2 t) (iblk m c 7 t) (iblk m c 8 t) (ix3 0 k r) = f15 m c ⟨t.val, lt_points t⟩ k ⟨r.val, r.isLt⟩ := by
  have ht := lt_points t
  have hx : (⟨r.val / 4, by omega⟩ : Fin 128).val * 4 + (⟨r.val % 4, by omega⟩ : Fin 4).val = t.val * 512 + r.val := by dsimp only; omega
  have hs : (⟨r.val % 4, by omega⟩ : Fin 4).val = (t.val * 512 + r.val) % 4 := by dsimp only; try omega
  refine (show _ = pki (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact ki_eq (w_eq m c t) (t_eq m c t r _ hs) k

theorem key15 (t : Fin cfg0.N) : (outsAt0 m c t).2.2.2.2.1 = o15 (iblk m c 0 t) (iblk m c 1 t) (iblk m c 2 t) (iblk m c 7 t) (iblk m c 8 t) := by
  unfold outsAt0
  rw [out15_eq]

theorem q15 (b b' : Fin 1) (k k' : Fin 64) (n n' : Fin 512) (hb : b.val = b'.val) (hk : k.val = k'.val) (hn : n.val = n'.val) : f15 m c b k n = f15 m c b' k' n' := by
  rw [Fin.ext hb, Fin.ext hk, Fin.ext hn]

theorem final15 : (dats m 0 c).arrAt 15 cfg0.N = r15 m c := by
  refine (dats m 0 c).arrAt_eq_of_covers 15 _ (by decide +kernel) fun t hf y => ?_
  blk_simp
  rw [after0_15, key15]
  have ht := lt_points t
  have y0 : (y 0).val = 0 := by have h : (y 0).val < 1 := (y 0).isLt; omega
  have yy : y = ix3 0 (y 1) (y 2) := by funext a; fin_cases a; exacts [Fin.ext y0, rfl, rfl]
  have e0 : ((win0_15.blk t).view.emb y 0).val = t.val := by blk_simp [idx15]; try omega
  have e1 : ((win0_15.blk t).view.emb y 1).val = (y 1).val := by blk_simp [idx15]; try omega
  have e2 : ((win0_15.blk t).view.emb y 2).val = (y 2).val := by blk_simp [idx15]; try omega
  refine (congrArg (o15 (iblk m c 0 t) (iblk m c 1 t) (iblk m c 2 t) (iblk m c 7 t) (iblk m c 8 t)) yy).trans ?_
  refine (p15 m c t (y 2) (y 1)).trans ?_
  exact q15 m c _ _ _ _ _ _ e0.symm e1.symm e2.symm

def f16 (n : Fin 512) (k : Fin 384) : EReal := kcat (row m c ⟨n.val / 4, by omega⟩ ⟨n.val % 4, by omega⟩) (dat m c).w (dat m c).gkv (cosT (pos ⟨n.val % 4, by omega⟩)) (sinT (pos ⟨n.val % 4, by omega⟩)) k

def r16 (z : S512x384.Idx) : EReal := f16 m c (z 0) (z 1)

theorem p16 (t : Fin cfg0.N) (r : Fin 512) (k : Fin 384) :
    o16 (iblk m c 0 t) (iblk m c 1 t) (iblk m c 2 t) (iblk m c 5 t) (iblk m c 7 t) (iblk m c 8 t) (ix2 r k) = f16 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pkcat (xrow (fun d => iblk m c 1 t (ix2 0 d)) fun d => iblk m c 0 t (ix2 r d)) (fun d k => iblk m c 2 t (ix2 d k)) (fun k => iblk m c 5 t (ix2 0 k)) (fun d => iblk m c 7 t (ix2 r d)) (fun d => iblk m c 8 t (ix2 r d)) k from rfl).trans ?_
  rw [x_eq m c t r _ _ hx, gkv_eq m c t]
  exact kcat_eq (w_eq m c t) (t_eq m c t r _ hs) k

theorem key16 (t : Fin cfg0.N) : (outsAt0 m c t).2.2.2.2.2.1 = o16 (iblk m c 0 t) (iblk m c 1 t) (iblk m c 2 t) (iblk m c 5 t) (iblk m c 7 t) (iblk m c 8 t) := by
  unfold outsAt0
  rw [out16_eq]

theorem q16 (n n' : Fin 512) (k k' : Fin 384) (hn : n.val = n'.val) (hk : k.val = k'.val) : f16 m c n k = f16 m c n' k' := by
  rw [Fin.ext hn, Fin.ext hk]

theorem final16 : (dats m 0 c).arrAt 16 cfg0.N = r16 m c := by
  refine (dats m 0 c).arrAt_eq_of_covers 16 _ (by decide +kernel) fun t hf y => ?_
  blk_simp
  rw [after0_16, key16]
  have ht := lt_points t
  have e0 : ((win0_16.blk t).view.emb y 0).val = t.val * 512 + (y 0).val := by blk_simp [idx16]; try omega
  have e1 : ((win0_16.blk t).view.emb y 1).val = (y 1).val := by blk_simp [idx16]; try omega
  have yy : y = ix2 (y 0) (y 1) := by funext a; fin_cases a <;> rfl
  refine (congrArg (o16 (iblk m c 0 t) (iblk m c 1 t) (iblk m c 2 t) (iblk m c 5 t) (iblk m c 7 t) (iblk m c 8 t)) yy).trans ?_
  refine (p16 m c t (y 0) (y 1)).trans ?_
  exact q16 m c _ _ _ _ e0.symm e1.symm

def f17 (n : Fin 512) (k : Fin 128) : EReal := mv (row m c ⟨n.val / 4, by omega⟩ ⟨n.val % 4, by omega⟩) (dat m c).w ⟨1184 + k.val, by omega⟩

def r17 (z : S512x128.Idx) : EReal := f17 m c (z 0) (z 1)

theorem p17 (t : Fin cfg0.N) (r : Fin 512) (k : Fin 128) :
    o17 (iblk m c 0 t) (iblk m c 1 t) (iblk m c 2 t) (ix2 r k) = f17 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = mv (xrow (fun d => iblk m c 1 t (ix2 0 d)) fun d => iblk m c 0 t (ix2 r d)) (fun d k => iblk m c 2 t (ix2 d k)) ⟨1152 + k.val, by omega⟩ from rfl).trans ?_
  rw [x_eq m c t r _ _ hx]
  exact kb_eq (w_eq m c t) k

theorem key17 (t : Fin cfg0.N) : (outsAt0 m c t).2.2.2.2.2.2.1 = o17 (iblk m c 0 t) (iblk m c 1 t) (iblk m c 2 t) := by
  unfold outsAt0
  rw [out17_eq]

theorem q17 (n n' : Fin 512) (k k' : Fin 128) (hn : n.val = n'.val) (hk : k.val = k'.val) : f17 m c n k = f17 m c n' k' := by
  rw [Fin.ext hn, Fin.ext hk]

theorem final17 : (dats m 0 c).arrAt 17 cfg0.N = r17 m c := by
  refine (dats m 0 c).arrAt_eq_of_covers 17 _ (by decide +kernel) fun t hf y => ?_
  blk_simp
  rw [after0_17, key17]
  have ht := lt_points t
  have e0 : ((win0_17.blk t).view.emb y 0).val = t.val * 512 + (y 0).val := by blk_simp [idx17]; try omega
  have e1 : ((win0_17.blk t).view.emb y 1).val = (y 1).val := by blk_simp [idx17]; try omega
  have yy : y = ix2 (y 0) (y 1) := by funext a; fin_cases a <;> rfl
  refine (congrArg (o17 (iblk m c 0 t) (iblk m c 1 t) (iblk m c 2 t)) yy).trans ?_
  refine (p17 m c t (y 0) (y 1)).trans ?_
  exact q17 m c _ _ _ _ e0.symm e1.symm

def f18 (n : Fin 512) (k : Fin 128) : EReal := mv (row m c ⟨n.val / 4, by omega⟩ ⟨n.val % 4, by omega⟩) (dat m c).w ⟨1312 + k.val, by omega⟩

def r18 (z : S512x128.Idx) : EReal := f18 m c (z 0) (z 1)

theorem p18 (t : Fin cfg0.N) (r : Fin 512) (k : Fin 128) :
    o18 (iblk m c 0 t) (iblk m c 1 t) (iblk m c 2 t) (ix2 r k) = f18 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = mv (xrow (fun d => iblk m c 1 t (ix2 0 d)) fun d => iblk m c 0 t (ix2 r d)) (fun d k => iblk m c 2 t (ix2 d k)) ⟨1280 + k.val, by omega⟩ from rfl).trans ?_
  rw [x_eq m c t r _ _ hx]
  exact vb_eq (w_eq m c t) k

theorem key18 (t : Fin cfg0.N) : (outsAt0 m c t).2.2.2.2.2.2.2.1 = o18 (iblk m c 0 t) (iblk m c 1 t) (iblk m c 2 t) := by
  unfold outsAt0
  rw [out18_eq]

theorem q18 (n n' : Fin 512) (k k' : Fin 128) (hn : n.val = n'.val) (hk : k.val = k'.val) : f18 m c n k = f18 m c n' k' := by
  rw [Fin.ext hn, Fin.ext hk]

theorem final18 : (dats m 0 c).arrAt 18 cfg0.N = r18 m c := by
  refine (dats m 0 c).arrAt_eq_of_covers 18 _ (by decide +kernel) fun t hf y => ?_
  blk_simp
  rw [after0_18, key18]
  have ht := lt_points t
  have e0 : ((win0_18.blk t).view.emb y 0).val = t.val * 512 + (y 0).val := by blk_simp [idx18]; try omega
  have e1 : ((win0_18.blk t).view.emb y 1).val = (y 1).val := by blk_simp [idx18]; try omega
  have yy : y = ix2 (y 0) (y 1) := by funext a; fin_cases a <;> rfl
  refine (congrArg (o18 (iblk m c 0 t) (iblk m c 1 t) (iblk m c 2 t)) yy).trans ?_
  refine (p18 m c t (y 0) (y 1)).trans ?_
  exact q18 m c _ _ _ _ e0.symm e1.symm

def f19 (n : Fin 512) (k : Fin 64) : EReal := ki (row m c ⟨n.val / 4, by omega⟩ ⟨n.val % 4, by omega⟩) (dat m c).w (cosT (pos ⟨n.val % 4, by omega⟩)) (sinT (pos ⟨n.val % 4, by omega⟩)) k

def r19 (z : S512x64.Idx) : EReal := f19 m c (z 0) (z 1)

theorem p19 (t : Fin cfg0.N) (r : Fin 512) (k : Fin 64) :
    o19 (iblk m c 0 t) (iblk m c 1 t) (iblk m c 2 t) (iblk m c 7 t) (iblk m c 8 t) (ix2 r k) = f19 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pki (xrow (fun d => iblk m c 1 t (ix2 0 d)) fun d => iblk m c 0 t (ix2 r d)) (fun d k => iblk m c 2 t (ix2 d k)) (fun d => iblk m c 7 t (ix2 r d)) (fun d => iblk m c 8 t (ix2 r d)) ⟨k.val, by omega⟩ from rfl).trans ?_
  rw [x_eq m c t r _ _ hx]
  exact ki_eq (w_eq m c t) (t_eq m c t r _ hs) k

theorem key19 (t : Fin cfg0.N) : (outsAt0 m c t).2.2.2.2.2.2.2.2.1 = o19 (iblk m c 0 t) (iblk m c 1 t) (iblk m c 2 t) (iblk m c 7 t) (iblk m c 8 t) := by
  unfold outsAt0
  rw [out19_eq]

theorem q19 (n n' : Fin 512) (k k' : Fin 64) (hn : n.val = n'.val) (hk : k.val = k'.val) : f19 m c n k = f19 m c n' k' := by
  rw [Fin.ext hn, Fin.ext hk]

theorem final19 : (dats m 0 c).arrAt 19 cfg0.N = r19 m c := by
  refine (dats m 0 c).arrAt_eq_of_covers 19 _ (by decide +kernel) fun t hf y => ?_
  blk_simp
  rw [after0_19, key19]
  have ht := lt_points t
  have e0 : ((win0_19.blk t).view.emb y 0).val = t.val * 512 + (y 0).val := by blk_simp [idx19]; try omega
  have e1 : ((win0_19.blk t).view.emb y 1).val = (y 1).val := by blk_simp [idx19]; try omega
  have yy : y = ix2 (y 0) (y 1) := by funext a; fin_cases a <;> rfl
  refine (congrArg (o19 (iblk m c 0 t) (iblk m c 1 t) (iblk m c 2 t) (iblk m c 7 t) (iblk m c 8 t)) yy).trans ?_
  refine (p19 m c t (y 0) (y 1)).trans ?_
  exact q19 m c _ _ _ _ e0.symm e1.symm

def f20 (h : Fin 8) (n : Fin 512) (k : Fin 384) : EReal := qcat (row m c ⟨n.val / 4, by omega⟩ ⟨n.val % 4, by omega⟩) (dat m c).w (dat m c).gq (dat m c).uq (dat m c).uk (cosT (pos ⟨n.val % 4, by omega⟩)) (sinT (pos ⟨n.val % 4, by omega⟩)) h k

def r20 (z : S8x512x384.Idx) : EReal := f20 m c (z 0) (z 1) (z 2)

theorem p20 (t : Fin cfg0.N) (h : Fin 8) (r : Fin 512) (k : Fin 384) :
    o20 (iblk m c 0 t) (iblk m c 1 t) (iblk m c 2 t) (iblk m c 3 t) (iblk m c 4 t) (iblk m c 6 t) (iblk m c 7 t) (iblk m c 8 t) (ix3 h r k) = f20 m c h ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pqcat (xrow (fun d => iblk m c 1 t (ix2 0 d)) fun d => iblk m c 0 t (ix2 r d)) (fun d k => iblk m c 2 t (ix2 d k)) (fun k => iblk m c 3 t (ix2 0 k)) (fun d k => iblk m c 4 t (ix2 d k)) (fun p n k => iblk m c 6 t (ix3 p n k)) (fun d => iblk m c 7 t (ix2 r d)) (fun d => iblk m c 8 t (ix2 r d)) h k from rfl).trans ?_
  rw [x_eq m c t r _ _ hx, gq_eq m c t]
  exact qcat_eq (w_eq m c t) (uq_eq m c t) (uk_eq m c t) (t_eq m c t r _ hs) h k

theorem key20 (t : Fin cfg0.N) : (outsAt0 m c t).2.2.2.2.2.2.2.2.2.1 = o20 (iblk m c 0 t) (iblk m c 1 t) (iblk m c 2 t) (iblk m c 3 t) (iblk m c 4 t) (iblk m c 6 t) (iblk m c 7 t) (iblk m c 8 t) := by
  unfold outsAt0
  rw [out20_eq]

theorem q20 (h h' : Fin 8) (n n' : Fin 512) (k k' : Fin 384) (hh : h.val = h'.val) (hn : n.val = n'.val) (hk : k.val = k'.val) : f20 m c h n k = f20 m c h' n' k' := by
  rw [Fin.ext hh, Fin.ext hn, Fin.ext hk]

theorem final20 : (dats m 0 c).arrAt 20 cfg0.N = r20 m c := by
  refine (dats m 0 c).arrAt_eq_of_covers 20 _ (by decide +kernel) fun t hf y => ?_
  blk_simp
  rw [after0_20, key20]
  have ht := lt_points t
  have e0 : ((win0_20.blk t).view.emb y 0).val = (y 0).val := by blk_simp [idx20]; try omega
  have e1 : ((win0_20.blk t).view.emb y 1).val = t.val * 512 + (y 1).val := by blk_simp [idx20]; try omega
  have e2 : ((win0_20.blk t).view.emb y 2).val = (y 2).val := by blk_simp [idx20]; try omega
  have yy : y = ix3 (y 0) (y 1) (y 2) := by funext a; fin_cases a <;> rfl
  refine (congrArg (o20 (iblk m c 0 t) (iblk m c 1 t) (iblk m c 2 t) (iblk m c 3 t) (iblk m c 4 t) (iblk m c 6 t) (iblk m c 7 t) (iblk m c 8 t)) yy).trans ?_
  refine (p20 m c t (y 0) (y 1) (y 2)).trans ?_
  exact q20 m c _ _ _ _ _ _ e0.symm e1.symm e2.symm

def f21 (h : Fin 8) (n : Fin 512) (k : Fin 64) : EReal := mv (row m c ⟨n.val / 4, by omega⟩ ⟨n.val % 4, by omega⟩) (dat m c).w ⟨672 + (h.val * 64 + k.val), by omega⟩

def r21 (z : S8x512x64.Idx) : EReal := f21 m c (z 0) (z 1) (z 2)

theorem p21 (t : Fin cfg0.N) (h : Fin 8) (r : Fin 512) (k : Fin 64) :
    o21 (iblk m c 0 t) (iblk m c 1 t) (iblk m c 2 t) (ix3 h r k) = f21 m c h ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pqb (xrow (fun d => iblk m c 1 t (ix2 0 d)) fun d => iblk m c 0 t (ix2 r d)) (fun d k => iblk m c 2 t (ix2 d k)) h k from rfl).trans ?_
  rw [x_eq m c t r _ _ hx]
  exact qb_eq (w_eq m c t) h k

theorem key21 (t : Fin cfg0.N) : (outsAt0 m c t).2.2.2.2.2.2.2.2.2.2.1 = o21 (iblk m c 0 t) (iblk m c 1 t) (iblk m c 2 t) := by
  unfold outsAt0
  rw [out21_eq]

theorem q21 (h h' : Fin 8) (n n' : Fin 512) (k k' : Fin 64) (hh : h.val = h'.val) (hn : n.val = n'.val) (hk : k.val = k'.val) : f21 m c h n k = f21 m c h' n' k' := by
  rw [Fin.ext hh, Fin.ext hn, Fin.ext hk]

theorem final21 : (dats m 0 c).arrAt 21 cfg0.N = r21 m c := by
  refine (dats m 0 c).arrAt_eq_of_covers 21 _ (by decide +kernel) fun t hf y => ?_
  blk_simp
  rw [after0_21, key21]
  have ht := lt_points t
  have e0 : ((win0_21.blk t).view.emb y 0).val = (y 0).val := by blk_simp [idx21]; try omega
  have e1 : ((win0_21.blk t).view.emb y 1).val = t.val * 512 + (y 1).val := by blk_simp [idx21]; try omega
  have e2 : ((win0_21.blk t).view.emb y 2).val = (y 2).val := by blk_simp [idx21]; try omega
  have yy : y = ix3 (y 0) (y 1) (y 2) := by funext a; fin_cases a <;> rfl
  refine (congrArg (o21 (iblk m c 0 t) (iblk m c 1 t) (iblk m c 2 t)) yy).trans ?_
  refine (p21 m c t (y 0) (y 1) (y 2)).trans ?_
  exact q21 m c _ _ _ _ _ _ e0.symm e1.symm e2.symm

def f22 (h : Fin 8) (n : Fin 512) (k : Fin 64) : EReal := qi (row m c ⟨n.val / 4, by omega⟩ ⟨n.val % 4, by omega⟩) (dat m c).w (cosT (pos ⟨n.val % 4, by omega⟩)) (sinT (pos ⟨n.val % 4, by omega⟩)) h k

def r22 (z : S8x512x64.Idx) : EReal := f22 m c (z 0) (z 1) (z 2)

theorem p22 (t : Fin cfg0.N) (h : Fin 8) (r : Fin 512) (k : Fin 64) :
    o22 (iblk m c 0 t) (iblk m c 1 t) (iblk m c 2 t) (iblk m c 9 t) (iblk m c 10 t) (ix3 h r k) = f22 m c h ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = pqi (xrow (fun d => iblk m c 1 t (ix2 0 d)) fun d => iblk m c 0 t (ix2 r d)) (fun d k => iblk m c 2 t (ix2 d k)) (fun d => iblk m c 9 t (ix2 r d)) (fun d => iblk m c 10 t (ix2 r d)) h k from rfl).trans ?_
  rw [x_eq m c t r _ _ hx]
  exact qi_eq (w_eq m c t) (t_eq m c t r _ hs) h k

theorem key22 (t : Fin cfg0.N) : (outsAt0 m c t).2.2.2.2.2.2.2.2.2.2.2.1 = o22 (iblk m c 0 t) (iblk m c 1 t) (iblk m c 2 t) (iblk m c 9 t) (iblk m c 10 t) := by
  unfold outsAt0
  rw [out22_eq]

theorem q22 (h h' : Fin 8) (n n' : Fin 512) (k k' : Fin 64) (hh : h.val = h'.val) (hn : n.val = n'.val) (hk : k.val = k'.val) : f22 m c h n k = f22 m c h' n' k' := by
  rw [Fin.ext hh, Fin.ext hn, Fin.ext hk]

theorem final22 : (dats m 0 c).arrAt 22 cfg0.N = r22 m c := by
  refine (dats m 0 c).arrAt_eq_of_covers 22 _ (by decide +kernel) fun t hf y => ?_
  blk_simp
  rw [after0_22, key22]
  have ht := lt_points t
  have e0 : ((win0_22.blk t).view.emb y 0).val = (y 0).val := by blk_simp [idx22]; try omega
  have e1 : ((win0_22.blk t).view.emb y 1).val = t.val * 512 + (y 1).val := by blk_simp [idx22]; try omega
  have e2 : ((win0_22.blk t).view.emb y 2).val = (y 2).val := by blk_simp [idx22]; try omega
  have yy : y = ix3 (y 0) (y 1) (y 2) := by funext a; fin_cases a <;> rfl
  refine (congrArg (o22 (iblk m c 0 t) (iblk m c 1 t) (iblk m c 2 t) (iblk m c 9 t) (iblk m c 10 t)) yy).trans ?_
  refine (p22 m c t (y 0) (y 1) (y 2)).trans ?_
  exact q22 m c _ _ _ _ _ _ e0.symm e1.symm e2.symm

def f23 (n : Fin 512) (k : Fin 8) : EReal := mv (row m c ⟨n.val / 4, by omega⟩ ⟨n.val % 4, by omega⟩) (dat m c).w ⟨2016 + k.val, by omega⟩ * Ideal.ofBits .f32 0x3D3504F3#32

def r23 (z : S512x8.Idx) : EReal := f23 m c (z 0) (z 1)

theorem p23 (t : Fin cfg0.N) (r : Fin 512) (k : Fin 8) :
    o23 (iblk m c 0 t) (iblk m c 1 t) (iblk m c 2 t) (ix2 r k) = f23 m c ⟨t.val * 512 + r.val, by have := lt_points t; omega⟩ k := by
  have ht := lt_points t
  have hx : (⟨(t.val * 512 + r.val) / 4, by have := lt_points t; omega⟩ : Fin 128).val * 4 + (⟨(t.val * 512 + r.val) % 4, by omega⟩ : Fin 4).val = t.val * 512 + r.val := by dsimp only; omega
  have hs : (⟨(t.val * 512 + r.val) % 4, by omega⟩ : Fin 4).val = (t.val * 512 + r.val) % 4 := by dsimp only; try omega
  refine (show _ = mv (xrow (fun d => iblk m c 1 t (ix2 0 d)) fun d => iblk m c 0 t (ix2 r d)) (fun d k => iblk m c 2 t (ix2 d k)) ⟨2944 + k.val, by omega⟩ * Ideal.ofBits .f32 0x3D3504F3#32 from rfl).trans ?_
  rw [x_eq m c t r _ _ hx]
  exact congrArg (fun v : EReal => v * Ideal.ofBits .f32 0x3D3504F3#32) (wi_eq (w_eq m c t) k)

theorem key23 (t : Fin cfg0.N) : (outsAt0 m c t).2.2.2.2.2.2.2.2.2.2.2.2 = o23 (iblk m c 0 t) (iblk m c 1 t) (iblk m c 2 t) := by
  unfold outsAt0
  rw [out23_eq]

theorem q23 (n n' : Fin 512) (k k' : Fin 8) (hn : n.val = n'.val) (hk : k.val = k'.val) : f23 m c n k = f23 m c n' k' := by
  rw [Fin.ext hn, Fin.ext hk]

theorem final23 : (dats m 0 c).arrAt 23 cfg0.N = r23 m c := by
  refine (dats m 0 c).arrAt_eq_of_covers 23 _ (by decide +kernel) fun t hf y => ?_
  blk_simp
  rw [after0_23, key23]
  have ht := lt_points t
  have e0 : ((win0_23.blk t).view.emb y 0).val = t.val * 512 + (y 0).val := by blk_simp [idx23]; try omega
  have e1 : ((win0_23.blk t).view.emb y 1).val = (y 1).val := by blk_simp [idx23]; try omega
  have yy : y = ix2 (y 0) (y 1) := by funext a; fin_cases a <;> rfl
  refine (congrArg (o23 (iblk m c 0 t) (iblk m c 1 t) (iblk m c 2 t)) yy).trans ?_
  refine (p23 m c t (y 0) (y 1)).trans ?_
  exact q23 m c _ _ _ _ e0.symm e1.symm

end Cert.Kernel3Ideal.Proj

end
-- ==== Proof.ProjRef3.lean ====
/- The entries of the results of the sample's projections, as the program of single lines computes them. -/
module

public import proofs.«01_k».proof.Proof.Gen.Reference3Ideal.Run
public import proofs.«01_k».proof.Proof.ProjSpec

@[expose] public section

set_option maxRecDepth 16384
set_option maxHeartbeats 1000000

noncomputable section

namespace Cert.Reference3Ideal.Proj

open Idealize.ShloMosaic Idealize.ShloMosaic.TcCoe Idealize.SL.Sem
open Cert.Reference3Ideal Cert.Reference3Ideal.Value Cert.Proj

variable (V0 : Valuation τ sig (Elt Ideal))

/-- The weights as they are given. -/
def dat : Data where
  g := fun d => (V0 (Proc.devRef .tc main_arg1) : FVec Ideal S1024 .f32) (ix1 d)
  w := fun d k => (V0 (Proc.devRef .tc main_arg2) : FVec Ideal S1024x2024 .f32) (ix2 d k)
  gq := fun d => (V0 (Proc.devRef .tc main_arg3) : FVec Ideal S384 .f32) (ix1 d)
  uq := fun d k => (V0 (Proc.devRef .tc main_arg4) : FVec Ideal S384x768 .f32) (ix2 d k)
  gkv := fun d => (V0 (Proc.devRef .tc main_arg5) : FVec Ideal S256 .f32) (ix1 d)
  uk := fun k h n => (V0 (Proc.devRef .tc main_arg6) : FVec Ideal S256x8x64 .f32) (ix3 k h n)

/-- The scaled row of token s of sequence b. -/
def row (b : Fin 128) (s : Fin 4) : Fin 1024 → EReal :=
  xrow (dat V0).g fun d => (V0 (Proc.devRef .tc main_arg0) : FVec Ideal S128x4x1024 .f32) (ix3 b s d)

/-- The position of token s, as a word. -/
def pos (s : Fin 4) : BitVec 32 := 8192#32 + BitVec.ofNat 32 s.val

theorem in_at (b : Fin 128) (s : Fin 4) (k : Fin 2024) :
    (res_main_v16 V0 : FVec Ideal S128x4x2024 .f32) (ix3 b s k) = mv (row V0 b s) (dat V0).w k := by
  pointwise [res_main_v16]
  rfl

theorem ang54_at (s : Fin 4) (d : Fin 16) : (res_main_v56 V0 : FVec Ideal S4x1x16 .f32) (ix3 s 0 d) = ang (pos s) d := by
  pointwise [res_main_v56, res_main_v2]
  rfl

theorem ang99_at (s : Fin 4) (d : Fin 16) : (res_main_v101 V0 : FVec Ideal S4x1x16 .f32) (ix3 s 0 d) = ang (pos s) d := by
  pointwise [res_main_v101, res_main_v2]
  rfl

theorem ang134_at (s : Fin 4) (d : Fin 16) : (res_main_v136 V0 : FVec Ideal S4x1x16 .f32) (ix3 s 0 d) = ang (pos s) d := by
  pointwise [res_main_v136, res_main_v2]
  rfl

theorem ang169_at (s : Fin 4) (d : Fin 16) : (res_main_v171 V0 : FVec Ideal S4x1x16 .f32) (ix3 s 0 d) = ang (pos s) d := by
  pointwise [res_main_v171, res_main_v2]
  rfl

theorem tab55_at (s : Fin 4) (d : Fin 16) : (res_main_v57 V0 : FVec Ideal S4x1x16 .f32) (ix3 s 0 d) = cosT (pos s) d := by
  pointwise [res_main_v57]
  exact congrArg Ideal.cos (ang54_at V0 s d)

theorem tab56_at (s : Fin 4) (d : Fin 16) : (res_main_v58 V0 : FVec Ideal S4x1x16 .f32) (ix3 s 0 d) = sinT (pos s) d := by
  pointwise [res_main_v58]
  exact congrArg Ideal.sin (ang54_at V0 s d)

theorem tab100_at (s : Fin 4) (d : Fin 16) : (res_main_v102 V0 : FVec Ideal S4x1x16 .f32) (ix3 s 0 d) = cosT (pos s) d := by
  pointwise [res_main_v102]
  exact congrArg Ideal.cos (ang99_at V0 s d)

theorem tab101_at (s : Fin 4) (d : Fin 16) : (res_main_v103 V0 : FVec Ideal S4x1x16 .f32) (ix3 s 0 d) = sinT (pos s) d := by
  pointwise [res_main_v103]
  exact congrArg Ideal.sin (ang99_at V0 s d)

theorem tab135_at (s : Fin 4) (d : Fin 16) : (res_main_v137 V0 : FVec Ideal S4x1x16 .f32) (ix3 s 0 d) = cosT (pos s) d := by
  pointwise [res_main_v137]
  exact congrArg Ideal.cos (ang134_at V0 s d)

theorem tab136_at (s : Fin 4) (d : Fin 16) : (res_main_v138 V0 : FVec Ideal S4x1x16 .f32) (ix3 s 0 d) = sinT (pos s) d := by
  pointwise [res_main_v138]
  exact congrArg Ideal.sin (ang134_at V0 s d)

theorem tab170_at (s : Fin 4) (d : Fin 16) : (res_main_v172 V0 : FVec Ideal S4x1x16 .f32) (ix3 s 0 d) = cosT (pos s) d := by
  pointwise [res_main_v172]
  exact congrArg Ideal.cos (ang169_at V0 s d)

theorem tab171_at (s : Fin 4) (d : Fin 16) : (res_main_v173 V0 : FVec Ideal S4x1x16 .f32) (ix3 s 0 d) = sinT (pos s) d := by
  pointwise [res_main_v173]
  exact congrArg Ideal.sin (ang169_at V0 s d)

theorem ckv_at (b : Fin 128) (s : Fin 4) (k : Fin 256) :
    (res_main_v88 V0 : FVec Ideal S128x4x256 .f32) (ix3 b s k) = ckv (row V0 b s) (dat V0).w (dat V0).gkv k := by
  pointwise [res_main_v88, res_main_v18]
  simp only [in_at]
  rfl

theorem kr_at (b : Fin 128) (s : Fin 4) (d : Fin 32) :
    (res_main_v121 V0 : FVec Ideal S128x4x32 .f32) (ix3 b s d) = kr (row V0 b s) (dat V0).w (cosT (pos s)) (sinT (pos s)) d := by
  pointwise [res_main_v121, res_main_v104, res_main_v105, res_main_v89]
  simp only [in_at, tab100_at, tab101_at]
  rfl

theorem kb_at (b : Fin 128) (s : Fin 4) (d : Fin 128) :
    (res_main_v21 V0 : FVec Ideal S128x4x128 .f32) (ix3 b s d) = mv (row V0 b s) (dat V0).w ⟨1184 + d.val, by omega⟩ := by
  pointwise [res_main_v21]
  simp only [in_at]

theorem vb_at (b : Fin 128) (s : Fin 4) (d : Fin 128) :
    (res_main_v22 V0 : FVec Ideal S128x4x128 .f32) (ix3 b s d) = mv (row V0 b s) (dat V0).w ⟨1312 + d.val, by omega⟩ := by
  pointwise [res_main_v22]
  simp only [in_at]

theorem ki22_at (b : Fin 128) (s : Fin 4) (d : Fin 64) :
    (res_main_v24 V0 : FVec Ideal S128x4x64 .f32) (ix3 b s d) = mv (row V0 b s) (dat V0).w ⟨1952 + d.val, by omega⟩ := by
  pointwise [res_main_v24]
  simp only [in_at]

theorem ki_at (b : Fin 128) (s : Fin 4) (d : Fin 64) :
    (res_main_v193 V0 : FVec Ideal S128x4x64 .f32) (ix3 b s d) = ki (row V0 b s) (dat V0).w (cosT (pos s)) (sinT (pos s)) d := by
  pointwise [res_main_v193, res_main_v159, res_main_v174, res_main_v175]
  simp only [ki22_at, tab170_at, tab171_at]
  unfold ki rot
  refine dite_congr rfl (fun _ => rfl) fun hd => ?_
  exact congrArg (mv (row V0 b s) (dat V0).w) (Fin.ext (by dsimp only; omega))

theorem q_at (b : Fin 128) (s : Fin 4) (h : Fin 8) (d : Fin 96) :
    (res_main_v40 V0 : FVec Ideal S128x4x8x96 .f32) (ix4 b s h d) = q (row V0 b s) (dat V0).w (dat V0).gq (dat V0).uq h d := by
  pointwise [res_main_v40, res_main_v17]
  simp only [in_at]
  rfl

theorem q57_at (b : Fin 128) (s : Fin 4) (h : Fin 8) (d : Fin 16) :
    (res_main_v59 V0 : FVec Ideal S128x4x8x16 .f32) (ix4 b s h d) = q (row V0 b s) (dat V0).w (dat V0).gq (dat V0).uq h ⟨64 + d.val, by omega⟩ := by
  pointwise [res_main_v59, res_main_v44]
  simp only [q_at]

theorem q58_at (b : Fin 128) (s : Fin 4) (h : Fin 8) (d : Fin 16) :
    (res_main_v60 V0 : FVec Ideal S128x4x8x16 .f32) (ix4 b s h d) = q (row V0 b s) (dat V0).w (dat V0).gq (dat V0).uq h ⟨64 + (16 + d.val), by omega⟩ := by
  pointwise [res_main_v60, res_main_v44]
  simp only [q_at]

theorem qi121_at (b : Fin 128) (s : Fin 4) (h : Fin 8) (d : Fin 64) :
    (res_main_v123 V0 : FVec Ideal S128x4x8x64 .f32) (ix4 b s h d) = mv (row V0 b s) (dat V0).w ⟨1440 + (h.val * 64 + d.val), by omega⟩ := by
  pointwise [res_main_v123]
  simp only [in_at]

theorem qi137_at (b : Fin 128) (s : Fin 4) (h : Fin 8) (d : Fin 16) :
    (res_main_v139 V0 : FVec Ideal S128x4x8x16 .f32) (ix4 b s h d) = mv (row V0 b s) (dat V0).w ⟨1440 + (h.val * 64 + d.val), by omega⟩ := by
  pointwise [res_main_v139, res_main_v124]
  simp only [qi121_at]

theorem qi138_at (b : Fin 128) (s : Fin 4) (h : Fin 8) (d : Fin 16) :
    (res_main_v140 V0 : FVec Ideal S128x4x8x16 .f32) (ix4 b s h d) = mv (row V0 b s) (dat V0).w ⟨1440 + (h.val * 64 + (16 + d.val)), by omega⟩ := by
  pointwise [res_main_v140, res_main_v124]
  simp only [qi121_at]

/-! ## The results -/

theorem res0_at (n : Fin 512) (k : Fin 256) :
    (val5 V0 (Proc.devRef .tc main_v200) : FVec Ideal S512x256 .f32) (ix2 n k) =
      ckv (row V0 ⟨n.val / 4, by omega⟩ ⟨n.val % 4, by omega⟩) (dat V0).w (dat V0).gkv k := by
  rw [val5_main_v200]
  pointwise []
  exact ckv_at V0 _ _ k

theorem res1_at (d : Fin 32) (n : Fin 512) :
    (val5 V0 (Proc.devRef .tc main_v202) : FVec Ideal S1x32x512 .f32) (ix3 0 d n) =
      kr (row V0 ⟨n.val / 4, by omega⟩ ⟨n.val % 4, by omega⟩) (dat V0).w (cosT (pos ⟨n.val % 4, by omega⟩)) (sinT (pos ⟨n.val % 4, by omega⟩)) d := by
  rw [val5_main_v202]
  pointwise []
  exact kr_at V0 _ _ d

theorem res2_at (d : Fin 128) (n : Fin 512) :
    (val5 V0 (Proc.devRef .tc main_v204) : FVec Ideal S1x128x512 .f32) (ix3 0 d n) =
      mv (row V0 ⟨n.val / 4, by omega⟩ ⟨n.val % 4, by omega⟩) (dat V0).w ⟨1184 + d.val, by omega⟩ := by
  rw [val5_main_v204]
  pointwise []
  exact kb_at V0 _ _ d

theorem res3_at (d : Fin 128) (n : Fin 512) :
    (val5 V0 (Proc.devRef .tc main_v206) : FVec Ideal S1x128x512 .f32) (ix3 0 d n) =
      mv (row V0 ⟨n.val / 4, by omega⟩ ⟨n.val % 4, by omega⟩) (dat V0).w ⟨1312 + d.val, by omega⟩ := by
  rw [val5_main_v206]
  pointwise []
  exact vb_at V0 _ _ d

theorem res4_at (d : Fin 64) (n : Fin 512) :
    (val5 V0 (Proc.devRef .tc main_v208) : FVec Ideal S1x64x512 .f32) (ix3 0 d n) =
      ki (row V0 ⟨n.val / 4, by omega⟩ ⟨n.val % 4, by omega⟩) (dat V0).w (cosT (pos ⟨n.val % 4, by omega⟩)) (sinT (pos ⟨n.val % 4, by omega⟩)) d := by
  rw [val5_main_v208]
  pointwise []
  exact ki_at V0 _ _ d

theorem res5_at (n : Fin 512) (j : Fin 384) :
    (val5 V0 (Proc.devRef .tc main_v210) : FVec Ideal S512x384 .bf16) (ix2 n j) =
      kcat (row V0 ⟨n.val / 4, by omega⟩ ⟨n.val % 4, by omega⟩) (dat V0).w (dat V0).gkv (cosT (pos ⟨n.val % 4, by omega⟩)) (sinT (pos ⟨n.val % 4, by omega⟩)) j := by
  rw [val5_main_v210]
  pointwise []
  simp only [ckv_at, kr_at]
  rfl

theorem res6_at (n : Fin 512) (d : Fin 128) :
    (val5 V0 (Proc.devRef .tc main_v212) : FVec Ideal S512x128 .bf16) (ix2 n d) =
      mv (row V0 ⟨n.val / 4, by omega⟩ ⟨n.val % 4, by omega⟩) (dat V0).w ⟨1184 + d.val, by omega⟩ := by
  rw [val5_main_v212]
  pointwise []
  exact kb_at V0 _ _ d

theorem res7_at (n : Fin 512) (d : Fin 128) :
    (val5 V0 (Proc.devRef .tc main_v214) : FVec Ideal S512x128 .bf16) (ix2 n d) =
      mv (row V0 ⟨n.val / 4, by omega⟩ ⟨n.val % 4, by omega⟩) (dat V0).w ⟨1312 + d.val, by omega⟩ := by
  rw [val5_main_v214]
  pointwise []
  exact vb_at V0 _ _ d

theorem res8_at (n : Fin 512) (d : Fin 64) :
    (val5 V0 (Proc.devRef .tc main_v216) : FVec Ideal S512x64 .bf16) (ix2 n d) =
      ki (row V0 ⟨n.val / 4, by omega⟩ ⟨n.val % 4, by omega⟩) (dat V0).w (cosT (pos ⟨n.val % 4, by omega⟩)) (sinT (pos ⟨n.val % 4, by omega⟩)) d := by
  rw [val5_main_v216]
  pointwise []
  exact ki_at V0 _ _ d

theorem res9_at (h : Fin 8) (n : Fin 512) (j : Fin 384) :
    (val5 V0 (Proc.devRef .tc main_v219) : FVec Ideal S8x512x384 .bf16) (ix3 h n j) =
      qcat (row V0 ⟨n.val / 4, by omega⟩ ⟨n.val % 4, by omega⟩) (dat V0).w (dat V0).gq (dat V0).uq (dat V0).uk (cosT (pos ⟨n.val % 4, by omega⟩)) (sinT (pos ⟨n.val % 4, by omega⟩)) h j := by
  rw [val5_main_v219]
  pointwise []
  simp only [q_at, q57_at, q58_at, tab55_at, tab56_at]
  rfl

theorem res10_at (h : Fin 8) (n : Fin 512) (d : Fin 64) :
    (val5 V0 (Proc.devRef .tc main_v222) : FVec Ideal S8x512x64 .bf16) (ix3 h n d) =
      mv (row V0 ⟨n.val / 4, by omega⟩ ⟨n.val % 4, by omega⟩) (dat V0).w ⟨672 + (h.val * 64 + d.val), by omega⟩ := by
  rw [val5_main_v222]
  pointwise []
  simp only [in_at]

theorem res11_at (h : Fin 8) (n : Fin 512) (d : Fin 64) :
    (val5 V0 (Proc.devRef .tc main_v225) : FVec Ideal S8x512x64 .bf16) (ix3 h n d) =
      qi (row V0 ⟨n.val / 4, by omega⟩ ⟨n.val % 4, by omega⟩) (dat V0).w (cosT (pos ⟨n.val % 4, by omega⟩)) (sinT (pos ⟨n.val % 4, by omega⟩)) h d := by
  rw [val5_main_v225]
  pointwise []
  simp only [qi121_at, qi137_at, qi138_at, tab135_at, tab136_at]
  unfold qi rot
  refine dite_congr rfl (fun _ => rfl) fun hd => ?_
  exact congrArg (mv (row V0 ⟨n.val / 4, by omega⟩ ⟨n.val % 4, by omega⟩) (dat V0).w) (Fin.ext (by dsimp only; omega))

theorem res12_at (n : Fin 512) (h : Fin 8) :
    (val5 V0 (Proc.devRef .tc main_v226) : FVec Ideal S512x8 .f32) (ix2 n h) =
      mv (row V0 ⟨n.val / 4, by omega⟩ ⟨n.val % 4, by omega⟩) (dat V0).w ⟨2016 + h.val, by omega⟩ * Ideal.ofBits .f32 0x3D3504F3#32 := by
  rw [val5_main_v226]
  pointwise []
  simp only [in_at]

end Cert.Reference3Ideal.Proj

end
-- ==== Proof.ProjSame3.lean ====
/- The sample's projections are the reference's. -/
module

public import proofs.«01_k».proof.Proof.ProjFin3
public import proofs.«01_k».proof.Proof.ProjRef3

@[expose] public section

set_option maxRecDepth 16384
set_option maxHeartbeats 2000000

noncomputable section

namespace Cert.Kernel3Ideal.Proj

open Idealize.ShloMosaic Idealize.ShloMosaic.TcCoe Idealize.SL.Sem
open Cert.Kernel3Ideal Cert.Kernel3Ideal.Gen Cert.Proj

variable (m : (ℓ : Loc nD τ sig) → Buf (Elt Ideal) ℓ) (m' : (ℓ : Loc Cert.Reference3Ideal.nD Cert.Reference3Ideal.τ Cert.Reference3Ideal.sig) → Buf (Elt Ideal) ℓ) (c : Dev nD)

/-- The two programs start from the same arguments. -/
structure Agree : Prop where

  h0 : m' ((c.tc : Thread Cert.Reference3Ideal.nD Cert.Reference3Ideal.τ).loc Cert.Reference3Ideal.main_arg0) = aX m c
  h1 : m' ((c.tc : Thread Cert.Reference3Ideal.nD Cert.Reference3Ideal.τ).loc Cert.Reference3Ideal.main_arg1) = aG m c
  h2 : m' ((c.tc : Thread Cert.Reference3Ideal.nD Cert.Reference3Ideal.τ).loc Cert.Reference3Ideal.main_arg2) = aW m c
  h3 : m' ((c.tc : Thread Cert.Reference3Ideal.nD Cert.Reference3Ideal.τ).loc Cert.Reference3Ideal.main_arg3) = aGq m c
  h4 : m' ((c.tc : Thread Cert.Reference3Ideal.nD Cert.Reference3Ideal.τ).loc Cert.Reference3Ideal.main_arg4) = aUq m c
  h5 : m' ((c.tc : Thread Cert.Reference3Ideal.nD Cert.Reference3Ideal.τ).loc Cert.Reference3Ideal.main_arg5) = aGkv m c
  h6 : m' ((c.tc : Thread Cert.Reference3Ideal.nD Cert.Reference3Ideal.τ).loc Cert.Reference3Ideal.main_arg6) = aUk m c

variable (ha : Agree m m' c)
include ha

theorem dat_eq : Cert.Reference3Ideal.Proj.dat (StableHlo.launchContents m' c) = dat m c := by
  have e1 : (Cert.Reference3Ideal.Proj.dat (StableHlo.launchContents m' c)).g = (dat m c).g := funext fun d => congrFun ha.h1 (ix1 d)
  have e2 : (Cert.Reference3Ideal.Proj.dat (StableHlo.launchContents m' c)).w = (dat m c).w := funext fun d => funext fun k => congrFun ha.h2 (ix2 d k)
  have e3 : (Cert.Reference3Ideal.Proj.dat (StableHlo.launchContents m' c)).gq = (dat m c).gq := funext fun d => congrFun ha.h3 (ix1 d)
  have e4 : (Cert.Reference3Ideal.Proj.dat (StableHlo.launchContents m' c)).uq = (dat m c).uq := funext fun d => funext fun k => congrFun ha.h4 (ix2 d k)
  have e5 : (Cert.Reference3Ideal.Proj.dat (StableHlo.launchContents m' c)).gkv = (dat m c).gkv := funext fun d => congrFun ha.h5 (ix1 d)
  have e6 : (Cert.Reference3Ideal.Proj.dat (StableHlo.launchContents m' c)).uk = (dat m c).uk := funext fun k => funext fun p => funext fun n => congrFun ha.h6 (ix3 k p n)
  exact (Data.mk.injEq _ _ _ _ _ _ _ _ _ _ _ _).mpr ⟨e1, e2, e3, e4, e5, e6⟩

theorem row_eq (b : Fin 128) (s : Fin 4) : Cert.Reference3Ideal.Proj.row (StableHlo.launchContents m' c) b s = row m c b s :=
  congrArg₂ xrow (congrArg Data.g (dat_eq m m' c ha)) (funext fun d => congrFun ha.h0 (ix3 b s d))

theorem s11 (n : Fin 512) (k : Fin 256) : f11 m c n k = (Cert.Reference3Ideal.Value.val5 (StableHlo.launchContents m' c) (Proc.devRef .tc Cert.Reference3Ideal.main_v200) : FVec Ideal Cert.Reference3Ideal.S512x256 .f32) (ix2 n k) := by
  rw [Cert.Reference3Ideal.Proj.res0_at, dat_eq m m' c ha, row_eq m m' c ha]
  rfl

theorem same11 : (dats m 0 c).arrAt 11 cfg0.N = Cert.Reference3Ideal.Value.val5 (StableHlo.launchContents m' c) (Proc.devRef .tc Cert.Reference3Ideal.main_v200) := by
  rw [final11]
  funext z
  have ez : z = ix2 (z 0) (z 1) := by funext a; fin_cases a <;> rfl
  refine Eq.trans ?_ ((s11 m m' c ha (z 0) (z 1)).trans (congrArg (Cert.Reference3Ideal.Value.val5 (StableHlo.launchContents m' c) (Proc.devRef .tc Cert.Reference3Ideal.main_v200) : FVec Ideal Cert.Reference3Ideal.S512x256 .f32) ez.symm))
  rfl

theorem s12 (d : Fin 32) (n : Fin 512) : f12 m c 0 d n = (Cert.Reference3Ideal.Value.val5 (StableHlo.launchContents m' c) (Proc.devRef .tc Cert.Reference3Ideal.main_v202) : FVec Ideal Cert.Reference3Ideal.S1x32x512 .f32) (ix3 0 d n) := by
  rw [Cert.Reference3Ideal.Proj.res1_at, dat_eq m m' c ha, row_eq m m' c ha]
  rfl

theorem same12 : (dats m 0 c).arrAt 12 cfg0.N = Cert.Reference3Ideal.Value.val5 (StableHlo.launchContents m' c) (Proc.devRef .tc Cert.Reference3Ideal.main_v202) := by
  rw [final12]
  funext z
  have z0 : (z 0).val = 0 := by have h : (z 0).val < 1 := (z 0).isLt; omega
  have ez : z = ix3 0 (z 1) (z 2) := by funext a; fin_cases a; exacts [Fin.ext z0, rfl, rfl]
  refine Eq.trans ?_ ((s12 m m' c ha (z 1) (z 2)).trans (congrArg (Cert.Reference3Ideal.Value.val5 (StableHlo.launchContents m' c) (Proc.devRef .tc Cert.Reference3Ideal.main_v202) : FVec Ideal Cert.Reference3Ideal.S1x32x512 .f32) ez.symm))
  have hz : r12 m c z = r12 m c (ix3 0 (z 1) (z 2)) := congrArg _ ez
  exact hz

theorem s13 (d : Fin 128) (n : Fin 512) : f13 m c 0 d n = (Cert.Reference3Ideal.Value.val5 (StableHlo.launchContents m' c) (Proc.devRef .tc Cert.Reference3Ideal.main_v204) : FVec Ideal Cert.Reference3Ideal.S1x128x512 .f32) (ix3 0 d n) := by
  rw [Cert.Reference3Ideal.Proj.res2_at, dat_eq m m' c ha, row_eq m m' c ha]
  rfl

theorem same13 : (dats m 0 c).arrAt 13 cfg0.N = Cert.Reference3Ideal.Value.val5 (StableHlo.launchContents m' c) (Proc.devRef .tc Cert.Reference3Ideal.main_v204) := by
  rw [final13]
  funext z
  have z0 : (z 0).val = 0 := by have h : (z 0).val < 1 := (z 0).isLt; omega
  have ez : z = ix3 0 (z 1) (z 2) := by funext a; fin_cases a; exacts [Fin.ext z0, rfl, rfl]
  refine Eq.trans ?_ ((s13 m m' c ha (z 1) (z 2)).trans (congrArg (Cert.Reference3Ideal.Value.val5 (StableHlo.launchContents m' c) (Proc.devRef .tc Cert.Reference3Ideal.main_v204) : FVec Ideal Cert.Reference3Ideal.S1x128x512 .f32) ez.symm))
  have hz : r13 m c z = r13 m c (ix3 0 (z 1) (z 2)) := congrArg _ ez
  exact hz

theorem s14 (d : Fin 128) (n : Fin 512) : f14 m c 0 d n = (Cert.Reference3Ideal.Value.val5 (StableHlo.launchContents m' c) (Proc.devRef .tc Cert.Reference3Ideal.main_v206) : FVec Ideal Cert.Reference3Ideal.S1x128x512 .f32) (ix3 0 d n) := by
  rw [Cert.Reference3Ideal.Proj.res3_at, dat_eq m m' c ha, row_eq m m' c ha]
  rfl

theorem same14 : (dats m 0 c).arrAt 14 cfg0.N = Cert.Reference3Ideal.Value.val5 (StableHlo.launchContents m' c) (Proc.devRef .tc Cert.Reference3Ideal.main_v206) := by
  rw [final14]
  funext z
  have z0 : (z 0).val = 0 := by have h : (z 0).val < 1 := (z 0).isLt; omega
  have ez : z = ix3 0 (z 1) (z 2) := by funext a; fin_cases a; exacts [Fin.ext z0, rfl, rfl]
  refine Eq.trans ?_ ((s14 m m' c ha (z 1) (z 2)).trans (congrArg (Cert.Reference3Ideal.Value.val5 (StableHlo.launchContents m' c) (Proc.devRef .tc Cert.Reference3Ideal.main_v206) : FVec Ideal Cert.Reference3Ideal.S1x128x512 .f32) ez.symm))
  have hz : r14 m c z = r14 m c (ix3 0 (z 1) (z 2)) := congrArg _ ez
  exact hz

theorem s15 (d : Fin 64) (n : Fin 512) : f15 m c 0 d n = (Cert.Reference3Ideal.Value.val5 (StableHlo.launchContents m' c) (Proc.devRef .tc Cert.Reference3Ideal.main_v208) : FVec Ideal Cert.Reference3Ideal.S1x64x512 .f32) (ix3 0 d n) := by
  rw [Cert.Reference3Ideal.Proj.res4_at, dat_eq m m' c ha, row_eq m m' c ha]
  rfl

theorem same15 : (dats m 0 c).arrAt 15 cfg0.N = Cert.Reference3Ideal.Value.val5 (StableHlo.launchContents m' c) (Proc.devRef .tc Cert.Reference3Ideal.main_v208) := by
  rw [final15]
  funext z
  have z0 : (z 0).val = 0 := by have h : (z 0).val < 1 := (z 0).isLt; omega
  have ez : z = ix3 0 (z 1) (z 2) := by funext a; fin_cases a; exacts [Fin.ext z0, rfl, rfl]
  refine Eq.trans ?_ ((s15 m m' c ha (z 1) (z 2)).trans (congrArg (Cert.Reference3Ideal.Value.val5 (StableHlo.launchContents m' c) (Proc.devRef .tc Cert.Reference3Ideal.main_v208) : FVec Ideal Cert.Reference3Ideal.S1x64x512 .f32) ez.symm))
  have hz : r15 m c z = r15 m c (ix3 0 (z 1) (z 2)) := congrArg _ ez
  exact hz

theorem s16 (n : Fin 512) (j : Fin 384) : f16 m c n j = (Cert.Reference3Ideal.Value.val5 (StableHlo.launchContents m' c) (Proc.devRef .tc Cert.Reference3Ideal.main_v210) : FVec Ideal Cert.Reference3Ideal.S512x384 .bf16) (ix2 n j) := by
  rw [Cert.Reference3Ideal.Proj.res5_at, dat_eq m m' c ha, row_eq m m' c ha]
  rfl

theorem same16 : (dats m 0 c).arrAt 16 cfg0.N = Cert.Reference3Ideal.Value.val5 (StableHlo.launchContents m' c) (Proc.devRef .tc Cert.Reference3Ideal.main_v210) := by
  rw [final16]
  funext z
  have ez : z = ix2 (z 0) (z 1) := by funext a; fin_cases a <;> rfl
  refine Eq.trans ?_ ((s16 m m' c ha (z 0) (z 1)).trans (congrArg (Cert.Reference3Ideal.Value.val5 (StableHlo.launchContents m' c) (Proc.devRef .tc Cert.Reference3Ideal.main_v210) : FVec Ideal Cert.Reference3Ideal.S512x384 .bf16) ez.symm))
  rfl

theorem s17 (n : Fin 512) (d : Fin 128) : f17 m c n d = (Cert.Reference3Ideal.Value.val5 (StableHlo.launchContents m' c) (Proc.devRef .tc Cert.Reference3Ideal.main_v212) : FVec Ideal Cert.Reference3Ideal.S512x128 .bf16) (ix2 n d) := by
  rw [Cert.Reference3Ideal.Proj.res6_at, dat_eq m m' c ha, row_eq m m' c ha]
  rfl

theorem same17 : (dats m 0 c).arrAt 17 cfg0.N = Cert.Reference3Ideal.Value.val5 (StableHlo.launchContents m' c) (Proc.devRef .tc Cert.Reference3Ideal.main_v212) := by
  rw [final17]
  funext z
  have ez : z = ix2 (z 0) (z 1) := by funext a; fin_cases a <;> rfl
  refine Eq.trans ?_ ((s17 m m' c ha (z 0) (z 1)).trans (congrArg (Cert.Reference3Ideal.Value.val5 (StableHlo.launchContents m' c) (Proc.devRef .tc Cert.Reference3Ideal.main_v212) : FVec Ideal Cert.Reference3Ideal.S512x128 .bf16) ez.symm))
  rfl

theorem s18 (n : Fin 512) (d : Fin 128) : f18 m c n d = (Cert.Reference3Ideal.Value.val5 (StableHlo.launchContents m' c) (Proc.devRef .tc Cert.Reference3Ideal.main_v214) : FVec Ideal Cert.Reference3Ideal.S512x128 .bf16) (ix2 n d) := by
  rw [Cert.Reference3Ideal.Proj.res7_at, dat_eq m m' c ha, row_eq m m' c ha]
  rfl

theorem same18 : (dats m 0 c).arrAt 18 cfg0.N = Cert.Reference3Ideal.Value.val5 (StableHlo.launchContents m' c) (Proc.devRef .tc Cert.Reference3Ideal.main_v214) := by
  rw [final18]
  funext z
  have ez : z = ix2 (z 0) (z 1) := by funext a; fin_cases a <;> rfl
  refine Eq.trans ?_ ((s18 m m' c ha (z 0) (z 1)).trans (congrArg (Cert.Reference3Ideal.Value.val5 (StableHlo.launchContents m' c) (Proc.devRef .tc Cert.Reference3Ideal.main_v214) : FVec Ideal Cert.Reference3Ideal.S512x128 .bf16) ez.symm))
  rfl

theorem s19 (n : Fin 512) (d : Fin 64) : f19 m c n d = (Cert.Reference3Ideal.Value.val5 (StableHlo.launchContents m' c) (Proc.devRef .tc Cert.Reference3Ideal.main_v216) : FVec Ideal Cert.Reference3Ideal.S512x64 .bf16) (ix2 n d) := by
  rw [Cert.Reference3Ideal.Proj.res8_at, dat_eq m m' c ha, row_eq m m' c ha]
  rfl

theorem same19 : (dats m 0 c).arrAt 19 cfg0.N = Cert.Reference3Ideal.Value.val5 (StableHlo.launchContents m' c) (Proc.devRef .tc Cert.Reference3Ideal.main_v216) := by
  rw [final19]
  funext z
  have ez : z = ix2 (z 0) (z 1) := by funext a; fin_cases a <;> rfl
  refine Eq.trans ?_ ((s19 m m' c ha (z 0) (z 1)).trans (congrArg (Cert.Reference3Ideal.Value.val5 (StableHlo.launchContents m' c) (Proc.devRef .tc Cert.Reference3Ideal.main_v216) : FVec Ideal Cert.Reference3Ideal.S512x64 .bf16) ez.symm))
  rfl

theorem s20 (h : Fin 8) (n : Fin 512) (j : Fin 384) : f20 m c h n j = (Cert.Reference3Ideal.Value.val5 (StableHlo.launchContents m' c) (Proc.devRef .tc Cert.Reference3Ideal.main_v219) : FVec Ideal Cert.Reference3Ideal.S8x512x384 .bf16) (ix3 h n j) := by
  rw [Cert.Reference3Ideal.Proj.res9_at, dat_eq m m' c ha, row_eq m m' c ha]
  rfl

theorem same20 : (dats m 0 c).arrAt 20 cfg0.N = Cert.Reference3Ideal.Value.val5 (StableHlo.launchContents m' c) (Proc.devRef .tc Cert.Reference3Ideal.main_v219) := by
  rw [final20]
  funext z
  have ez : z = ix3 (z 0) (z 1) (z 2) := by funext a; fin_cases a <;> rfl
  refine Eq.trans ?_ ((s20 m m' c ha (z 0) (z 1) (z 2)).trans (congrArg (Cert.Reference3Ideal.Value.val5 (StableHlo.launchContents m' c) (Proc.devRef .tc Cert.Reference3Ideal.main_v219) : FVec Ideal Cert.Reference3Ideal.S8x512x384 .bf16) ez.symm))
  rfl

theorem s21 (h : Fin 8) (n : Fin 512) (d : Fin 64) : f21 m c h n d = (Cert.Reference3Ideal.Value.val5 (StableHlo.launchContents m' c) (Proc.devRef .tc Cert.Reference3Ideal.main_v222) : FVec Ideal Cert.Reference3Ideal.S8x512x64 .bf16) (ix3 h n d) := by
  rw [Cert.Reference3Ideal.Proj.res10_at, dat_eq m m' c ha, row_eq m m' c ha]
  rfl

theorem same21 : (dats m 0 c).arrAt 21 cfg0.N = Cert.Reference3Ideal.Value.val5 (StableHlo.launchContents m' c) (Proc.devRef .tc Cert.Reference3Ideal.main_v222) := by
  rw [final21]
  funext z
  have ez : z = ix3 (z 0) (z 1) (z 2) := by funext a; fin_cases a <;> rfl
  refine Eq.trans ?_ ((s21 m m' c ha (z 0) (z 1) (z 2)).trans (congrArg (Cert.Reference3Ideal.Value.val5 (StableHlo.launchContents m' c) (Proc.devRef .tc Cert.Reference3Ideal.main_v222) : FVec Ideal Cert.Reference3Ideal.S8x512x64 .bf16) ez.symm))
  rfl

theorem s22 (h : Fin 8) (n : Fin 512) (d : Fin 64) : f22 m c h n d = (Cert.Reference3Ideal.Value.val5 (StableHlo.launchContents m' c) (Proc.devRef .tc Cert.Reference3Ideal.main_v225) : FVec Ideal Cert.Reference3Ideal.S8x512x64 .bf16) (ix3 h n d) := by
  rw [Cert.Reference3Ideal.Proj.res11_at, dat_eq m m' c ha, row_eq m m' c ha]
  rfl

theorem same22 : (dats m 0 c).arrAt 22 cfg0.N = Cert.Reference3Ideal.Value.val5 (StableHlo.launchContents m' c) (Proc.devRef .tc Cert.Reference3Ideal.main_v225) := by
  rw [final22]
  funext z
  have ez : z = ix3 (z 0) (z 1) (z 2) := by funext a; fin_cases a <;> rfl
  refine Eq.trans ?_ ((s22 m m' c ha (z 0) (z 1) (z 2)).trans (congrArg (Cert.Reference3Ideal.Value.val5 (StableHlo.launchContents m' c) (Proc.devRef .tc Cert.Reference3Ideal.main_v225) : FVec Ideal Cert.Reference3Ideal.S8x512x64 .bf16) ez.symm))
  rfl

theorem s23 (n : Fin 512) (h : Fin 8) : f23 m c n h = (Cert.Reference3Ideal.Value.val5 (StableHlo.launchContents m' c) (Proc.devRef .tc Cert.Reference3Ideal.main_v226) : FVec Ideal Cert.Reference3Ideal.S512x8 .f32) (ix2 n h) := by
  rw [Cert.Reference3Ideal.Proj.res12_at, dat_eq m m' c ha, row_eq m m' c ha]
  rfl

theorem same23 : (dats m 0 c).arrAt 23 cfg0.N = Cert.Reference3Ideal.Value.val5 (StableHlo.launchContents m' c) (Proc.devRef .tc Cert.Reference3Ideal.main_v226) := by
  rw [final23]
  funext z
  have ez : z = ix2 (z 0) (z 1) := by funext a; fin_cases a <;> rfl
  refine Eq.trans ?_ ((s23 m m' c ha (z 0) (z 1)).trans (congrArg (Cert.Reference3Ideal.Value.val5 (StableHlo.launchContents m' c) (Proc.devRef .tc Cert.Reference3Ideal.main_v226) : FVec Ideal Cert.Reference3Ideal.S512x8 .f32) ez.symm))
  rfl

end Cert.Kernel3Ideal.Proj

end
-- ==== Proof.lean ====
/- The attention of the prompt and the input projections of prompt and sample: the kernels' frames, their readings over the
   extended reals, and the equations with the references, put together from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Same
public import proofs.«01_k».proof.Proof.ProjSame2
public import proofs.«01_k».proof.Proof.ProjSame3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Idealize.ShloMosaic.TcCoe

/-- The reference terminates, leaves its arguments as they were, and has no semaphore to leave behind. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩) (Cert.ReferenceIdeal.Value.run m ρ)

/-- Kernel and reference end with the same array, where the arguments are finite. -/
theorem attention : Cert.algebraic_KernelIdeal_ReferenceIdeal_pre_finite (hKernelIdeal := Cert.KernelIdeal.Gen.facts)
    (hReferenceIdeal := Cert.ReferenceIdeal.Gen.facts) (hPre_finite := Cert.KernelIdeal.Flash.finite_facts) := by
  intro m g m' g' hf ha
  have e (c : Dev Cert.KernelIdeal.nD) : (Cert.KernelIdeal.Gen.dats m 0 c).arrAt 3 Cert.KernelIdeal.cfg0.N = Cert.ReferenceIdeal.Value.res_out0 m' c := by
    obtain ⟨f0, f1, f2, f3⟩ := hf c
    obtain ⟨h0, h1, h2, h3, h4⟩ := ha c
    exact Cert.KernelIdeal.Flash.same m m' c (Cert.KernelIdeal.Flash.real_of_ones _ _ (fun _ => rfl) f0)
      (Cert.KernelIdeal.Flash.real_of_ones _ _ (fun _ => rfl) f1) (Cert.KernelIdeal.Flash.real_of_ones _ _ (fun _ => rfl) f2)
      (Cert.KernelIdeal.Flash.real_of_ones _ _ (fun _ => rfl) f3) h0 h1 h2 h3 h4
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ?_) (Cert.ReferenceIdeal.Value.run m' g')
  exact ⟨(h c).1.trans (e c).symm, (h c).2⟩

/-- The input projections of the prompt: kernel and reference end with the same thirteen arrays. -/
theorem projections2 : Cert.algebraic_Kernel2Ideal_Reference2Ideal (hKernel2Ideal := Cert.Kernel2Ideal.Gen.facts)
    (hReference2Ideal := Cert.Reference2Ideal.Gen.facts) := by
  intro m g m' g' _ ha
  have hA (c : Dev Cert.Kernel2Ideal.nD) : Cert.Kernel2Ideal.Proj.Agree m m' c := by
    obtain ⟨h0, h1, h2, h3, h4, h5, h6⟩ := ha c
    exact ⟨h0, h1, h2, h3, h4, h5, h6⟩
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N, fun c => (Cert.Kernel2Ideal.Gen.dats m 0 c).arrAt 22 Cert.Kernel2Ideal.cfg0.N, fun c => (Cert.Kernel2Ideal.Gen.dats m 0 c).arrAt 23 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨r0, r1, r2, r3, r4, r5, r6, r7, r8, r9, r10, r11, r12, hargs⟩ := h c
  exact ⟨r0.trans ((Cert.Reference2Ideal.Value.val5_main_v198 _).symm.trans (Cert.Kernel2Ideal.Proj.same11 m m' c (hA c)).symm), r1.trans ((Cert.Reference2Ideal.Value.val5_main_v199 _).symm.trans (Cert.Kernel2Ideal.Proj.same12 m m' c (hA c)).symm), r2.trans ((Cert.Reference2Ideal.Value.val5_main_v200 _).symm.trans (Cert.Kernel2Ideal.Proj.same13 m m' c (hA c)).symm), r3.trans ((Cert.Reference2Ideal.Value.val5_main_v201 _).symm.trans (Cert.Kernel2Ideal.Proj.same14 m m' c (hA c)).symm), r4.trans ((Cert.Reference2Ideal.Value.val5_main_v202 _).symm.trans (Cert.Kernel2Ideal.Proj.same15 m m' c (hA c)).symm), r5.trans ((Cert.Reference2Ideal.Value.val5_main_v204 _).symm.trans (Cert.Kernel2Ideal.Proj.same16 m m' c (hA c)).symm), r6.trans ((Cert.Reference2Ideal.Value.val5_main_v206 _).symm.trans (Cert.Kernel2Ideal.Proj.same17 m m' c (hA c)).symm), r7.trans ((Cert.Reference2Ideal.Value.val5_main_v208 _).symm.trans (Cert.Kernel2Ideal.Proj.same18 m m' c (hA c)).symm), r8.trans ((Cert.Reference2Ideal.Value.val5_main_v210 _).symm.trans (Cert.Kernel2Ideal.Proj.same19 m m' c (hA c)).symm), r9.trans ((Cert.Reference2Ideal.Value.val5_main_v213 _).symm.trans (Cert.Kernel2Ideal.Proj.same20 m m' c (hA c)).symm), r10.trans ((Cert.Reference2Ideal.Value.val5_main_v216 _).symm.trans (Cert.Kernel2Ideal.Proj.same21 m m' c (hA c)).symm), r11.trans ((Cert.Reference2Ideal.Value.val5_main_v219 _).symm.trans (Cert.Kernel2Ideal.Proj.same22 m m' c (hA c)).symm), r12.trans ((Cert.Reference2Ideal.Value.val5_main_v220 _).symm.trans (Cert.Kernel2Ideal.Proj.same23 m m' c (hA c)).symm), hargs⟩

/-- The input projections of the sample: kernel and reference end with the same thirteen arrays. -/
theorem projections3 : Cert.algebraic_Kernel3Ideal_Reference3Ideal (hKernel3Ideal := Cert.Kernel3Ideal.Gen.facts)
    (hReference3Ideal := Cert.Reference3Ideal.Gen.facts) := by
  intro m g m' g' _ ha
  have hA (c : Dev Cert.Kernel3Ideal.nD) : Cert.Kernel3Ideal.Proj.Agree m m' c := by
    obtain ⟨h0, h1, h2, h3, h4, h5, h6⟩ := ha c
    exact ⟨h0, h1, h2, h3, h4, h5, h6⟩
  refine ⟨fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, fun c => (Cert.Kernel3Ideal.Gen.dats m 0 c).arrAt 20 Cert.Kernel3Ideal.cfg0.N, fun c => (Cert.Kernel3Ideal.Gen.dats m 0 c).arrAt 21 Cert.Kernel3Ideal.cfg0.N, fun c => (Cert.Kernel3Ideal.Gen.dats m 0 c).arrAt 22 Cert.Kernel3Ideal.cfg0.N, fun c => (Cert.Kernel3Ideal.Gen.dats m 0 c).arrAt 23 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨r0, r1, r2, r3, r4, r5, r6, r7, r8, r9, r10, r11, r12, hargs⟩ := h c
  exact ⟨r0.trans ((Cert.Reference3Ideal.Value.val5_main_v200 _).symm.trans (Cert.Kernel3Ideal.Proj.same11 m m' c (hA c)).symm), r1.trans ((Cert.Reference3Ideal.Value.val5_main_v202 _).symm.trans (Cert.Kernel3Ideal.Proj.same12 m m' c (hA c)).symm), r2.trans ((Cert.Reference3Ideal.Value.val5_main_v204 _).symm.trans (Cert.Kernel3Ideal.Proj.same13 m m' c (hA c)).symm), r3.trans ((Cert.Reference3Ideal.Value.val5_main_v206 _).symm.trans (Cert.Kernel3Ideal.Proj.same14 m m' c (hA c)).symm), r4.trans ((Cert.Reference3Ideal.Value.val5_main_v208 _).symm.trans (Cert.Kernel3Ideal.Proj.same15 m m' c (hA c)).symm), r5.trans ((Cert.Reference3Ideal.Value.val5_main_v210 _).symm.trans (Cert.Kernel3Ideal.Proj.same16 m m' c (hA c)).symm), r6.trans ((Cert.Reference3Ideal.Value.val5_main_v212 _).symm.trans (Cert.Kernel3Ideal.Proj.same17 m m' c (hA c)).symm), r7.trans ((Cert.Reference3Ideal.Value.val5_main_v214 _).symm.trans (Cert.Kernel3Ideal.Proj.same18 m m' c (hA c)).symm), r8.trans ((Cert.Reference3Ideal.Value.val5_main_v216 _).symm.trans (Cert.Kernel3Ideal.Proj.same19 m m' c (hA c)).symm), r9.trans ((Cert.Reference3Ideal.Value.val5_main_v219 _).symm.trans (Cert.Kernel3Ideal.Proj.same20 m m' c (hA c)).symm), r10.trans ((Cert.Reference3Ideal.Value.val5_main_v222 _).symm.trans (Cert.Kernel3Ideal.Proj.same21 m m' c (hA c)).symm), r11.trans ((Cert.Reference3Ideal.Value.val5_main_v225 _).symm.trans (Cert.Kernel3Ideal.Proj.same22 m m' c (hA c)).symm), r12.trans ((Cert.Reference3Ideal.Value.val5_main_v226 _).symm.trans (Cert.Kernel3Ideal.Proj.same23 m m' c (hA c)).symm), hargs⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.KernelIdeal.Flash.finite_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2.2.2.2.2.2.2.2.2.2.2.2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2.2.2.2.2.2.2.2.2.2.2.2.2, sem_eq_zero_of_no_sems (by decide) r.2⟩) (Cert.Reference3Ideal.Value.run m ρ),
    IdealRules.named_const.statement Cert.KernelIdeal.κ "mask" .f32 0xF149F2CA#32 ⊥ rfl,
    attention,
    trivial,
    projections2,
    trivial,
    projections3⟩

end Cert.Proof

end
